-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelInC (m : (ℓ : Loc Cert.KernelInC.nD Cert.KernelInC.τ Cert.KernelInC.sig) → Buf (Elt Bits) ℓ) : Prop :=
  True

def Pre_KernelInCIdeal (m : (ℓ : Loc Cert.KernelInCIdeal.nD Cert.KernelInCIdeal.τ Cert.KernelInCIdeal.sig) → Buf (Elt Ideal) ℓ) : Prop :=
  True

def Pre_ReferenceInCIdeal (m : (ℓ : Loc Cert.ReferenceInCIdeal.nD Cert.ReferenceInCIdeal.τ Cert.ReferenceInCIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelOutC (m : (ℓ : Loc Cert.KernelOutC.nD Cert.KernelOutC.τ Cert.KernelOutC.sig) → Buf (Elt Bits) ℓ) : Prop :=
  True

def Pre_KernelOutCIdeal (m : (ℓ : Loc Cert.KernelOutCIdeal.nD Cert.KernelOutCIdeal.τ Cert.KernelOutCIdeal.sig) → Buf (Elt Ideal) ℓ) : Prop :=
  True

def Pre_ReferenceOutCIdeal (m : (ℓ : Loc Cert.ReferenceOutCIdeal.nD Cert.ReferenceOutCIdeal.τ Cert.ReferenceOutCIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelInC [hKernelInC : Cert.KernelInC.Facts] : Prop :=
  ∀ (m : (ℓ : Loc Cert.KernelInC.nD Cert.KernelInC.τ Cert.KernelInC.sig) → Buf (Elt Bits) ℓ) (g : Dev Cert.KernelInC.nD → PrngReg), Pre_KernelInC m →
    θ_run (Cert.KernelInC.defs (F := Bits)) (onTc (τ := Cert.KernelInC.τ) (Cert.KernelInC.main (F := Bits))) ⟨m, fun _ => 0, g⟩ (fun r => (∀ c : Dev Cert.KernelInC.nD,
      r.2.mem ((c.tc : Thread Cert.KernelInC.nD Cert.KernelInC.τ).loc Cert.KernelInC.main_arg0) = m ((c.tc : Thread Cert.KernelInC.nD Cert.KernelInC.τ).loc Cert.KernelInC.main_arg0)
      ∧ r.2.mem ((c.tc : Thread Cert.KernelInC.nD Cert.KernelInC.τ).loc Cert.KernelInC.main_arg1) = m ((c.tc : Thread Cert.KernelInC.nD Cert.KernelInC.τ).loc Cert.KernelInC.main_arg1)
      ∧ r.2.mem ((c.tc : Thread Cert.KernelInC.nD Cert.KernelInC.τ).loc Cert.KernelInC.main_arg2) = m ((c.tc : Thread Cert.KernelInC.nD Cert.KernelInC.τ).loc Cert.KernelInC.main_arg2))
      ∧ r.2.sem = fun _ => 0)

def quiescent_KernelInCIdeal [hKernelInCIdeal : Cert.KernelInCIdeal.Facts] : Prop :=
  ∀ (m : (ℓ : Loc Cert.KernelInCIdeal.nD Cert.KernelInCIdeal.τ Cert.KernelInCIdeal.sig) → Buf (Elt Ideal) ℓ) (g : Dev Cert.KernelInCIdeal.nD → PrngReg), Pre_KernelInCIdeal m →
    θ_run (Cert.KernelInCIdeal.defs (F := Ideal)) (onTc (τ := Cert.KernelInCIdeal.τ) (Cert.KernelInCIdeal.main (F := Ideal))) ⟨m, fun _ => 0, g⟩ (fun r => (∀ c : Dev Cert.KernelInCIdeal.nD,
      r.2.mem ((c.tc : Thread Cert.KernelInCIdeal.nD Cert.KernelInCIdeal.τ).loc Cert.KernelInCIdeal.main_arg0) = m ((c.tc : Thread Cert.KernelInCIdeal.nD Cert.KernelInCIdeal.τ).loc Cert.KernelInCIdeal.main_arg0)
      ∧ r.2.mem ((c.tc : Thread Cert.KernelInCIdeal.nD Cert.KernelInCIdeal.τ).loc Cert.KernelInCIdeal.main_arg1) = m ((c.tc : Thread Cert.KernelInCIdeal.nD Cert.KernelInCIdeal.τ).loc Cert.KernelInCIdeal.main_arg1)
      ∧ r.2.mem ((c.tc : Thread Cert.KernelInCIdeal.nD Cert.KernelInCIdeal.τ).loc Cert.KernelInCIdeal.main_arg2) = m ((c.tc : Thread Cert.KernelInCIdeal.nD Cert.KernelInCIdeal.τ).loc Cert.KernelInCIdeal.main_arg2))
      ∧ r.2.sem = fun _ => 0)

def quiescent_ReferenceInCIdeal [hReferenceInCIdeal : Cert.ReferenceInCIdeal.Facts] : Prop :=
  ∀ (m : (ℓ : Loc Cert.ReferenceInCIdeal.nD Cert.ReferenceInCIdeal.τ Cert.ReferenceInCIdeal.sig) → Buf (Elt Ideal) ℓ) (g : Dev Cert.ReferenceInCIdeal.nD → PrngReg), Pre_ReferenceInCIdeal m →
    θ_run (Cert.ReferenceInCIdeal.defs (F := Ideal)) (onTc (τ := Cert.ReferenceInCIdeal.τ) (Cert.ReferenceInCIdeal.main (F := Ideal))) ⟨m, fun _ => 0, g⟩ (fun r => (∀ c : Dev Cert.ReferenceInCIdeal.nD,
      r.2.mem ((c.tc : Thread Cert.ReferenceInCIdeal.nD Cert.ReferenceInCIdeal.τ).loc Cert.ReferenceInCIdeal.main_arg0) = m ((c.tc : Thread Cert.ReferenceInCIdeal.nD Cert.ReferenceInCIdeal.τ).loc Cert.ReferenceInCIdeal.main_arg0)
      ∧ r.2.mem ((c.tc : Thread Cert.ReferenceInCIdeal.nD Cert.ReferenceInCIdeal.τ).loc Cert.ReferenceInCIdeal.main_arg1) = m ((c.tc : Thread Cert.ReferenceInCIdeal.nD Cert.ReferenceInCIdeal.τ).loc Cert.ReferenceInCIdeal.main_arg1)
      ∧ r.2.mem ((c.tc : Thread Cert.ReferenceInCIdeal.nD Cert.ReferenceInCIdeal.τ).loc Cert.ReferenceInCIdeal.main_arg2) = m ((c.tc : Thread Cert.ReferenceInCIdeal.nD Cert.ReferenceInCIdeal.τ).loc Cert.ReferenceInCIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelOutC [hKernelOutC : Cert.KernelOutC.Facts] : Prop :=
  ∀ (m : (ℓ : Loc Cert.KernelOutC.nD Cert.KernelOutC.τ Cert.KernelOutC.sig) → Buf (Elt Bits) ℓ) (g : Dev Cert.KernelOutC.nD → PrngReg), Pre_KernelOutC m →
    θ_run (Cert.KernelOutC.defs (F := Bits)) (onTc (τ := Cert.KernelOutC.τ) (Cert.KernelOutC.main (F := Bits))) ⟨m, fun _ => 0, g⟩ (fun r => (∀ c : Dev Cert.KernelOutC.nD,
      r.2.mem ((c.tc : Thread Cert.KernelOutC.nD Cert.KernelOutC.τ).loc Cert.KernelOutC.main_arg0) = m ((c.tc : Thread Cert.KernelOutC.nD Cert.KernelOutC.τ).loc Cert.KernelOutC.main_arg0)
      ∧ r.2.mem ((c.tc : Thread Cert.KernelOutC.nD Cert.KernelOutC.τ).loc Cert.KernelOutC.main_arg1) = m ((c.tc : Thread Cert.KernelOutC.nD Cert.KernelOutC.τ).loc Cert.KernelOutC.main_arg1)
      ∧ r.2.mem ((c.tc : Thread Cert.KernelOutC.nD Cert.KernelOutC.τ).loc Cert.KernelOutC.main_arg2) = m ((c.tc : Thread Cert.KernelOutC.nD Cert.KernelOutC.τ).loc Cert.KernelOutC.main_arg2))
      ∧ r.2.sem = fun _ => 0)

def quiescent_KernelOutCIdeal [hKernelOutCIdeal : Cert.KernelOutCIdeal.Facts] : Prop :=
  ∀ (m : (ℓ : Loc Cert.KernelOutCIdeal.nD Cert.KernelOutCIdeal.τ Cert.KernelOutCIdeal.sig) → Buf (Elt Ideal) ℓ) (g : Dev Cert.KernelOutCIdeal.nD → PrngReg), Pre_KernelOutCIdeal m →
    θ_run (Cert.KernelOutCIdeal.defs (F := Ideal)) (onTc (τ := Cert.KernelOutCIdeal.τ) (Cert.KernelOutCIdeal.main (F := Ideal))) ⟨m, fun _ => 0, g⟩ (fun r => (∀ c : Dev Cert.KernelOutCIdeal.nD,
      r.2.mem ((c.tc : Thread Cert.KernelOutCIdeal.nD Cert.KernelOutCIdeal.τ).loc Cert.KernelOutCIdeal.main_arg0) = m ((c.tc : Thread Cert.KernelOutCIdeal.nD Cert.KernelOutCIdeal.τ).loc Cert.KernelOutCIdeal.main_arg0)
      ∧ r.2.mem ((c.tc : Thread Cert.KernelOutCIdeal.nD Cert.KernelOutCIdeal.τ).loc Cert.KernelOutCIdeal.main_arg1) = m ((c.tc : Thread Cert.KernelOutCIdeal.nD Cert.KernelOutCIdeal.τ).loc Cert.KernelOutCIdeal.main_arg1)
      ∧ r.2.mem ((c.tc : Thread Cert.KernelOutCIdeal.nD Cert.KernelOutCIdeal.τ).loc Cert.KernelOutCIdeal.main_arg2) = m ((c.tc : Thread Cert.KernelOutCIdeal.nD Cert.KernelOutCIdeal.τ).loc Cert.KernelOutCIdeal.main_arg2))
      ∧ r.2.sem = fun _ => 0)

def quiescent_ReferenceOutCIdeal [hReferenceOutCIdeal : Cert.ReferenceOutCIdeal.Facts] : Prop :=
  ∀ (m : (ℓ : Loc Cert.ReferenceOutCIdeal.nD Cert.ReferenceOutCIdeal.τ Cert.ReferenceOutCIdeal.sig) → Buf (Elt Ideal) ℓ) (g : Dev Cert.ReferenceOutCIdeal.nD → PrngReg), Pre_ReferenceOutCIdeal m →
    θ_run (Cert.ReferenceOutCIdeal.defs (F := Ideal)) (onTc (τ := Cert.ReferenceOutCIdeal.τ) (Cert.ReferenceOutCIdeal.main (F := Ideal))) ⟨m, fun _ => 0, g⟩ (fun r => (∀ c : Dev Cert.ReferenceOutCIdeal.nD,
      r.2.mem ((c.tc : Thread Cert.ReferenceOutCIdeal.nD Cert.ReferenceOutCIdeal.τ).loc Cert.ReferenceOutCIdeal.main_arg0) = m ((c.tc : Thread Cert.ReferenceOutCIdeal.nD Cert.ReferenceOutCIdeal.τ).loc Cert.ReferenceOutCIdeal.main_arg0)
      ∧ r.2.mem ((c.tc : Thread Cert.ReferenceOutCIdeal.nD Cert.ReferenceOutCIdeal.τ).loc Cert.ReferenceOutCIdeal.main_arg1) = m ((c.tc : Thread Cert.ReferenceOutCIdeal.nD Cert.ReferenceOutCIdeal.τ).loc Cert.ReferenceOutCIdeal.main_arg1)
      ∧ r.2.mem ((c.tc : Thread Cert.ReferenceOutCIdeal.nD Cert.ReferenceOutCIdeal.τ).loc Cert.ReferenceOutCIdeal.main_arg2) = m ((c.tc : Thread Cert.ReferenceOutCIdeal.nD Cert.ReferenceOutCIdeal.τ).loc Cert.ReferenceOutCIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3)
      ∧ r.2.mem ((c.tc : Thread Cert.KernelGate.nD Cert.KernelGate.τ).loc Cert.KernelGate.main_arg4) = m ((c.tc : Thread Cert.KernelGate.nD Cert.KernelGate.τ).loc Cert.KernelGate.main_arg4))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
      ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3)
      ∧ r.2.mem ((c.tc : Thread Cert.ReferenceGateIdeal.nD Cert.ReferenceGateIdeal.τ).loc Cert.ReferenceGateIdeal.main_arg4) = m ((c.tc : Thread Cert.ReferenceGateIdeal.nD Cert.ReferenceGateIdeal.τ).loc Cert.ReferenceGateIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelInC_KernelInCIdeal : Prop :=
  True

def algebraic_KernelInCIdeal_ReferenceInCIdeal [hKernelInCIdeal : Cert.KernelInCIdeal.Facts] [hReferenceInCIdeal : Cert.ReferenceInCIdeal.Facts] : Prop :=
  ∀ (m : (ℓ : Loc Cert.KernelInCIdeal.nD Cert.KernelInCIdeal.τ Cert.KernelInCIdeal.sig) → Buf (Elt Ideal) ℓ) (g : Dev Cert.KernelInCIdeal.nD → PrngReg)
    (m' : (ℓ : Loc Cert.ReferenceInCIdeal.nD Cert.ReferenceInCIdeal.τ Cert.ReferenceInCIdeal.sig) → Buf (Elt Ideal) ℓ) (g' : Dev Cert.ReferenceInCIdeal.nD → PrngReg), Pre_KernelInCIdeal m →
    (∀ c : Dev Cert.KernelInCIdeal.nD,
      m' ((c.tc : Thread Cert.ReferenceInCIdeal.nD Cert.ReferenceInCIdeal.τ).loc Cert.ReferenceInCIdeal.main_arg0) = m ((c.tc : Thread Cert.KernelInCIdeal.nD Cert.KernelInCIdeal.τ).loc Cert.KernelInCIdeal.main_arg0)
      ∧ m' ((c.tc : Thread Cert.ReferenceInCIdeal.nD Cert.ReferenceInCIdeal.τ).loc Cert.ReferenceInCIdeal.main_arg1) = m ((c.tc : Thread Cert.KernelInCIdeal.nD Cert.KernelInCIdeal.τ).loc Cert.KernelInCIdeal.main_arg1)
      ∧ m' ((c.tc : Thread Cert.ReferenceInCIdeal.nD Cert.ReferenceInCIdeal.τ).loc Cert.ReferenceInCIdeal.main_arg2) = m ((c.tc : Thread Cert.KernelInCIdeal.nD Cert.KernelInCIdeal.τ).loc Cert.KernelInCIdeal.main_arg2)) →
    ∃ (v0 : (c : Dev Cert.KernelInCIdeal.nD) → Buf (Elt Ideal) ((c.tc : Thread Cert.KernelInCIdeal.nD Cert.KernelInCIdeal.τ).loc Cert.KernelInCIdeal.main_v2)),
      θ_run (Cert.KernelInCIdeal.defs (F := Ideal)) (onTc (τ := Cert.KernelInCIdeal.τ) (Cert.KernelInCIdeal.main (F := Ideal))) ⟨m, fun _ => 0, g⟩ (fun r => ∀ c : Dev Cert.KernelInCIdeal.nD,
          r.2.mem ((c.tc : Thread Cert.KernelInCIdeal.nD Cert.KernelInCIdeal.τ).loc Cert.KernelInCIdeal.main_v2) = v0 c
          ∧ r.2.mem ((c.tc : Thread Cert.KernelInCIdeal.nD Cert.KernelInCIdeal.τ).loc Cert.KernelInCIdeal.main_arg0) = m ((c.tc : Thread Cert.KernelInCIdeal.nD Cert.KernelInCIdeal.τ).loc Cert.KernelInCIdeal.main_arg0)
          ∧ r.2.mem ((c.tc : Thread Cert.KernelInCIdeal.nD Cert.KernelInCIdeal.τ).loc Cert.KernelInCIdeal.main_arg1) = m ((c.tc : Thread Cert.KernelInCIdeal.nD Cert.KernelInCIdeal.τ).loc Cert.KernelInCIdeal.main_arg1)
          ∧ r.2.mem ((c.tc : Thread Cert.KernelInCIdeal.nD Cert.KernelInCIdeal.τ).loc Cert.KernelInCIdeal.main_arg2) = m ((c.tc : Thread Cert.KernelInCIdeal.nD Cert.KernelInCIdeal.τ).loc Cert.KernelInCIdeal.main_arg2))
      ∧ θ_run (Cert.ReferenceInCIdeal.defs (F := Ideal)) (onTc (τ := Cert.ReferenceInCIdeal.τ) (Cert.ReferenceInCIdeal.main (F := Ideal))) ⟨m', fun _ => 0, g'⟩ (fun r => ∀ c : Dev Cert.ReferenceInCIdeal.nD,
          r.2.mem ((c.tc : Thread Cert.ReferenceInCIdeal.nD Cert.ReferenceInCIdeal.τ).loc Cert.ReferenceInCIdeal.main_v29) = v0 c
          ∧ r.2.mem ((c.tc : Thread Cert.ReferenceInCIdeal.nD Cert.ReferenceInCIdeal.τ).loc Cert.ReferenceInCIdeal.main_arg0) = m' ((c.tc : Thread Cert.ReferenceInCIdeal.nD Cert.ReferenceInCIdeal.τ).loc Cert.ReferenceInCIdeal.main_arg0)
          ∧ r.2.mem ((c.tc : Thread Cert.ReferenceInCIdeal.nD Cert.ReferenceInCIdeal.τ).loc Cert.ReferenceInCIdeal.main_arg1) = m' ((c.tc : Thread Cert.ReferenceInCIdeal.nD Cert.ReferenceInCIdeal.τ).loc Cert.ReferenceInCIdeal.main_arg1)
          ∧ r.2.mem ((c.tc : Thread Cert.ReferenceInCIdeal.nD Cert.ReferenceInCIdeal.τ).loc Cert.ReferenceInCIdeal.main_arg2) = m' ((c.tc : Thread Cert.ReferenceInCIdeal.nD Cert.ReferenceInCIdeal.τ).loc Cert.ReferenceInCIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v7) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelOutC_KernelOutCIdeal : Prop :=
  True

def algebraic_KernelOutCIdeal_ReferenceOutCIdeal [hKernelOutCIdeal : Cert.KernelOutCIdeal.Facts] [hReferenceOutCIdeal : Cert.ReferenceOutCIdeal.Facts] : Prop :=
  ∀ (m : (ℓ : Loc Cert.KernelOutCIdeal.nD Cert.KernelOutCIdeal.τ Cert.KernelOutCIdeal.sig) → Buf (Elt Ideal) ℓ) (g : Dev Cert.KernelOutCIdeal.nD → PrngReg)
    (m' : (ℓ : Loc Cert.ReferenceOutCIdeal.nD Cert.ReferenceOutCIdeal.τ Cert.ReferenceOutCIdeal.sig) → Buf (Elt Ideal) ℓ) (g' : Dev Cert.ReferenceOutCIdeal.nD → PrngReg), Pre_KernelOutCIdeal m →
    (∀ c : Dev Cert.KernelOutCIdeal.nD,
      m' ((c.tc : Thread Cert.ReferenceOutCIdeal.nD Cert.ReferenceOutCIdeal.τ).loc Cert.ReferenceOutCIdeal.main_arg0) = m ((c.tc : Thread Cert.KernelOutCIdeal.nD Cert.KernelOutCIdeal.τ).loc Cert.KernelOutCIdeal.main_arg0)
      ∧ m' ((c.tc : Thread Cert.ReferenceOutCIdeal.nD Cert.ReferenceOutCIdeal.τ).loc Cert.ReferenceOutCIdeal.main_arg1) = m ((c.tc : Thread Cert.KernelOutCIdeal.nD Cert.KernelOutCIdeal.τ).loc Cert.KernelOutCIdeal.main_arg1)
      ∧ m' ((c.tc : Thread Cert.ReferenceOutCIdeal.nD Cert.ReferenceOutCIdeal.τ).loc Cert.ReferenceOutCIdeal.main_arg2) = m ((c.tc : Thread Cert.KernelOutCIdeal.nD Cert.KernelOutCIdeal.τ).loc Cert.KernelOutCIdeal.main_arg2)) →
    ∃ (v0 : (c : Dev Cert.KernelOutCIdeal.nD) → Buf (Elt Ideal) ((c.tc : Thread Cert.KernelOutCIdeal.nD Cert.KernelOutCIdeal.τ).loc Cert.KernelOutCIdeal.main_v1)),
      θ_run (Cert.KernelOutCIdeal.defs (F := Ideal)) (onTc (τ := Cert.KernelOutCIdeal.τ) (Cert.KernelOutCIdeal.main (F := Ideal))) ⟨m, fun _ => 0, g⟩ (fun r => ∀ c : Dev Cert.KernelOutCIdeal.nD,
          r.2.mem ((c.tc : Thread Cert.KernelOutCIdeal.nD Cert.KernelOutCIdeal.τ).loc Cert.KernelOutCIdeal.main_v1) = v0 c
          ∧ r.2.mem ((c.tc : Thread Cert.KernelOutCIdeal.nD Cert.KernelOutCIdeal.τ).loc Cert.KernelOutCIdeal.main_arg0) = m ((c.tc : Thread Cert.KernelOutCIdeal.nD Cert.KernelOutCIdeal.τ).loc Cert.KernelOutCIdeal.main_arg0)
          ∧ r.2.mem ((c.tc : Thread Cert.KernelOutCIdeal.nD Cert.KernelOutCIdeal.τ).loc Cert.KernelOutCIdeal.main_arg1) = m ((c.tc : Thread Cert.KernelOutCIdeal.nD Cert.KernelOutCIdeal.τ).loc Cert.KernelOutCIdeal.main_arg1)
          ∧ r.2.mem ((c.tc : Thread Cert.KernelOutCIdeal.nD Cert.KernelOutCIdeal.τ).loc Cert.KernelOutCIdeal.main_arg2) = m ((c.tc : Thread Cert.KernelOutCIdeal.nD Cert.KernelOutCIdeal.τ).loc Cert.KernelOutCIdeal.main_arg2))
      ∧ θ_run (Cert.ReferenceOutCIdeal.defs (F := Ideal)) (onTc (τ := Cert.ReferenceOutCIdeal.τ) (Cert.ReferenceOutCIdeal.main (F := Ideal))) ⟨m', fun _ => 0, g'⟩ (fun r => ∀ c : Dev Cert.ReferenceOutCIdeal.nD,
          r.2.mem ((c.tc : Thread Cert.ReferenceOutCIdeal.nD Cert.ReferenceOutCIdeal.τ).loc Cert.ReferenceOutCIdeal.main_v5) = v0 c
          ∧ r.2.mem ((c.tc : Thread Cert.ReferenceOutCIdeal.nD Cert.ReferenceOutCIdeal.τ).loc Cert.ReferenceOutCIdeal.main_arg0) = m' ((c.tc : Thread Cert.ReferenceOutCIdeal.nD Cert.ReferenceOutCIdeal.τ).loc Cert.ReferenceOutCIdeal.main_arg0)
          ∧ r.2.mem ((c.tc : Thread Cert.ReferenceOutCIdeal.nD Cert.ReferenceOutCIdeal.τ).loc Cert.ReferenceOutCIdeal.main_arg1) = m' ((c.tc : Thread Cert.ReferenceOutCIdeal.nD Cert.ReferenceOutCIdeal.τ).loc Cert.ReferenceOutCIdeal.main_arg1)
          ∧ r.2.mem ((c.tc : Thread Cert.ReferenceOutCIdeal.nD Cert.ReferenceOutCIdeal.τ).loc Cert.ReferenceOutCIdeal.main_arg2) = m' ((c.tc : Thread Cert.ReferenceOutCIdeal.nD Cert.ReferenceOutCIdeal.τ).loc Cert.ReferenceOutCIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v3_0)) (v1 : (c : Dev Cert.KernelInIdeal.nD) → Buf (Elt Ideal) ((c.tc : Thread Cert.KernelInIdeal.nD Cert.KernelInIdeal.τ).loc Cert.KernelInIdeal.main_v3_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v3_0) = v0 c
          ∧ r.2.mem ((c.tc : Thread Cert.KernelInIdeal.nD Cert.KernelInIdeal.τ).loc Cert.KernelInIdeal.main_v3_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v17) = v0 c
          ∧ r.2.mem ((c.tc : Thread Cert.ReferenceInIdeal.nD Cert.ReferenceInIdeal.τ).loc Cert.ReferenceInIdeal.main_v18) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)
      ∧ m' ((c.tc : Thread Cert.ReferenceGateIdeal.nD Cert.ReferenceGateIdeal.τ).loc Cert.ReferenceGateIdeal.main_arg4) = m ((c.tc : Thread Cert.KernelGateIdeal.nD Cert.KernelGateIdeal.τ).loc Cert.KernelGateIdeal.main_arg4)) →
    ∃ (v0 : (c : Dev Cert.KernelGateIdeal.nD) → Buf (Elt Ideal) ((c.tc : Thread Cert.KernelGateIdeal.nD Cert.KernelGateIdeal.τ).loc Cert.KernelGateIdeal.main_v3)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v3) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
          ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v42) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3)
          ∧ r.2.mem ((c.tc : Thread Cert.ReferenceGateIdeal.nD Cert.ReferenceGateIdeal.τ).loc Cert.ReferenceGateIdeal.main_arg4) = m' ((c.tc : Thread Cert.ReferenceGateIdeal.nD Cert.ReferenceGateIdeal.τ).loc Cert.ReferenceGateIdeal.main_arg4))

def Claim : Prop :=
  ∃ (hKernel : Cert.Kernel.Facts) (hKernelIdeal : Cert.KernelIdeal.Facts) (hReferenceIdeal : Cert.ReferenceIdeal.Facts) (hKernelInC : Cert.KernelInC.Facts) (hKernelInCIdeal : Cert.KernelInCIdeal.Facts) (hReferenceInCIdeal : Cert.ReferenceInCIdeal.Facts) (hKernelOut : Cert.KernelOut.Facts) (hKernelOutIdeal : Cert.KernelOutIdeal.Facts) (hReferenceOutIdeal : Cert.ReferenceOutIdeal.Facts) (hKernelOutC : Cert.KernelOutC.Facts) (hKernelOutCIdeal : Cert.KernelOutCIdeal.Facts) (hReferenceOutCIdeal : Cert.ReferenceOutCIdeal.Facts) (hKernelIn : Cert.KernelIn.Facts) (hKernelInIdeal : Cert.KernelInIdeal.Facts) (hReferenceInIdeal : Cert.ReferenceInIdeal.Facts) (hKernelGate : Cert.KernelGate.Facts) (hKernelGateIdeal : Cert.KernelGateIdeal.Facts) (hReferenceGateIdeal : Cert.ReferenceGateIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelInC (hKernelInC := hKernelInC)
    ∧ quiescent_KernelInCIdeal (hKernelInCIdeal := hKernelInCIdeal)
    ∧ quiescent_ReferenceInCIdeal (hReferenceInCIdeal := hReferenceInCIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelOutC (hKernelOutC := hKernelOutC)
    ∧ quiescent_KernelOutCIdeal (hKernelOutCIdeal := hKernelOutCIdeal)
    ∧ quiescent_ReferenceOutCIdeal (hReferenceOutCIdeal := hReferenceOutCIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelInC_KernelInCIdeal
    ∧ algebraic_KernelInCIdeal_ReferenceInCIdeal (hKernelInCIdeal := hKernelInCIdeal) (hReferenceInCIdeal := hReferenceInCIdeal)
    ∧ preserves_KernelOut_KernelOutIdeal
    ∧ algebraic_KernelOutIdeal_ReferenceOutIdeal (hKernelOutIdeal := hKernelOutIdeal) (hReferenceOutIdeal := hReferenceOutIdeal)
    ∧ preserves_KernelOutC_KernelOutCIdeal
    ∧ algebraic_KernelOutCIdeal_ReferenceOutCIdeal (hKernelOutCIdeal := hKernelOutCIdeal) (hReferenceOutCIdeal := hReferenceOutCIdeal)
    ∧ preserves_KernelIn_KernelInIdeal
    ∧ algebraic_KernelInIdeal_ReferenceInIdeal (hKernelInIdeal := hKernelInIdeal) (hReferenceInIdeal := hReferenceInIdeal)
    ∧ preserves_KernelGate_KernelGateIdeal
    ∧ algebraic_KernelGateIdeal_ReferenceGateIdeal (hKernelGateIdeal := hKernelGateIdeal) (hReferenceGateIdeal := hReferenceGateIdeal)
-- ==== Pre_finite.lean ====
abbrev S8192x6144 : Shape := ⟨2, ![8192, 6144]⟩
abbrev S32x8 : Shape := ⟨2, ![32, 8]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S32x8 : S_.BroadcastsInDim S32x8 (![] : Fin 0 → Fin S32x8.rank)
  reducesTo_S32x8_S_d0_1 : S32x8.ReducesTo [0, 1] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S8192x6144 .bf16) (main_arg1 : FVec F S32x8 .f32) (main_arg2 : FVec F S4x64 .f32) (main_arg3 : FVec F S128 .f32) : IVec S_ 1 :=
  let main_v0 : FVec F S8192x6144 .f32 := (extf .f32 · bitsLt_bf16_f32) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_c : IVec S_ 1 := constantI S_ 1 1#1
  let main_v4 : IVec S_ 1 := (fun x v => Host.reduce IntOp.andi x v reducesTo_S8192x6144_S_d0_1 h_S_) main_v3 main_c
  let main_v5 : FVec F S32x8 .f32 := Host.absf main_arg1
  let main_cst_0 : FVec F S_ .f32 := constant S_ .f32 0x7F800000#32
  let main_v6 : FVec F S32x8 .f32 := broadcastInDim S32x8 ![] bcast_S_S32x8 main_cst_0
  let main_v7 : IVec S32x8 1 := cmpf .olt main_v5 main_v6
  let main_c_1 : IVec S_ 1 := constantI S_ 1 1#1
  let main_v8 : IVec S_ 1 := (fun x v => Host.reduce IntOp.andi x v reducesTo_S32x8_S_d0_1 h_S_) main_v7 main_c_1
  let main_v9 : IVec S_ 1 := andi main_v4 main_v8
  let main_v10 : FVec F S4x64 .f32 := Host.absf main_arg2
  let main_cst_2 : FVec F S_ .f32 := constant S_ .f32 0x7F800000#32
  let main_v11 : FVec F S4x64 .f32 := broadcastInDim S4x64 ![] bcast_S_S4x64 main_cst_2
  let main_v12 : IVec S4x64 1 := cmpf .olt main_v10 main_v11
  let main_c_3 : IVec S_ 1 := constantI S_ 1 1#1
  let main_v13 : IVec S_ 1 := (fun x v => Host.reduce IntOp.andi x v reducesTo_S4x64_S_d0_1 h_S_) main_v12 main_c_3
  let main_v14 : IVec S_ 1 := andi main_v9 main_v13
  main_v14
-- ==== Kernel.lean ====
abbrev S8192x6144 : Shape := ⟨2, ![8192, 6144]⟩
abbrev S32x8 : Shape := ⟨2, ![32, 8]⟩
abbrev S4x64 : Shape := ⟨2, ![4, 64]⟩
abbrev S128 : Shape := ⟨1, ![128]⟩
abbrev S256 : Shape := ⟨1, ![256]⟩
abbrev S1x128 : Shape := ⟨2, ![1, 128]⟩
abbrev S8192x1024 : Shape := ⟨2, ![8192, 1024]⟩
abbrev S512x128 : Shape := ⟨2, ![512, 128]⟩
abbrev S4096x128 : Shape := ⟨2, ![4096, 128]⟩
abbrev S2x512x1 : Shape := ⟨3, ![2, 512, 1]⟩
abbrev S2x512x256 : Shape := ⟨3, ![2, 512, 256]⟩
abbrev S512x1024 : Shape := ⟨2, ![512, 1024]⟩
abbrev S2x512x128 : Shape := ⟨3, ![2, 512, 128]⟩
abbrev S4096x256 : Shape := ⟨2, ![4096, 256]⟩
abbrev S512x512 : Shape := ⟨2, ![512, 512]⟩
abbrev S1 : Shape := ⟨1, ![1]⟩
abbrev S1x512x128 : Shape := ⟨3, ![1, 512, 128]⟩
abbrev S2048x128 : Shape := ⟨2, ![2048, 128]⟩
abbrev S2048x256 : Shape := ⟨2, ![2048, 256]⟩
abbrev S1x128x128 : Shape := ⟨3, ![1, 128, 128]⟩
abbrev S128x128 : Shape := ⟨2, ![128, 128]⟩
abbrev S128x2048 : Shape := ⟨2, ![128, 2048]⟩
abbrev S1x128x1 : Shape := ⟨3, ![1, 128, 1]⟩
abbrev S128x1 : Shape := ⟨2, ![128, 1]⟩
abbrev S1x128x256 : Shape := ⟨3, ![1, 128, 256]⟩
abbrev S128x256 : Shape := ⟨2, ![128, 256]⟩
abbrev S1024x128 : Shape := ⟨2, ![1024, 128]⟩
abbrev S1024x256 : Shape := ⟨2, ![1024, 256]⟩
abbrev S128x1024 : Shape := ⟨2, ![128, 1024]⟩
abbrev S512x256 : Shape := ⟨2, ![512, 256]⟩
abbrev S1x256x128 : Shape := ⟨3, ![1, 256, 128]⟩
abbrev S256x128 : Shape := ⟨2, ![256, 128]⟩
abbrev S256x512 : Shape := ⟨2, ![256, 512]⟩
abbrev S1x256x1 : Shape := ⟨3, ![1, 256, 1]⟩
abbrev S256x1 : Shape := ⟨2, ![256, 1]⟩
abbrev S1x256x256 : Shape := ⟨3, ![1, 256, 256]⟩
abbrev S256x256 : Shape := ⟨2, ![256, 256]⟩
abbrev S1x64 : Shape := ⟨2, ![1, 64]⟩
abbrev S1x1 : Shape := ⟨2, ![1, 1]⟩
abbrev S1x512x256 : Shape := ⟨3, ![1, 512, 256]⟩
abbrev S512x1 : Shape := ⟨2, ![512, 1]⟩
abbrev S512 : Shape := ⟨1, ![512]⟩

abbrev nBuf : Space → Nat
  | .hbm => 7
  | .vmem => 15
  | .smem => 1
  | _ => 0

abbrev bufTy : (tb : Table) → Fin (tcTables nBuf tb) → BufTy
  | .hbm, ⟨0, _⟩ => ⟨S8192x6144, .bf16⟩
  | .hbm, ⟨1, _⟩ => ⟨S32x8, .f32⟩
  | .hbm, ⟨2, _⟩ => ⟨S4x64, .f32⟩
  | .hbm, ⟨3, _⟩ => ⟨S128, .f32⟩
  | .hbm, ⟨4, _⟩ => ⟨S256, .f32⟩
  | .hbm, ⟨5, _⟩ => ⟨S1x128, .f32⟩
  | .hbm, ⟨6, _⟩ => ⟨S8192x1024, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4x64, .f32⟩
  | .local _ .vmem, ⟨7, _⟩ => ⟨S1x128, .f32⟩
  | .local _ .vmem, ⟨8, _⟩ => ⟨S512x128, .bf16⟩
  | .local _ .vmem, ⟨9, _⟩ => ⟨S512x128, .bf16⟩
  | .local _ .vmem, ⟨10, _⟩ => ⟨S2x512x1, .f32⟩
  | .local _ .vmem, ⟨11, _⟩ => ⟨S2x512x256, .f32⟩
  | .local _ .vmem, ⟨12, _⟩ => ⟨S512x1024, .f32⟩
  | .local _ .vmem, ⟨13, _⟩ => ⟨S2x512x128, .bf16⟩
  | .local _ .vmem, ⟨14, _⟩ => ⟨S4096x256, .bf16⟩
  | .local _ .smem, ⟨0, _⟩ => ⟨S256, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg2 : BitVec 32 := BitVec.ofNat 32 (i 2).val
  let c0_i32_2 : BitVec 32 := 0#32
  let v4 : BitVec 1 := Scalar.cmpi .eq arg2 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_off1 (i : grid0.Coords) : Fin 1 → Nat :=
  let arg0 : BitVec 32 := BitVec.ofNat 32 (i 0).val
  let v139 : Index := Scalar.indexCast arg0
  ![v139.toNat]
def k0_off2 (i : grid0.Coords) (c8_i32 : BitVec 32) : Fin 1 → Nat :=
  let arg0 : BitVec 32 := BitVec.ofNat 32 (i 0).val
  let v144 : BitVec 32 := Scalar.addi c8_i32 arg0
  let v145 : Index := Scalar.indexCast v144
  ![v145.toNat]
def k0_off3 (i : grid0.Coords) : Fin 1 → Nat :=
  let c248_i32 : BitVec 32 := 248#32
  let arg0 : BitVec 32 := BitVec.ofNat 32 (i 0).val
  let v34 : BitVec 32 := Scalar.addi c248_i32 arg0
  let v35 : Index := Scalar.indexCast v34
  ![v35.toNat]
@[reducible] def k0_t1_loop (i : grid0.Coords) : Scf.Loop 32 :=
  let c0_i32_30 : BitVec 32 := 0#32
  let arg2 : BitVec 32 := BitVec.ofNat 32 (i 2).val
  let c1_i32 : BitVec 32 := 1#32
  let v37 : BitVec 32 := Scalar.subi arg2 c1_i32
  let c0_i32_21 : BitVec 32 := 0#32
  let v38 : BitVec 32 := Scalar.maxsi v37 c0_i32_21
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c4_i32 : BitVec 32 := 4#32
  let c0_i32_24 : BitVec 32 := 0#32
  let v45 : BitVec 1 := Scalar.cmpi .sgt c4_i32 c0_i32_24
  let v46 : BitVec 32 := Scalar.extui v45
  let c0_i32_25 : BitVec 32 := 0#32
  let v47 : BitVec 1 := Scalar.cmpi .slt c4_i32 c0_i32_25
  let v48 : BitVec 32 := Scalar.extui v47
  let v49 : BitVec 32 := Scalar.subi v46 v48
  let v50 : BitVec 1 := Scalar.cmpi .ne v44 v49
  let v51 : BitVec 32 := Scalar.remsi v38 c4_i32
  let c0_i32_26 : BitVec 32 := 0#32
  let v52 : BitVec 1 := Scalar.cmpi .ne v51 c0_i32_26
  let v53 : BitVec 1 := Scalar.andi v50 v52
  let v39 : BitVec 32 := Scalar.divsi v38 c4_i32
  let c1_i32_27 : BitVec 32 := 1#32
  let v54 : BitVec 32 := Scalar.subi v39 c1_i32_27
  let v55 : BitVec 32 := Scalar.select v53 v54 v39
  let v58 : BitVec 32 := Scalar.subi v55 c0_i32_30
  let c1_i32_31 : BitVec 32 := 1#32
  let v60 : BitVec 32 := Scalar.divsi v58 c1_i32_31
  let v61 : BitVec 32 := Scalar.muli v60 c1_i32_31
  let v62 : BitVec 32 := Scalar.addi c0_i32_30 v61
  let c1_i32_32 : BitVec 32 := 1#32
  ⟨c0_i32_30, v62, c1_i32_32⟩
def k0_mult1 (i : grid0.Coords) (k0_t1 : Fin (k0_t1_loop i).trips) : BitVec 32 :=
  let c0_i32_30 : BitVec 32 := 0#32
  let c1_i32_32 : BitVec 32 := 1#32
  let arg15 : BitVec 32 := Scf.iv c0_i32_30 c1_i32_32 k0_t1
  let c4_i32_66 : BitVec 32 := 4#32
  let v134 : BitVec 32 := Scalar.muli arg15 c4_i32_66
  let c512_i32 : BitVec 32 := 512#32
  let v135 : BitVec 32 := Scalar.muli v134 c512_i32
  v135
def k0_off4 (i : grid0.Coords) (k0_t1 : Fin (k0_t1_loop i).trips) : Fin 2 → Nat :=
  let c0_i32_30 : BitVec 32 := 0#32
  let c1_i32_32 : BitVec 32 := 1#32
  let arg15 : BitVec 32 := Scf.iv c0_i32_30 c1_i32_32 k0_t1
  let c4_i32_66 : BitVec 32 := 4#32
  let v134 : BitVec 32 := Scalar.muli arg15 c4_i32_66
  let c512_i32 : BitVec 32 := 512#32
  let v135 : BitVec 32 := Scalar.muli v134 c512_i32
  let v136 : BitVec 32 := v135
  let v137 : Index := Scalar.indexCast v136
  let c0_67 : Index := 0#32
  ![v137.toNat, 0]
def k0_off5 (i : grid0.Coords) (k0_t1 : Fin (k0_t1_loop i).trips) : Fin 2 → Nat :=
  let c0_i32_30 : BitVec 32 := 0#32
  let c1_i32_32 : BitVec 32 := 1#32
  let arg15 : BitVec 32 := Scf.iv c0_i32_30 c1_i32_32 k0_t1
  let c4_i32_66 : BitVec 32 := 4#32
  let v134 : BitVec 32 := Scalar.muli arg15 c4_i32_66
  let c512_i32 : BitVec 32 := 512#32
  let v135 : BitVec 32 := Scalar.muli v134 c512_i32
  let v136 : BitVec 32 := v135
  let v139 : Index := Scalar.indexCast v136
  let c0_68 : Index := 0#32
  ![v139.toNat, 0]
@[reducible] def k0_t2_loop (i : grid0.Coords) : Scf.Loop 32 :=
  let c0_i32_30 : BitVec 32 := 0#32
  let arg2 : BitVec 32 := BitVec.ofNat 32 (i 2).val
  let c1_i32 : BitVec 32 := 1#32
  let v37 : BitVec 32 := Scalar.subi arg2 c1_i32
  let c0_i32_21 : BitVec 32 := 0#32
  let v38 : BitVec 32 := Scalar.maxsi v37 c0_i32_21
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c4_i32 : BitVec 32 := 4#32
  let c0_i32_24 : BitVec 32 := 0#32
  let v45 : BitVec 1 := Scalar.cmpi .sgt c4_i32 c0_i32_24
  let v46 : BitVec 32 := Scalar.extui v45
  let c0_i32_25 : BitVec 32 := 0#32
  let v47 : BitVec 1 := Scalar.cmpi .slt c4_i32 c0_i32_25
  let v48 : BitVec 32 := Scalar.extui v47
  let v49 : BitVec 32 := Scalar.subi v46 v48
  let v50 : BitVec 1 := Scalar.cmpi .ne v44 v49
  let v51 : BitVec 32 := Scalar.remsi v38 c4_i32
  let c0_i32_26 : BitVec 32 := 0#32
  let v52 : BitVec 1 := Scalar.cmpi .ne v51 c0_i32_26
  let v53 : BitVec 1 := Scalar.andi v50 v52
  let v39 : BitVec 32 := Scalar.divsi v38 c4_i32
  let c1_i32_27 : BitVec 32 := 1#32
  let v54 : BitVec 32 := Scalar.subi v39 c1_i32_27
  let v55 : BitVec 32 := Scalar.select v53 v54 v39
  let v58 : BitVec 32 := Scalar.subi v55 c0_i32_30
  let c1_i32_31 : BitVec 32 := 1#32
  let v60 : BitVec 32 := Scalar.divsi v58 c1_i32_31
  let v61 : BitVec 32 := Scalar.muli v60 c1_i32_31
  let v62 : BitVec 32 := Scalar.addi c0_i32_30 v61
  let v59 : BitVec 32 := Scalar.addi c0_i32_30 v58
  let c1_i32_33 : BitVec 32 := 1#32
  ⟨v62, v59, c1_i32_33⟩
def k0_mult2 (i : grid0.Coords) (k0_t2 : Fin (k0_t2_loop i).trips) : BitVec 32 :=
  let c0_i32_30 : BitVec 32 := 0#32
  let arg2 : BitVec 32 := BitVec.ofNat 32 (i 2).val
  let c1_i32 : BitVec 32 := 1#32
  let v37 : BitVec 32 := Scalar.subi arg2 c1_i32
  let c0_i32_21 : BitVec 32 := 0#32
  let v38 : BitVec 32 := Scalar.maxsi v37 c0_i32_21
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c4_i32 : BitVec 32 := 4#32
  let c0_i32_24 : BitVec 32 := 0#32
  let v45 : BitVec 1 := Scalar.cmpi .sgt c4_i32 c0_i32_24
  let v46 : BitVec 32 := Scalar.extui v45
  let c0_i32_25 : BitVec 32 := 0#32
  let v47 : BitVec 1 := Scalar.cmpi .slt c4_i32 c0_i32_25
  let v48 : BitVec 32 := Scalar.extui v47
  let v49 : BitVec 32 := Scalar.subi v46 v48
  let v50 : BitVec 1 := Scalar.cmpi .ne v44 v49
  let v51 : BitVec 32 := Scalar.remsi v38 c4_i32
  let c0_i32_26 : BitVec 32 := 0#32
  let v52 : BitVec 1 := Scalar.cmpi .ne v51 c0_i32_26
  let v53 : BitVec 1 := Scalar.andi v50 v52
  let v39 : BitVec 32 := Scalar.divsi v38 c4_i32
  let c1_i32_27 : BitVec 32 := 1#32
  let v54 : BitVec 32 := Scalar.subi v39 c1_i32_27
  let v55 : BitVec 32 := Scalar.select v53 v54 v39
  let v58 : BitVec 32 := Scalar.subi v55 c0_i32_30
  let c1_i32_31 : BitVec 32 := 1#32
  let v60 : BitVec 32 := Scalar.divsi v58 c1_i32_31
  let v61 : BitVec 32 := Scalar.muli v60 c1_i32_31
  let v62 : BitVec 32 := Scalar.addi c0_i32_30 v61
  let c1_i32_33 : BitVec 32 := 1#32
  let arg15 : BitVec 32 := Scf.iv v62 c1_i32_33 k0_t2
  let c4_i32_66 : BitVec 32 := 4#32
  let v134 : BitVec 32 := Scalar.muli arg15 c4_i32_66
  let c512_i32 : BitVec 32 := 512#32
  let v135 : BitVec 32 := Scalar.muli v134 c512_i32
  v135
def k0_off6 (i : grid0.Coords) (k0_t2 : Fin (k0_t2_loop i).trips) : Fin 2 → Nat :=
  let c0_i32_30 : BitVec 32 := 0#32
  let arg2 : BitVec 32 := BitVec.ofNat 32 (i 2).val
  let c1_i32 : BitVec 32 := 1#32
  let v37 : BitVec 32 := Scalar.subi arg2 c1_i32
  let c0_i32_21 : BitVec 32 := 0#32
  let v38 : BitVec 32 := Scalar.maxsi v37 c0_i32_21
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c4_i32 : BitVec 32 := 4#32
  let c0_i32_24 : BitVec 32 := 0#32
  let v45 : BitVec 1 := Scalar.cmpi .sgt c4_i32 c0_i32_24
  let v46 : BitVec 32 := Scalar.extui v45
  let c0_i32_25 : BitVec 32 := 0#32
  let v47 : BitVec 1 := Scalar.cmpi .slt c4_i32 c0_i32_25
  let v48 : BitVec 32 := Scalar.extui v47
  let v49 : BitVec 32 := Scalar.subi v46 v48
  let v50 : BitVec 1 := Scalar.cmpi .ne v44 v49
  let v51 : BitVec 32 := Scalar.remsi v38 c4_i32
  let c0_i32_26 : BitVec 32 := 0#32
  let v52 : BitVec 1 := Scalar.cmpi .ne v51 c0_i32_26
  let v53 : BitVec 1 := Scalar.andi v50 v52
  let v39 : BitVec 32 := Scalar.divsi v38 c4_i32
  let c1_i32_27 : BitVec 32 := 1#32
  let v54 : BitVec 32 := Scalar.subi v39 c1_i32_27
  let v55 : BitVec 32 := Scalar.select v53 v54 v39
  let v58 : BitVec 32 := Scalar.subi v55 c0_i32_30
  let c1_i32_31 : BitVec 32 := 1#32
  let v60 : BitVec 32 := Scalar.divsi v58 c1_i32_31
  let v61 : BitVec 32 := Scalar.muli v60 c1_i32_31
  let v62 : BitVec 32 := Scalar.addi c0_i32_30 v61
  let c1_i32_33 : BitVec 32 := 1#32
  let arg15 : BitVec 32 := Scf.iv v62 c1_i32_33 k0_t2
  let c4_i32_66 : BitVec 32 := 4#32
  let v134 : BitVec 32 := Scalar.muli arg15 c4_i32_66
  let c512_i32 : BitVec 32 := 512#32
  let v135 : BitVec 32 := Scalar.muli v134 c512_i32
  let v136 : BitVec 32 := v135
  let v137 : Index := Scalar.indexCast v136
  let c0_67 : Index := 0#32
  ![v137.toNat, 0]
def k0_off7 (i : grid0.Coords) (k0_t2 : Fin (k0_t2_loop i).trips) : Fin 2 → Nat :=
  let c0_i32_30 : BitVec 32 := 0#32
  let arg2 : BitVec 32 := BitVec.ofNat 32 (i 2).val
  let c1_i32 : BitVec 32 := 1#32
  let v37 : BitVec 32 := Scalar.subi arg2 c1_i32
  let c0_i32_21 : BitVec 32 := 0#32
  let v38 : BitVec 32 := Scalar.maxsi v37 c0_i32_21
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c4_i32 : BitVec 32 := 4#32
  let c0_i32_24 : BitVec 32 := 0#32
  let v45 : BitVec 1 := Scalar.cmpi .sgt c4_i32 c0_i32_24
  let v46 : BitVec 32 := Scalar.extui v45
  let c0_i32_25 : BitVec 32 := 0#32
  let v47 : BitVec 1 := Scalar.cmpi .slt c4_i32 c0_i32_25
  let v48 : BitVec 32 := Scalar.extui v47
  let v49 : BitVec 32 := Scalar.subi v46 v48
  let v50 : BitVec 1 := Scalar.cmpi .ne v44 v49
  let v51 : BitVec 32 := Scalar.remsi v38 c4_i32
  let c0_i32_26 : BitVec 32 := 0#32
  let v52 : BitVec 1 := Scalar.cmpi .ne v51 c0_i32_26
  let v53 : BitVec 1 := Scalar.andi v50 v52
  let v39 : BitVec 32 := Scalar.divsi v38 c4_i32
  let c1_i32_27 : BitVec 32 := 1#32
  let v54 : BitVec 32 := Scalar.subi v39 c1_i32_27
  let v55 : BitVec 32 := Scalar.select v53 v54 v39
  let v58 : BitVec 32 := Scalar.subi v55 c0_i32_30
  let c1_i32_31 : BitVec 32 := 1#32
  let v60 : BitVec 32 := Scalar.divsi v58 c1_i32_31
  let v61 : BitVec 32 := Scalar.muli v60 c1_i32_31
  let v62 : BitVec 32 := Scalar.addi c0_i32_30 v61
  let c1_i32_33 : BitVec 32 := 1#32
  let arg15 : BitVec 32 := Scf.iv v62 c1_i32_33 k0_t2
  let c4_i32_66 : BitVec 32 := 4#32
  let v134 : BitVec 32 := Scalar.muli arg15 c4_i32_66
  let c512_i32 : BitVec 32 := 512#32
  let v135 : BitVec 32 := Scalar.muli v134 c512_i32
  let v136 : BitVec 32 := v135
  let v139 : Index := Scalar.indexCast v136
  let c0_68 : Index := 0#32
  ![v139.toNat, 0]
def k0_cond3 (i : grid0.Coords) : BitVec 1 :=
  let arg2 : BitVec 32 := BitVec.ofNat 32 (i 2).val
  let c1_i32 : BitVec 32 := 1#32
  let v37 : BitVec 32 := Scalar.subi arg2 c1_i32
  let c0_i32_21 : BitVec 32 := 0#32
  let v38 : BitVec 32 := Scalar.maxsi v37 c0_i32_21
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c4_i32 : BitVec 32 := 4#32
  let c0_i32_24 : BitVec 32 := 0#32
  let v45 : BitVec 1 := Scalar.cmpi .sgt c4_i32 c0_i32_24
  let v46 : BitVec 32 := Scalar.extui v45
  let c0_i32_25 : BitVec 32 := 0#32
  let v47 : BitVec 1 := Scalar.cmpi .slt c4_i32 c0_i32_25
  let v48 : BitVec 32 := Scalar.extui v47
  let v49 : BitVec 32 := Scalar.subi v46 v48
  let v50 : BitVec 1 := Scalar.cmpi .ne v44 v49
  let v51 : BitVec 32 := Scalar.remsi v38 c4_i32
  let c0_i32_26 : BitVec 32 := 0#32
  let v52 : BitVec 1 := Scalar.cmpi .ne v51 c0_i32_26
  let v53 : BitVec 1 := Scalar.andi v50 v52
  let v39 : BitVec 32 := Scalar.divsi v38 c4_i32
  let c1_i32_27 : BitVec 32 := 1#32
  let v54 : BitVec 32 := Scalar.subi v39 c1_i32_27
  let v55 : BitVec 32 := Scalar.select v53 v54 v39
  let c4_i32_28 : BitVec 32 := 4#32
  let v56 : BitVec 32 := Scalar.muli v55 c4_i32_28
  let v57 : BitVec 32 := Scalar.subi v38 v56
  let c2_i32 : BitVec 32 := 2#32
  let v63 : BitVec 1 := Scalar.cmpi .sge v57 c2_i32
  let v64 : BitVec 32 := Scalar.extui v63
  let c0_i32_34 : BitVec 32 := 0#32
  let v65 : BitVec 1 := Scalar.cmpi .ne v64 c0_i32_34
  v65

def k0_mult3 (i : grid0.Coords) : BitVec 32 :=
  let arg2 : BitVec 32 := BitVec.ofNat 32 (i 2).val
  let c1_i32 : BitVec 32 := 1#32
  let v37 : BitVec 32 := Scalar.subi arg2 c1_i32
  let c0_i32_21 : BitVec 32 := 0#32
  let v38 : BitVec 32 := Scalar.maxsi v37 c0_i32_21
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c4_i32 : BitVec 32 := 4#32
  let c0_i32_24 : BitVec 32 := 0#32
  let v45 : BitVec 1 := Scalar.cmpi .sgt c4_i32 c0_i32_24
  let v46 : BitVec 32 := Scalar.extui v45
  let c0_i32_25 : BitVec 32 := 0#32
  let v47 : BitVec 1 := Scalar.cmpi .slt c4_i32 c0_i32_25
  let v48 : BitVec 32 := Scalar.extui v47
  let v49 : BitVec 32 := Scalar.subi v46 v48
  let v50 : BitVec 1 := Scalar.cmpi .ne v44 v49
  let v51 : BitVec 32 := Scalar.remsi v38 c4_i32
  let c0_i32_26 : BitVec 32 := 0#32
  let v52 : BitVec 1 := Scalar.cmpi .ne v51 c0_i32_26
  let v53 : BitVec 1 := Scalar.andi v50 v52
  let v39 : BitVec 32 := Scalar.divsi v38 c4_i32
  let c1_i32_27 : BitVec 32 := 1#32
  let v54 : BitVec 32 := Scalar.subi v39 c1_i32_27
  let v55 : BitVec 32 := Scalar.select v53 v54 v39
  let c4_i32_66 : BitVec 32 := 4#32
  let v134 : BitVec 32 := Scalar.muli v55 c4_i32_66
  let c512_i32 : BitVec 32 := 512#32
  let v135 : BitVec 32 := Scalar.muli v134 c512_i32
  v135
def k0_off8 (i : grid0.Coords) : Fin 2 → Nat :=
  let arg2 : BitVec 32 := BitVec.ofNat 32 (i 2).val
  let c1_i32 : BitVec 32 := 1#32
  let v37 : BitVec 32 := Scalar.subi arg2 c1_i32
  let c0_i32_21 : BitVec 32 := 0#32
  let v38 : BitVec 32 := Scalar.maxsi v37 c0_i32_21
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c4_i32 : BitVec 32 := 4#32
  let c0_i32_24 : BitVec 32 := 0#32
  let v45 : BitVec 1 := Scalar.cmpi .sgt c4_i32 c0_i32_24
  let v46 : BitVec 32 := Scalar.extui v45
  let c0_i32_25 : BitVec 32 := 0#32
  let v47 : BitVec 1 := Scalar.cmpi .slt c4_i32 c0_i32_25
  let v48 : BitVec 32 := Scalar.extui v47
  let v49 : BitVec 32 := Scalar.subi v46 v48
  let v50 : BitVec 1 := Scalar.cmpi .ne v44 v49
  let v51 : BitVec 32 := Scalar.remsi v38 c4_i32
  let c0_i32_26 : BitVec 32 := 0#32
  let v52 : BitVec 1 := Scalar.cmpi .ne v51 c0_i32_26
  let v53 : BitVec 1 := Scalar.andi v50 v52
  let v39 : BitVec 32 := Scalar.divsi v38 c4_i32
  let c1_i32_27 : BitVec 32 := 1#32
  let v54 : BitVec 32 := Scalar.subi v39 c1_i32_27
  let v55 : BitVec 32 := Scalar.select v53 v54 v39
  let c4_i32_66 : BitVec 32 := 4#32
  let v134 : BitVec 32 := Scalar.muli v55 c4_i32_66
  let c512_i32 : BitVec 32 := 512#32
  let v135 : BitVec 32 := Scalar.muli v134 c512_i32
  let v136 : BitVec 32 := v135
  let v137 : Index := Scalar.indexCast v136
  let c0_67 : Index := 0#32
  ![v137.toNat, 0]
def k0_off9 (i : grid0.Coords) : Fin 2 → Nat :=
  let arg2 : BitVec 32 := BitVec.ofNat 32 (i 2).val
  let c1_i32 : BitVec 32 := 1#32
  let v37 : BitVec 32 := Scalar.subi arg2 c1_i32
  let c0_i32_21 : BitVec 32 := 0#32
  let v38 : BitVec 32 := Scalar.maxsi v37 c0_i32_21
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c4_i32 : BitVec 32 := 4#32
  let c0_i32_24 : BitVec 32 := 0#32
  let v45 : BitVec 1 := Scalar.cmpi .sgt c4_i32 c0_i32_24
  let v46 : BitVec 32 := Scalar.extui v45
  let c0_i32_25 : BitVec 32 := 0#32
  let v47 : BitVec 1 := Scalar.cmpi .slt c4_i32 c0_i32_25
  let v48 : BitVec 32 := Scalar.extui v47
  let v49 : BitVec 32 := Scalar.subi v46 v48
  let v50 : BitVec 1 := Scalar.cmpi .ne v44 v49
  let v51 : BitVec 32 := Scalar.remsi v38 c4_i32
  let c0_i32_26 : BitVec 32 := 0#32
  let v52 : BitVec 1 := Scalar.cmpi .ne v51 c0_i32_26
  let v53 : BitVec 1 := Scalar.andi v50 v52
  let v39 : BitVec 32 := Scalar.divsi v38 c4_i32
  let c1_i32_27 : BitVec 32 := 1#32
  let v54 : BitVec 32 := Scalar.subi v39 c1_i32_27
  let v55 : BitVec 32 := Scalar.select v53 v54 v39
  let c4_i32_66 : BitVec 32 := 4#32
  let v134 : BitVec 32 := Scalar.muli v55 c4_i32_66
  let c512_i32 : BitVec 32 := 512#32
  let v135 : BitVec 32 := Scalar.muli v134 c512_i32
  let v136 : BitVec 32 := v135
  let v139 : Index := Scalar.indexCast v136
  let c0_68 : Index := 0#32
  ![v139.toNat, 0]
def k0_cond4 (i : grid0.Coords) : BitVec 1 :=
  let arg2 : BitVec 32 := BitVec.ofNat 32 (i 2).val
  let c1_i32 : BitVec 32 := 1#32
  let v37 : BitVec 32 := Scalar.subi arg2 c1_i32
  let c0_i32_21 : BitVec 32 := 0#32
  let v38 : BitVec 32 := Scalar.maxsi v37 c0_i32_21
  let c0_i32_22 : BitVec 32 := 0#32
  let v40 : BitVec 1 := Scalar.cmpi .sgt v38 c0_i32_22
  let v41 : BitVec 32 := Scalar.extui v40
  let c0_i32_23 : BitVec 32 := 0#32
  let v42 : BitVec 1 := Scalar.cmpi .slt v38 c0_i32_23
  let v43 : BitVec 32 := Scalar.extui v42
  let v44 : BitVec 32 := Scalar.subi v41 v43
  let c4_i32 : BitVec 32 := 4#32
  let c0_i32_24 : BitVec 32 := 0#32
  let v45 : BitVec 1 := Scalar.cmpi .sgt c4_i32 c0_i32_24
  let v46 : BitVec 32 := Scalar.extui v45
  let c0_i32_25 : BitVec 32 := 0#32
  let v47 : BitVec 1 := Scalar.cmpi .slt c4_i32 c0_i32_25
  let v48 : BitVec 32 := Scalar.extui v47
  let v49 : BitVec 32 := Scalar.subi v46 v48
  let v50 : BitVec 1 := Scalar.cmpi .ne v44 v49
  let v51 : BitVec 32 := Scalar.remsi v38 c4_i32
  let c0_i32_26 : BitVec 32 := 0#32
  let v52 : BitVec 1 := Scalar.cmpi .ne v51 c0_i32_26
  let v53 : BitVec 1 := Scalar.andi v50 v52
  let v39 : BitVec 32 := Scalar.divsi v38 c4_i32
  let c1_i32_27 : BitVec 32 := 1#32
  let v54 : BitVec 32 := Scalar.subi v39 c1_i32_27
  let v55 : BitVec 32 := Scalar.select v53 v54 v39
  let c4_i32_28 : BitVec 32 := 4#32
  let v56 : BitVec 32 := Scalar.muli v55 c4_i32_28
  let v57 : BitVec 32 := Scalar.subi v38 v56
  let c2_i32_35 : BitVec 32 := 2#32
  let c0_i32_36 : BitVec 32 := 0#32
  let v66 : BitVec 1 := Scalar.cmpi .eq c2_i32_35 c0_i32_36
  let c1_i32_37 : BitVec 32 := 1#32
  let v67 : BitVec 32 := Scalar.select v66 c1_i32_37 c2_i32_35
  let v68 : BitVec 32 := Scalar.remsi v57 v67
  let c0_i32_39 : BitVec 32 := 0#32
  let v70 : BitVec 1 := Scalar.cmpi .slt v68 c0_i32_39
  let c0_i32_40 : BitVec 32 := 0#32
  let v71 : BitVec 1 := Scalar.cmpi .slt v67 c0_i32_40
  let v72 : BitVec 1 := Scalar.xori v70 v71
  let c0_i32_38 : BitVec 32 := 0#32
  let v69 : BitVec 1 := Scalar.cmpi .ne v68 c0_i32_38
  let v73 : BitVec 1 := Scalar.andi v72 v69
  let v74 : BitVec 32 := Scalar.addi v68 v67
  let v75 : BitVec 32 := Scalar.select v73 v74 v68
  let c1_i32_41 : BitVec 32 := 1#32
  let v76 : BitVec 1 := Scalar.cmpi .eq v75 c1_i32_41
  let v77 : BitVec 32 := Scalar.extui v76
  let c0_i32_42 : BitVec 32 := 0#32
  let v78 : BitVec 1 := Scalar.cmpi .ne v77 c0_i32_42
  v78

def k0_mult4 (i : grid0.Coords) : BitVec 32 :=
  let arg2 : BitVec 32 := BitVec.ofNat 32 (i 2).val
  let c1_i32 : BitVec 32 := 1#32
  let v37 : BitVec 32 := Scalar.subi arg2 c1_i32
  let c0_i32_21 : BitVec 32 := 0#32
  let v38 : BitVec 32 := Scalar.maxsi v37 c0_i32_21
  let c1_i32_66 : BitVec 32 := 1#32
  let v134 : BitVec 32 := Scalar.subi v38 c1_i32_66
  let c512_i32 : BitVec 32 := 512#32
  let v135 : BitVec 32 := Scalar.muli v134 c512_i32
  v135
def k0_off10 (i : grid0.Coords) : Fin 2 → Nat :=
  let arg2 : BitVec 32 := BitVec.ofNat 32 (i 2).val
  let c1_i32 : BitVec 32 := 1#32
  let v37 : BitVec 32 := Scalar.subi arg2 c1_i32
  let c0_i32_21 : BitVec 32 := 0#32
  let v38 : BitVec 32 := Scalar.maxsi v37 c0_i32_21
  let c1_i32_66 : BitVec 32 := 1#32
  let v134 : BitVec 32 := Scalar.subi v38 c1_i32_66
  let c512_i32 : BitVec 32 := 512#32
  let v135 : BitVec 32 := Scalar.muli v134 c512_i32
  let v136 : BitVec 32 := v135
  let v137 : Index := Scalar.indexCast v136
  let c0_67 : Index := 0#32
  ![v137.toNat, 0]
def k0_off11 (i : grid0.Coords) : Fin 2 → Nat :=
  let arg2 : BitVec 32 := BitVec.ofNat 32 (i 2).val
  let c1_i32 : BitVec 32 := 1#32
  let v37 : BitVec 32 := Scalar.subi arg2 c1_i32
  let c0_i32_21 : BitVec 32 := 0#32
  let v38 : BitVec 32 := Scalar.maxsi v37 c0_i32_21
  let c1_i32_66 : BitVec 32 := 1#32
  let v134 : BitVec 32 := Scalar.subi v38 c1_i32_66
  let c512_i32 : BitVec 32 := 512#32
  let v135 : BitVec 32 := Scalar.muli v134 c512_i32
  let v136 : BitVec 32 := v135
  let v139 : Index := Scalar.indexCast v136
  let c0_68 : Index := 0#32
  ![v139.toNat, 0]
def k0_cond5 (i : grid0.Coords) : BitVec 1 :=
  let arg2 : BitVec 32 := BitVec.ofNat 32 (i 2).val
  let c1_i32_43 : BitVec 32 := 1#32
  let v79 : BitVec 1 := Scalar.cmpi .sge arg2 c1_i32_43
  let v80 : BitVec 32 := Scalar.extui v79
  let c0_i32_44 : BitVec 32 := 0#32
  let v81 : BitVec 1 := Scalar.cmpi .ne v80 c0_i32_44
  v81

def k0_mult5 (i : grid0.Coords) : BitVec 32 :=
  let arg2 : BitVec 32 := BitVec.ofNat 32 (i 2).val
  let c1_i32_66 : BitVec 32 := 1#32
  let v134 : BitVec 32 := Scalar.subi arg2 c1_i32_66
  let c512_i32 : BitVec 32 := 512#32
  let v135 : BitVec 32 := Scalar.muli v134 c512_i32
  v135
def k0_off12 (i : grid0.Coords) : Fin 2 → Nat :=
  let arg2 : BitVec 32 := BitVec.ofNat 32 (i 2).val
  let c1_i32_66 : BitVec 32 := 1#32
  let v134 : BitVec 32 := Scalar.subi arg2 c1_i32_66
  let c512_i32 : BitVec 32 := 512#32
  let v135 : BitVec 32 := Scalar.muli v134 c512_i32
  let v136 : BitVec 32 := v135
  let v137 : Index := Scalar.indexCast v136
  let c0_67 : Index := 0#32
  ![v137.toNat, 0]
def k0_off13 (i : grid0.Coords) : Fin 2 → Nat :=
  let arg2 : BitVec 32 := BitVec.ofNat 32 (i 2).val
  let c1_i32_66 : BitVec 32 := 1#32
  let v134 : BitVec 32 := Scalar.subi arg2 c1_i32_66
  let c512_i32 : BitVec 32 := 512#32
  let v135 : BitVec 32 := Scalar.muli v134 c512_i32
  let v136 : BitVec 32 := v135
  let v139 : Index := Scalar.indexCast v136
  let c0_68 : Index := 0#32
  ![v139.toNat, 0]
def k0_cond6 (i : grid0.Coords) : BitVec 1 :=
  let arg2 : BitVec 32 := BitVec.ofNat 32 (i 2).val
  let c0_i32_45 : BitVec 32 := 0#32
  let v82 : BitVec 1 := Scalar.cmpi .eq arg2 c0_i32_45
  let v83 : BitVec 32 := Scalar.extui v82
  let c0_i32_46 : BitVec 32 := 0#32
  let v84 : BitVec 1 := Scalar.cmpi .ne v83 c0_i32_46
  v84

def k0_mult6 : BitVec 32 :=
  let c0_i32_66 : BitVec 32 := 0#32
  c0_i32_66
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

abbrev stage0_0 : Fin 1 → Memref sig .tc .smem S256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8192x6144 : Shape := ⟨2, ![8192, 6144]⟩
abbrev S32x8 : Shape := ⟨2, ![32, 8]⟩
abbrev S4x64 : Shape := ⟨2, ![4, 64]⟩
abbrev S128 : Shape := ⟨1, ![128]⟩
abbrev S8192x1024 : Shape := ⟨2, ![8192, 1024]⟩
abbrev S2x4096x8x2x64 : Shape := ⟨5, ![2, 4096, 8, 2, 64]⟩
abbrev S2x4096x8x128 : Shape := ⟨4, ![2, 4096, 8, 128]⟩
abbrev S1x64 : Shape := ⟨2, ![1, 64]⟩
abbrev S64 : Shape := ⟨1, ![64]⟩
abbrev S_ : Shape := ⟨0, ![]⟩
abbrev S2x8x2x4096x64 : Shape := ⟨5, ![2, 8, 2, 4096, 64]⟩
abbrev S2x8x4096x128 : Shape := ⟨4, ![2, 8, 4096, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S4096x4096x8 : Shape := ⟨3, ![4096, 4096, 8]⟩
abbrev S8x4096x4096 : Shape := ⟨3, ![8, 4096, 4096]⟩
abbrev S2x8x2x4096x4096 : Shape := ⟨5, ![2, 8, 2, 4096, 4096]⟩
abbrev S1x8x1x4096x4096 : Shape := ⟨5, ![1, 8, 1, 4096, 4096]⟩
abbrev S1x1x1x4096x4096 : Shape := ⟨5, ![1, 1, 1, 4096, 4096]⟩
abbrev S2x8x2x4096 : Shape := ⟨4, ![2, 8, 2, 4096]⟩
abbrev S2x8x2x4096x1 : Shape := ⟨5, ![2, 8, 2, 4096, 1]⟩
abbrev S2x8x1x4096x4096 : Shape := ⟨5, ![2, 8, 1, 4096, 4096]⟩
abbrev S2x8x4096x4096 : Shape := ⟨4, ![2, 8, 4096, 4096]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩

abbrev nBuf : Space → Nat
  | .hbm => 137
  | .vmem => 0
  | .smem => 0
  | _ => 0

abbrev hbmTy0_0 (i : Nat) : BufTy := match i % 128 with
  | 0 => ⟨S8192x6144, .bf16⟩
  | 1 => ⟨S32x8, .f32⟩
  | 2 => ⟨S4x64, .f32⟩
  | 3 => ⟨S128, .f32⟩
  | 4 => ⟨S8192x6144, .f32⟩
  | 5 => ⟨S8192x1024, .f32⟩
  | 6 => ⟨S2x4096x8x2x64, .f32⟩
  | 7 => ⟨S8192x1024, .f32⟩
  | 8 => ⟨S2x4096x8x2x64, .f32⟩
  | 9 => ⟨S8192x1024, .f32⟩
  | 10 => ⟨S2x4096x8x128, .f32⟩
  | 11 => ⟨S1x64, .f32⟩
  | 12 => ⟨S64, .f32⟩
  | 13 => ⟨S1x64, .f32⟩
  | 14 => ⟨S64, .f32⟩
  | 15 => ⟨S64, .f32⟩
  | 16 => ⟨S_, .f32⟩
  | 17 => ⟨S_, .f32⟩
  | 18 => ⟨S_, .f32⟩
  | 19 => ⟨S1x64, .f32⟩
  | 20 => ⟨S64, .f32⟩
  | 21 => ⟨S1x64, .f32⟩
  | 22 => ⟨S64, .f32⟩
  | 23 => ⟨S64, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S2x4096x8x2x64, .f32⟩
  | 32 => ⟨S2x4096x8x2x64, .f32⟩
  | 33 => ⟨S2x8x2x4096x64, .f32⟩
  | 34 => ⟨S2x8x2x4096x64, .f32⟩
  | 35 => ⟨S2x8x4096x128, .f32⟩
  | 36 => ⟨S4096, .i32⟩
  | 37 => ⟨S4096x1, .i32⟩
  | 38 => ⟨S1x4096, .i32⟩
  | 39 => ⟨S4096x4096, .i32⟩
  | 40 => ⟨S4096x4096, .i32⟩
  | 41 => ⟨S4096x4096, .i32⟩
  | 42 => ⟨S_, .i32⟩
  | 43 => ⟨S4096x4096, .i32⟩
  | 44 => ⟨S4096x4096, .i32⟩
  | 45 => ⟨S_, .i32⟩
  | 46 => ⟨S4096x4096, .i32⟩
  | 47 => ⟨S4096x4096, .i32⟩
  | 48 => ⟨S4096x4096, .f32⟩
  | 49 => ⟨S_, .f32⟩
  | 50 => ⟨S4096x4096, .f32⟩
  | 51 => ⟨S4096x4096, .f32⟩
  | 52 => ⟨S4096x4096, .f32⟩
  | 53 => ⟨S_, .f32⟩
  | 54 => ⟨S4096x4096, .f32⟩
  | 55 => ⟨S4096x4096, .f32⟩
  | 56 => ⟨S_, .f32⟩
  | 57 => ⟨S4096x4096, .f32⟩
  | 58 => ⟨S4096x4096, .f32⟩
  | 59 => ⟨S4096x4096, .i32⟩
  | 60 => ⟨S_, .i32⟩
  | 61 => ⟨S4096x4096, .i32⟩
  | 62 => ⟨S4096x4096, .i32⟩
  | 63 => ⟨S_, .i32⟩
  | 64 => ⟨S4096x4096, .i32⟩
  | 65 => ⟨S4096x4096, .i32⟩
  | 66 => ⟨S_, .i32⟩
  | 67 => ⟨S4096x4096, .i32⟩
  | 68 => ⟨S4096x4096, .i1⟩
  | 69 => ⟨S4096x4096, .i32⟩
  | 70 => ⟨S_, .i32⟩
  | 71 => ⟨S4096x4096, .i32⟩
  | 72 => ⟨S4096x4096, .i1⟩
  | 73 => ⟨S_, .i32⟩
  | 74 => ⟨S4096x4096, .i32⟩
  | 75 => ⟨S4096x4096, .i32⟩
  | 76 => ⟨S4096x4096, .i32⟩
  | 77 => ⟨S4096x4096x1, .i32⟩
  | 78 => ⟨S4096x4096x8, .f32⟩
  | 79 => ⟨S8x4096x4096, .f32⟩
  | 80 => ⟨S2x8x2x4096x4096, .f32⟩
  | 81 => ⟨S1x8x1x4096x4096, .f32⟩
  | 82 => ⟨S2x8x2x4096x4096, .f32⟩
  | 83 => ⟨S2x8x2x4096x4096, .f32⟩
  | 84 => ⟨S_, .i32⟩
  | 85 => ⟨S4096x4096, .i32⟩
  | 86 => ⟨S4096x4096, .i1⟩
  | 87 => ⟨S1x1x1x4096x4096, .i1⟩
  | 88 => ⟨S_, .f32⟩
  | 89 => ⟨S_, .f32⟩
  | 90 => ⟨S2x8x2x4096x4096, .i1⟩
  | 91 => ⟨S2x8x2x4096x4096, .f32⟩
  | 92 => ⟨S2x8x2x4096x4096, .f32⟩
  | 93 => ⟨S_, .f32⟩
  | 94 => ⟨S2x8x2x4096, .f32⟩
  | 95 => ⟨S_, .f32⟩
  | 96 => ⟨S2x8x2x4096, .f32⟩
  | 97 => ⟨S2x8x2x4096, .f32⟩
  | 98 => ⟨S2x8x2x4096x1, .f32⟩
  | 99 => ⟨S2x8x2x4096x4096, .f32⟩
  | 100 => ⟨S2x8x2x4096x4096, .f32⟩
  | 101 => ⟨S2x8x2x4096x4096, .f32⟩
  | 102 => ⟨S_, .f32⟩
  | 103 => ⟨S2x8x2x4096, .f32⟩
  | 104 => ⟨S2x8x2x4096x1, .f32⟩
  | 105 => ⟨S2x8x2x4096x4096, .f32⟩
  | 106 => ⟨S2x8x2x4096x4096, .f32⟩
  | 107 => ⟨S2x8x1x4096x4096, .f32⟩
  | 108 => ⟨S2x8x4096x4096, .f32⟩
  | 109 => ⟨S2x8x1x4096x4096, .f32⟩
  | 110 => ⟨S2x8x4096x4096, .f32⟩
  | 111 => ⟨S2x8x4096x4096, .f32⟩
  | 112 => ⟨S2x8x4096x4096, .f32⟩
  | 113 => ⟨S2x8x4096x4096, .f32⟩
  | 114 => ⟨S2x8x4096x128, .f32⟩
  | 115 => ⟨S2x4096x8x128, .f32⟩
  | 116 => ⟨S2x4096x8x128, .f32⟩
  | 117 => ⟨S_, .f32⟩
  | 118 => ⟨S2x4096x8, .f32⟩
  | 119 => ⟨S2x4096x8x1, .f32⟩
  | 120 => ⟨S_, .f32⟩
  | 121 => ⟨S2x4096x8x1, .f32⟩
  | 122 => ⟨S2x4096x8x1, .f32⟩
  | 123 => ⟨S_, .f32⟩
  | 124 => ⟨S2x4096x8x1, .f32⟩
  | 125 => ⟨S2x4096x8x1, .f32⟩
  | 126 => ⟨S2x4096x8x1, .f32⟩
  | 127 => ⟨S2x4096x8x128, .f32⟩
  | _ => ⟨S8192x6144, .bf16⟩

abbrev hbmTy0_1 (i : Nat) : BufTy := match i % 128 with
  | 0 => ⟨S2x4096x8x128, .f32⟩
  | 1 => ⟨S1x1x1x128, .f32⟩
  | 2 => ⟨S2x4096x8x128, .f32⟩
  | 3 => ⟨S2x4096x8x128, .f32⟩
  | 4 => ⟨S_, .f32⟩
  | 5 => ⟨S2x4096x8x128, .f32⟩
  | 6 => ⟨S2x4096x8x128, .f32⟩
  | 7 => ⟨S8192x1024, .f32⟩
  | 8 => ⟨S8192x1024, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_7 : Ref sig .tc := ⟨.hbm, 60, rfl⟩
abbrev main_v47 : Ref sig .tc := ⟨.hbm, 61, rfl⟩
abbrev main_v48 : Ref sig .tc := ⟨.hbm, 62, rfl⟩
abbrev main_c_8 : Ref sig .tc := ⟨.hbm, 63, rfl⟩
abbrev main_v49 : Ref sig .tc := ⟨.hbm, 64, rfl⟩
abbrev main_v50 : Ref sig .tc := ⟨.hbm, 65, rfl⟩
abbrev main_c_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_10 : Ref sig .tc := ⟨.hbm, 70, rfl⟩
abbrev main_v54 : Ref sig .tc := ⟨.hbm, 71, rfl⟩
abbrev main_v55 : Ref sig .tc := ⟨.hbm, 72, rfl⟩
abbrev main_c_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_12 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v69 : Ref sig .tc := ⟨.hbm, 92, rfl⟩
abbrev main_cst_14 : Ref sig .tc := ⟨.hbm, 93, rfl⟩
abbrev main_v70 : Ref sig .tc := ⟨.hbm, 94, rfl⟩
abbrev main_cst_15 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_16 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_17 : Ref sig .tc := ⟨.hbm, 117, rfl⟩
abbrev main_v91 : Ref sig .tc := ⟨.hbm, 118, rfl⟩
abbrev main_v92 : Ref sig .tc := ⟨.hbm, 119, rfl⟩
abbrev main_cst_18 : Ref sig .tc := ⟨.hbm, 120, rfl⟩
abbrev main_v93 : Ref sig .tc := ⟨.hbm, 121, rfl⟩
abbrev main_v94 : Ref sig .tc := ⟨.hbm, 122, rfl⟩
abbrev main_cst_19 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_20 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩

abbrev nD : Nat := 1
abbrev τ : Topo := Topo.v7x

variable {F : FTy → Type} [FloatOps F]
-- ==== KernelInC.lean ====
abbrev S2x4096x2048 : Shape := ⟨3, ![2, 4096, 2048]⟩
abbrev S2048 : Shape := ⟨1, ![2048]⟩
abbrev S1x2048x4096 : Shape := ⟨3, ![1, 2048, 4096]⟩
abbrev S8192x2048 : Shape := ⟨2, ![8192, 2048]⟩
abbrev S1x2048 : Shape := ⟨2, ![1, 2048]⟩
abbrev S8192x4096 : Shape := ⟨2, ![8192, 4096]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S1x2048x4096, .f32⟩
  | .hbm, ⟨3, _⟩ => ⟨S8192x2048, .f32⟩
  | .hbm, ⟨4, _⟩ => ⟨S1x2048, .f32⟩
  | .hbm, ⟨5, _⟩ => ⟨S8192x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInCIdeal.lean ====
abbrev S2x4096x2048 : Shape := ⟨3, ![2, 4096, 2048]⟩
abbrev S2048 : Shape := ⟨1, ![2048]⟩
abbrev S1x2048x4096 : Shape := ⟨3, ![1, 2048, 4096]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x4096 : Shape := ⟨2, ![2048, 4096]⟩
abbrev S2x4096x4096 : Shape := ⟨3, ![2, 4096, 4096]⟩
abbrev S8192x4096 : Shape := ⟨2, ![8192, 4096]⟩

abbrev nBuf : Space → Nat
  | .hbm => 40
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S1x2048x4096, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2048x4096, .f32⟩
  | .hbm, ⟨20, _⟩ => ⟨S2x4096x4096, .f32⟩
  | .hbm, ⟨21, _⟩ => ⟨S2x4096x4096, .f32⟩
  | .hbm, ⟨22, _⟩ => ⟨S2x4096x4096, .f32⟩
  | .hbm, ⟨23, _⟩ => ⟨S_, .f32⟩
  | .hbm, ⟨24, _⟩ => ⟨S2x4096x4096, .f32⟩
  | .hbm, ⟨25, _⟩ => ⟨S2x4096x4096, .f32⟩
  | .hbm, ⟨26, _⟩ => ⟨S2x4096x4096, .f32⟩
  | .hbm, ⟨27, _⟩ => ⟨S_, .f32⟩
  | .hbm, ⟨28, _⟩ => ⟨S2x4096x4096, .f32⟩
  | .hbm, ⟨29, _⟩ => ⟨S2x4096x4096, .f32⟩
  | .hbm, ⟨30, _⟩ => ⟨S2x4096x4096, .f32⟩
  | .hbm, ⟨31, _⟩ => ⟨S_, .f32⟩
  | .hbm, ⟨32, _⟩ => ⟨S2x4096x4096, .f32⟩
  | .hbm, ⟨33, _⟩ => ⟨S2x4096x4096, .f32⟩
  | .hbm, ⟨34, _⟩ => ⟨S_, .f32⟩
  | .hbm, ⟨35, _⟩ => ⟨S2x4096x4096, .f32⟩
  | .hbm, ⟨36, _⟩ => ⟨S2x4096x4096, .f32⟩
  | .hbm, ⟨37, _⟩ => ⟨S2x4096x4096, .f32⟩
  | .hbm, ⟨38, _⟩ => ⟨S8192x4096, .f32⟩
  | .hbm, ⟨39, _⟩ => ⟨S8192x4096, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== KernelOut.lean ====
abbrev S8192x1024 : Shape := ⟨2, ![8192, 1024]⟩
abbrev S1x2048x2048 : Shape := ⟨3, ![1, 2048, 2048]⟩
abbrev S2x4096x2048 : Shape := ⟨3, ![2, 4096, 2048]⟩
abbrev S8192x2048 : Shape := ⟨2, ![8192, 2048]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S2x4096x2048, .f32⟩
  | .hbm, ⟨4, _⟩ => ⟨S8192x2048, .f32⟩
  | .hbm, ⟨5, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x1024, .f32⟩
  | .local _ .vmem, ⟨5, _⟩ => ⟨S1x2048x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceOutIdeal.lean ====
abbrev S8192x1024 : Shape := ⟨2, ![8192, 1024]⟩
abbrev S1x2048x2048 : Shape := ⟨3, ![1, 2048, 2048]⟩
abbrev S2x4096x2048 : Shape := ⟨3, ![2, 4096, 2048]⟩
abbrev S8192x2048 : Shape := ⟨2, ![8192, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S2x4096x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S2x4096x2048, .f32⟩
  | .hbm, ⟨10, _⟩ => ⟨S2x4096x2048, .f32⟩
  | .hbm, ⟨11, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelOutC.lean ====
abbrev S8192x2048 : Shape := ⟨2, ![8192, 2048]⟩
abbrev S1x2048x2048 : Shape := ⟨3, ![1, 2048, 2048]⟩
abbrev S2x4096x2048 : Shape := ⟨3, ![2, 4096, 2048]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S2x4096x2048, .f32⟩
  | .hbm, ⟨3, _⟩ => ⟨S8192x2048, .f32⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x1024, .f32⟩
  | .local _ .vmem, ⟨5, _⟩ => ⟨S1x2048x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceOutCIdeal.lean ====
abbrev S8192x2048 : Shape := ⟨2, ![8192, 2048]⟩
abbrev S1x2048x2048 : Shape := ⟨3, ![1, 2048, 2048]⟩
abbrev S2x4096x2048 : Shape := ⟨3, ![2, 4096, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S2x4096x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S2x4096x2048, .f32⟩
  | .hbm, ⟨7, _⟩ => ⟨S2x4096x2048, .f32⟩
  | .hbm, ⟨8, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelIn.lean ====
abbrev S2x4096x2048 : Shape := ⟨3, ![2, 4096, 2048]⟩
abbrev S2048 : Shape := ⟨1, ![2048]⟩
abbrev S1x2048x6160 : Shape := ⟨3, ![1, 2048, 6160]⟩
abbrev S8192x2048 : Shape := ⟨2, ![8192, 2048]⟩
abbrev S1x2048 : Shape := ⟨2, ![1, 2048]⟩
abbrev S1x6160x2048 : Shape := ⟨3, ![1, 6160, 2048]⟩
abbrev S8192x6144 : Shape := ⟨2, ![8192, 6144]⟩
abbrev S8192x16 : Shape := ⟨2, ![8192, 16]⟩
abbrev S1024x2048 : Shape := ⟨2, ![1024, 2048]⟩
abbrev S1x1024x2048 : Shape := ⟨3, ![1, 1024, 2048]⟩
abbrev S1x128x2048 : Shape := ⟨3, ![1, 128, 2048]⟩
abbrev S1024x1024 : Shape := ⟨2, ![1024, 1024]⟩
abbrev S1024x16 : Shape := ⟨2, ![1024, 16]⟩
abbrev S1024 : Shape := ⟨1, ![1024]⟩
abbrev S1024x1 : Shape := ⟨2, ![1024, 1]⟩
abbrev S128x2048 : Shape := ⟨2, ![128, 2048]⟩
abbrev S1024x128 : Shape := ⟨2, ![1024, 128]⟩

abbrev nBuf : Space → Nat
  | .hbm => 8
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S1x2048x6160, .f32⟩
  | .hbm, ⟨3, _⟩ => ⟨S8192x2048, .f32⟩
  | .hbm, ⟨4, _⟩ => ⟨S1x2048, .f32⟩
  | .hbm, ⟨5, _⟩ => ⟨S1x6160x2048, .f32⟩
  | .hbm, ⟨6, _⟩ => ⟨S8192x6144, .bf16⟩
  | .hbm, ⟨7, _⟩ => ⟨S8192x16, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1024x2048, .f32⟩
  | .local _ .vmem, ⟨4, _⟩ => ⟨S1x1024x2048, .f32⟩
  | .local _ .vmem, ⟨5, _⟩ => ⟨S1x128x2048, .f32⟩
  | .local _ .vmem, ⟨6, _⟩ => ⟨S1024x1024, .bf16⟩
  | .local _ .vmem, ⟨7, _⟩ => ⟨S1024x1024, .bf16⟩
  | .local _ .vmem, ⟨8, _⟩ => ⟨S1024x16, .f32⟩
  | .local _ .vmem, ⟨9, _⟩ => ⟨S1024x16, .f32⟩
  | .local _ .vmem, ⟨10, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c48_i32 : BitVec 32 := 48#32
  let c0_i32_0 : BitVec 32 := 0#32
  let c0_i32_1 : BitVec 32 := 0#32
  ![c0_i32.toNat, c48_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceInIdeal.lean ====
abbrev S2x4096x2048 : Shape := ⟨3, ![2, 4096, 2048]⟩
abbrev S2048 : Shape := ⟨1, ![2048]⟩
abbrev S1x2048x6160 : Shape := ⟨3, ![1, 2048, 6160]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x6160 : Shape := ⟨2, ![2048, 6160]⟩
abbrev S2x4096x6160 : Shape := ⟨3, ![2, 4096, 6160]⟩
abbrev S8192x6160 : Shape := ⟨2, ![8192, 6160]⟩
abbrev S8192x6144 : Shape := ⟨2, ![8192, 6144]⟩
abbrev S8192x16 : Shape := ⟨2, ![8192, 16]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S1x2048x6160, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2048x6160, .f32⟩
  | .hbm, ⟨20, _⟩ => ⟨S2x4096x6160, .f32⟩
  | .hbm, ⟨21, _⟩ => ⟨S8192x6160, .f32⟩
  | .hbm, ⟨22, _⟩ => ⟨S8192x6144, .f32⟩
  | .hbm, ⟨23, _⟩ => ⟨S8192x6144, .bf16⟩
  | .hbm, ⟨24, _⟩ => ⟨S8192x16, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== KernelGate.lean ====
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S1x2048 : Shape := ⟨2, ![1, 2048]⟩
abbrev S128x8 : Shape := ⟨2, ![128, 8]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩

abbrev nBuf : Space → Nat
  | .hbm => 9
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S1x2048, .f32⟩
  | .hbm, ⟨6, _⟩ => ⟨S1x2048, .f32⟩
  | .hbm, ⟨7, _⟩ => ⟨S128x8, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x8, .f32⟩
  | .local _ .vmem, ⟨8, _⟩ => ⟨S512x2048, .bf16⟩
  | .local _ .vmem, ⟨9, _⟩ => ⟨S512x2048, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceGateIdeal.lean ====
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S2x4096x4096 : Shape := ⟨3, ![2, 4096, 4096]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x32x128x8x256 : Shape := ⟨5, ![2, 32, 128, 8, 256]⟩
abbrev S128x128 : Shape := ⟨2, ![128, 128]⟩
abbrev S1x128x128 : Shape := ⟨3, ![1, 128, 128]⟩
abbrev S8x2x32x256x128 : Shape := ⟨5, ![8, 2, 32, 256, 128]⟩
abbrev S128x8 : Shape := ⟨2, ![128, 8]⟩
abbrev S1x1x128x8x1 : Shape := ⟨5, ![1, 1, 128, 8, 1]⟩
abbrev S8192x2048 : Shape := ⟨2, ![8192, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S8192x4096, .f32⟩
  | .hbm, ⟨6, _⟩ => ⟨S2x4096x4096, .f32⟩
  | .hbm, ⟨7, _⟩ => ⟨S2x4096x2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S_, .f32⟩
  | .hbm, ⟨19, _⟩ => ⟨S2x4096, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x2048, .f32⟩
  | .hbm, ⟨25, _⟩ => ⟨S2x4096x2048, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S2x4096x1, .f32⟩
  | .hbm, ⟨30, _⟩ => ⟨S2x4096x2048, .f32⟩
  | .hbm, ⟨31, _⟩ => ⟨S2x4096x2048, .f32⟩
  | .hbm, ⟨32, _⟩ => ⟨S1x1x2048, .f32⟩
  | .hbm, ⟨33, _⟩ => ⟨S2x4096x2048, .f32⟩
  | .hbm, ⟨34, _⟩ => ⟨S2x4096x2048, .f32⟩
  | .hbm, ⟨35, _⟩ => ⟨S1x1x2048, .f32⟩
  | .hbm, ⟨36, _⟩ => ⟨S2x4096x2048, .f32⟩
  | .hbm, ⟨37, _⟩ => ⟨S2x4096x2048, .f32⟩
  | .hbm, ⟨38, _⟩ => ⟨S2x32x128x8x256, .f32⟩
  | .hbm, ⟨39, _⟩ => ⟨S_, .i1⟩
  | .hbm, ⟨40, _⟩ => ⟨S128x128, .i1⟩
  | .hbm, ⟨41, _⟩ => ⟨S128x128, .i32⟩
  | .hbm, ⟨42, _⟩ => ⟨S_, .i32⟩
  | .hbm, ⟨43, _⟩ => ⟨S128x128, .i32⟩
  | .hbm, ⟨44, _⟩ => ⟨S128x128, .i32⟩
  | .hbm, ⟨45, _⟩ => ⟨S128x128, .i32⟩
  | .hbm, ⟨46, _⟩ => ⟨S128x128, .i1⟩
  | .hbm, ⟨47, _⟩ => ⟨S_, .i1⟩
  | .hbm, ⟨48, _⟩ => ⟨S128x128, .i1⟩
  | .hbm, ⟨49, _⟩ => ⟨S128x128, .i1⟩
  | .hbm, ⟨50, _⟩ => ⟨S1x128x128, .i1⟩
  | .hbm, ⟨51, _⟩ => ⟨S_, .f32⟩
  | .hbm, ⟨52, _⟩ => ⟨S_, .f32⟩
  | .hbm, ⟨53, _⟩ => ⟨S8x128x128, .i1⟩
  | .hbm, ⟨54, _⟩ => ⟨S8x128x128, .f32⟩
  | .hbm, ⟨55, _⟩ => ⟨S8x128x128, .f32⟩
  | .hbm, ⟨56, _⟩ => ⟨S8x2x32x256x128, .f32⟩
  | .hbm, ⟨57, _⟩ => ⟨S2x32x128x8x256, .f32⟩
  | .hbm, ⟨58, _⟩ => ⟨S128x8, .f32⟩
  | .hbm, ⟨59, _⟩ => ⟨S1x1x128x8x1, .f32⟩
  | .hbm, ⟨60, _⟩ => ⟨S2x32x128x8x256, .f32⟩
  | .hbm, ⟨61, _⟩ => ⟨S2x32x128x8x256, .f32⟩
  | .hbm, ⟨62, _⟩ => ⟨S2x4096x2048, .f32⟩
  | .hbm, ⟨63, _⟩ => ⟨S2x4096x2048, .f32⟩
  | .hbm, ⟨64, _⟩ => ⟨S8192x2048, .f32⟩
  | .hbm, ⟨65, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_call0_v0 : Ref sig .tc := ⟨.hbm, 41, rfl⟩
abbrev main_call0_c : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_0 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Proof.OutProj.lean ====
module

public import proofs.«01_k».proof.Proof.Gen.KernelOutIdeal.Value
public import proofs.«01_k».proof.Proof.Gen.ReferenceOutIdeal.Run
public import Idealize.ShloMosaic.Lib.Pipeline.ValueKit
public import Idealize.ShloMosaic.Lib.Pointwise

@[expose] public section

set_option maxRecDepth 16384

noncomputable section

/-! ## The output projection after the two mixers

The two halves of the contracted axis are two products; point `t` of the grid is row block `t / 2`, column block `t % 2`. -/

namespace Cert.OutProj

open Idealize.ShloMosaic Idealize.ShloMosaic.TcCoe Idealize.SL.Sem Cert.KernelOutIdeal Cert.KernelOutIdeal.Gen Cert.KernelOutIdeal.Value

/-- The zero offsets of a block of two axes. -/
theorem off2 : (![0, 0] : Fin 2 → Nat) = fun _ => 0 := funext fun a => by fin_cases a <;> rfl
/-- The zero offsets of a block of three axes. -/
theorem off3 : (![0, 0, 0] : Fin 3 → Nat) = fun _ => 0 := funext fun a => by fin_cases a <;> rfl

/-- A load of a whole buffer reads its contents. -/
theorem read_whole {sg : RefSig} {F : FTy → Type} {S : Shape} {e : EltTy} {off : Fin S.rank → ℕ} (ho : off = fun _ => 0)
    {M : Memref sg .tc .vmem S e} (hM : M.IsWhole) (x : Vec F S e) (inb : ∀ a, off a + S.size a ≤ S.size a) :
    M.view.readAt (Elt F) (Rect.unit (s := S) off S.size inb).toLoadRect (hM.unread x) = x := by
  rw [View.readAt_eq_ld, hM.read_unread, View.ld_unit_zero ho]

/-- WHAT A POINT LEAVES, at a row and a column of its block: the residual plus the two halves' dot products. -/
theorem out_at (x0 : Vec Ideal S1024x1024 .bf16) (x1 : Vec Ideal S1024x1024 .bf16) (x2 : Vec Ideal S1x2048x1024 .f32)
    (x3 : Vec Ideal S1024x1024 .f32) (r l : Fin 1024) :
    out0_4 x0 x1 x2 x3 (ix2 r l)
      = x3 (ix2 r l) + ((∑ k : Fin 1024, x0 (ix2 r k) * x2 (ix3 0 ⟨k.val, by omega⟩ l))
          + ∑ k : Fin 1024, x1 (ix2 r k) * x2 (ix3 0 ⟨1024 + k.val, by omega⟩ l)) := by
  unfold out0_4
  rw [View.canon_unit_zero off2, View.ld_unit_zero off3, View.ld_unit_zero off2, View.ld_unit_zero off2, View.ld_unit_zero off2]
  unfold k0_pay1
  pointwise

variable (m : (ℓ : Loc nD τ sig) → Buf (Elt Ideal) ℓ)

/-- The blocks' places in their arrays. -/
theorem places : ∀ t : Fin cfg0.N,
    win0_0.index t (0 : Fin 2) = t.val / 2 ∧ win0_0.index t (1 : Fin 2) = 0
    ∧ win0_1.index t (0 : Fin 2) = t.val / 2 ∧ win0_1.index t (1 : Fin 2) = 0
    ∧ win0_2.index t (0 : Fin 3) = 0 ∧ win0_2.index t (1 : Fin 3) = 0 ∧ win0_2.index t (2 : Fin 3) = t.val % 2
    ∧ win0_3.index t (0 : Fin 2) = t.val / 2 ∧ win0_3.index t (1 : Fin 2) = t.val % 2
    ∧ win0_4.index t (0 : Fin 2) = t.val / 2 ∧ win0_4.index t (1 : Fin 2) = t.val % 2 :=
  (by decide +kernel : ∀ t : Fin grid0.N, _)

theorem t_lt (t : Fin cfg0.N) : t.val < 16 := lt_of_lt_of_eq t.isLt (show cfg0.N = 16 from N_0)

/-- The first operand's block. -/
theorem blk0 (c : Dev nD) (t : Fin cfg0.N) (r k : Fin 1024) :
    iblk m c 0 t (ix2 r k) = m ((c : Thread nD τ).loc main_arg0) (ix2 (⟨1024 * (t.val / 2) + r.val, by have := t_lt t; omega⟩ : Fin 8192) k) := by
  obtain ⟨h1, h2, -⟩ := places t
  blk_ext! [iblk, V, h1, h2]

/-- The second operand's block. -/
theorem blk1 (c : Dev nD) (t : Fin cfg0.N) (r k : Fin 1024) :
    iblk m c 1 t (ix2 r k) = m ((c : Thread nD τ).loc main_arg1) (ix2 (⟨1024 * (t.val / 2) + r.val, by have := t_lt t; omega⟩ : Fin 8192) k) := by
  obtain ⟨-, -, h1, h2, -⟩ := places t
  blk_ext! [iblk, V, h1, h2]

/-- The weights' block. -/
theorem blk2 (c : Dev nD) (t : Fin cfg0.N) (k : Fin 2048) (l : Fin 1024) :
    iblk m c 2 t (ix3 (0 : Fin 1) k l) = m ((c : Thread nD τ).loc main_arg2) (ix3 (0 : Fin 1) k (⟨1024 * (t.val % 2) + l.val, by omega⟩ : Fin 2048)) := by
  obtain ⟨-, -, -, -, h1, h2, h3, -⟩ := places t
  blk_ext! [iblk, V, h1, h2, h3]

/-- The residual's block. -/
theorem blk3 (c : Dev nD) (t : Fin cfg0.N) (r l : Fin 1024) :
    iblk m c 3 t (ix2 r l) = m ((c : Thread nD τ).loc main_arg3)
      (ix3 (⟨(1024 * (t.val / 2) + r.val) / 4096, by have := t_lt t; omega⟩ : Fin 2) (⟨(1024 * (t.val / 2) + r.val) % 4096, by omega⟩ : Fin 4096)
        (⟨1024 * (t.val % 2) + l.val, by omega⟩ : Fin 2048)) := by
  obtain ⟨-, -, -, -, -, -, -, h1, h2, -⟩ := places t
  blk_ext! [iblk, V, h1, h2]

/-- The residual plus the product of the two operands, side by side, with the weights. -/
def value (a0 a1 : FVec Ideal S8192x1024 .bf16) (w : FVec Ideal S1x2048x2048 .f32) (x : FVec Ideal S2x4096x2048 .f32) (row : Fin 8192) (col : Fin 2048) : EReal :=
  x (ix3 (⟨row.val / 4096, by omega⟩ : Fin 2) (⟨row.val % 4096, by omega⟩ : Fin 4096) col)
    + ∑ k : Fin 2048, (if h : k.val < 1024 then a0 (ix2 row (⟨k.val, h⟩ : Fin 1024)) else a1 (ix2 row (⟨k.val - 1024, by omega⟩ : Fin 1024))) * w (ix3 (0 : Fin 1) k col)

/-- The product's sum, as the sums of its two halves. -/
theorem value_halves (a0 a1 : FVec Ideal S8192x1024 .bf16) (w : FVec Ideal S1x2048x2048 .f32) (x : FVec Ideal S2x4096x2048 .f32) (row : Fin 8192) (col : Fin 2048) :
    value a0 a1 w x row col = x (ix3 (⟨row.val / 4096, by omega⟩ : Fin 2) (⟨row.val % 4096, by omega⟩ : Fin 4096) col)
      + ((∑ k : Fin 1024, a0 (ix2 row k) * w (ix3 (0 : Fin 1) (⟨k.val, by omega⟩ : Fin 2048) col))
        + ∑ k : Fin 1024, a1 (ix2 row k) * w (ix3 (0 : Fin 1) (⟨1024 + k.val, by omega⟩ : Fin 2048) col)) := by
  unfold value
  refine congrArg _ ((Fin.sum_univ_add (a := 1024) (b := 1024) _).trans (congrArg₂ _ (Finset.sum_congr rfl fun k _ => ?_) (Finset.sum_congr rfl fun k _ => ?_)))
  · rw [dif_pos (show (Fin.castAdd 1024 k).val < 1024 from k.isLt)]; rfl
  · rw [dif_neg (show ¬ (Fin.natAdd 1024 k).val < 1024 by simp)]
    congr 3
    simp

/-- THE KERNEL'S RESULT at a row and a column. -/
theorem kernel_at (c : Dev nD) (row : Fin 8192) (col : Fin 2048) :
    ((dats m 0 c).arrAt 4 cfg0.N : FVec Ideal S8192x2048 .f32) (ix2 row col)
      = value (m ((c : Thread nD τ).loc main_arg0)) (m ((c : Thread nD τ).loc main_arg1)) (m ((c : Thread nD τ).loc main_arg2)) (m ((c : Thread nD τ).loc main_arg3)) row col := by
  have hr := row.isLt
  have hc := col.isLt
  obtain ⟨t, ht⟩ : ∃ t : Fin cfg0.N, t.val = row.val / 1024 * 2 + col.val / 1024 :=
    ⟨⟨row.val / 1024 * 2 + col.val / 1024, lt_of_lt_of_eq (by omega) N_0.symm⟩, rfl⟩
  have h2 : t.val / 2 = row.val / 1024 := by omega
  have h3 : t.val % 2 = col.val / 1024 := by omega
  obtain ⟨-, -, -, -, -, -, -, -, -, e1, e2⟩ := places t
  have h := congrFun (blocks4 m c t (flush0_4 t)) (ix2 (⟨row.val % 1024, by omega⟩ : Fin 1024) (⟨col.val % 1024, by omega⟩ : Fin 1024))
  have he : ((cfg0.win 4).blk t).view.emb (ix2 (⟨row.val % 1024, by omega⟩ : Fin 1024) (⟨col.val % 1024, by omega⟩ : Fin 1024) : S1024x1024.Idx) = (ix2 row col : S8192x2048.Idx) := by
    funext a; apply Fin.ext
    match a with
    | ⟨0, _⟩ => show win0_4.index t (0 : Fin 2) * 1024 + 1 * (row.val % 1024) = row.val; rw [e1]; omega
    | ⟨1, _⟩ => show win0_4.index t (1 : Fin 2) * 1024 + 1 * (col.val % 1024) = col.val; rw [e2]; omega
  have hl : ((cfg0.win 4).blk t).view.read (Elt Ideal) ((dats m 0 c).arrAt 4 cfg0.N) (ix2 (⟨row.val % 1024, by omega⟩ : Fin 1024) (⟨col.val % 1024, by omega⟩ : Fin 1024) : S1024x1024.Idx)
      = ((dats m 0 c).arrAt 4 cfg0.N : FVec Ideal S8192x2048 .f32) (ix2 row col) :=
    congrArg ((dats m 0 c).arrAt 4 cfg0.N : FVec Ideal S8192x2048 .f32) he
  refine hl.symm.trans (h.trans ?_)
  rw [flushed4]
  refine (out_at _ _ _ _ _ _).trans ?_
  have a0 : 1024 * (t.val / 2) + row.val % 1024 = row.val := by omega
  have a1 : 1024 * (t.val % 2) + col.val % 1024 = col.val := by omega
  rw [value_halves]
  simp only [blk0, blk1, blk2, blk3, a0, a1]

/-- THE REFERENCE'S RESULT at a row and a column. -/
theorem ref_at (a0 a1 : FVec Ideal Cert.ReferenceOutIdeal.S8192x1024 .bf16) (w : FVec Ideal Cert.ReferenceOutIdeal.S1x2048x2048 .f32)
    (x : FVec Ideal Cert.ReferenceOutIdeal.S2x4096x2048 .f32) (row : Fin 8192) (col : Fin 2048) :
    (shapeCast Cert.ReferenceOutIdeal.S8192x2048 (addf x (shapeCast Cert.ReferenceOutIdeal.S2x4096x2048 (Host.dotGeneral (F := Ideal) Cert.ReferenceOutIdeal.dot_S8192x2048_S2048x2048_S8192x2048_1_0_0_1_n_n none
        (concatenate Cert.ReferenceOutIdeal.S8192x2048 1 [⟨Cert.ReferenceOutIdeal.S8192x1024, (extf .f32 a0 Cert.ReferenceOutIdeal.Gen.bitsLt_bf16_f32)⟩, ⟨Cert.ReferenceOutIdeal.S8192x1024, (extf .f32 a1 Cert.ReferenceOutIdeal.Gen.bitsLt_bf16_f32)⟩] Cert.ReferenceOutIdeal.Gen.concatenates_S8192x1024_S8192x1024_S8192x2048_d1)
        (shapeCast Cert.ReferenceOutIdeal.S2048x2048 w Cert.ReferenceOutIdeal.Gen.shapeCasts_S1x2048x2048_S2048x2048)) Cert.ReferenceOutIdeal.Gen.shapeCasts_S8192x2048_S2x4096x2048)) Cert.ReferenceOutIdeal.Gen.shapeCasts_S2x4096x2048_S8192x2048
      : FVec Ideal Cert.ReferenceOutIdeal.S8192x2048 .f32) (ix2 row col)
      = value a0 a1 w x row col := by
  unfold value
  pointwise

end Cert.OutProj

end
-- ==== Proof.InRun.lean ====
module

public import proofs.«01_k».proof.Proof.Gen.KernelInIdeal.Skeleton
public import proofs.«01_k».proof.Proof.Gen.KernelInIdeal.Frame
public import proofs.«01_k».proof.Proof.OutProj
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

/-! ## One point of the linear input projection

A first point of a row block stores the normalized rows in the scratch, the gate columns, and its block of the product;
another point of the row block stores its block of the product over the rows it finds. -/

namespace Cert.InRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelInIdeal Cert.KernelInIdeal.Gen
open Cert.OutProj (off2 off3 read_whole)

variable {F : FTy → Type} [FloatOps F]

/-- The first points of the row blocks. -/
theorem cond_at (t : Fin cfg0.N) : k0_cond1 (grid0.coords t) = 1#1 ↔ t.val % 6 = 0 := by
  have ht : t.val < 48 := Nat.lt_of_lt_of_eq t.isLt N_0
  have e0 : (grid0.coords t 0).val = t.val / 6 % 8 := Pipeline.Grid.coords_val t 0 (by decide) rfl
  have e1 : (grid0.coords t 1).val = t.val / 1 % 6 := Pipeline.Grid.coords_val t 1 (by decide) rfl
  simp only [k0_cond1, e0, e1]
  word_cmp

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1024x2048 .f32) (harg4 : arg4.IsWhole) (arg5 : Memref sig .tc .vmem S1x128x2048 .f32) (harg5 : arg5.IsWhole) (arg6 : Memref sig .tc .vmem S1024x1024 .bf16) (harg6 : arg6.IsWhole) (arg7 : Memref sig .tc .vmem S1024x16 .f32) (harg7 : arg7.IsWhole) (arg8 : Memref sig .tc .vmem S1024x2048 .bf16) (harg8 : arg8.IsWhole)
  (x0 : Vec F S1024x2048 .f32) (x1 : Vec F S1x2048 .f32) (x2 : Vec F S1x1024x2048 .f32) (x3 : Vec F S1x128x2048 .f32) (xo : Vec F S1024x16 .f32) (xs : Vec F S1024x2048 .bf16)

/-- Views the contents of the stored buffers are stated through. -/
abbrev V6 : View sig .tc .vmem S1024x1024 .bf16 := (Memref.whole cc0_stg4_0 : Memref sig .tc .vmem S1024x1024 .bf16).view
abbrev V7 : View sig .tc .vmem S1024x16 .f32 := (Memref.whole cc0_stg5_0 : Memref sig .tc .vmem S1024x16 .f32).view
abbrev V8 : View sig .tc .vmem S1024x2048 .bf16 := (Memref.whole cc0_scratch0 : Memref sig .tc .vmem S1024x2048 .bf16).view

set_option maxHeartbeats 1000000 in
/-- The pieces a first point stores, with its run. -/
def run_A (hc0 : k0_cond1 i = 1#1) :
    Σ' (L4 : List (View.Piece (Elt F) S1024x1024 .bf16)), Σ' (L5 : List (View.Piece (Elt F) S1024x16 .f32)), { LS0 : List (View.Piece (Elt F) S1024x2048 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_norm_proj_lin i arg2 harg2 arg3 harg3 arg4 harg4 arg5 harg5 arg6 harg6 arg7 harg7 arg8 harg8) K } := by
  refine ⟨?_, ?_, ?_, fun E K => ?run⟩
  case run =>
    simp only [cc0_norm_proj_lin_eq_skeleton]; unfold cc0_norm_proj_lin_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

set_option maxHeartbeats 1000000 in
/-- The pieces another point stores, with its run. -/
def run_B (hc0 : ¬k0_cond1 i = 1#1) :
    { L4 : List (View.Piece (Elt F) S1024x1024 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xo ∗ owns (c : Thread nD τ) arg8 fullShare xs) -∗ K ⟨⟩))
          ⊢ wp frame (wpE (defs₀ (F := F)) Variants.none c none) E (cc0_norm_proj_lin i arg2 harg2 arg3 harg3 arg4 harg4 arg5 harg5 arg6 harg6 arg7 harg7 arg8 harg8) K } := by
  refine ⟨?_, fun E K => ?run⟩
  case run =>
    simp only [cc0_norm_proj_lin_eq_skeleton]; unfold cc0_norm_proj_lin_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; isplitr; · ipureintro; exact harg8.read_unread _
    iexact HS0

/-- What a first point's pieces leave in each buffer. -/
theorem left4_A (hc0 : k0_cond1 i = 1#1) (f) :
    arg6.view.read (Elt F) (arg6.view.writes (Elt F) f (run_A c i arg2 harg2 arg3 harg3 arg4 harg4 arg5 harg5 arg6 harg6 arg7 harg7 arg8 harg8 x0 x1 x2 x3 hc0).1)
      = k0_pay4 (k0_pay2 x0 x1) x2 := by
  refine (View.read_writes_of_cover _ _ V6 V6.junk _ (View.cover_of_tiledL _ S1024x1024.size (by sl_kernel_rfl))).trans ?_
  unfold run_A
  dsimp only
  rw [View.read_writes_junk_eq_canon, View.canon_unit_zero off2]
  unfold run_A.sl.v3 run_A.sl.HS0_1
  rw [read_whole off2 harg2, read_whole off2 harg3, read_whole off3 harg4, View.readCov_unit_zero _ off2]

theorem left5_A (hc0 : k0_cond1 i = 1#1) (f) :
    arg7.view.read (Elt F) (arg7.view.writes (Elt F) f (run_A c i arg2 harg2 arg3 harg3 arg4 harg4 arg5 harg5 arg6 harg6 arg7 harg7 arg8 harg8 x0 x1 x2 x3 hc0).2.1)
      = k0_pay3 x0 x1 x3 := by
  refine (View.read_writes_of_cover _ _ V7 V7.junk _ (View.cover_of_tiledL _ S1024x16.size (by sl_kernel_rfl))).trans ?_
  unfold run_A
  dsimp only
  rw [View.read_writes_junk_eq_canon]
  rw [View.canon_unit_zero off2, read_whole off2 harg2, read_whole off2 harg3, read_whole off3 harg5]

theorem left8_A (hc0 : k0_cond1 i = 1#1) (f) :
    arg8.view.read (Elt F) (arg8.view.writes (Elt F) f (run_A c i arg2 harg2 arg3 harg3 arg4 harg4 arg5 harg5 arg6 harg6 arg7 harg7 arg8 harg8 x0 x1 x2 x3 hc0).2.2.1)
      = k0_pay2 x0 x1 := by
  refine (View.read_writes_of_cover _ _ V8 V8.junk _ (View.cover_of_tiledL _ S1024x2048.size (by sl_kernel_rfl))).trans ?_
  unfold run_A
  dsimp only
  rw [View.read_writes_junk_eq_canon]
  unfold run_A.sl.HS0_1
  rw [View.canon_unit_zero off2, read_whole off2 harg2, read_whole off2 harg3]

/-- What another point's pieces leave in its block. -/
theorem left4_B (hc0 : ¬k0_cond1 i = 1#1) (f) :
    arg6.view.read (Elt F) (arg6.view.writes (Elt F) f (run_B c i arg2 harg2 arg3 harg3 arg4 harg4 arg5 harg5 arg6 harg6 arg7 harg7 arg8 harg8 x0 x1 x2 x3 xo xs hc0).1)
      = k0_pay4 xs x2 := by
  refine (View.read_writes_of_cover _ _ V6 V6.junk _ (View.cover_of_tiledL _ S1024x1024.size (by sl_kernel_rfl))).trans ?_
  unfold run_B
  dsimp only
  rw [View.read_writes_junk_eq_canon, View.canon_unit_zero off2, read_whole off2 harg8, read_whole off3 harg4]

/-- A FIRST POINT of a row block. -/
theorem body_A (hc0 : k0_cond1 i = 1#1) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 (k0_pay2 x0 x1) x2) ∗ owns (c : Thread nD τ) arg7 fullShare (k0_pay3 x0 x1 x3) ∗ owns (c : Thread nD τ) arg8 fullShare (k0_pay2 x0 x1)) -∗ K ⟨⟩))
      ⊢ wp frame (wpE (defs₀ (F := F)) Variants.none c none) E (cc0_norm_proj_lin i arg2 harg2 arg3 harg3 arg4 harg4 arg5 harg5 arg6 harg6 arg7 harg7 arg8 harg8) K := by
  iintro ⟨H0, H1, H2, H3, H4, H5, HS, Hk⟩
  iapply ((run_A c i arg2 harg2 arg3 harg3 arg4 harg4 arg5 harg5 arg6 harg6 arg7 harg7 arg8 harg8 x0 x1 x2 x3 hc0).2.2.2 E K)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, ⟨%e4, H4⟩, ⟨%e5, H5⟩, ⟨%es, HS⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact left4_A c i arg2 harg2 arg3 harg3 arg4 harg4 arg5 harg5 arg6 harg6 arg7 harg7 arg8 harg8 x0 x1 x2 x3 hc0 e4
  isplitl [H5]
  · unfold owns; iexists _; isplitr
    swap; · iexact H5
    ipureintro; exact left5_A c i arg2 harg2 arg3 harg3 arg4 harg4 arg5 harg5 arg6 harg6 arg7 harg7 arg8 harg8 x0 x1 x2 x3 hc0 e5
  unfold owns; iexists _; isplitr
  swap; · iexact HS
  ipureintro; exact left8_A c i arg2 harg2 arg3 harg3 arg4 harg4 arg5 harg5 arg6 harg6 arg7 harg7 arg8 harg8 x0 x1 x2 x3 hc0 es

/-- ANOTHER POINT of a row block. -/
theorem body_B (hc0 : ¬k0_cond1 i = 1#1) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 xs x2) ∗ owns (c : Thread nD τ) arg7 fullShare xo ∗ owns (c : Thread nD τ) arg8 fullShare xs) -∗ K ⟨⟩))
      ⊢ wp frame (wpE (defs₀ (F := F)) Variants.none c none) E (cc0_norm_proj_lin i arg2 harg2 arg3 harg3 arg4 harg4 arg5 harg5 arg6 harg6 arg7 harg7 arg8 harg8) K := by
  iintro ⟨H0, H1, H2, H3, H4, H5, HS, Hk⟩
  iapply ((run_B c i arg2 harg2 arg3 harg3 arg4 harg4 arg5 harg5 arg6 harg6 arg7 harg7 arg8 harg8 x0 x1 x2 x3 xo xs hc0).2 E K)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, ⟨%e4, H4⟩, H5, HS⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact left4_B c i arg2 harg2 arg3 harg3 arg4 harg4 arg5 harg5 arg6 harg6 arg7 harg7 arg8 harg8 x0 x1 x2 x3 xo xs hc0 e4
  isplitl [H5]; · iexact H5
  iexact HS

end Cert.InRun

end
-- ==== Proof.InFrame.lean ====
module

public import proofs.«01_k».proof.Proof.InRun
public import Idealize.ShloMosaic.Lib.Pipeline.DatRel
public import Idealize.ShloMosaic.Lib.Pipeline.ArrRel
public import Idealize.ShloMosaic.Lib.Claim

@[expose] public section

set_option maxRecDepth 16384

noncomputable section

/-! ## The run of the linear input projection

Point `t` of the grid is row block `t / 6`, column block `t % 6`. The scratch holds the row block's normalized rows after
each of its points. The block of gate weights reaches past the weights' end, so the gate columns a first point stores are
stated for some contents of the rows past the end; the other points of the row block keep them. -/

namespace Cert.InFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)
open Cert.KernelInIdeal Cert.KernelInIdeal.Gen Cert.InRun

variable {F : FTy → Type} [FloatOps F]

variable (m : (ℓ : Loc nD τ sig) → Buf (Elt F) ℓ) (ρ : Dev nD → PrngReg)

/-- The windows' buffers at a point, and the scratch. -/
abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S1x1024x2048 .f32 := win0_2.stage (cfg0.slots t 2)
abbrev ms3 (t : Fin cfg0.N) : Memref sig .tc .vmem S1x128x2048 .f32 := win0_3.stage (cfg0.slots t 3)
abbrev ms4 (t : Fin cfg0.N) : Memref sig .tc .vmem S1024x1024 .bf16 := win0_4.stage (cfg0.slots t 4)
abbrev ms5 (t : Fin cfg0.N) : Memref sig .tc .vmem S1024x16 .f32 := win0_5.stage (cfg0.slots t 5)
abbrev scr : Memref sig .tc .vmem S1024x2048 .bf16 := Memref.whole cc0_scratch0

/-- The region's invariant with the scratch owned at some contents. -/
theorem inv_eq (c : Dev nD) :
    (Pipeline.ΦA spec0 c : sProp (MT nD τ sig Unit (Elt F) ℕ (UR sig nD τ) ℕ))
      = iprop(iprop((∃ d, owns (c : Thread nD τ) scr fullShare d)) ∗ (∃ r, prngReg c r)) := by
  unfold Pipeline.ΦA; rw [scopedRest0_eq]; simp only [scr, owns_whole]; try rfl

/-- The first point of a point's row block. -/
def row (t : Fin cfg0.N) : Fin cfg0.N := ⟨t.val - t.val % 6, Nat.lt_of_le_of_lt (Nat.sub_le _ _) t.isLt⟩

theorem row_first (t : Fin cfg0.N) (h : t.val % 6 = 0) : row t = t := Fin.ext (by show t.val - t.val % 6 = t.val; omega)

theorem row_prev (t : Fin cfg0.N) (h : ¬t.val % 6 = 0) : row ⟨t.val - 1, Nat.lt_of_le_of_lt (Nat.sub_le _ _) t.isLt⟩ = row t :=
  Fin.ext (by show t.val - 1 - (t.val - 1) % 6 = t.val - t.val % 6; omega)

/-- The normalized rows of a point's block. -/
def hid (c : Dev nD) (t : Fin cfg0.N) : Vec F S1024x2048 .bf16 := k0_pay2 (iblk m c 0 t) (iblk m c 1 t)

/-- The block of gate weights, over what its buffer held. -/
def gates (c : Dev nD) (t : Fin cfg0.N) (d : Vec F S1x128x2048 .f32) : Vec F S1x128x2048 .f32 :=
  (cfg0.win 3).fill (cfg0.grid.coords t) d (iblk m c 3 t)

/-- The invariant before a position: after a point the scratch holds its row block's normalized rows. -/
def inv (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scr fullShare (hid m c (row ⟨n, hn⟩))) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scr fullShare (hid m c (row ⟨n, hn⟩))) ∗ (∃ r, prngReg c r)) := rfl

theorem inv_pos (c : Dev nD) (n : ℕ) (h : n ≤ cfg0.N) (hz : n ≠ 0) :
    inv m c n h = iprop(iprop(owns (c : Thread nD τ) scr fullShare (hid m c (row ⟨n - 1, by omega⟩))) ∗ (∃ r, prngReg c r)) := by
  cases n with
  | zero => exact absurd rfl hz
  | succ n => rfl

/-- Contents nothing reads: of the gate weights past their end. -/
def rest3 : (cfg0.win 3).block.Idx → Elt F (cfg0.win 3).elt := fun _ => Classical.choice inferInstance
/-- Contents nothing reads: of the gate columns' buffer. -/
def rest5 : (cfg0.win 5).block.Idx → Elt F (cfg0.win 5).elt := fun _ => Classical.choice inferInstance

/-- The proof data. Of the gate columns' buffer they say nothing; `left` below does. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => gates m c t rest3
    | ⟨4, _⟩ => k0_pay4 (hid m c (row t)) (X0_2 m c t)
    | ⟨5, _⟩ => rest5
  Φ t := inv m c t.val (Nat.le_of_lt_succ t.isLt)
  q w := Pipeline.shareOf spec0 w
  owed _ := 0

/-- The window of the gate columns. -/
def fgt : Fin cfg0.W → Bool
  | ⟨5, _⟩ => true
  | _ => false

/-- What a point leaves in the gate columns' buffer. -/
def left (c : Dev nD) (w : Fin cfg0.W) (t : Fin cfg0.N) (X : (cfg0.win w).block.Idx → Elt F (cfg0.win w).elt) : Prop :=
  match w, X with
  | ⟨5, _⟩, X => ∃ d, X = k0_pay3 (iblk m c 0 (row t)) (iblk m c 1 (row t)) (gates m c (row t) d)
  | _, _ => True

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = gates m c t rest3 := by dsimp only [dats]
theorem after_4 (c : Dev nD) (t : Fin cfg0.N) : (dats m 0 c).after 4 t = k0_pay4 (hid m c (row t)) (X0_2 m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d

/-- The gate weights' buffer holds their block over what it held, fetched at the point or not. -/
theorem before_3 (c : Dev nD) (t : Fin cfg0.N) (d) : (dats m 0 c).before 3 t d = gates m c t d :=
  ((dats m 0 c).before_in_eq_fetched 3 rfl (fun _ => rfl)
      (fun t t' h => funext fun a => congrArg (fun n => Pipeline.Clip.of n ((cfg0.win 3).size a) (S1x6160x2048.size a)) (congrFun h a))
      (fun t => by rw [after_3]; unfold gates; rw [Pipeline.Window.cut_fill]; unfold Dat.blockOf iblk; rw [A_eq]) t d).trans
    (by unfold Dat.fetched gates Dat.blockOf iblk; rw [A_eq])

theorem cut_2 (c : Dev nD) (t : Fin cfg0.N) : (cfg0.win 2).cut (cfg0.grid.coords t) ((dats m 0 c).after 2 t) = iblk m c 2 t := by
  rw [after_2]; unfold X0_2; rw [Pipeline.Window.cut_fill]

theorem cut_3 (c : Dev nD) (t : Fin cfg0.N) : (cfg0.win 3).cut (cfg0.grid.coords t) ((dats m 0 c).after 3 t) = iblk m c 3 t := by
  rw [after_3]; unfold gates; rw [Pipeline.Window.cut_fill]

/-- What a point that is not the first of its row block finds in the gate columns' buffer. -/
theorem finds_5 (c : Dev nD) (t : Fin cfg0.N) (h : ¬t.val % 6 = 0) (Y : (cfg0.win 5).block.Idx → Elt F (cfg0.win 5).elt)
    (hY : ((dats m 0 c).toRRel fgt (left m c)).Finds 5 t Y) : left m c 5 t Y := by
  have hz : t.val ≠ 0 := by omega
  have hf : (cfg0.win 5).fetch t = false := by unfold Pipeline.Window.fetch; rfl
  rcases (RDat.finds_of_pos _ hf hz Y).mp hY with hfl | hl
  · exact absurd ((flush0_5 _).mp hfl) (by show ¬(t.val - 1) % 6 = 5; omega)
  · have := Dat.toRRel_leaves (dats m 0 c) (fgt := fgt) (Rl := left m c) (w := 5) rfl hl
    obtain ⟨d, hd⟩ := this
    rw [row_prev t h] at hd
    exact ⟨d, hd⟩

/-- What the body is called with at a point, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ Y, ⌜((dats m 0 c).toRRel fgt (left m c)).Finds 5 t Y⌝ ∗ owns (c : Thread nD τ) (ms5 t) fullShare Y))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare ((cfg0.win 2).fill (cfg0.grid.coords t) d ((cfg0.win 2).cut (cfg0.grid.coords t) ((dats m 0 c).after 2 t))))
    ∗ (∃ d, owns (c : Thread nD τ) (ms3 t) fullShare ((cfg0.win 3).fill (cfg0.grid.coords t) d ((cfg0.win 3).cut (cfg0.grid.coords t) ((dats m 0 c).after 3 t))))
    ∗ owns (c : Thread nD τ) (ms4 t) fullShare ((dats m 0 c).after 4 t)
    ∗ (∃ X, ⌜left m c 5 t X⌝ ∗ owns (c : Thread nD τ) (ms5 t) fullShare X))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [cut_2 m c t, cut_3 m c t]
  simp only [before_0, before_1, before_2, before_3, after_0, after_1, after_4]
  rw [show (dats m 0 c).owesAt () t.succ = (dats m 0 c).owesAt () t.castSucc from rfl]
  rw [show (dats m 0 c).Φ t.succ = inv m c (t.val + 1) t.isLt from rfl, inv_succ]
  rw [inv_castSucc m c t]
  by_cases h0 : t.val % 6 = 0
  · have hs : inv m c t.val (Nat.le_of_lt t.isLt) ⊢ (Pipeline.ΦA spec0 c : sProp (MT nD τ sig Unit (Elt F) ℕ (UR sig nD τ) ℕ)) := by
      by_cases hz : t.val = 0
      · rw [inv_zero m c _ _ hz]
      · rw [inv_pos m c _ _ hz, inv_eq]
        iintro ⟨HS, Hg⟩
        isplitl [HS]
        · iexists _; iexact HS
        iexact Hg
    refine (sep_mono hs .rfl).trans ?_
    rw [inv_eq, show (⟨t.val, t.isLt⟩ : Fin cfg0.N) = t from rfl, row_first t h0]
    iintro ⟨⟨HS, Hg⟩, Ho, ⟨%d0, H0⟩, ⟨%d1, H1⟩, ⟨%d2, H2⟩, ⟨%d3, H3⟩, ⟨%d4, H4⟩, ⟨%d5, %hd5, H5⟩⟩
    iapply (body_A c (grid0.coords t) _ _ _ _ _ _ _ _ _ _ _ _ _ _ (iblk m c 0 t) (iblk m c 1 t) (X0_2 m c t) (gates m c t d3) ((cond_at t).mpr h0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexists dflt0_2; iexact H2
    isplitl [H3]; · iexists d3; iexact H3
    isplitl [H4]; · iexact H4
    iexists _; isplitr
    swap; · iexact H5
    ipureintro; exact ⟨d3, by rw [row_first t h0]⟩
  · have hz : t.val ≠ 0 := by omega
    rw [inv_pos m c _ _ hz, row_prev t h0, show (⟨t.val, t.isLt⟩ : Fin cfg0.N) = t from rfl]
    iintro ⟨⟨HS, Hg⟩, Ho, ⟨%d0, H0⟩, ⟨%d1, H1⟩, ⟨%d2, H2⟩, ⟨%d3, H3⟩, ⟨%d4, H4⟩, ⟨%d5, %hd5, H5⟩⟩
    iapply (body_B c (grid0.coords t) _ _ _ _ _ _ _ _ _ _ _ _ _ _ (iblk m c 0 t) (iblk m c 1 t) (X0_2 m c t) (gates m c t d3) d5 (hid m c (row t)) (fun h => h0 ((cond_at t).mp h)) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexists dflt0_2; iexact H2
    isplitl [H3]; · iexists d3; iexact H3
    isplitl [H4]; · iexact H4
    iexists d5; isplitr
    swap; · iexact H5
    ipureintro; exact finds_5 m c t h0 d5 hd5

theorem defs₀_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : BodyObligationRel (dats (F := F) m 0 c) (defs₀ (F := F)) Variants.none () Set.univ fgt (left m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  have h : (Fin.last cfg0.N).val ≠ 0 := by rw [Fin.val_last]; have : cfg0.N = 48 := N_0; omega
  rw [show (dats m 0 c).Φ (Fin.last cfg0.N) = inv m c (Fin.last cfg0.N).val (Nat.le_of_lt_succ (Fin.last cfg0.N).isLt) from rfl, inv_pos m c _ _ h, inv_eq]
  iintro ⟨HS, Hg⟩
  isplitl [HS]
  · iexists _; iexact HS
  iexact Hg

/-- The post of the run. -/
abbrev Post : PUnit × MemSt nD τ sig (Elt F) → Prop :=
  RDat.FramePost cfg0 (fun c => (dats m 0 c).toRRel fgt (left m c)) (V m)

set_option backward.isDefEq.respectTransparency.types false in
/-- THE RUN, and every semaphore at zero at its end. -/
theorem run_quiescent : θ_run defs (onTc (τ := τ) (main (F := F))) (s₀ m ρ) (fun r => Post m r ∧ r.2.sem = fun _ => 0) :=
  RDat.θ_run_frame_track_shared (Q' := _) cfgs (0 : Fin 1) launch₀0 defs₀ Variants.none (fun c => (dats m 0 c).toRRel fgt (left m c)) m ρ main
    (hbody := fun c => (body_obligation m c).toRRel) (hq := fun _ _ _ => rfl)
    (howed := fun _ _ => rfl) (V := V m) (hmain := hmain m Variants.none) (hA := A_eq m) (hin := hin m) (hout := hout m)

theorem run : θ_run defs (onTc (τ := τ) (main (F := F))) (s₀ m ρ) (Post m) :=
  (θ_run defs _ _).mono (fun _ h => h.1) (run_quiescent m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_quiescent m ρ)

end Cert.InFrame

end
-- ==== Proof.InRow.lean ====
module

public import proofs.«01_k».proof.Proof.Gen.ReferenceInCIdeal.Run
public import Idealize.ShloMosaic.Lib.Pointwise

@[expose] public section

set_option maxRecDepth 16384

noncomputable section

/-! ## The normalized rows, the gelu, and the reference's operations -/

namespace Cert.InRow

open Idealize.ShloMosaic Idealize.ShloMosaic.TcCoe Idealize.SL.Sem Cert.ReferenceInCIdeal Cert.ReferenceInCIdeal.Gen

/-- A row, divided by its root mean square and scaled. -/
def normed (y g : Fin 2048 → EReal) (l : Fin 2048) : EReal :=
  y l * Ideal.rsqrt (Ideal.div (∑ x, y x * y x) (Ideal.ofBits FTy.f32 0x45000000#32) + Ideal.ofBits FTy.f32 0x358637BD#32) * g l

/-- The gelu of the reference, in its tanh form. -/
def gelu (y : EReal) : EReal :=
  y * (Ideal.ofBits FTy.f32 0x3F000000#32 * (Ideal.ofBits FTy.f32 0x3F800000#32
    + Ideal.tanh (Ideal.ofBits FTy.f32 0x3F4C422A#32 * (y + Ideal.ofBits FTy.f32 0x3D372713#32 * (y * y * y)))))

/-- The reference's normalized activations. -/
theorem ref_rows (x : FVec Ideal S2x4096x2048 .f32) (g : FVec Ideal S2048 .f32) (b : Fin 2) (s : Fin 4096) (k : Fin 2048) :
    (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))
      : FVec Ideal S2x4096x2048 .f32) (ix3 b s k)
      = normed (fun k => x (ix3 b s k)) (fun k => g (ix1 k)) k := by
  unfold normed; pointwise

/-- The reference's product. -/
theorem ref_dot (h : FVec Ideal S2x4096x2048 .f32) (w : FVec Ideal S1x2048x4096 .f32) (b : Fin 2) (s : Fin 4096) (col : Fin 4096) :
    (Host.dotGeneral (F := Ideal) dot_S2x4096x2048_S2048x4096_S2x4096x4096_2_0_01_1_n_n none h (shapeCast S2048x4096 w shapeCasts_S1x2048x4096_S2048x4096)
      : FVec Ideal S2x4096x4096 .f32) (ix3 b s col)
      = ∑ k : Fin 2048, h (ix3 b s k) * w (ix3 (0 : Fin 1) k col) := by
  pointwise

/-- The reference's gelu. -/
theorem ref_gelu (y : FVec Ideal S2x4096x4096 .f32) (row : Fin 8192) (col : Fin 4096) :
    (truncf .bf16 (shapeCast S8192x4096 (mulf y (mulf (broadcastInDim S2x4096x4096 ![] bcast_S_S2x4096x4096 (constant S_ .f32 0x3F000000#32)) (addf (broadcastInDim S2x4096x4096 ![] bcast_S_S2x4096x4096 (constant S_ .f32 0x3F800000#32)) (Host.tanh (mulf (broadcastInDim S2x4096x4096 ![] bcast_S_S2x4096x4096 (constant S_ .f32 0x3F4C422A#32)) (addf y (mulf (broadcastInDim S2x4096x4096 ![] bcast_S_S2x4096x4096 (constant S_ .f32 0x3D372713#32)) (mulf (mulf y y) y)))))))) shapeCasts_S2x4096x4096_S8192x4096) bitsLt_bf16_f32
      : FVec Ideal S8192x4096 .bf16) (ix2 row col)
      = gelu (y (ix3 (⟨row.val / 4096, by omega⟩ : Fin 2) (⟨row.val % 4096, by omega⟩ : Fin 4096) col)) := by
  unfold gelu; pointwise

end Cert.InRow

end
-- ==== Proof.InProjC.lean ====
module

public import proofs.«01_k».proof.Proof.InRow
public import proofs.«01_k».proof.Proof.OutProj
public import proofs.«01_k».proof.Proof.Gen.KernelInCIdeal.Value

@[expose] public section

set_option maxRecDepth 16384

noncomputable section

/-! ## The normalized input projection with its gelu

Point `t` of the grid is row block `t / 4`, column block `t % 4`; the first point of a row block leaves the block's
normalized rows in the scratch, and the other three find them there. -/

namespace Cert.InProjC

open Idealize.ShloMosaic Idealize.ShloMosaic.TcCoe Idealize.SL.Sem Cert.KernelInCIdeal Cert.KernelInCIdeal.Gen Cert.KernelInCIdeal.Value
open Cert.InRow
open Cert.OutProj (off2 off3 read_whole)

/-- The rows a point stores, at a row and a column. -/
theorem pay1_at (x : Vec Ideal S1024x2048 .f32) (g : Vec Ideal S1x2048 .f32) (r : Fin 1024) (l : Fin 2048) :
    k0_pay1 x g (ix2 r l) = normed (fun k => x (ix2 r k)) (fun k => g (ix2 0 k)) l := by
  unfold k0_pay1 normed; pointwise

/-- The block a point stores, at a row and a column. -/
theorem pay2_at (h : Vec Ideal S1024x2048 .bf16) (w : Vec Ideal S1x2048x1024 .f32) (r l : Fin 1024) :
    k0_pay2 h w (ix2 r l) = gelu (∑ k : Fin 2048, h (ix2 r k) * w (ix3 0 k l)) := by
  unfold k0_pay2 gelu
  rw [← mul_assoc, mul_comm (∑ k : Fin 2048, h (ix2 r k) * w (ix3 0 k l)) (Ideal.ofBits FTy.f32 0x3F000000#32)]
  pointwise

variable (m : (ℓ : Loc nD τ sig) → Buf (Elt Ideal) ℓ)

/-- The blocks' places in their arrays. -/
theorem places : ∀ t : Fin cfg0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val % 4 :=
  (by decide +kernel : ∀ t : Fin grid0.N, _)

theorem t_lt (t : Fin cfg0.N) : t.val < 32 := lt_of_lt_of_eq t.isLt (show cfg0.N = 32 from N_0)

/-- The rows' block. -/
theorem blk0 (c : Dev nD) (t : Fin cfg0.N) (r : Fin 1024) (k : Fin 2048) :
    iblk m c 0 t (ix2 r k) = m ((c : Thread nD τ).loc main_arg0)
      (ix3 (⟨(1024 * (t.val / 4) + r.val) / 4096, by have := t_lt t; omega⟩ : Fin 2) (⟨(1024 * (t.val / 4) + r.val) % 4096, by omega⟩ : Fin 4096) k) := by
  obtain ⟨h1, h2, -⟩ := places t
  blk_ext! [iblk, V, h1, h2]

/-- The scales' block. -/
theorem blk1 (c : Dev nD) (t : Fin cfg0.N) (k : Fin 2048) :
    iblk m c 1 t (ix2 (0 : Fin 1) k) = m ((c : Thread nD τ).loc main_arg1) (ix1 k) := by
  obtain ⟨-, -, h1, h2, -⟩ := places t
  blk_ext! [iblk, V, h1, h2]

/-- The weights' block. -/
theorem blk2 (c : Dev nD) (t : Fin cfg0.N) (k : Fin 2048) (l : Fin 1024) :
    iblk m c 2 t (ix3 (0 : Fin 1) k l) = m ((c : Thread nD τ).loc main_arg2) (ix3 (0 : Fin 1) k (⟨1024 * (t.val % 4) + l.val, by omega⟩ : Fin 4096)) := by
  obtain ⟨-, -, -, -, h1, h2, h3⟩ := places t
  blk_ext! [iblk, V, h1, h2, h3]

/-- The normalized row of the activations at a position. -/
def hrow (x : FVec Ideal S2x4096x2048 .f32) (g : FVec Ideal S2048 .f32) (row : ℕ) (hr : row < 8192) : Fin 2048 → EReal :=
  normed (fun k => x (ix3 (⟨row / 4096, by omega⟩ : Fin 2) (⟨row % 4096, by omega⟩ : Fin 4096) k)) (fun k => g (ix1 k))

/-- The projection's result at a row and a column. -/
def value (x : FVec Ideal S2x4096x2048 .f32) (g : FVec Ideal S2048 .f32) (w : FVec Ideal S1x2048x4096 .f32) (row : Fin 8192) (col : Fin 4096) : EReal :=
  gelu (∑ k : Fin 2048, hrow x g row.val row.isLt k * w (ix3 (0 : Fin 1) k col))

/-- What a point leaves: its block of the result, and the normalized rows in the scratch. -/
structure Left (c : Dev nD) (n : ℕ) (hn : n < 32) (o : Vec Ideal S1024x1024 .bf16 × Vec Ideal S1024x2048 .bf16) : Prop where
  rows : ∀ (r : Fin 1024) (k : Fin 2048), o.2 (ix2 r k)
    = hrow (m ((c : Thread nD τ).loc main_arg0)) (m ((c : Thread nD τ).loc main_arg1)) (1024 * (n / 4) + r.val) (by omega) k
  out : ∀ r l : Fin 1024, o.1 (ix2 r l)
    = value (m ((c : Thread nD τ).loc main_arg0)) (m ((c : Thread nD τ).loc main_arg1)) (m ((c : Thread nD τ).loc main_arg2))
        ⟨1024 * (n / 4) + r.val, by omega⟩ ⟨1024 * (n % 4) + l.val, by omega⟩

/-- The rows of a point's block, normalized. -/
theorem rows_at (c : Dev nD) (t : Fin cfg0.N) (r : Fin 1024) (k : Fin 2048) :
    k0_pay1 (F := Ideal) (iblk m c 0 t) (iblk m c 1 t) (ix2 r k)
      = hrow (m ((c : Thread nD τ).loc main_arg0)) (m ((c : Thread nD τ).loc main_arg1)) (1024 * (t.val / 4) + r.val) (by have := t_lt t; omega) k := by
  refine (pay1_at _ _ r k).trans ?_
  simp only [blk0, blk1]
  rfl

/-- The block stored over normalized rows. -/
theorem stored_at (c : Dev nD) (t : Fin cfg0.N) (h : Vec Ideal S1024x2048 .bf16)
    (hh : ∀ (r : Fin 1024) (k : Fin 2048), h (ix2 r k)
      = hrow (m ((c : Thread nD τ).loc main_arg0)) (m ((c : Thread nD τ).loc main_arg1)) (1024 * (t.val / 4) + r.val) (by have := t_lt t; omega) k)
    (r l : Fin 1024) :
    k0_pay2 (F := Ideal) h (iblk m c 2 t) (ix2 r l)
      = value (m ((c : Thread nD τ).loc main_arg0)) (m ((c : Thread nD τ).loc main_arg1)) (m ((c : Thread nD τ).loc main_arg2))
          ⟨1024 * (t.val / 4) + r.val, by have := t_lt t; omega⟩ ⟨1024 * (t.val % 4) + l.val, by omega⟩ := by
  refine (pay2_at _ _ r l).trans ?_
  simp only [hh, blk2]
  rfl

/-- A first point of a row block. -/
theorem left_A (c : Dev nD) (t : Fin cfg0.N) (h0 : t.val % 4 = 0) : Left m c t.val (t_lt t) (outsAt0 m c t.val t.isLt) := by
  rw [outsAt0_A m c t h0]
  refine ⟨fun r k => ?_, fun r l => ?_⟩
  · dsimp only
    unfold sout0_A_0 kernelRun0_A
    dsimp only
    rw [View.read_writes_junk_eq_canon]
    unfold kernelRun0_A.sl.HS0_1
    rw [View.canon_unit_zero off2]
    rw [read_whole off2 (hs0_0 t), read_whole off2 (hs0_1 t)]
    exact rows_at m c t r k
  · dsimp only
    unfold out0_A_3 kernelRun0_A
    dsimp only
    rw [View.read_writes_junk_eq_canon, View.canon_unit_zero off2]
    unfold kernelRun0_A.sl.v3 kernelRun0_A.sl.HS0_1
    rw [read_whole off2 (hs0_0 t), read_whole off2 (hs0_1 t), read_whole off3 (hs0_2 t)]
    refine stored_at m c t _ (fun r k => ?_) r l
    rw [View.readCov_unit_zero _ off2]
    exact rows_at m c t r k

/-- Another point of a row block. -/
theorem left_B (c : Dev nD) (t : Fin cfg0.N) (h0 : ¬t.val % 4 = 0)
    (hp : Left m c (t.val - 1) (by have := t_lt t; omega) (outsAt0 m c (t.val - 1) (Nat.lt_of_le_of_lt (Nat.sub_le _ _) t.isLt))) :
    Left m c t.val (t_lt t) (outsAt0 m c t.val t.isLt) := by
  have e : (t.val - 1) / 4 = t.val / 4 := by omega
  have hr := hp.rows
  simp only [e] at hr
  rw [outsAt0_B m c t h0]
  refine ⟨hr, fun r l => ?_⟩
  · dsimp only
    unfold out0_B_3 kernelRun0_B
    dsimp only
    rw [View.read_writes_junk_eq_canon, View.canon_unit_zero off2]
    rw [read_whole off3 (hs0_2 t)]
    exact (congrArg (fun h : Vec Ideal S1024x2048 .bf16 => k0_pay2 (F := Ideal) h (iblk m c 2 t) (ix2 r l))
      (read_whole off2 (Memref.isWhole_whole cc0_scratch0) (outsAt0 m c (t.val - 1) (Nat.lt_of_le_of_lt (Nat.sub_le _ _) t.isLt)).2 _)).trans (stored_at m c t _ hr r l)

/-- Every point. -/
theorem left_at (c : Dev nD) : ∀ (n : ℕ) (hn : n < cfg0.N), Left m c n (lt_of_lt_of_eq hn N_0) (outsAt0 m c n hn)
  | 0, hn => left_A m c ⟨0, hn⟩ rfl
  | n + 1, hn => by
    by_cases h : (n + 1) % 4 = 0
    · exact left_A m c ⟨n + 1, hn⟩ h
    · exact left_B m c ⟨n + 1, hn⟩ h (left_at c n (by omega))

/-- THE KERNEL'S RESULT at a row and a column. -/
theorem kernel_at (c : Dev nD) (row : Fin 8192) (col : Fin 4096) :
    (G3 m c : FVec Ideal S8192x4096 .bf16) (ix2 row col)
      = value (m ((c : Thread nD τ).loc main_arg0)) (m ((c : Thread nD τ).loc main_arg1)) (m ((c : Thread nD τ).loc main_arg2)) row col := by
  have hr := row.isLt
  have hc := col.isLt
  have hp : pt3Of (ix2 row col) = 4 * (row.val / 1024) + col.val / 1024 := by
    show 4 * (row.val / 1024 - 0) + 1 * (col.val / 1024 - 0) = _
    omega
  have hlt : pt3Of (ix2 row col) < cfg0.N := by rw [hp]; show _ < 32; omega
  unfold G3
  rw [dif_pos hlt]
  rw [← outsAt0_sweep m c (pt3Of (ix2 row col)) hlt]
  have hl := (left_at m c (pt3Of (ix2 row col)) hlt).out ⟨row.val % 1024, by omega⟩ ⟨col.val % 1024, by omega⟩
  have he : loc3Of (ix2 row col) = ix2 (⟨row.val % 1024, by omega⟩ : Fin 1024) (⟨col.val % 1024, by omega⟩ : Fin 1024) := by
    funext a; fin_cases a <;> rfl
  rw [he]
  refine hl.trans ?_
  congr 1 <;> apply Fin.ext
  · show 1024 * (pt3Of (ix2 row col) / 4) + row.val % 1024 = row.val; rw [hp]; omega
  · show 1024 * (pt3Of (ix2 row col) % 4) + col.val % 1024 = col.val; rw [hp]; omega

/-- THE REFERENCE'S RESULT at a row and a column. -/
theorem ref_at (m' : (ℓ : Loc Cert.ReferenceInCIdeal.nD Cert.ReferenceInCIdeal.τ Cert.ReferenceInCIdeal.sig) → Buf (Elt Ideal) ℓ)
    (c : Dev Cert.ReferenceInCIdeal.nD) (row : Fin 8192) (col : Fin 4096) :
    (Cert.ReferenceInCIdeal.Value.res_main_v29 m' c : FVec Ideal Cert.ReferenceInCIdeal.S8192x4096 .bf16) (ix2 row col)
      = value (m' ((c.tc : Thread _ _).loc Cert.ReferenceInCIdeal.main_arg0)) (m' ((c.tc : Thread _ _).loc Cert.ReferenceInCIdeal.main_arg1))
          (m' ((c.tc : Thread _ _).loc Cert.ReferenceInCIdeal.main_arg2)) row col := by
  unfold Cert.ReferenceInCIdeal.Value.res_main_v29 value hrow
  refine (ref_gelu _ row col).trans (congrArg gelu ?_)
  refine (ref_dot _ _ _ _ _).trans (Finset.sum_congr rfl fun k _ => ?_)
  rw [ref_rows]

end Cert.InProjC

end
-- ==== Proof.InProj.lean ====
module

public import proofs.«01_k».proof.Proof.InFrame
public import proofs.«01_k».proof.Proof.InProjC

@[expose] public section

set_option maxRecDepth 16384

noncomputable section

/-! ## The linear input projection

Point `t` of the grid is row block `t / 6`, column block `t % 6` of the first 6144 columns; the first point of a row block
leaves the last sixteen columns too, and the row block's last point writes them back. -/

namespace Cert.InProj

open Idealize.ShloMosaic Idealize.ShloMosaic.TcCoe Idealize.SL.Sem Cert.KernelInIdeal Cert.KernelInIdeal.Gen
open Idealize.ShloMosaic.Pipeline (Dat RDat)
open Cert.InRow Cert.InFrame
open Cert.InProjC (hrow)

/-- The normalized rows, at a row and a column. -/
theorem pay1_at (x : Vec Ideal S1024x2048 .f32) (g : Vec Ideal S1x2048 .f32) (r : Fin 1024) (l : Fin 2048) :
    k0_pay1 x g (ix2 r l) = normed (fun k => x (ix2 r k)) (fun k => g (ix2 0 k)) l := by
  unfold k0_pay1 normed; pointwise

/-- The rows a point leaves in the scratch, at a row and a column. -/
theorem pay2_at (x : Vec Ideal S1024x2048 .f32) (g : Vec Ideal S1x2048 .f32) (r : Fin 1024) (l : Fin 2048) :
    k0_pay2 x g (ix2 r l) = normed (fun k => x (ix2 r k)) (fun k => g (ix2 0 k)) l := by
  refine Eq.trans ?_ (pay1_at x g r l)
  unfold k0_pay2; pointwise

/-- The product of rows with a block of gate weights, of which the first sixteen columns are kept. -/
theorem gate_dot (h : FVec Ideal S1024x2048 .bf16) (w : Vec Ideal S1x128x2048 .f32) (r : Fin 1024) (j : Fin 16) :
    (extractStridedSlice S1024x16 ![0, 0] (matmul (F := Ideal) dot_S1024x2048_S128x2048_S1024x128_1_1_0_0_n_n none h
        (truncf .bf16 (shapeCast S128x2048 w shapeCasts_S1x128x2048_S128x2048 : FVec Ideal S128x2048 .f32) bitsLt_bf16_f32) (constant S1024x128 .f32 0x00000000#32)) slices_S1024x128_o0_0_S1024x16
      : FVec Ideal S1024x16 .f32) (ix2 r j)
      = ∑ k : Fin 2048, h (ix2 r k) * w (ix3 0 (⟨j.val, by omega⟩ : Fin 128) k) := by
  pointwise

/-- The gate columns a point stores, at a row and a column. -/
theorem pay3_at (x : Vec Ideal S1024x2048 .f32) (g : Vec Ideal S1x2048 .f32) (w : Vec Ideal S1x128x2048 .f32) (r : Fin 1024) (j : Fin 16) :
    k0_pay3 x g w (ix2 r j)
      = ∑ k : Fin 2048, normed (fun k => x (ix2 r k)) (fun k => g (ix2 0 k)) k * w (ix3 0 (⟨j.val, by omega⟩ : Fin 128) k) := by
  unfold k0_pay3
  refine (gate_dot _ w r j).trans (Finset.sum_congr rfl fun k _ => ?_)
  rw [pay1_at]

/-- The block a point stores, at a row and a column. -/
theorem pay4_at (h : Vec Ideal S1024x2048 .bf16) (w : Vec Ideal S1x1024x2048 .f32) (r l : Fin 1024) :
    k0_pay4 h w (ix2 r l) = ∑ k : Fin 2048, h (ix2 r k) * w (ix3 0 l k) := by
  unfold k0_pay4; pointwise

variable (m : (ℓ : Loc nD τ sig) → Buf (Elt Ideal) ℓ)

/-- The blocks' places in their arrays. -/
theorem places : ∀ t : Fin cfg0.N,
    win0_0.index t (0 : Fin 2) = t.val / 6 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = t.val % 6 ∧ win0_2.index t (2 : Fin 3) = 0
    ∧ win0_3.index t (0 : Fin 3) = 0 ∧ win0_3.index t (1 : Fin 3) = 48 ∧ win0_3.index t (2 : Fin 3) = 0
    ∧ win0_4.index t (0 : Fin 2) = t.val / 6 ∧ win0_4.index t (1 : Fin 2) = t.val % 6
    ∧ win0_5.index t (0 : Fin 2) = t.val / 6 ∧ win0_5.index t (1 : Fin 2) = 0 :=
  (by decide +kernel : ∀ t : Fin grid0.N, _)

/-- How much of the block of gate weights lies in the weights. -/
theorem within : ∀ t : Fin cfg0.N,
    (cfg0.win 3).xsize (cfg0.grid.coords t) (0 : Fin 3) = 1 ∧ (cfg0.win 3).xsize (cfg0.grid.coords t) (1 : Fin 3) = 16
    ∧ (cfg0.win 3).xsize (cfg0.grid.coords t) (2 : Fin 3) = 2048 :=
  (by decide +kernel : ∀ t : Fin grid0.N, _)

theorem t_lt (t : Fin cfg0.N) : t.val < 48 := lt_of_lt_of_eq t.isLt (show cfg0.N = 48 from N_0)

theorem row_div (t : Fin cfg0.N) : (row t).val / 6 = t.val / 6 := by
  show (t.val - t.val % 6) / 6 = t.val / 6; omega

/-- The rows' block. -/
theorem blk0 (c : Dev nD) (t : Fin cfg0.N) (r : Fin 1024) (k : Fin 2048) :
    iblk m c 0 t (ix2 r k) = m ((c : Thread nD τ).loc main_arg0)
      (ix3 (⟨(1024 * (t.val / 6) + r.val) / 4096, by have := t_lt t; omega⟩ : Fin 2) (⟨(1024 * (t.val / 6) + r.val) % 4096, by omega⟩ : Fin 4096) k) := by
  obtain ⟨h1, h2, -⟩ := places t
  blk_ext! [iblk, V, h1, h2]

/-- The scales' block. -/
theorem blk1 (c : Dev nD) (t : Fin cfg0.N) (k : Fin 2048) :
    iblk m c 1 t (ix2 (0 : Fin 1) k) = m ((c : Thread nD τ).loc main_arg1) (ix1 k) := by
  obtain ⟨-, -, h1, h2, -⟩ := places t
  blk_ext! [iblk, V, h1, h2]

/-- The weights' block. -/
theorem blk2 (c : Dev nD) (t : Fin cfg0.N) (l : Fin 1024) (k : Fin 2048) :
    X0_2 m c t (ix3 (0 : Fin 1) l k) = m ((c : Thread nD τ).loc main_arg2) (ix3 (0 : Fin 1) k (⟨1024 * (t.val % 6) + l.val, by omega⟩ : Fin 6160)) := by
  obtain ⟨-, -, -, -, h1, h2, h3, -⟩ := places t
  unfold X0_2 Pipeline.Window.fill
  rw [dif_pos (moved0_2 t _)]
  blk_ext! [iblk, V, h1, h2, h3]

/-- The block of gate weights, in its first sixteen rows. -/
theorem blk3 (c : Dev nD) (t : Fin cfg0.N) (d : Vec Ideal S1x128x2048 .f32) (j : Fin 16) (k : Fin 2048) :
    gates m c t d (ix3 (0 : Fin 1) (⟨j.val, by omega⟩ : Fin 128) k)
      = m ((c : Thread nD τ).loc main_arg2) (ix3 (0 : Fin 1) k (⟨6144 + j.val, by omega⟩ : Fin 6160)) := by
  obtain ⟨-, -, -, -, -, -, -, h1, h2, h3, -⟩ := places t
  obtain ⟨s1, s2, s3⟩ := within t
  have hm : (cfg0.win 3).moved (cfg0.grid.coords t) (ix3 (0 : Fin 1) (⟨j.val, by omega⟩ : Fin 128) k) = true := by
    refine ((cfg0.win 3).moved_iff _ _).mpr fun a => ?_
    match a with
    | ⟨0, _⟩ => exact lt_of_lt_of_eq (show 0 < 1 by omega) s1.symm
    | ⟨1, _⟩ => exact lt_of_lt_of_eq j.isLt s2.symm
    | ⟨2, _⟩ => exact lt_of_lt_of_eq k.isLt s3.symm
  unfold gates Pipeline.Window.fill
  rw [dif_pos hm]
  blk_ext! [iblk, V, h1, h2, h3]

/-- The projection's result at a row and one of the first 6144 columns. -/
def value (x : FVec Ideal S2x4096x2048 .f32) (g : FVec Ideal S2048 .f32) (w : FVec Ideal S1x2048x6160 .f32) (row : Fin 8192) (col : Fin 6144) : EReal :=
  ∑ k : Fin 2048, hrow x g row.val row.isLt k * w (ix3 (0 : Fin 1) k (⟨col.val, by omega⟩ : Fin 6160))

/-- The projection's result at a row and one of the last sixteen columns. -/
def gate (x : FVec Ideal S2x4096x2048 .f32) (g : FVec Ideal S2048 .f32) (w : FVec Ideal S1x2048x6160 .f32) (row : Fin 8192) (j : Fin 16) : EReal :=
  ∑ k : Fin 2048, hrow x g row.val row.isLt k * w (ix3 (0 : Fin 1) k (⟨6144 + j.val, by omega⟩ : Fin 6160))

/-- The first result as an array. -/
def values (c : Dev nD) : Buf (Elt Ideal) ((c.tc : Thread nD τ).loc main_v3_0) := fun i =>
  value (m ((c : Thread nD τ).loc main_arg0)) (m ((c : Thread nD τ).loc main_arg1)) (m ((c : Thread nD τ).loc main_arg2)) (i (0 : Fin 2)) (i (1 : Fin 2))

/-- The second result as an array. -/
def gatesAll (c : Dev nD) : Buf (Elt Ideal) ((c.tc : Thread nD τ).loc main_v3_1) := fun i =>
  gate (m ((c : Thread nD τ).loc main_arg0)) (m ((c : Thread nD τ).loc main_arg1)) (m ((c : Thread nD τ).loc main_arg2)) (i (0 : Fin 2)) (i (1 : Fin 2))

/-- The first result at a row and a column. -/
theorem values_at (c : Dev nD) (row : Fin 8192) (col : Fin 6144) :
    values m c (ix2 row col)
      = ∑ k : Fin 2048, hrow (m ((c : Thread nD τ).loc main_arg0)) (m ((c : Thread nD τ).loc main_arg1)) row.val row.isLt k
          * (m ((c : Thread nD τ).loc main_arg2) : FVec Ideal S1x2048x6160 .f32) (ix3 (0 : Fin 1) k (⟨col.val, by omega⟩ : Fin 6160)) := rfl

/-- The second result at a row and a column. -/
theorem gates_at (c : Dev nD) (row : Fin 8192) (j : Fin 16) :
    gatesAll m c (ix2 row j)
      = ∑ k : Fin 2048, hrow (m ((c : Thread nD τ).loc main_arg0)) (m ((c : Thread nD τ).loc main_arg1)) row.val row.isLt k
          * (m ((c : Thread nD τ).loc main_arg2) : FVec Ideal S1x2048x6160 .f32) (ix3 (0 : Fin 1) k (⟨6144 + j.val, by omega⟩ : Fin 6160)) := rfl

/-- The rows of a point's block, normalized. -/
theorem rows_at (c : Dev nD) (t : Fin cfg0.N) (r : Fin 1024) (k : Fin 2048) :
    normed (fun k => iblk m c 0 (row t) (ix2 r k)) (fun k => iblk m c 1 (row t) (ix2 0 k)) k
      = hrow (m ((c : Thread nD τ).loc main_arg0)) (m ((c : Thread nD τ).loc main_arg1)) (1024 * (t.val / 6) + r.val) (by have := t_lt t; omega) k := by
  simp only [blk0, blk1, row_div]
  rfl

/-- The block a point stores. -/
theorem stored_at (c : Dev nD) (t : Fin cfg0.N) (r l : Fin 1024) :
    k0_pay4 (hid m c (row t)) (X0_2 m c t) (ix2 r l)
      = value (m ((c : Thread nD τ).loc main_arg0)) (m ((c : Thread nD τ).loc main_arg1)) (m ((c : Thread nD τ).loc main_arg2))
          ⟨1024 * (t.val / 6) + r.val, by have := t_lt t; omega⟩ ⟨1024 * (t.val % 6) + l.val, by omega⟩ := by
  refine (pay4_at _ _ r l).trans (Finset.sum_congr rfl fun k _ => ?_)
  rw [blk2]
  exact congrArg (· * _) ((pay2_at _ _ r k).trans (rows_at m c t r k))

/-- The gate columns a row block's points leave. -/
theorem gate_at (c : Dev nD) (t : Fin cfg0.N) (d : Vec Ideal S1x128x2048 .f32) (r : Fin 1024) (j : Fin 16) :
    k0_pay3 (iblk m c 0 (row t)) (iblk m c 1 (row t)) (gates m c (row t) d) (ix2 r j)
      = gate (m ((c : Thread nD τ).loc main_arg0)) (m ((c : Thread nD τ).loc main_arg1)) (m ((c : Thread nD τ).loc main_arg2))
          ⟨1024 * (t.val / 6) + r.val, by have := t_lt t; omega⟩ j := by
  refine (pay3_at _ _ _ r j).trans (Finset.sum_congr rfl fun k _ => ?_)
  rw [blk3]
  exact congrArg (· * _) (rows_at m c t r k)

/-- The first array after the run. -/
theorem final4 (c : Dev nD) : (dats m 0 c).arrAt 4 cfg0.N = values m c := by
  refine (dats m 0 c).arrAt_eq_of_covers 4 _ (by decide +kernel) fun t hf y => ?_
  blk_simp
  rw [after_4]
  obtain ⟨-, -, -, -, -, -, -, -, -, -, h1, h2, -⟩ := places t
  obtain ⟨r, l, rfl⟩ : ∃ (r : Fin 1024) (l : Fin 1024), y = ix2 r l := ⟨y 0, y 1, by funext a; fin_cases a <;> rfl⟩
  refine (stored_at m c t _ _).trans ?_
  unfold values
  congr 1 <;> apply Fin.ext
  · show 1024 * (t.val / 6) + r.val = _; blk_simp [h1]; omega
  · show 1024 * (t.val % 6) + l.val = _; blk_simp [h2]; omega

/-- The second array after the run. -/
theorem final5 (c : Dev nD) (D : Dat τ (Elt Ideal) Unit ℕ (UR sig nD τ) ℕ cfg0 c)
    (hD : ∀ u, (cfg0.win 5).flush u = true → left m c 5 u (D.after 5 u)) : D.arrAt 5 cfg0.N = gatesAll m c := by
  refine D.arrAt_eq_of_covers 5 _ (by decide +kernel) fun t hf y => ?_
  obtain ⟨d, hd⟩ := hD t hf
  blk_simp
  rw [hd]
  obtain ⟨-, -, -, -, -, -, -, -, -, -, -, -, h1, h2⟩ := places t
  obtain ⟨r, l, rfl⟩ : ∃ (r : Fin 1024) (l : Fin 16), y = ix2 r l := ⟨y 0, y 1, by funext a; fin_cases a <;> rfl⟩
  refine (gate_at m c t d _ _).trans ?_
  unfold gatesAll
  congr 1 <;> apply Fin.ext
  · show 1024 * (t.val / 6) + r.val = _; blk_simp [h1]; omega
  · show l.val = _; blk_simp [h2]

/-- THE KERNEL'S RESULTS. -/
theorem run_values (ρ : Dev nD → PrngReg) : θ_run defs (onTc (τ := τ) (main (F := Ideal))) ⟨m, fun _ => 0, ρ⟩ (fun r => ∀ c : Dev nD,
      r.2.mem ((c.tc : Thread nD τ).loc main_v3_0) = values m c
      ∧ r.2.mem ((c.tc : Thread nD τ).loc main_v3_1) = gatesAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    have h4 := (((dats m 0 c).toR.override_arrAt (by rfl) _ _).trans ((dats m 0 c).toR_arrAt_iff 4 _ _)).mp ((h c).1 4)
    obtain ⟨after, hL, hA⟩ := RDat.FramePost.exists_exact h c
    exact ⟨h4.trans (final4 m c),
      (hA 5).trans (final5 m c _ fun u hf => Dat.toRRel_leaves (dats m 0 c) (fgt := fgt) (Rl := left m c) (w := 5) rfl (hL 5 u hf)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run m ρ)

end Cert.InProj

end
-- ==== Proof.InRef.lean ====
module

public import proofs.«01_k».proof.Proof.Gen.ReferenceInIdeal.Run
public import Idealize.ShloMosaic.Lib.Pointwise

@[expose] public section

set_option maxRecDepth 16384

noncomputable section

/-! ## The linear projection's reference, at an element -/

namespace Cert.InRef

open Idealize.ShloMosaic Idealize.ShloMosaic.TcCoe Idealize.SL.Sem Cert.ReferenceInIdeal Cert.ReferenceInIdeal.Gen

/-- The reference's product. -/
theorem ref_dot (h : FVec Ideal S2x4096x2048 .f32) (w : FVec Ideal S1x2048x6160 .f32) (b : Fin 2) (s : Fin 4096) (col : Fin 6160) :
    (Host.dotGeneral (F := Ideal) dot_S2x4096x2048_S2048x6160_S2x4096x6160_2_0_01_1_n_n none h (shapeCast S2048x6160 w shapeCasts_S1x2048x6160_S2048x6160)
      : FVec Ideal S2x4096x6160 .f32) (ix3 b s col)
      = ∑ k : Fin 2048, h (ix3 b s k) * w (ix3 (0 : Fin 1) k col) := by
  pointwise

/-- Its first 6144 columns. -/
theorem ref_cols (y : FVec Ideal S2x4096x6160 .f32) (row : Fin 8192) (col : Fin 6144) :
    (truncf .bf16 (extractStridedSlice S8192x6144 ![0, 0] (shapeCast S8192x6160 y shapeCasts_S2x4096x6160_S8192x6160) slices_S8192x6160_S8192x6144_0_0) bitsLt_bf16_f32
      : FVec Ideal S8192x6144 .bf16) (ix2 row col)
      = y (ix3 (⟨row.val / 4096, by omega⟩ : Fin 2) (⟨row.val % 4096, by omega⟩ : Fin 4096) (⟨col.val, by omega⟩ : Fin 6160)) := by
  pointwise

/-- Its last sixteen. -/
theorem ref_gates (y : FVec Ideal S2x4096x6160 .f32) (row : Fin 8192) (j : Fin 16) :
    (extractStridedSlice S8192x16 ![0, 6144] (shapeCast S8192x6160 y shapeCasts_S2x4096x6160_S8192x6160) slices_S8192x6160_S8192x16_0_6144
      : FVec Ideal S8192x16 .f32) (ix2 row j)
      = y (ix3 (⟨row.val / 4096, by omega⟩ : Fin 2) (⟨row.val % 4096, by omega⟩ : Fin 4096) (⟨6144 + j.val, by omega⟩ : Fin 6160)) := by
  pointwise

end Cert.InRef

end
-- ==== Proof.OutProjC.lean ====
module

public import proofs.«01_k».proof.Proof.OutProj
public import proofs.«01_k».proof.Proof.Gen.KernelOutCIdeal.Value
public import proofs.«01_k».proof.Proof.Gen.ReferenceOutCIdeal.Run

@[expose] public section

set_option maxRecDepth 16384

noncomputable section

/-! ## The output projection after the spatial gating

The same body as after the two mixers; its two operands are the two halves of one array. -/

namespace Cert.OutProjC

open Idealize.ShloMosaic Idealize.ShloMosaic.TcCoe Idealize.SL.Sem Cert.KernelOutCIdeal Cert.KernelOutCIdeal.Gen Cert.KernelOutCIdeal.Value

/-- What a point leaves is what a point of the other output projection leaves. -/
theorem out_at (x0 : Vec Ideal S1024x1024 .bf16) (x1 : Vec Ideal S1024x1024 .bf16) (x2 : Vec Ideal S1x2048x1024 .f32)
    (x3 : Vec Ideal S1024x1024 .f32) (r l : Fin 1024) :
    out0_4 x0 x1 x2 x3 (ix2 r l)
      = x3 (ix2 r l) + ((∑ k : Fin 1024, x0 (ix2 r k) * x2 (ix3 0 ⟨k.val, by omega⟩ l))
          + ∑ k : Fin 1024, x1 (ix2 r k) * x2 (ix3 0 ⟨1024 + k.val, by omega⟩ l)) :=
  Cert.OutProj.out_at x0 x1 x2 x3 r l

variable (m : (ℓ : Loc nD τ sig) → Buf (Elt Ideal) ℓ)

/-- The blocks' places in their arrays. -/
theorem places : ∀ t : Fin cfg0.N,
    win0_0.index t (0 : Fin 2) = t.val / 2 ∧ win0_0.index t (1 : Fin 2) = 0
    ∧ win0_1.index t (0 : Fin 2) = t.val / 2 ∧ win0_1.index t (1 : Fin 2) = 1
    ∧ win0_2.index t (0 : Fin 3) = 0 ∧ win0_2.index t (1 : Fin 3) = 0 ∧ win0_2.index t (2 : Fin 3) = t.val % 2
    ∧ win0_3.index t (0 : Fin 2) = t.val / 2 ∧ win0_3.index t (1 : Fin 2) = t.val % 2
    ∧ win0_4.index t (0 : Fin 2) = t.val / 2 ∧ win0_4.index t (1 : Fin 2) = t.val % 2 :=
  (by decide +kernel : ∀ t : Fin grid0.N, _)

theorem t_lt (t : Fin cfg0.N) : t.val < 16 := lt_of_lt_of_eq t.isLt (show cfg0.N = 16 from N_0)

/-- The first half's block. -/
theorem blk0 (c : Dev nD) (t : Fin cfg0.N) (r k : Fin 1024) :
    iblk m c 0 t (ix2 r k) = m ((c : Thread nD τ).loc main_arg0) (ix2 (⟨1024 * (t.val / 2) + r.val, by have := t_lt t; omega⟩ : Fin 8192) (⟨k.val, by omega⟩ : Fin 2048)) := by
  obtain ⟨h1, h2, -⟩ := places t
  blk_ext! [iblk, V, h1, h2]

/-- The second half's block. -/
theorem blk1 (c : Dev nD) (t : Fin cfg0.N) (r k : Fin 1024) :
    iblk m c 1 t (ix2 r k) = m ((c : Thread nD τ).loc main_arg0) (ix2 (⟨1024 * (t.val / 2) + r.val, by have := t_lt t; omega⟩ : Fin 8192) (⟨1024 + k.val, by omega⟩ : Fin 2048)) := by
  obtain ⟨-, -, h1, h2, -⟩ := places t
  blk_ext! [iblk, V, h1, h2]

/-- The weights' block. -/
theorem blk2 (c : Dev nD) (t : Fin cfg0.N) (k : Fin 2048) (l : Fin 1024) :
    iblk m c 2 t (ix3 (0 : Fin 1) k l) = m ((c : Thread nD τ).loc main_arg1) (ix3 (0 : Fin 1) k (⟨1024 * (t.val % 2) + l.val, by omega⟩ : Fin 2048)) := by
  obtain ⟨-, -, -, -, h1, h2, h3, -⟩ := places t
  blk_ext! [iblk, V, h1, h2, h3]

/-- The residual's block. -/
theorem blk3 (c : Dev nD) (t : Fin cfg0.N) (r l : Fin 1024) :
    iblk m c 3 t (ix2 r l) = m ((c : Thread nD τ).loc main_arg2)
      (ix3 (⟨(1024 * (t.val / 2) + r.val) / 4096, by have := t_lt t; omega⟩ : Fin 2) (⟨(1024 * (t.val / 2) + r.val) % 4096, by omega⟩ : Fin 4096)
        (⟨1024 * (t.val % 2) + l.val, by omega⟩ : Fin 2048)) := by
  obtain ⟨-, -, -, -, -, -, -, h1, h2, -⟩ := places t
  blk_ext! [iblk, V, h1, h2]

/-- The residual plus the product with the weights. -/
def value (a : FVec Ideal S8192x2048 .bf16) (w : FVec Ideal S1x2048x2048 .f32) (x : FVec Ideal S2x4096x2048 .f32) (row : Fin 8192) (col : Fin 2048) : EReal :=
  x (ix3 (⟨row.val / 4096, by omega⟩ : Fin 2) (⟨row.val % 4096, by omega⟩ : Fin 4096) col)
    + ∑ k : Fin 2048, a (ix2 row k) * w (ix3 (0 : Fin 1) k col)

/-- The product's sum, as the sums of its two halves. -/
theorem value_halves (a : FVec Ideal S8192x2048 .bf16) (w : FVec Ideal S1x2048x2048 .f32) (x : FVec Ideal S2x4096x2048 .f32) (row : Fin 8192) (col : Fin 2048) :
    value a w x row col = x (ix3 (⟨row.val / 4096, by omega⟩ : Fin 2) (⟨row.val % 4096, by omega⟩ : Fin 4096) col)
      + ((∑ k : Fin 1024, a (ix2 row (⟨k.val, by omega⟩ : Fin 2048)) * w (ix3 (0 : Fin 1) (⟨k.val, by omega⟩ : Fin 2048) col))
        + ∑ k : Fin 1024, a (ix2 row (⟨1024 + k.val, by omega⟩ : Fin 2048)) * w (ix3 (0 : Fin 1) (⟨1024 + k.val, by omega⟩ : Fin 2048) col)) :=
  congrArg _ (Fin.sum_univ_add (a := 1024) (b := 1024) _)

/-- THE KERNEL'S RESULT at a row and a column. -/
theorem kernel_at (c : Dev nD) (row : Fin 8192) (col : Fin 2048) :
    ((dats m 0 c).arrAt 4 cfg0.N : FVec Ideal S8192x2048 .f32) (ix2 row col)
      = value (m ((c : Thread nD τ).loc main_arg0)) (m ((c : Thread nD τ).loc main_arg1)) (m ((c : Thread nD τ).loc main_arg2)) row col := by
  have hr := row.isLt
  have hc := col.isLt
  obtain ⟨t, ht⟩ : ∃ t : Fin cfg0.N, t.val = row.val / 1024 * 2 + col.val / 1024 :=
    ⟨⟨row.val / 1024 * 2 + col.val / 1024, lt_of_lt_of_eq (by omega) N_0.symm⟩, rfl⟩
  have h2 : t.val / 2 = row.val / 1024 := by omega
  have h3 : t.val % 2 = col.val / 1024 := by omega
  obtain ⟨-, -, -, -, -, -, -, -, -, e1, e2⟩ := places t
  have h := congrFun (blocks4 m c t (flush0_4 t)) (ix2 (⟨row.val % 1024, by omega⟩ : Fin 1024) (⟨col.val % 1024, by omega⟩ : Fin 1024))
  have he : ((cfg0.win 4).blk t).view.emb (ix2 (⟨row.val % 1024, by omega⟩ : Fin 1024) (⟨col.val % 1024, by omega⟩ : Fin 1024) : S1024x1024.Idx) = (ix2 row col : S8192x2048.Idx) := by
    funext a; apply Fin.ext
    match a with
    | ⟨0, _⟩ => show win0_4.index t (0 : Fin 2) * 1024 + 1 * (row.val % 1024) = row.val; rw [e1]; omega
    | ⟨1, _⟩ => show win0_4.index t (1 : Fin 2) * 1024 + 1 * (col.val % 1024) = col.val; rw [e2]; omega
  have hl : ((cfg0.win 4).blk t).view.read (Elt Ideal) ((dats m 0 c).arrAt 4 cfg0.N) (ix2 (⟨row.val % 1024, by omega⟩ : Fin 1024) (⟨col.val % 1024, by omega⟩ : Fin 1024) : S1024x1024.Idx)
      = ((dats m 0 c).arrAt 4 cfg0.N : FVec Ideal S8192x2048 .f32) (ix2 row col) :=
    congrArg ((dats m 0 c).arrAt 4 cfg0.N : FVec Ideal S8192x2048 .f32) he
  refine hl.symm.trans (h.trans ?_)
  rw [flushed4]
  refine (out_at _ _ _ _ _ _).trans ?_
  have a0 : 1024 * (t.val / 2) + row.val % 1024 = row.val := by omega
  have a1 : 1024 * (t.val % 2) + col.val % 1024 = col.val := by omega
  rw [value_halves]
  simp only [blk0, blk1, blk2, blk3, a0, a1]

/-- THE REFERENCE'S RESULT at a row and a column. -/
theorem ref_at (a : FVec Ideal Cert.ReferenceOutCIdeal.S8192x2048 .bf16) (w : FVec Ideal Cert.ReferenceOutCIdeal.S1x2048x2048 .f32)
    (x : FVec Ideal Cert.ReferenceOutCIdeal.S2x4096x2048 .f32) (row : Fin 8192) (col : Fin 2048) :
    (shapeCast Cert.ReferenceOutCIdeal.S8192x2048 (addf x (shapeCast Cert.ReferenceOutCIdeal.S2x4096x2048 (Host.dotGeneral (F := Ideal) Cert.ReferenceOutCIdeal.dot_S8192x2048_S2048x2048_S8192x2048_1_0_0_1_n_n none
        (extf .f32 a Cert.ReferenceOutCIdeal.Gen.bitsLt_bf16_f32)
        (shapeCast Cert.ReferenceOutCIdeal.S2048x2048 w Cert.ReferenceOutCIdeal.Gen.shapeCasts_S1x2048x2048_S2048x2048)) Cert.ReferenceOutCIdeal.Gen.shapeCasts_S8192x2048_S2x4096x2048)) Cert.ReferenceOutCIdeal.Gen.shapeCasts_S2x4096x2048_S8192x2048
      : FVec Ideal Cert.ReferenceOutCIdeal.S8192x2048 .f32) (ix2 row col)
      = value a w x row col := by
  unfold value
  pointwise

end Cert.OutProjC

end
-- ==== Proof.GateRef.lean ====
module

public import proofs.«01_k».proof.Proof.Gen.ReferenceGateIdeal.Run
public import Idealize.ShloMosaic.Lib.WordCmp
public import Idealize.ShloMosaic.Lib.Pointwise

@[expose] public section

set_option maxRecDepth 16384

noncomputable section

/-! ## The spatial gating's reference, at an element -/

namespace Cert.GateRef

open Idealize.ShloMosaic Idealize.ShloMosaic.TcCoe Idealize.SL.Sem Cert.ReferenceGateIdeal Cert.ReferenceGateIdeal.Gen

/-- The mean of a row. -/
def mean (y : Fin 2048 → EReal) : EReal := Ideal.div (∑ k, y k) (Ideal.ofBits FTy.f32 0x45000000#32)

/-- A row, centred, divided by its deviation, scaled and shifted. -/
def lnormed (y g b : Fin 2048 → EReal) (l : Fin 2048) : EReal :=
  (y l - mean y) * Ideal.rsqrt (mean (fun k => (y k - mean y) * (y k - mean y)) + Ideal.ofBits FTy.f32 0x358637BD#32) * g l + b l

/-- The reference's row means. -/
theorem ref_mean (v : FVec Ideal S2x4096x2048 .f32) (b : Fin 2) (s : Fin 4096) (k : Fin 2048) :
    (broadcastInDim S2x4096x2048 ![0, 1, 2] bcast_S2x4096x1_S2x4096x2048_0_1_2 (Host.divf (broadcastInDim S2x4096x1 ![0, 1] bcast_S2x4096_S2x4096x1_0_1 (Host.reduceAdd v (constant S_ .f32 0x00000000#32) reducesTo_S2x4096x2048_S2x4096_d2 h_S_)) (broadcastInDim S2x4096x1 ![] bcast_S_S2x4096x1 (constant S_ .f32 0x45000000#32)))
      : FVec Ideal S2x4096x2048 .f32) (ix3 b s k)
      = mean fun k => v (ix3 b s k) := by
  unfold mean; pointwise

/-- The reference's reciprocal deviations, of centred rows. -/
theorem ref_dev (d : FVec Ideal S2x4096x2048 .f32) (b : Fin 2) (s : Fin 4096) (k : Fin 2048) :
    (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf d d) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32))))
      : FVec Ideal S2x4096x2048 .f32) (ix3 b s k)
      = Ideal.rsqrt (mean (fun k => d (ix3 b s k) * d (ix3 b s k)) + Ideal.ofBits FTy.f32 0x358637BD#32) := by
  unfold mean; pointwise

/-- The scale and the shift. -/
theorem ref_scale (d r : FVec Ideal S2x4096x2048 .f32) (g h : FVec Ideal S2048 .f32) (b : Fin 2) (s : Fin 4096) (k : Fin 2048) :
    (addf (mulf (mulf d r) (broadcastInDim S2x4096x2048 ![0, 1, 2] bcast_S1x1x2048_S2x4096x2048_0_1_2 (broadcastInDim S1x1x2048 ![2] bcast_S2048_S1x1x2048_2 g))) (broadcastInDim S2x4096x2048 ![0, 1, 2] bcast_S1x1x2048_S2x4096x2048_0_1_2 (broadcastInDim S1x1x2048 ![2] bcast_S2048_S1x1x2048_2 h))
      : FVec Ideal S2x4096x2048 .f32) (ix3 b s k)
      = d (ix3 b s k) * r (ix3 b s k) * g (ix1 k) + h (ix1 k) := by
  pointwise

/-- The reference's normalized rows. -/
theorem ref_norm (v : FVec Ideal S2x4096x2048 .f32) (g h : FVec Ideal S2048 .f32) (b : Fin 2) (s : Fin 4096) (k : Fin 2048) :
    (addf (mulf (mulf (subf v (broadcastInDim S2x4096x2048 ![0, 1, 2] bcast_S2x4096x1_S2x4096x2048_0_1_2 (Host.divf (broadcastInDim S2x4096x1 ![0, 1] bcast_S2x4096_S2x4096x1_0_1 (Host.reduceAdd v (constant S_ .f32 0x00000000#32) reducesTo_S2x4096x2048_S2x4096_d2 h_S_)) (broadcastInDim S2x4096x1 ![] bcast_S_S2x4096x1 (constant S_ .f32 0x45000000#32))))) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (subf v (broadcastInDim S2x4096x2048 ![0, 1, 2] bcast_S2x4096x1_S2x4096x2048_0_1_2 (Host.divf (broadcastInDim S2x4096x1 ![0, 1] bcast_S2x4096_S2x4096x1_0_1 (Host.reduceAdd v (constant S_ .f32 0x00000000#32) reducesTo_S2x4096x2048_S2x4096_d2 h_S_)) (broadcastInDim S2x4096x1 ![] bcast_S_S2x4096x1 (constant S_ .f32 0x45000000#32))))) (subf v (broadcastInDim S2x4096x2048 ![0, 1, 2] bcast_S2x4096x1_S2x4096x2048_0_1_2 (Host.divf (broadcastInDim S2x4096x1 ![0, 1] bcast_S2x4096_S2x4096x1_0_1 (Host.reduceAdd v (constant S_ .f32 0x00000000#32) reducesTo_S2x4096x2048_S2x4096_d2 h_S_)) (broadcastInDim S2x4096x1 ![] bcast_S_S2x4096x1 (constant S_ .f32 0x45000000#32)))))) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))) (broadcastInDim S2x4096x2048 ![0, 1, 2] bcast_S1x1x2048_S2x4096x2048_0_1_2 (broadcastInDim S1x1x2048 ![2] bcast_S2048_S1x1x2048_2 h))
      : FVec Ideal S2x4096x2048 .f32) (ix3 b s k)
      = lnormed (fun k => v (ix3 b s k)) (fun k => g (ix1 k)) (fun k => h (ix1 k)) k := by
  refine (ref_scale _ _ g h b s k).trans ?_
  rw [ref_dev]
  have hc := fun k => congrArg (v (ix3 b s k) - ·) (ref_mean v b s k)
  unfold lnormed
  refine congrArg₂ (fun x y => x * y * g (ix1 k) + h (ix1 k)) (hc k) (congrArg (fun y => Ideal.rsqrt (mean y + _)) (funext fun k => ?_))
  exact congrArg₂ (· * ·) (hc k) (hc k)

/-- The reference's second half, in its two batches. -/
theorem ref_half (a : FVec Ideal S8192x4096 .bf16) (b : Fin 2) (s : Fin 4096) (k : Fin 2048) :
    (extractStridedSlice S2x4096x2048 ![0, 0, 2048] (shapeCast S2x4096x4096 (extf .f32 a bitsLt_bf16_f32) shapeCasts_S8192x4096_S2x4096x4096) slices_S2x4096x4096_S2x4096x2048_0_0_2048
      : FVec Ideal S2x4096x2048 .f32) (ix3 b s k)
      = a (ix2 (⟨b.val * 4096 + s.val, by omega⟩ : Fin 8192) (⟨2048 + k.val, by omega⟩ : Fin 4096)) := by
  pointwise

/-- A comparison of two positions of a chunk, as a bit. -/
theorem sge_at (t s : Fin 128) : IntOp.cmpi .sge (BitVec.ofNat 32 t.val) (BitVec.ofNat 32 s.val) = if s.val ≤ t.val then 1#1 else 0#1 := by
  have ht : t.val < 2 ^ (32 - 1) := by have := t.isLt; omega
  have hs : s.val < 2 ^ (32 - 1) := by have := s.isLt; omega
  by_cases h : s.val ≤ t.val
  · rw [if_pos h]; exact (WordCmp.cmpi_sge_ofNat_eq_one_iff ht hs).mpr h
  · rw [if_neg h]; exact (WordCmp.cmpi_sge_ofNat_eq_zero_iff ht hs).mpr (by omega)

/-- The reference's masked weights. -/
theorem ref_mask (w : FVec Ideal S8x128x128 .f32) (g : Fin 8) (t s : Fin 128) :
    (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) w (broadcastInDim S8x128x128 ![] bcast_S_S8x128x128 (id (constant S_ .f32 0x00000000#32)))
      : FVec Ideal S8x128x128 .f32) (ix3 g t s)
      = if s.val ≤ t.val then w (ix3 g t s) else 0 := by
  pointwise
  rw [show IntOp.addi (BitVec.ofNat 32 t.val) 0#32 = BitVec.ofNat 32 t.val from BitVec.add_zero _, sge_at]
  by_cases h : s.val ≤ t.val
  · simp [h, Scalar.select]
  · simp [h, Scalar.select, constant, Scalar.ofBits]

/-- The reference's product over a chunk. -/
theorem ref_dot (y : FVec Ideal S2x4096x2048 .f32) (w : FVec Ideal S8x128x128 .f32) (b : Fin 2) (c : Fin 32) (t : Fin 128) (g : Fin 8) (d : Fin 256) :
    (transpose S2x32x128x8x256 [1, 2, 4, 0, 3] (Host.dotGeneral (F := Ideal) dot_S2x32x128x8x256_S8x128x128_S8x2x32x256x128_2_2_014_1_3_0 none (shapeCast S2x32x128x8x256 y shapeCasts_S2x4096x2048_S2x32x128x8x256) w) transposes_S8x2x32x256x128_S2x32x128x8x256_1_2_4_0_3
      : FVec Ideal S2x32x128x8x256 .f32) (ix5 b c t g d)
      = ∑ s : Fin 128, y (ix3 b (⟨c.val * 128 + s.val, by omega⟩ : Fin 4096) (⟨g.val * 256 + d.val, by omega⟩ : Fin 2048)) * w (ix3 g t s) := by
  pointwise

/-- The reference's result, over its product. -/
theorem ref_out (a : FVec Ideal S8192x4096 .bf16) (z : FVec Ideal S2x32x128x8x256 .f32) (bs : FVec Ideal S8x128 .f32) (row : Fin 8192) (col : Fin 2048) :
    (truncf .bf16 (shapeCast S8192x2048 (mulf (extractStridedSlice S2x4096x2048 ![0, 0, 0] (shapeCast S2x4096x4096 (extf .f32 a bitsLt_bf16_f32) shapeCasts_S8192x4096_S2x4096x4096) slices_S2x4096x4096_S2x4096x2048_0_0_0) (shapeCast S2x4096x2048 (addf z (broadcastInDim S2x32x128x8x256 ![0, 1, 2, 3, 4] bcast_S1x1x128x8x1_S2x32x128x8x256_0_1_2_3_4 (broadcastInDim S1x1x128x8x1 ![2, 3] bcast_S128x8_S1x1x128x8x1_2_3 (transpose S128x8 [1, 0] bs transposes_S8x128_S128x8_1_0)))) shapeCasts_S2x32x128x8x256_S2x4096x2048)) shapeCasts_S2x4096x2048_S8192x2048) bitsLt_bf16_f32
      : FVec Ideal S8192x2048 .bf16) (ix2 row col)
      = a (ix2 row (⟨col.val, by omega⟩ : Fin 4096)) * (z (ix5 (⟨row.val / 4096, by omega⟩ : Fin 2) (⟨row.val % 4096 / 128, by omega⟩ : Fin 32) (⟨row.val % 128, by omega⟩ : Fin 128) (⟨col.val / 256, by omega⟩ : Fin 8) (⟨col.val % 256, by omega⟩ : Fin 256))
          + bs (ix2 (⟨col.val / 256, by omega⟩ : Fin 8) (⟨row.val % 128, by omega⟩ : Fin 128))) := by
  have h : row.val % 4096 % 128 = row.val % 128 := by omega
  pointwise
  simp only [h]

/-- The first half, gated by the product of the second half's normalized rows with the masked weights. -/
def value (a : FVec Ideal S8192x4096 .bf16) (g h : FVec Ideal S2048 .f32) (w : FVec Ideal S8x128x128 .f32) (bs : FVec Ideal S8x128 .f32) (row : Fin 8192) (col : Fin 2048) : EReal :=
  a (ix2 row (⟨col.val, by omega⟩ : Fin 4096)) * ((∑ s : Fin 128, (if s.val ≤ row.val % 128 then w (ix3 (⟨col.val / 256, by omega⟩ : Fin 8) (⟨row.val % 128, by omega⟩ : Fin 128) s) else 0)
      * lnormed (fun k => a (ix2 (⟨row.val / 128 * 128 + s.val, by omega⟩ : Fin 8192) (⟨2048 + k.val, by omega⟩ : Fin 4096))) (fun k => g (ix1 k)) (fun k => h (ix1 k)) col)
    + bs (ix2 (⟨col.val / 256, by omega⟩ : Fin 8) (⟨row.val % 128, by omega⟩ : Fin 128)))

/-- THE REFERENCE'S RESULT at a row and a column. -/
theorem ref_at (a : FVec Ideal S8192x4096 .bf16) (g h : FVec Ideal S2048 .f32) (w : FVec Ideal S8x128x128 .f32) (bs : FVec Ideal S8x128 .f32) (row : Fin 8192) (col : Fin 2048) :
    (truncf .bf16 (shapeCast _ (mulf (extractStridedSlice S2x4096x2048 ![0, 0, 0] (shapeCast S2x4096x4096 (extf .f32 a bitsLt_bf16_f32) shapeCasts_S8192x4096_S2x4096x4096) slices_S2x4096x4096_S2x4096x2048_0_0_0) (shapeCast _ (addf (transpose S2x32x128x8x256 [1, 2, 4, 0, 3] (Host.dotGeneral (F := Ideal) dot_S2x32x128x8x256_S8x128x128_S8x2x32x256x128_2_2_014_1_3_0 none (shapeCast _ (addf (mulf (mulf (subf (extractStridedSlice S2x4096x2048 ![0, 0, 2048] (shapeCast S2x4096x4096 (extf .f32 a bitsLt_bf16_f32) shapeCasts_S8192x4096_S2x4096x4096) slices_S2x4096x4096_S2x4096x2048_0_0_2048) (broadcastInDim S2x4096x2048 ![0, 1, 2] bcast_S2x4096x1_S2x4096x2048_0_1_2 (Host.divf (broadcastInDim S2x4096x1 ![0, 1] bcast_S2x4096_S2x4096x1_0_1 (Host.reduceAdd (extractStridedSlice S2x4096x2048 ![0, 0, 2048] (shapeCast S2x4096x4096 (extf .f32 a bitsLt_bf16_f32) shapeCasts_S8192x4096_S2x4096x4096) slices_S2x4096x4096_S2x4096x2048_0_0_2048) (constant S_ .f32 0x00000000#32) reducesTo_S2x4096x2048_S2x4096_d2 h_S_)) (broadcastInDim S2x4096x1 ![] bcast_S_S2x4096x1 (constant S_ .f32 0x45000000#32))))) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (subf (extractStridedSlice S2x4096x2048 ![0, 0, 2048] (shapeCast S2x4096x4096 (extf .f32 a bitsLt_bf16_f32) shapeCasts_S8192x4096_S2x4096x4096) slices_S2x4096x4096_S2x4096x2048_0_0_2048) (broadcastInDim S2x4096x2048 ![0, 1, 2] bcast_S2x4096x1_S2x4096x2048_0_1_2 (Host.divf (broadcastInDim S2x4096x1 ![0, 1] bcast_S2x4096_S2x4096x1_0_1 (Host.reduceAdd (extractStridedSlice S2x4096x2048 ![0, 0, 2048] (shapeCast S2x4096x4096 (extf .f32 a bitsLt_bf16_f32) shapeCasts_S8192x4096_S2x4096x4096) slices_S2x4096x4096_S2x4096x2048_0_0_2048) (constant S_ .f32 0x00000000#32) reducesTo_S2x4096x2048_S2x4096_d2 h_S_)) (broadcastInDim S2x4096x1 ![] bcast_S_S2x4096x1 (constant S_ .f32 0x45000000#32))))) (subf (extractStridedSlice S2x4096x2048 ![0, 0, 2048] (shapeCast S2x4096x4096 (extf .f32 a bitsLt_bf16_f32) shapeCasts_S8192x4096_S2x4096x4096) slices_S2x4096x4096_S2x4096x2048_0_0_2048) (broadcastInDim S2x4096x2048 ![0, 1, 2] bcast_S2x4096x1_S2x4096x2048_0_1_2 (Host.divf (broadcastInDim S2x4096x1 ![0, 1] bcast_S2x4096_S2x4096x1_0_1 (Host.reduceAdd (extractStridedSlice S2x4096x2048 ![0, 0, 2048] (shapeCast S2x4096x4096 (extf .f32 a bitsLt_bf16_f32) shapeCasts_S8192x4096_S2x4096x4096) slices_S2x4096x4096_S2x4096x2048_0_0_2048) (constant S_ .f32 0x00000000#32) reducesTo_S2x4096x2048_S2x4096_d2 h_S_)) (broadcastInDim S2x4096x1 ![] bcast_S_S2x4096x1 (constant S_ .f32 0x45000000#32)))))) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))) (broadcastInDim S2x4096x2048 ![0, 1, 2] bcast_S1x1x2048_S2x4096x2048_0_1_2 (broadcastInDim S1x1x2048 ![2] bcast_S2048_S1x1x2048_2 h))) shapeCasts_S2x4096x2048_S2x32x128x8x256) (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) w (broadcastInDim S8x128x128 ![] bcast_S_S8x128x128 (id (constant S_ .f32 0x00000000#32))))) transposes_S8x2x32x256x128_S2x32x128x8x256_1_2_4_0_3) (broadcastInDim S2x32x128x8x256 ![0, 1, 2, 3, 4] bcast_S1x1x128x8x1_S2x32x128x8x256_0_1_2_3_4 (broadcastInDim S1x1x128x8x1 ![2, 3] bcast_S128x8_S1x1x128x8x1_2_3 (transpose S128x8 [1, 0] bs transposes_S8x128_S128x8_1_0)))) shapeCasts_S2x32x128x8x256_S2x4096x2048)) shapeCasts_S2x4096x2048_S8192x2048) bitsLt_bf16_f32
      : FVec Ideal S8192x2048 .bf16) (ix2 row col)
      = value a g h w bs row col := by
  refine (ref_out a _ bs row col).trans ?_
  unfold value
  refine congrArg (fun z : EReal => a (ix2 row (⟨col.val, by omega⟩ : Fin 4096)) * (z + bs (ix2 (⟨col.val / 256, by omega⟩ : Fin 8) (⟨row.val % 128, by omega⟩ : Fin 128)))) ((ref_dot _ _ _ _ _ _ _).trans (Finset.sum_congr rfl fun s _ => ?_))
  rw [mul_comm]
  refine congrArg₂ (· * ·) (ref_mask _ _ _ _) ((ref_norm _ _ _ _ _ _).trans ?_)
  have hcol : col.val / 256 * 256 + col.val % 256 = col.val := by omega
  have hrow : row.val / 4096 * 4096 + (row.val % 4096 / 128 * 128 + s.val) = row.val / 128 * 128 + s.val := by omega
  simp only [ref_half, hcol, hrow]

end Cert.GateRef
-- ==== Proof.GateProj.lean ====
module

public import proofs.«01_k».proof.Proof.Gen.KernelGateIdeal.Value
public import proofs.«01_k».proof.Proof.GateRef
public import proofs.«01_k».proof.Proof.OutProj
public import Idealize.ShloMosaic.Lib.Pipeline.ValueKit
public import Idealize.ShloMosaic.Lib.Pointwise

@[expose] public section

set_option maxRecDepth 16384

noncomputable section

/-! ## The spatial gating

A block of the grid is 512 rows: four chunks of 128 rows, each in eight groups of 256 columns. A store writes one chunk of one group. -/

namespace Cert.Gate

open Idealize.ShloMosaic Idealize.ShloMosaic.TcCoe Idealize.SL.Sem Cert.KernelGateIdeal Cert.KernelGateIdeal.Gen Cert.KernelGateIdeal.Value
open Cert.GateRef (mean lnormed value)

/-- The kernel's normalized rows. -/
theorem norm_at (v : Vec Ideal S512x2048 .bf16) (g b : Vec Ideal S1x2048 .f32) (r : Fin 512) (k : Fin 2048) :
    k0_pay3 v g b (ix2 r k) = lnormed (fun k => v (ix2 r k)) (fun k => g (ix2 0 k)) (fun k => b (ix2 0 k)) k := by
  unfold k0_pay3 lnormed mean; pointwise

/-- The kernel's masked weights. -/
theorem mask_at (w : Vec Ideal S1x128x128 .f32) (t s : Fin 128) :
    k0_pay5 w (ix2 t s) = if s.val ≤ t.val then w (ix3 0 t s) else 0 := by
  unfold k0_pay5 k0_pay4
  pointwise
  rw [Cert.GateRef.sge_at]
  by_cases h : s.val ≤ t.val <;> simp [h, Scalar.select]

/-- ONE STORE, at a row of its chunk and a column of its group. -/
theorem tile_at (u : Vec Ideal S128x256 .bf16) (w : FVec Ideal S128x128 .bf16) (v : FVec Ideal S128x256 .bf16) (b : FVec Ideal S128x1 .f32) (t : Fin 128) (j : Fin 256) :
    (truncf .bf16 (mulf (extf .f32 u bitsLt_bf16_f32) (addf (matmul dot_S128x128_S128x256_S128x256_1_0_0_1_n_n none w v (constant S128x256 .f32 0x00000000#32))
        (broadcastTo S128x256 b broadcasts_S128x1_S128x256))) bitsLt_bf16_f32 : FVec Ideal S128x256 .bf16) (ix2 t j)
      = u (ix2 t j) * ((∑ s : Fin 128, w (ix2 t s) * v (ix2 s j)) + b (ix2 t 0)) := by
  pointwise

/-- A block's result, at a row and a column, from its normalized rows. -/
def gated (u v : FVec Ideal S512x2048 .bf16) (w : FVec Ideal S8x128x128 .f32) (b : FVec Ideal S128x8 .f32) (r : Fin 512) (l : Fin 2048) : EReal :=
  u (ix2 r l) * ((∑ s : Fin 128, (if s.val ≤ r.val % 128 then w (ix3 (⟨l.val / 256, by omega⟩ : Fin 8) (⟨r.val % 128, by omega⟩ : Fin 128) s) else 0)
      * v (ix2 (⟨r.val / 128 * 128 + s.val, by omega⟩ : Fin 512) l))
    + b (ix2 (⟨r.val % 128, by omega⟩ : Fin 128) (⟨l.val / 256, by omega⟩ : Fin 8)))

/-- THE STORE of chunk `c` in group `g` writes the block's result there. -/
theorem piece_at (u v : FVec Ideal S512x2048 .bf16) (w : FVec Ideal S8x128x128 .f32) (b : FVec Ideal S128x8 .f32) (c g : ℕ) (hc : c < 4) (hg : g < 8)
    (iu : ∀ a, (![128 * c, 256 * g] : Fin 2 → ℕ) a + S128x256.size a ≤ S512x2048.size a)
    (iw : ∀ a, (![g, 0, 0] : Fin 3 → ℕ) a + S1x128x128.size a ≤ S8x128x128.size a)
    (ib : ∀ a, (![0, g] : Fin 2 → ℕ) a + S128x1.size a ≤ S128x8.size a)
    (hs : S512x2048.Slices ![128 * c, 256 * g] S128x256)
    (x : S128x256.Idx) :
    (truncf .bf16 (mulf (extf .f32 (View.ld (Val := Elt Ideal) (e' := .bf16) u (Rect.unit (s := S512x2048) ![128 * c, 256 * g] S128x256.size iu)) bitsLt_bf16_f32)
        (addf (matmul dot_S128x128_S128x256_S128x256_1_0_0_1_n_n none (k0_pay5 (View.ld (Val := Elt Ideal) (e' := .f32) w (Rect.unit (s := S8x128x128) ![g, 0, 0] S1x128x128.size iw)))
            (extractStridedSlice S128x256 ![128 * c, 256 * g] v hs) (constant S128x256 .f32 0x00000000#32))
          (broadcastTo S128x256 (k0_pay6 (View.ld (Val := Elt Ideal) (e' := .f32) b (Rect.unit (s := S128x8) ![0, g] S128x1.size ib))) broadcasts_S128x1_S128x256))) bitsLt_bf16_f32 : FVec Ideal S128x256 .bf16) x
      = (fun y : S512x2048.Idx => gated u v w b (y 0) (y 1)) ((Rect.unit (s := S512x2048) ![128 * c, 256 * g] S128x256.size iu).emb x) := by
  obtain ⟨t, j, rfl⟩ : ∃ (t : Fin 128) (j : Fin 256), x = ix2 t j := ⟨x 0, x 1, by funext a; fin_cases a <;> rfl⟩
  have e0 : ((Rect.unit (s := S512x2048) ![128 * c, 256 * g] S128x256.size iu).emb (ix2 t j : S128x256.Idx) (0 : Fin 2) : Fin 512) = ⟨128 * c + t.val, by show 128 * c + t.val < 512; omega⟩ :=
    Fin.ext (by show 128 * c + 1 * t.val = 128 * c + t.val; omega)
  have e1 : ((Rect.unit (s := S512x2048) ![128 * c, 256 * g] S128x256.size iu).emb (ix2 t j : S128x256.Idx) (1 : Fin 2) : Fin 2048) = ⟨256 * g + j.val, by show 256 * g + j.val < 2048; omega⟩ :=
    Fin.ext (by show 256 * g + 1 * j.val = 256 * g + j.val; omega)
  refine (tile_at _ _ _ _ t j).trans ?_
  simp only [mask_at]
  show _ = gated u v w b _ _
  rw [e0, e1]
  unfold gated
  have q0 : (128 * c + t.val) % 128 = t.val := by omega
  have q1 : (128 * c + t.val) / 128 = c := by omega
  have q2 : (256 * g + j.val) / 256 = g := by omega
  simp only [q0, q1, q2]
  refine congrArg₂ (· * ·) (congrArg u ?_) (congrArg₂ (· + ·) (Finset.sum_congr rfl fun s _ => congrArg₂ (· * ·) (if_congr Iff.rfl (congrArg w ?_) rfl) ?_) ?_)
  · funext a; apply Fin.ext
    match a with
    | ⟨0, _⟩ => show 128 * c + 1 * t.val = 128 * c + t.val; omega
    | ⟨1, _⟩ => show 256 * g + 1 * j.val = 256 * g + j.val; omega
  · funext a; apply Fin.ext
    match a with
    | ⟨0, _⟩ => show g + 1 * 0 = g; omega
    | ⟨1, _⟩ => show 0 + 1 * t.val = t.val; omega
    | ⟨2, _⟩ => show 0 + 1 * s.val = s.val; omega
  · refine congrArg v ?_
    funext a; apply Fin.ext
    match a with
    | ⟨0, _⟩ => show 128 * c + s.val = c * 128 + s.val; omega
    | ⟨1, _⟩ => show 256 * g + j.val = 256 * g + j.val; rfl
  · unfold k0_pay6
    refine (show _ = View.ld (Val := Elt Ideal) (e' := .f32) b (Rect.unit (s := S128x8) ![0, g] S128x1.size ib) (ix2 t 0) by pointwise).trans (congrArg b ?_)
    funext a; apply Fin.ext
    match a with
    | ⟨0, _⟩ => show 0 + 1 * t.val = t.val; omega
    | ⟨1, _⟩ => show g + 1 * 0 = g; omega

/-- WHAT A POINT LEAVES, at a row and a column of its block. -/
theorem out_at (x0 x1 : Vec Ideal S512x2048 .bf16) (x2 x3 : Vec Ideal S1x2048 .f32) (x4 : Vec Ideal S8x128x128 .f32) (x5 : Vec Ideal S128x8 .f32)
    (r : Fin 512) (l : Fin 2048) :
    out0_6 x0 x1 x2 x3 x4 x5 (ix2 r l) = gated x0 (k0_pay3 x1 x2 x3) x4 x5 r l := by
  have hv : k0_pay59 x0 x1 x2 x3 x4 x5 = k0_pay3 x1 x2 x3 := by
    unfold k0_pay59
    rw [View.ld_unit_zero Cert.OutProj.off2, View.ld_unit_zero Cert.OutProj.off2, View.ld_unit_zero Cert.OutProj.off2]
  rw [← hv]
  unfold out0_6
  refine View.canon_apply_of_pieces (Val := Elt Ideal) (e := .bf16) (fun y : S512x2048.Idx => gated x0 (k0_pay59 x0 x1 x2 x3 x4 x5) x4 x5 (y 0) (y 1)) _ ?_ (ix2 r l) ?_
  rotate_left
  · exact cover0_6 _ _ _ _ _ _ _ _ _ _ _ _ _ _ _ _ _ _ _ _ _ _ _ _ _ _ _ _ _ _ _ _ _
  simp only [List.forall_mem_cons]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun p hp => absurd hp List.not_mem_nil⟩
  · exact piece_at x0 _ x4 x5 3 7 (by omega) (by omega) _ _ _ _ x
  · exact piece_at x0 _ x4 x5 2 7 (by omega) (by omega) _ _ _ _ x
  · exact piece_at x0 _ x4 x5 1 7 (by omega) (by omega) _ _ _ _ x
  · exact piece_at x0 _ x4 x5 0 7 (by omega) (by omega) _ _ _ _ x
  · exact piece_at x0 _ x4 x5 3 6 (by omega) (by omega) _ _ _ slices_S512x2048_o384_1536_S128x256 x
  · exact piece_at x0 _ x4 x5 2 6 (by omega) (by omega) _ _ _ _ x
  · exact piece_at x0 _ x4 x5 1 6 (by omega) (by omega) _ _ _ _ x
  · exact piece_at x0 _ x4 x5 0 6 (by omega) (by omega) _ _ _ _ x
  · exact piece_at x0 _ x4 x5 3 5 (by omega) (by omega) _ _ _ _ x
  · exact piece_at x0 _ x4 x5 2 5 (by omega) (by omega) _ _ _ _ x
  · exact piece_at x0 _ x4 x5 1 5 (by omega) (by omega) _ _ _ _ x
  · exact piece_at x0 _ x4 x5 0 5 (by omega) (by omega) _ _ _ _ x
  · exact piece_at x0 _ x4 x5 3 4 (by omega) (by omega) _ _ _ _ x
  · exact piece_at x0 _ x4 x5 2 4 (by omega) (by omega) _ _ _ _ x
  · exact piece_at x0 _ x4 x5 1 4 (by omega) (by omega) _ _ _ _ x
  · exact piece_at x0 _ x4 x5 0 4 (by omega) (by omega) _ _ _ _ x
  · exact piece_at x0 _ x4 x5 3 3 (by omega) (by omega) _ _ _ _ x
  · exact piece_at x0 _ x4 x5 2 3 (by omega) (by omega) _ _ _ _ x
  · exact piece_at x0 _ x4 x5 1 3 (by omega) (by omega) _ _ _ _ x
  · exact piece_at x0 _ x4 x5 0 3 (by omega) (by omega) _ _ _ _ x
  · exact piece_at x0 _ x4 x5 3 2 (by omega) (by omega) _ _ _ _ x
  · exact piece_at x0 _ x4 x5 2 2 (by omega) (by omega) _ _ _ _ x
  · exact piece_at x0 _ x4 x5 1 2 (by omega) (by omega) _ _ _ _ x
  · exact piece_at x0 _ x4 x5 0 2 (by omega) (by omega) _ _ _ _ x
  · exact piece_at x0 _ x4 x5 3 1 (by omega) (by omega) _ _ _ _ x
  · exact piece_at x0 _ x4 x5 2 1 (by omega) (by omega) _ _ _ _ x
  · exact piece_at x0 _ x4 x5 1 1 (by omega) (by omega) _ _ _ _ x
  · exact piece_at x0 _ x4 x5 0 1 (by omega) (by omega) _ _ _ _ x
  · exact piece_at x0 _ x4 x5 3 0 (by omega) (by omega) _ _ _ _ x
  · exact piece_at x0 _ x4 x5 2 0 (by omega) (by omega) _ _ _ _ x
  · exact piece_at x0 _ x4 x5 1 0 (by omega) (by omega) _ _ _ _ x
  · exact piece_at x0 _ x4 x5 0 0 (by omega) (by omega) _ _ _ _ x

variable (m : (ℓ : Loc nD τ sig) → Buf (Elt Ideal) ℓ)

/-- The blocks' places in their arrays. -/
theorem places : ∀ t : Fin cfg0.N,
    win0_0.index t (0 : Fin 2) = t.val ∧ win0_0.index t (1 : Fin 2) = 0
    ∧ win0_1.index t (0 : Fin 2) = t.val ∧ win0_1.index t (1 : Fin 2) = 1
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 16 := lt_of_lt_of_eq t.isLt (show cfg0.N = 16 from N_0)

/-- The first half's block. -/
theorem blk0 (c : Dev nD) (t : Fin cfg0.N) (r : Fin 512) (k : Fin 2048) :
    iblk m c 0 t (ix2 r k) = m ((c : Thread nD τ).loc main_arg0) (ix2 (⟨512 * t.val + r.val, by have := t_lt t; omega⟩ : Fin 8192) (⟨k.val, by omega⟩ : Fin 4096)) := by
  obtain ⟨h1, h2, -⟩ := places t
  blk_ext! [iblk, V, h1, h2]

/-- The second half's block. -/
theorem blk1 (c : Dev nD) (t : Fin cfg0.N) (r : Fin 512) (k : Fin 2048) :
    iblk m c 1 t (ix2 r k) = m ((c : Thread nD τ).loc main_arg0) (ix2 (⟨512 * t.val + r.val, by have := t_lt t; omega⟩ : Fin 8192) (⟨2048 + k.val, by omega⟩ : Fin 4096)) := by
  obtain ⟨-, -, h1, h2, -⟩ := places t
  blk_ext! [iblk, V, h1, h2]

/-- The scales' block. -/
theorem blk2 (c : Dev nD) (t : Fin cfg0.N) (k : Fin 2048) :
    iblk m c 2 t (ix2 (0 : Fin 1) k) = m ((c : Thread nD τ).loc main_arg1) (ix1 k) := by
  obtain ⟨-, -, -, -, h1, h2, -⟩ := places t
  blk_ext! [iblk, V, h1, h2]

/-- The shifts' block. -/
theorem blk3 (c : Dev nD) (t : Fin cfg0.N) (k : Fin 2048) :
    iblk m c 3 t (ix2 (0 : Fin 1) k) = m ((c : Thread nD τ).loc main_arg2) (ix1 k) := by
  obtain ⟨-, -, -, -, -, -, h1, h2, -⟩ := places t
  blk_ext! [iblk, V, h1, h2]

/-- The weights' block. -/
theorem blk4 (c : Dev nD) (t : Fin cfg0.N) (g : Fin 8) (a s : Fin 128) :
    iblk m c 4 t (ix3 g a s) = m ((c : Thread nD τ).loc main_arg3) (ix3 g a s) := by
  obtain ⟨-, -, -, -, -, -, -, -, h1, h2, h3, -⟩ := places t
  blk_ext! [iblk, V, h1, h2, h3]

/-- The biases' block. -/
theorem blk5 (c : Dev nD) (t : Fin cfg0.N) (a : Fin 128) (g : Fin 8) :
    iblk m c 5 t (ix2 a g) = m ((c : Thread nD τ).loc main_arg4) (ix2 g a) := by
  obtain ⟨-, -, -, -, -, -, -, -, -, -, -, h1, h2, -⟩ := places t
  blk_ext! [iblk, V, h1, h2]

/-- THE KERNEL'S RESULT at a row and a column. -/
theorem kernel_at (c : Dev nD) (row : Fin 8192) (col : Fin 2048) :
    ((dats m 0 c).arrAt 6 cfg0.N : FVec Ideal S8192x2048 .bf16) (ix2 row col)
      = value (m ((c : Thread nD τ).loc main_arg0)) (m ((c : Thread nD τ).loc main_arg1)) (m ((c : Thread nD τ).loc main_arg2))
          (m ((c : Thread nD τ).loc main_arg3)) (m ((c : Thread nD τ).loc main_arg4)) row col := by
  have hr := row.isLt
  have hc := col.isLt
  obtain ⟨t, ht⟩ : ∃ t : Fin cfg0.N, t.val = row.val / 512 := ⟨⟨row.val / 512, lt_of_lt_of_eq (by omega) N_0.symm⟩, rfl⟩
  obtain ⟨-, -, -, -, -, -, -, -, -, -, -, -, -, e1, e2⟩ := places t
  have h := congrFun (blocks6 m c t (flush0_6 t)) (ix2 (⟨row.val % 512, by omega⟩ : Fin 512) col)
  have he : ((cfg0.win 6).blk t).view.emb (ix2 (⟨row.val % 512, by omega⟩ : Fin 512) col : S512x2048.Idx) = (ix2 row col : S8192x2048.Idx) := by
    funext a; apply Fin.ext
    match a with
    | ⟨0, _⟩ => show win0_6.index t (0 : Fin 2) * 512 + 1 * (row.val % 512) = row.val; rw [e1]; omega
    | ⟨1, _⟩ => show win0_6.index t (1 : Fin 2) * 2048 + 1 * col.val = col.val; rw [e2]; omega
  have hl : ((cfg0.win 6).blk t).view.read (Elt Ideal) ((dats m 0 c).arrAt 6 cfg0.N) (ix2 (⟨row.val % 512, by omega⟩ : Fin 512) col : S512x2048.Idx)
      = ((dats m 0 c).arrAt 6 cfg0.N : FVec Ideal S8192x2048 .bf16) (ix2 row col) :=
    congrArg ((dats m 0 c).arrAt 6 cfg0.N : FVec Ideal S8192x2048 .bf16) he
  refine hl.symm.trans (h.trans ?_)
  rw [flushed6]
  refine (out_at _ _ _ _ _ _ _ _).trans ?_
  have a0 : 512 * t.val + row.val % 512 = row.val := by omega
  have a1 : row.val % 512 % 128 = row.val % 128 := by omega
  have a2 : ∀ s : ℕ, 512 * t.val + (row.val % 512 / 128 * 128 + s) = row.val / 128 * 128 + s := fun s => by omega
  unfold gated value
  simp only [norm_at, blk0, blk1, blk2, blk3, blk4, blk5, a0, a1, a2]

end Cert.Gate

end
-- ==== Proof.Row.lean ====
module

public import Idealize.ShloMosaic.PureOps.Ideal
public import Idealize.ShloMosaic.PureOps.Ideal.Laws
public import Mathlib.Data.EReal.Operations
public import Mathlib.Analysis.SpecialFunctions.Exp

@[expose] public section

noncomputable section

/-! ## One query row of an online softmax, over the extended reals

A row has query position `i`, real scores `s j` and real value rows `w j` (256 lanes); the keys `j ≤ i` count. -/

namespace Cert.Attn

open Idealize.ShloMosaic

/-- The sum over the first `n` keys, those past the query position left out, of `exp (s j - μ) * w j`. -/
def wsum (i : ℕ) (s : ℕ → ℝ) (μ : ℝ) (w : ℕ → ℝ) (n : ℕ) : ℝ :=
  ∑ j ∈ Finset.range n, if j ≤ i then Real.exp (s j - μ) * w j else 0

/-- What a row's running maximum `M` and accumulator `A` hold after the first `n` keys: nothing yet, or a real `μ` and
    the weighted sums relative to `μ`. -/
def RowInv (i : ℕ) (s : ℕ → ℝ) (w : ℕ → Fin 256 → ℝ) (n : ℕ) (M : EReal) (A : Fin 256 → EReal) : Prop :=
  (n = 0 ∧ M = ⊥ ∧ ∀ l, A l = 0) ∨
    (0 < n ∧ ∃ μ : ℝ, M = (μ : EReal) ∧ ∀ l, A l = ((wsum i s μ (fun j => w j l) n : ℝ) : EReal))

/-- Changing the reference point from `μ` to `ν` multiplies the weighted sum by `exp (μ - ν)`. -/
theorem wsum_shift (i : ℕ) (s : ℕ → ℝ) (μ ν : ℝ) (w : ℕ → ℝ) (n : ℕ) :
    Real.exp (μ - ν) * wsum i s μ w n = wsum i s ν w n := by
  unfold wsum
  rw [Finset.mul_sum]
  refine Finset.sum_congr rfl fun j _ => ?_
  split_ifs
  · rw [← mul_assoc, ← Real.exp_add]; congr 2; ring
  · simp

/-- The weighted sum over `n + K` keys is that over `n` plus the next `K` terms. -/
theorem wsum_add (i : ℕ) (s : ℕ → ℝ) (μ : ℝ) (w : ℕ → ℝ) (n K : ℕ) :
    wsum i s μ w (n + K) = wsum i s μ w n + ∑ k : Fin K, if n + k.val ≤ i then Real.exp (s (n + k.val) - μ) * w (n + k.val) else 0 := by
  unfold wsum
  rw [Finset.sum_range_add, Finset.sum_range fun k => if n + k ≤ i then Real.exp (s (n + k) - μ) * w (n + k) else 0]

/-- The coercion of a finite real sum. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The maximum of a family whose entries are real or `-∞`, one of them real, is real. -/
theorem sup_real {K : ℕ} (t : Fin K → EReal) (r : Fin K → ℝ) (P : Fin K → Prop) [DecidablePred P]
    (ht : ∀ k, t k = if P k then ((r k : ℝ) : EReal) else ⊥) (k₀ : Fin K) (h₀ : P k₀) :
    ∃ x : ℝ, Finset.univ.sup t = (x : EReal) := by
  have hb : Finset.univ.sup t ≠ ⊥ := by
    intro h
    have := Finset.le_sup (f := t) (Finset.mem_univ k₀)
    rw [h, ht, if_pos h₀] at this
    exact absurd (le_bot_iff.mp this) (EReal.coe_ne_bot _)
  have htop : Finset.univ.sup t ≠ ⊤ := by
    refine ne_of_lt ((Finset.sup_lt_iff (by simp)).mpr fun k _ => ?_)
    rw [ht]; split_ifs
    · exact EReal.coe_lt_top _
    · simp
  exact ⟨_, (EReal.coe_toReal htop hb).symm⟩

/-- ONE TILE: from `n` keys to `n + K`, with a new maximum and a rescaled accumulator; the tile's scores `t` may lack a
    constant `c` that the maximum adds back. -/
theorem RowInv.step {i : ℕ} {s : ℕ → ℝ} {w : ℕ → Fin 256 → ℝ} {n : ℕ} {M : EReal} {A : Fin 256 → EReal}
    (h : RowInv i s w n M A) {K : ℕ} (hK : 0 < K) (hn : n ≤ i) (c : ℝ) (t : Fin K → EReal) (v : Fin K → Fin 256 → EReal)
    (ht : ∀ k, t k = if n + k.val ≤ i then ((s (n + k.val) - c : ℝ) : EReal) else ⊥)
    (hv : ∀ k l, v k l = (w (n + k.val) l : EReal)) :
    RowInv i s w (n + K) (max M (Finset.univ.sup t + (c : EReal))) (fun l =>
      Ideal.exp (M - max M (Finset.univ.sup t + (c : EReal))) * A l
        + ∑ k, Ideal.exp (t k - (max M (Finset.univ.sup t + (c : EReal)) - (c : EReal))) * v k l) := by
  obtain ⟨x, hx⟩ := sup_real t (fun k => s (n + k.val) - c) (fun k => n + k.val ≤ i) ht ⟨0, hK⟩ (by simpa using hn)
  have hmax : ∃ μ' : ℝ, max M (Finset.univ.sup t + (c : EReal)) = (μ' : EReal) := by
    rw [hx, ← EReal.coe_add]
    rcases h with ⟨-, rfl, -⟩ | ⟨-, μ, rfl, -⟩
    · exact ⟨x + c, by simp⟩
    · exact ⟨max μ (x + c), (EReal.coe_strictMono.monotone.map_max).symm⟩
  obtain ⟨μ', hμ'⟩ := hmax
  refine Or.inr ⟨by omega, μ', hμ', fun l => ?_⟩
  beta_reduce
  rw [hμ']
  have hterm : ∀ k : Fin K, Ideal.exp (t k - ((μ' : EReal) - (c : EReal))) * v k l
      = (((if n + k.val ≤ i then Real.exp (s (n + k.val) - μ') * w (n + k.val) l else 0 : ℝ)) : EReal) := by
    intro k
    rw [ht, hv, ← EReal.coe_sub]
    split_ifs
    · rw [← EReal.coe_sub, Ideal.exp_coe, ← EReal.coe_mul]; congr 3; ring
    · rw [EReal.bot_sub, Ideal.exp_bot]; simp
  rw [Finset.sum_congr rfl fun k _ => hterm k, ← coe_sum]
  rw [wsum_add]
  rcases h with ⟨rfl, rfl, hA⟩ | ⟨-, μ, rfl, hA⟩
  · rw [hA, EReal.bot_sub, Ideal.exp_bot, mul_zero, zero_add]
    simp [wsum]
  · rw [hA, ← EReal.coe_sub, Ideal.exp_coe, ← EReal.coe_mul, wsum_shift, ← EReal.coe_add]

end Cert.Attn

end
-- ==== Proof.Step.lean ====
module

public import proofs.«01_k».proof.Proof.Row
public import proofs.«01_k».proof.Proof.Gen.KernelIdeal.Value
public import Idealize.ShloMosaic.Lib.Pointwise

@[expose] public section

noncomputable section

/-! ## What one block of rows computes against one tile of keys

The kernel takes its rows in blocks of 256 or of 128 and its keys in tiles of 512, 1024 or 2048; the three pairings
that occur run the same chain of operations at three shapes. -/

namespace Cert.Attn

open Idealize.ShloMosaic Idealize.SL.Sem Cert.KernelIdeal Cert.KernelIdeal.Gen

/-- The maximum's starting value is `-∞`. -/
theorem neg_inf : Ideal.ofBits .f32 4286578688#32 = ⊥ := by
  simp [Ideal.ofBits, Ideal.ieee]

/-- One tile, with the maximum written as a fold and the new maximum and accumulator given by equations. -/
theorem RowInv.block {i : ℕ} {s : ℕ → ℝ} {w : ℕ → Fin 256 → ℝ} {n : ℕ} {M : EReal} {A : Fin 256 → EReal}
    (h : RowInv i s w n M A) {K : ℕ} (hK : 0 < K) (hn : n ≤ i) {c : EReal} (c' : ℝ) (hc : c = (c' : EReal))
    (t : Fin K → EReal) (v : Fin K → Fin 256 → EReal)
    (ht : ∀ k, t k = if n + k.val ≤ i then ((s (n + k.val) - c' : ℝ) : EReal) else ⊥)
    (hv : ∀ k l, v k l = (w (n + k.val) l : EReal)) {p : EReal} {b : Fin 256 → EReal}
    (hp : p = max M (Finset.univ.fold max ⊥ t + c))
    (hb : ∀ l, b l = Ideal.exp (M - p) * A l + ∑ k, Ideal.exp (t k - (p - c)) * v k l) : RowInv i s w (n + K) p b := by
  have hs : Finset.univ.fold max ⊥ t = Finset.univ.sup t := rfl
  rw [hs] at hp
  subst hc
  have := h.step hK hn c' t v ht hv
  rw [← hp] at this
  rwa [funext hb]

/-! ### 256 rows against 512 keys -/

/-- The scores of a block of query rows against a tile of keys. -/
def score512 (q : FVec Ideal S1x256x128 .bf16) (k : FVec Ideal S512x128 .bf16) : FVec Ideal S256x512 .f32 :=
  matmul dot_S256x128_S512x128_S256x512_1_1_0_0_n_n none (shapeCast S256x128 q shapeCasts_S1x256x128_S256x128 : FVec Ideal S256x128 .bf16) k
    (constant S256x512 .f32 0#32)

/-- The block's new running maxima, from its scores and its old maxima. -/
def max512 (s : FVec Ideal S256x512 .f32) (c : EReal) (m : FVec Ideal S1x256x1 .f32) : FVec Ideal S256x1 .f32 :=
  maximumf (shapeCast S256x1 m shapeCasts_S1x256x1_S256x1)
    (addf (shapeCast S256x1 (multiReduction .maximumf [1] S256 s 4286578688#32 reduces_S256x512_S256 (.inl rfl) rfl) shapeCasts_S256_S256x1)
      (broadcast (α := Ideal .f32) S256x1 c))

/-- The block's new accumulators. -/
def acc512 (s : FVec Ideal S256x512 .f32) (c : EReal) (m : FVec Ideal S1x256x1 .f32) (a : FVec Ideal S1x256x256 .f32)
    (v : FVec Ideal S512x256 .bf16) : FVec Ideal S256x256 .f32 :=
  addf (mulf (broadcastTo S256x256 (exp (subf (shapeCast S256x1 m shapeCasts_S1x256x1_S256x1) (max512 s c m))) broadcasts_S256x1_S256x256)
      (shapeCast S256x256 a shapeCasts_S1x256x256_S256x256))
    (matmul dot_S256x512_S512x256_S256x256_1_0_0_1_n_n none
      (exp (truncf .bf16 (subf s (broadcastTo S256x512 (subf (max512 s c m) (broadcast (α := Ideal .f32) S256x1 c)) broadcasts_S256x1_S256x512)) bitsLt_bf16_f32))
      v (constant S256x256 .f32 0#32))

/-- A score is the dot product of its query row and its key row. -/
theorem score512_at (q : FVec Ideal S1x256x128 .bf16) (k : FVec Ideal S512x128 .bf16) (r : Fin 256) (j : Fin 512) :
    score512 q k (ix2 r j) = ∑ l : Fin 128, q (ix3 0 r l) * k (ix2 j l) := by
  unfold score512; pointwise

/-- A row's new maximum. -/
theorem max512_at (s : FVec Ideal S256x512 .f32) (c : EReal) (m : FVec Ideal S1x256x1 .f32) (r : Fin 256) :
    max512 s c m (ix2 r 0) = max (m (ix3 0 r 0)) (Finset.univ.fold max ⊥ (fun k => s (ix2 r k)) + c) := by
  unfold max512; pointwise; rw [neg_inf]

/-- A row's new accumulator. -/
theorem acc512_at (s : FVec Ideal S256x512 .f32) (c : EReal) (m : FVec Ideal S1x256x1 .f32) (a : FVec Ideal S1x256x256 .f32)
    (v : FVec Ideal S512x256 .bf16) (r : Fin 256) (l : Fin 256) : acc512 s c m a v (ix2 r l)
      = Ideal.exp (m (ix3 0 r 0) - max512 s c m (ix2 r 0)) * a (ix3 0 r l)
        + ∑ k : Fin 512, Ideal.exp (s (ix2 r k) - (max512 s c m (ix2 r 0) - c)) * v (ix2 k l) := by
  unfold acc512; pointwise

/-- ONE BLOCK, ONE TILE of 512 keys: each row goes from `n` keys to `n + 512`. -/
theorem RowInv.block512 {i : ℕ} {σ : ℕ → ℝ} {w : ℕ → Fin 256 → ℝ} {n : ℕ} (s : FVec Ideal S256x512 .f32) (c : EReal)
    (m : FVec Ideal S1x256x1 .f32) (a : FVec Ideal S1x256x256 .f32) (v : FVec Ideal S512x256 .bf16) (r : Fin 256)
    (h : RowInv i σ w n (m (ix3 0 r 0)) (fun l => a (ix3 0 r l))) (hn : n ≤ i) (c' : ℝ) (hc : c = (c' : EReal))
    (ht : ∀ k : Fin 512, s (ix2 r k) = if n + k.val ≤ i then ((σ (n + k.val) - c' : ℝ) : EReal) else ⊥)
    (hv : ∀ (k : Fin 512) l, v (ix2 k l) = (w (n + k.val) l : EReal)) :
    RowInv i σ w (n + 512) ((shapeCast S1x256x1 (max512 s c m) shapeCasts_S256x1_S1x256x1 : FVec Ideal S1x256x1 .f32) (ix3 0 r 0))
      (fun l => (shapeCast S1x256x256 (acc512 s c m a v) shapeCasts_S256x256_S1x256x256 : FVec Ideal S1x256x256 .f32) (ix3 0 r l)) := by
  refine h.block (by decide) hn c' hc (fun k => s (ix2 r k)) (fun k l => v (ix2 k l)) ht hv ?_ fun l => ?_
  · rw [← max512_at]; pointwise
  · have := acc512_at s c m a v r l
    pointwise
    rw [this]

/-! ### 128 rows against 1024 keys -/

/-- The scores of a block of query rows against a tile of keys. -/
def score1024 (q : FVec Ideal S1x128x128 .bf16) (k : FVec Ideal S1024x128 .bf16) : FVec Ideal S128x1024 .f32 :=
  matmul dot_S128x128_S1024x128_S128x1024_1_1_0_0_n_n none (shapeCast S128x128 q shapeCasts_S1x128x128_S128x128 : FVec Ideal S128x128 .bf16) k
    (constant S128x1024 .f32 0#32)

/-- The block's new running maxima, from its scores and its old maxima. -/
def max1024 (s : FVec Ideal S128x1024 .f32) (c : EReal) (m : FVec Ideal S1x128x1 .f32) : FVec Ideal S128x1 .f32 :=
  maximumf (shapeCast S128x1 m shapeCasts_S1x128x1_S128x1)
    (addf (shapeCast S128x1 (multiReduction .maximumf [1] S128 s 4286578688#32 reduces_S128x1024_S128 (.inl rfl) rfl) shapeCasts_S128_S128x1)
      (broadcast (α := Ideal .f32) S128x1 c))

/-- The block's new accumulators. -/
def acc1024 (s : FVec Ideal S128x1024 .f32) (c : EReal) (m : FVec Ideal S1x128x1 .f32) (a : FVec Ideal S1x128x256 .f32)
    (v : FVec Ideal S1024x256 .bf16) : FVec Ideal S128x256 .f32 :=
  addf (mulf (broadcastTo S128x256 (exp (subf (shapeCast S128x1 m shapeCasts_S1x128x1_S128x1) (max1024 s c m))) broadcasts_S128x1_S128x256)
      (shapeCast S128x256 a shapeCasts_S1x128x256_S128x256))
    (matmul dot_S128x1024_S1024x256_S128x256_1_0_0_1_n_n none
      (exp (truncf .bf16 (subf s (broadcastTo S128x1024 (subf (max1024 s c m) (broadcast (α := Ideal .f32) S128x1 c)) broadcasts_S128x1_S128x1024)) bitsLt_bf16_f32))
      v (constant S128x256 .f32 0#32))

/-- A score is the dot product of its query row and its key row. -/
theorem score1024_at (q : FVec Ideal S1x128x128 .bf16) (k : FVec Ideal S1024x128 .bf16) (r : Fin 128) (j : Fin 1024) :
    score1024 q k (ix2 r j) = ∑ l : Fin 128, q (ix3 0 r l) * k (ix2 j l) := by
  unfold score1024; pointwise

/-- A row's new maximum. -/
theorem max1024_at (s : FVec Ideal S128x1024 .f32) (c : EReal) (m : FVec Ideal S1x128x1 .f32) (r : Fin 128) :
    max1024 s c m (ix2 r 0) = max (m (ix3 0 r 0)) (Finset.univ.fold max ⊥ (fun k => s (ix2 r k)) + c) := by
  unfold max1024; pointwise; rw [neg_inf]

/-- A row's new accumulator. -/
theorem acc1024_at (s : FVec Ideal S128x1024 .f32) (c : EReal) (m : FVec Ideal S1x128x1 .f32) (a : FVec Ideal S1x128x256 .f32)
    (v : FVec Ideal S1024x256 .bf16) (r : Fin 128) (l : Fin 256) : acc1024 s c m a v (ix2 r l)
      = Ideal.exp (m (ix3 0 r 0) - max1024 s c m (ix2 r 0)) * a (ix3 0 r l)
        + ∑ k : Fin 1024, Ideal.exp (s (ix2 r k) - (max1024 s c m (ix2 r 0) - c)) * v (ix2 k l) := by
  unfold acc1024; pointwise

/-- ONE BLOCK, ONE TILE of 1024 keys: each row goes from `n` keys to `n + 1024`. -/
theorem RowInv.block1024 {i : ℕ} {σ : ℕ → ℝ} {w : ℕ → Fin 256 → ℝ} {n : ℕ} (s : FVec Ideal S128x1024 .f32) (c : EReal)
    (m : FVec Ideal S1x128x1 .f32) (a : FVec Ideal S1x128x256 .f32) (v : FVec Ideal S1024x256 .bf16) (r : Fin 128)
    (h : RowInv i σ w n (m (ix3 0 r 0)) (fun l => a (ix3 0 r l))) (hn : n ≤ i) (c' : ℝ) (hc : c = (c' : EReal))
    (ht : ∀ k : Fin 1024, s (ix2 r k) = if n + k.val ≤ i then ((σ (n + k.val) - c' : ℝ) : EReal) else ⊥)
    (hv : ∀ (k : Fin 1024) l, v (ix2 k l) = (w (n + k.val) l : EReal)) :
    RowInv i σ w (n + 1024) ((shapeCast S1x128x1 (max1024 s c m) shapeCasts_S128x1_S1x128x1 : FVec Ideal S1x128x1 .f32) (ix3 0 r 0))
      (fun l => (shapeCast S1x128x256 (acc1024 s c m a v) shapeCasts_S128x256_S1x128x256 : FVec Ideal S1x128x256 .f32) (ix3 0 r l)) := by
  refine h.block (by decide) hn c' hc (fun k => s (ix2 r k)) (fun k l => v (ix2 k l)) ht hv ?_ fun l => ?_
  · rw [← max1024_at]; pointwise
  · have := acc1024_at s c m a v r l
    pointwise
    rw [this]

/-! ### 128 rows against 2048 keys -/

/-- The scores of a block of query rows against a tile of keys. -/
def score2048 (q : FVec Ideal S1x128x128 .bf16) (k : FVec Ideal S2048x128 .bf16) : FVec Ideal S128x2048 .f32 :=
  matmul dot_S128x128_S2048x128_S128x2048_1_1_0_0_n_n none (shapeCast S128x128 q shapeCasts_S1x128x128_S128x128 : FVec Ideal S128x128 .bf16) k
    (constant S128x2048 .f32 0#32)

/-- The block's new running maxima, from its scores and its old maxima. -/
def max2048 (s : FVec Ideal S128x2048 .f32) (c : EReal) (m : FVec Ideal S1x128x1 .f32) : FVec Ideal S128x1 .f32 :=
  maximumf (shapeCast S128x1 m shapeCasts_S1x128x1_S128x1)
    (addf (shapeCast S128x1 (multiReduction .maximumf [1] S128 s 4286578688#32 reduces_S128x2048_S128 (.inl rfl) rfl) shapeCasts_S128_S128x1)
      (broadcast (α := Ideal .f32) S128x1 c))

/-- The block's new accumulators. -/
def acc2048 (s : FVec Ideal S128x2048 .f32) (c : EReal) (m : FVec Ideal S1x128x1 .f32) (a : FVec Ideal S1x128x256 .f32)
    (v : FVec Ideal S2048x256 .bf16) : FVec Ideal S128x256 .f32 :=
  addf (mulf (broadcastTo S128x256 (exp (subf (shapeCast S128x1 m shapeCasts_S1x128x1_S128x1) (max2048 s c m))) broadcasts_S128x1_S128x256)
      (shapeCast S128x256 a shapeCasts_S1x128x256_S128x256))
    (matmul dot_S128x2048_S2048x256_S128x256_1_0_0_1_n_n none
      (exp (truncf .bf16 (subf s (broadcastTo S128x2048 (subf (max2048 s c m) (broadcast (α := Ideal .f32) S128x1 c)) broadcasts_S128x1_S128x2048)) bitsLt_bf16_f32))
      v (constant S128x256 .f32 0#32))

/-- A score is the dot product of its query row and its key row. -/
theorem score2048_at (q : FVec Ideal S1x128x128 .bf16) (k : FVec Ideal S2048x128 .bf16) (r : Fin 128) (j : Fin 2048) :
    score2048 q k (ix2 r j) = ∑ l : Fin 128, q (ix3 0 r l) * k (ix2 j l) := by
  unfold score2048; pointwise

/-- A row's new maximum. -/
theorem max2048_at (s : FVec Ideal S128x2048 .f32) (c : EReal) (m : FVec Ideal S1x128x1 .f32) (r : Fin 128) :
    max2048 s c m (ix2 r 0) = max (m (ix3 0 r 0)) (Finset.univ.fold max ⊥ (fun k => s (ix2 r k)) + c) := by
  unfold max2048; pointwise; rw [neg_inf]

/-- A row's new accumulator. -/
theorem acc2048_at (s : FVec Ideal S128x2048 .f32) (c : EReal) (m : FVec Ideal S1x128x1 .f32) (a : FVec Ideal S1x128x256 .f32)
    (v : FVec Ideal S2048x256 .bf16) (r : Fin 128) (l : Fin 256) : acc2048 s c m a v (ix2 r l)
      = Ideal.exp (m (ix3 0 r 0) - max2048 s c m (ix2 r 0)) * a (ix3 0 r l)
        + ∑ k : Fin 2048, Ideal.exp (s (ix2 r k) - (max2048 s c m (ix2 r 0) - c)) * v (ix2 k l) := by
  unfold acc2048; pointwise

/-- ONE BLOCK, ONE TILE of 2048 keys: each row goes from `n` keys to `n + 2048`. -/
theorem RowInv.block2048 {i : ℕ} {σ : ℕ → ℝ} {w : ℕ → Fin 256 → ℝ} {n : ℕ} (s : FVec Ideal S128x2048 .f32) (c : EReal)
    (m : FVec Ideal S1x128x1 .f32) (a : FVec Ideal S1x128x256 .f32) (v : FVec Ideal S2048x256 .bf16) (r : Fin 128)
    (h : RowInv i σ w n (m (ix3 0 r 0)) (fun l => a (ix3 0 r l))) (hn : n ≤ i) (c' : ℝ) (hc : c = (c' : EReal))
    (ht : ∀ k : Fin 2048, s (ix2 r k) = if n + k.val ≤ i then ((σ (n + k.val) - c' : ℝ) : EReal) else ⊥)
    (hv : ∀ (k : Fin 2048) l, v (ix2 k l) = (w (n + k.val) l : EReal)) :
    RowInv i σ w (n + 2048) ((shapeCast S1x128x1 (max2048 s c m) shapeCasts_S128x1_S1x128x1 : FVec Ideal S1x128x1 .f32) (ix3 0 r 0))
      (fun l => (shapeCast S1x128x256 (acc2048 s c m a v) shapeCasts_S128x256_S1x128x256 : FVec Ideal S1x128x256 .f32) (ix3 0 r l)) := by
  refine h.block (by decide) hn c' hc (fun k => s (ix2 r k)) (fun k l => v (ix2 k l)) ht hv ?_ fun l => ?_
  · rw [← max2048_at]; pointwise
  · have := acc2048_at s c m a v r l
    pointwise
    rw [this]

end Cert.Attn

end
-- ==== Proof.Walk.lean ====
module

public import proofs.«01_k».proof.Proof.Step

@[expose] public section

noncomputable section

/-! ## Walking the row blocks of a query tile

The kernel keeps its running maxima and accumulators as lists of writes, and visits the blocks of the two attention
maps in ascending order. `Good` says how far the walk has come. -/

namespace Cert.Attn

open Idealize.ShloMosaic Idealize.SL.Sem Cert.KernelIdeal Cert.KernelIdeal.Gen

/-- The real numbers behind one query tile: the position of its first row, the query rows of the two maps, the key
    rows, the bias by distance and the value rows. -/
structure Rows where
  /-- The first row's position. -/
  qb : ℕ
  /-- Query rows, by map, row and lane. -/
  q : ℕ → ℕ → Fin 128 → ℝ
  /-- Key rows, by position and lane. -/
  k : ℕ → Fin 128 → ℝ
  /-- The bias at a distance. -/
  b : ℕ → ℝ
  /-- Value rows. -/
  w : ℕ → Fin 256 → ℝ

/-- The real score of row `r` of map `m` against key `j`. -/
def Rows.s (D : Rows) (m r j : ℕ) : ℝ := (∑ l, D.q m r l * D.k j l) + D.b (D.qb + r - j)

/-- Rows before `d` (counting both maps' rows) have seen `n'` keys and the rest `n`. -/
def Good (D : Rows) (n n' d : ℕ) (L : List (View.Piece (Elt Ideal) S2x512x1 .f32)) (A : List (View.Piece (Elt Ideal) S2x512x256 .f32)) : Prop :=
  ∀ (m : Fin 2) (r : Fin 512), RowInv (D.qb + r.val) (D.s m.val r.val) D.w (if m.val * 512 + r.val < d then n' else n)
    (View.canon L (ix3 m r 0)) (fun l => View.canon A (ix3 m r l))

/-- When every row has moved, the next tile begins. -/
theorem Good.next {D : Rows} {n n' : ℕ} {L A} (h : Good D n n' 1024 L A) (n'' : ℕ) : Good D n' n'' 0 L A := fun m r => by
  have := h m r
  rwa [if_pos (by omega)] at this

/-- At the end, a row has seen all the keys. -/
theorem Good.done {D : Rows} {n n' : ℕ} {L A} (h : Good D n n' 1024 L A) (m : Fin 2) (r : Fin 512) :
    RowInv (D.qb + r.val) (D.s m.val r.val) D.w n' (View.canon L (ix3 m r 0)) (fun l => View.canon A (ix3 m r l)) := by
  have := h m r
  rwa [if_pos (by omega)] at this

/-- The index of a block's entry in the whole array. -/
theorem idx3 {R C c0 : ℕ} (m0 r0 l0 : ℕ) (h : ∀ a, (![m0, r0, l0] : Fin 3 → ℕ) a + (![1, R, C] : Fin 3 → ℕ) a ≤ (⟨3, ![2, 512, c0]⟩ : Shape).size a)
    (hm : m0 < 2) (r : Fin R) (hr : r0 + r.val < 512) (l : Fin C) (hl : l0 + l.val < c0) :
    (Rect.unit (s := ⟨3, ![2, 512, c0]⟩) ![m0, r0, l0] ![1, R, C] h).emb (ix3 0 r l) = ix3 (⟨m0, hm⟩ : Fin 2) (⟨r0 + r.val, hr⟩ : Fin 512) (⟨l0 + l.val, hl⟩ : Fin c0) := by
  funext a
  refine Fin.ext ?_
  fin_cases a <;> simp [Rect.emb, Rect.unit, ix3]

/-- A row of the block starting at `(m0, r0)` as the canonical contents of the writes hold it, read back through a load. -/
theorem read3 {sig : RefSig} {κ : Kind} {sp : Space} {e : EltTy} {R C c0 : ℕ} (V : View sig κ sp (⟨3, ![2, 512, c0]⟩ : Shape) e)
    (L : List (View.Piece (Elt Ideal) (⟨3, ![2, 512, c0]⟩ : Shape) e)) (m0 r0 : ℕ)
    (h : ∀ a, (![m0, r0, 0] : Fin 3 → ℕ) a + (![1, R, C] : Fin 3 → ℕ) a ≤ (⟨3, ![2, 512, c0]⟩ : Shape).size a)
    (hm : m0 < 2) (r : Fin R) (hr : r0 + r.val < 512) (l : Fin C) (hl : l.val < c0) :
    V.readCov L (Rect.unit (s := ⟨3, ![2, 512, c0]⟩) ![m0, r0, 0] ![1, R, C] h).toLoadRect (ix3 0 r l)
      = View.canon L (ix3 (⟨m0, hm⟩ : Fin 2) (⟨r0 + r.val, hr⟩ : Fin 512) (⟨l.val, hl⟩ : Fin c0)) := by
  rw [View.readCov_eq_canon']
  refine congrArg (View.canon L) ((idx3 m0 r0 0 h hm r hr l (by omega)).trans ?_)
  congr 2; simp

/-- The same for a load through contents known as writes over junk. -/
theorem readAt3 {sig : RefSig} {κ : Kind} {sp : Space} {e : EltTy} {R C c0 : ℕ} (V : View sig κ sp (⟨3, ![2, 512, c0]⟩ : Shape) e)
    (L : List (View.Piece (Elt Ideal) (⟨3, ![2, 512, c0]⟩ : Shape) e)) (m0 r0 : ℕ)
    (h : ∀ a, (![m0, r0, 0] : Fin 3 → ℕ) a + (![1, R, C] : Fin 3 → ℕ) a ≤ (⟨3, ![2, 512, c0]⟩ : Shape).size a)
    (hm : m0 < 2) (r : Fin R) (hr : r0 + r.val < 512) (l : Fin C) (hl : l.val < c0) :
    V.readAt (Elt Ideal) (Rect.unit (s := ⟨3, ![2, 512, c0]⟩) ![m0, r0, 0] ![1, R, C] h).toLoadRect (V.writes (Elt Ideal) V.junk L) (ix3 0 r l)
      = View.canon L (ix3 (⟨m0, hm⟩ : Fin 2) (⟨r0 + r.val, hr⟩ : Fin 512) (⟨l.val, hl⟩ : Fin c0)) := by
  rw [View.readAt_writes_junk_eq_canon]
  refine congrArg (View.canon L) ((idx3 m0 r0 0 h hm r hr l (by omega)).trans ?_)
  congr 2; simp

/-- A block not yet visited still holds its old rows: read through loads of the writes so far. -/
theorem Good.old {D : Rows} {n n' d : ℕ} {L A} (h : Good D n n' d L A) {sig : RefSig} {κ : Kind} {sp : Space}
    (V : View sig κ sp S2x512x1 .f32) (W : View sig κ sp S2x512x256 .f32) {R : ℕ} (m0 r0 : ℕ)
    (h₁ : ∀ a, (![m0, r0, 0] : Fin 3 → ℕ) a + (![1, R, 1] : Fin 3 → ℕ) a ≤ S2x512x1.size a)
    (h₂ : ∀ a, (![m0, r0, 0] : Fin 3 → ℕ) a + (![1, R, 256] : Fin 3 → ℕ) a ≤ S2x512x256.size a)
    (hm : m0 < 2) (hR : r0 + R ≤ 512) (hd : d ≤ m0 * 512 + r0) (r : Fin R) :
    RowInv (D.qb + (r0 + r.val)) (D.s m0 (r0 + r.val)) D.w n
      (V.readCov L (Rect.unit (s := S2x512x1) ![m0, r0, 0] ![1, R, 1] h₁).toLoadRect (ix3 0 r 0))
      (fun l => W.readCov A (Rect.unit (s := S2x512x256) ![m0, r0, 0] ![1, R, 256] h₂).toLoadRect (ix3 0 r l)) := by
  have hr : r0 + r.val < 512 := by omega
  have := h ⟨m0, hm⟩ ⟨r0 + r.val, hr⟩
  rw [if_neg (by simp only; omega)] at this
  refine Eq.mp ?_ this
  congr 1
  · exact (read3 V L m0 r0 h₁ hm r hr 0 (by simp)).symm
  · funext l; exact (read3 W A m0 r0 h₂ hm r hr l (by omega)).symm

/-- The same through contents known as writes over junk. -/
theorem Good.oldAt {D : Rows} {n n' d : ℕ} {L A} (h : Good D n n' d L A) {sig : RefSig} {κ : Kind} {sp : Space}
    (V : View sig κ sp S2x512x1 .f32) (W : View sig κ sp S2x512x256 .f32) {R : ℕ} (m0 r0 : ℕ)
    (h₁ : ∀ a, (![m0, r0, 0] : Fin 3 → ℕ) a + (![1, R, 1] : Fin 3 → ℕ) a ≤ S2x512x1.size a)
    (h₂ : ∀ a, (![m0, r0, 0] : Fin 3 → ℕ) a + (![1, R, 256] : Fin 3 → ℕ) a ≤ S2x512x256.size a)
    (hm : m0 < 2) (hR : r0 + R ≤ 512) (hd : d ≤ m0 * 512 + r0) (r : Fin R) :
    RowInv (D.qb + (r0 + r.val)) (D.s m0 (r0 + r.val)) D.w n
      (V.readAt (Elt Ideal) (Rect.unit (s := S2x512x1) ![m0, r0, 0] ![1, R, 1] h₁).toLoadRect (V.writes (Elt Ideal) V.junk L) (ix3 0 r 0))
      (fun l => W.readAt (Elt Ideal) (Rect.unit (s := S2x512x256) ![m0, r0, 0] ![1, R, 256] h₂).toLoadRect (W.writes (Elt Ideal) W.junk A) (ix3 0 r l)) := by
  have hr : r0 + r.val < 512 := by omega
  have := h ⟨m0, hm⟩ ⟨r0 + r.val, hr⟩
  rw [if_neg (by simp only; omega)] at this
  refine Eq.mp ?_ this
  congr 1
  · exact (readAt3 V L m0 r0 h₁ hm r hr 0 (by simp)).symm
  · funext l; exact (readAt3 W A m0 r0 h₂ hm r hr l (by omega)).symm

/-- An index of the whole array inside a block is one of the block's. -/
theorem canon_block {R C c0 : ℕ} (m0 r0 : ℕ) (h : ∀ a, (![m0, r0, 0] : Fin 3 → ℕ) a + (![1, R, C] : Fin 3 → ℕ) a ≤ (⟨3, ![2, 512, c0]⟩ : Shape).size a)
    (p : (⟨3, ![1, R, C]⟩ : Shape).Idx → Elt Ideal .f32) (L : List (View.Piece (Elt Ideal) (⟨3, ![2, 512, c0]⟩ : Shape) .f32))
    (m : Fin 2) (r : Fin 512) (l : Fin C) (hl : l.val < c0) (hm : m.val = m0) (r' : Fin R) (hr : r.val = r0 + r'.val) :
    View.canon (⟨Rect.unit (s := ⟨3, ![2, 512, c0]⟩) ![m0, r0, 0] ![1, R, C] h, p⟩ :: L) (ix3 m r ⟨l.val, hl⟩) = p (ix3 0 r' l) := by
  have e : ix3 m r (⟨l.val, hl⟩ : Fin c0) = (Rect.unit (s := ⟨3, ![2, 512, c0]⟩) ![m0, r0, 0] ![1, R, C] h).emb (ix3 0 r' l) := by
    rw [idx3 m0 r0 0 h (by omega) r' (by omega) l (by omega)]
    congr 1 <;> exact Fin.ext (by simp [hm, hr])
  rw [e]
  exact View.canon_cons_emb (Rect.unit (s := ⟨3, ![2, 512, c0]⟩) ![m0, r0, 0] ![1, R, C] h) p L (ix3 0 r' l)

/-- An index of the whole array outside a block reads the earlier writes. -/
theorem canon_off {R C c0 : ℕ} (m0 r0 : ℕ) (h : ∀ a, (![m0, r0, 0] : Fin 3 → ℕ) a + (![1, R, C] : Fin 3 → ℕ) a ≤ (⟨3, ![2, 512, c0]⟩ : Shape).size a)
    (p : (⟨3, ![1, R, C]⟩ : Shape).Idx → Elt Ideal .f32) (L : List (View.Piece (Elt Ideal) (⟨3, ![2, 512, c0]⟩ : Shape) .f32))
    (m : Fin 2) (r : Fin 512) (l : Fin c0) (hn : ¬(m.val = m0 ∧ r0 ≤ r.val ∧ r.val < r0 + R)) :
    View.canon (⟨Rect.unit (s := ⟨3, ![2, 512, c0]⟩) ![m0, r0, 0] ![1, R, C] h, p⟩ :: L) (ix3 m r l) = View.canon L (ix3 m r l) := by
  refine View.canon_cons_of_not_mem _ L fun hmem => hn ?_
  rw [Rect.mem_set_unit] at hmem
  have h0 : m0 ≤ m.val ∧ m.val < m0 + 1 := hmem 0
  have h1 : r0 ≤ r.val ∧ r.val < r0 + R := hmem 1
  omega

/-- ONE BLOCK MOVED: the next block's rows, now at `n'` keys, go on top of the writes so far. -/
theorem Good.push {D : Rows} {n n' d : ℕ} {L A} (h : Good D n n' d L A) {R : ℕ} (m0 r0 : ℕ)
    (h₁ : ∀ a, (![m0, r0, 0] : Fin 3 → ℕ) a + (![1, R, 1] : Fin 3 → ℕ) a ≤ S2x512x1.size a)
    (h₂ : ∀ a, (![m0, r0, 0] : Fin 3 → ℕ) a + (![1, R, 256] : Fin 3 → ℕ) a ≤ S2x512x256.size a)
    (hR : r0 + R ≤ 512) (hd : d = m0 * 512 + r0) (d' : ℕ) (hd' : d' = d + R)
    (p : (⟨3, ![1, R, 1]⟩ : Shape).Idx → Elt Ideal .f32) (b : (⟨3, ![1, R, 256]⟩ : Shape).Idx → Elt Ideal .f32)
    (hnew : ∀ r : Fin R, RowInv (D.qb + (r0 + r.val)) (D.s m0 (r0 + r.val)) D.w n' (p (ix3 0 r 0)) (fun l => b (ix3 0 r l))) :
    Good D n n' d' (⟨Rect.unit (s := S2x512x1) ![m0, r0, 0] ![1, R, 1] h₁, p⟩ :: L)
      (⟨Rect.unit (s := S2x512x256) ![m0, r0, 0] ![1, R, 256] h₂, b⟩ :: A) := fun m r => by
  subst hd hd'
  by_cases hin : m.val = m0 ∧ r0 ≤ r.val ∧ r.val < r0 + R
  · obtain ⟨hm, hlo, hhi⟩ := hin
    rw [if_pos (by omega)]
    have := hnew ⟨r.val - r0, by omega⟩
    have hr : r0 + (r.val - r0) = r.val := by omega
    simp only [hr, ← hm] at this
    refine Eq.mp ?_ this
    congr 1
    · exact (canon_block m0 r0 h₁ p L m r 0 (by simp) hm ⟨r.val - r0, by omega⟩ (by simp; omega)).symm
    · funext l; exact (canon_block m0 r0 h₂ b A m r l (by omega) hm ⟨r.val - r0, by omega⟩ (by simp; omega)).symm
  · have := h m r
    have hc : (m.val * 512 + r.val < m0 * 512 + r0 + R) ↔ m.val * 512 + r.val < m0 * 512 + r0 := by omega
    simp only [hc]
    refine Eq.mp ?_ this
    congr 1
    · exact (canon_off m0 r0 h₁ p L m r 0 hin).symm
    · funext l; exact (canon_off m0 r0 h₂ b A m r l hin).symm

end Cert.Attn

end
-- ==== Proof.Tile.lean ====
module

public import proofs.«01_k».proof.Proof.Walk

@[expose] public section

noncomputable section

/-! ## One block of rows against one tile of keys, on top of the walk

A far tile adds the last bucket's bias as a constant; a near tile adds a bias array that is `-∞` past the diagonal. -/

namespace Cert.Attn

open Idealize.ShloMosaic Idealize.SL.Sem Cert.KernelIdeal Cert.KernelIdeal.Gen

/-- A dot product of two real rows is their real dot product. -/
theorem dot_real (f g : Fin 128 → ℝ) : (∑ l, ((f l : ℝ) : EReal) * ((g l : ℝ) : EReal)) = ((∑ l, f l * g l : ℝ) : EReal) := by
  rw [coe_sum]; exact Finset.sum_congr rfl fun l _ => (EReal.coe_mul _ _).symm

/-- A real dot product plus a bias that is real up to the diagonal and `-∞` past it. -/
theorem near_score {D : Rows} {m0 ρ j : ℕ} {b : EReal} (hb : b = if j ≤ D.qb + ρ then ((D.b (D.qb + ρ - j) : ℝ) : EReal) else ⊥) :
    ((∑ l, D.q m0 ρ l * D.k j l : ℝ) : EReal) + b = if j ≤ D.qb + ρ then ((D.s m0 ρ j - 0 : ℝ) : EReal) else ⊥ := by
  rw [hb]
  split_ifs
  · rw [← EReal.coe_add, sub_zero]; rfl
  · exact EReal.add_bot _

/-- A real dot product against a key far before the row is the score less the far bias. -/
theorem far_score {D : Rows} {m0 ρ j : ℕ} {c' : ℝ} (hfar : ∀ x, 128 ≤ x → D.b x = c') (hj : j + 128 ≤ D.qb + ρ) :
    ((∑ l, D.q m0 ρ l * D.k j l : ℝ) : EReal) = if j ≤ D.qb + ρ then ((D.s m0 ρ j - c' : ℝ) : EReal) else ⊥ := by
  rw [if_pos (by omega), Rows.s, hfar _ (by omega), add_sub_cancel_right]

/-- A far tile of 512 keys, for the block of 256 rows at `(m0, r0)`. -/
theorem Good.far512 {D : Rows} {n d : ℕ} {L A} (h : Good D n (n + 512) d L A) (m0 r0 : ℕ)
    {h₁ : ∀ a, (![m0, r0, 0] : Fin 3 → ℕ) a + S1x256x1.size a ≤ S2x512x1.size a}
    {h₂ : ∀ a, (![m0, r0, 0] : Fin 3 → ℕ) a + S1x256x256.size a ≤ S2x512x256.size a}
    (hR : r0 + 256 ≤ 512) (hd : d = m0 * 512 + r0) (d' : ℕ) (hd' : d' = d + 256)
    {q : FVec Ideal S1x256x128 .bf16} {k : FVec Ideal S512x128 .bf16} {c : EReal} {m : FVec Ideal S1x256x1 .f32}
    {a : FVec Ideal S1x256x256 .f32} {v : FVec Ideal S512x256 .bf16}
    (hold : ∀ r : Fin 256, RowInv (D.qb + (r0 + r.val)) (D.s m0 (r0 + r.val)) D.w n (m (ix3 0 r 0)) (fun l => a (ix3 0 r l)))
    (hq : ∀ (r : Fin 256) l, q (ix3 0 r l) = ((D.q m0 (r0 + r.val) l : ℝ) : EReal))
    (hk : ∀ (j : Fin 512) l, k (ix2 j l) = ((D.k (n + j.val) l : ℝ) : EReal))
    (hv : ∀ (j : Fin 512) l, v (ix2 j l) = ((D.w (n + j.val) l : ℝ) : EReal)) {c' : ℝ} (hc : c = (c' : EReal))
    (hfar : ∀ x, 128 ≤ x → D.b x = c') (hn : n + 512 + 512 ≤ D.qb) :
    Good D n (n + 512) d'
      (⟨Rect.unit (s := S2x512x1) ![m0, r0, 0] S1x256x1.size h₁, (shapeCast S1x256x1 (max512 (score512 q k) c m) shapeCasts_S256x1_S1x256x1 : FVec Ideal S1x256x1 .f32)⟩ :: L)
      (⟨Rect.unit (s := S2x512x256) ![m0, r0, 0] S1x256x256.size h₂, (shapeCast S1x256x256 (acc512 (score512 q k) c m a v) shapeCasts_S256x256_S1x256x256 : FVec Ideal S1x256x256 .f32)⟩ :: A) := by
  refine h.push m0 r0 h₁ h₂ hR hd d' hd' _ _ fun r => ?_
  refine RowInv.block512 _ c m a v r (hold r) (by omega) c' hc (fun j => ?_) hv
  rw [score512_at, Finset.sum_congr rfl fun l _ => congrArg₂ (· * ·) (hq r l) (hk j l), dot_real]
  exact far_score hfar (by omega)

/-- The same, the old rows and the query rows read back through loads of the writes so far. -/
theorem Good.far512C {D : Rows} {n d : ℕ} {L A} (h : Good D n (n + 512) d L A) (m0 r0 : ℕ) {sig : RefSig} {κ : Kind} {sp : Space}
    {V : View sig κ sp S2x512x1 .f32} {W : View sig κ sp S2x512x256 .f32} {U : View sig κ sp S2x512x128 .bf16}
    {Q : List (View.Piece (Elt Ideal) S2x512x128 .bf16)}
    {h₁ : ∀ a, (![m0, r0, 0] : Fin 3 → ℕ) a + S1x256x1.size a ≤ S2x512x1.size a}
    {h₂ : ∀ a, (![m0, r0, 0] : Fin 3 → ℕ) a + S1x256x256.size a ≤ S2x512x256.size a}
    {h₃ : ∀ a, (![m0, r0, 0] : Fin 3 → ℕ) a + S1x256x128.size a ≤ S2x512x128.size a}
    (hm : m0 < 2) (hR : r0 + 256 ≤ 512) (hd : d = m0 * 512 + r0) (d' : ℕ) (hd' : d' = d + 256)
    {k : FVec Ideal S512x128 .bf16} {c : EReal} {v : FVec Ideal S512x256 .bf16}
    (hQ : ∀ (m : Fin 2) (r : Fin 512) l, View.canon Q (ix3 m r l) = ((D.q m.val r.val l : ℝ) : EReal))
    (hk : ∀ (j : Fin 512) l, k (ix2 j l) = ((D.k (n + j.val) l : ℝ) : EReal))
    (hv : ∀ (j : Fin 512) l, v (ix2 j l) = ((D.w (n + j.val) l : ℝ) : EReal)) {c' : ℝ} (hc : c = (c' : EReal))
    (hfar : ∀ x, 128 ≤ x → D.b x = c') (hn : n + 512 + 512 ≤ D.qb) :
    Good D n (n + 512) d'
      (⟨Rect.unit (s := S2x512x1) ![m0, r0, 0] S1x256x1.size h₁, (shapeCast S1x256x1 (max512 (score512 (U.readCov Q (Rect.unit (s := S2x512x128) ![m0, r0, 0] S1x256x128.size h₃).toLoadRect) k) c
          (V.readCov L (Rect.unit (s := S2x512x1) ![m0, r0, 0] S1x256x1.size h₁).toLoadRect)) shapeCasts_S256x1_S1x256x1 : FVec Ideal S1x256x1 .f32)⟩ :: L)
      (⟨Rect.unit (s := S2x512x256) ![m0, r0, 0] S1x256x256.size h₂, (shapeCast S1x256x256 (acc512 (score512 (U.readCov Q (Rect.unit (s := S2x512x128) ![m0, r0, 0] S1x256x128.size h₃).toLoadRect) k) c
          (V.readCov L (Rect.unit (s := S2x512x1) ![m0, r0, 0] S1x256x1.size h₁).toLoadRect)
          (W.readCov A (Rect.unit (s := S2x512x256) ![m0, r0, 0] S1x256x256.size h₂).toLoadRect) v) shapeCasts_S256x256_S1x256x256 : FVec Ideal S1x256x256 .f32)⟩ :: A) :=
  h.far512 m0 r0 hR hd d' hd' (h.old V W m0 r0 h₁ h₂ hm hR (by omega))
    (fun r l => (read3 U Q m0 r0 h₃ hm r (by omega) l l.isLt).trans (hQ _ _ _)) hk hv hc hfar hn

/-- A near tile of 512 keys, for the block of 256 rows at `(m0, r0)`. -/
theorem Good.near512 {D : Rows} {n d : ℕ} {L A} (h : Good D n (n + 512) d L A) (m0 r0 : ℕ)
    {h₁ : ∀ a, (![m0, r0, 0] : Fin 3 → ℕ) a + S1x256x1.size a ≤ S2x512x1.size a}
    {h₂ : ∀ a, (![m0, r0, 0] : Fin 3 → ℕ) a + S1x256x256.size a ≤ S2x512x256.size a}
    (hR : r0 + 256 ≤ 512) (hd : d = m0 * 512 + r0) (d' : ℕ) (hd' : d' = d + 256)
    {q : FVec Ideal S1x256x128 .bf16} {k : FVec Ideal S512x128 .bf16} {c : EReal} {m : FVec Ideal S1x256x1 .f32}
    {a : FVec Ideal S1x256x256 .f32} {v : FVec Ideal S512x256 .bf16} {b : FVec Ideal S256x512 .f32}
    (hold : ∀ r : Fin 256, RowInv (D.qb + (r0 + r.val)) (D.s m0 (r0 + r.val)) D.w n (m (ix3 0 r 0)) (fun l => a (ix3 0 r l)))
    (hq : ∀ (r : Fin 256) l, q (ix3 0 r l) = ((D.q m0 (r0 + r.val) l : ℝ) : EReal))
    (hk : ∀ (j : Fin 512) l, k (ix2 j l) = ((D.k (n + j.val) l : ℝ) : EReal))
    (hv : ∀ (j : Fin 512) l, v (ix2 j l) = ((D.w (n + j.val) l : ℝ) : EReal)) (hc : c = ((0 : ℝ) : EReal))
    (hb : ∀ (r : Fin 256) (j : Fin 512), b (ix2 r j)
      = if n + j.val ≤ D.qb + (r0 + r.val) then ((D.b (D.qb + (r0 + r.val) - (n + j.val)) : ℝ) : EReal) else ⊥) (hn : n ≤ D.qb) :
    Good D n (n + 512) d'
      (⟨Rect.unit (s := S2x512x1) ![m0, r0, 0] S1x256x1.size h₁, (shapeCast S1x256x1 (max512 (addf (score512 q k) b) c m) shapeCasts_S256x1_S1x256x1 : FVec Ideal S1x256x1 .f32)⟩ :: L)
      (⟨Rect.unit (s := S2x512x256) ![m0, r0, 0] S1x256x256.size h₂, (shapeCast S1x256x256 (acc512 (addf (score512 q k) b) c m a v) shapeCasts_S256x256_S1x256x256 : FVec Ideal S1x256x256 .f32)⟩ :: A) := by
  refine h.push m0 r0 h₁ h₂ hR hd d' hd' _ _ fun r => ?_
  refine RowInv.block512 _ c m a v r (hold r) (by omega) 0 hc (fun j => ?_) hv
  show score512 q k (ix2 r j) + b (ix2 r j) = _
  rw [score512_at, Finset.sum_congr rfl fun l _ => congrArg₂ (· * ·) (hq r l) (hk j l), dot_real]
  exact near_score (hb r j)

/-- The same, the old rows and the query rows read back through loads of the writes so far. -/
theorem Good.near512C {D : Rows} {n d : ℕ} {L A} (h : Good D n (n + 512) d L A) (m0 r0 : ℕ) {sig : RefSig} {κ : Kind} {sp : Space}
    {V : View sig κ sp S2x512x1 .f32} {W : View sig κ sp S2x512x256 .f32} {U : View sig κ sp S2x512x128 .bf16}
    {Q : List (View.Piece (Elt Ideal) S2x512x128 .bf16)}
    {h₁ : ∀ a, (![m0, r0, 0] : Fin 3 → ℕ) a + S1x256x1.size a ≤ S2x512x1.size a}
    {h₂ : ∀ a, (![m0, r0, 0] : Fin 3 → ℕ) a + S1x256x256.size a ≤ S2x512x256.size a}
    {h₃ : ∀ a, (![m0, r0, 0] : Fin 3 → ℕ) a + S1x256x128.size a ≤ S2x512x128.size a}
    (hm : m0 < 2) (hR : r0 + 256 ≤ 512) (hd : d = m0 * 512 + r0) (d' : ℕ) (hd' : d' = d + 256)
    {k : FVec Ideal S512x128 .bf16} {c : EReal} {v : FVec Ideal S512x256 .bf16} {b : FVec Ideal S256x512 .f32}
    (hQ : ∀ (m : Fin 2) (r : Fin 512) l, View.canon Q (ix3 m r l) = ((D.q m.val r.val l : ℝ) : EReal))
    (hk : ∀ (j : Fin 512) l, k (ix2 j l) = ((D.k (n + j.val) l : ℝ) : EReal))
    (hv : ∀ (j : Fin 512) l, v (ix2 j l) = ((D.w (n + j.val) l : ℝ) : EReal)) (hc : c = ((0 : ℝ) : EReal))
    (hb : ∀ (r : Fin 256) (j : Fin 512), b (ix2 r j)
      = if n + j.val ≤ D.qb + (r0 + r.val) then ((D.b (D.qb + (r0 + r.val) - (n + j.val)) : ℝ) : EReal) else ⊥) (hn : n ≤ D.qb) :
    Good D n (n + 512) d'
      (⟨Rect.unit (s := S2x512x1) ![m0, r0, 0] S1x256x1.size h₁, (shapeCast S1x256x1 (max512 (addf (score512 (U.readCov Q (Rect.unit (s := S2x512x128) ![m0, r0, 0] S1x256x128.size h₃).toLoadRect) k) b) c
          (V.readCov L (Rect.unit (s := S2x512x1) ![m0, r0, 0] S1x256x1.size h₁).toLoadRect)) shapeCasts_S256x1_S1x256x1 : FVec Ideal S1x256x1 .f32)⟩ :: L)
      (⟨Rect.unit (s := S2x512x256) ![m0, r0, 0] S1x256x256.size h₂, (shapeCast S1x256x256 (acc512 (addf (score512 (U.readCov Q (Rect.unit (s := S2x512x128) ![m0, r0, 0] S1x256x128.size h₃).toLoadRect) k) b) c
          (V.readCov L (Rect.unit (s := S2x512x1) ![m0, r0, 0] S1x256x1.size h₁).toLoadRect)
          (W.readCov A (Rect.unit (s := S2x512x256) ![m0, r0, 0] S1x256x256.size h₂).toLoadRect) v) shapeCasts_S256x256_S1x256x256 : FVec Ideal S1x256x256 .f32)⟩ :: A) :=
  h.near512 m0 r0 hR hd d' hd' (h.old V W m0 r0 h₁ h₂ hm hR (by omega))
    (fun r l => (read3 U Q m0 r0 h₃ hm r (by omega) l l.isLt).trans (hQ _ _ _)) hk hv hc hb hn

/-- A far tile of 1024 keys, for the block of 128 rows at `(m0, r0)`. -/
theorem Good.far1024 {D : Rows} {n d : ℕ} {L A} (h : Good D n (n + 1024) d L A) (m0 r0 : ℕ)
    {h₁ : ∀ a, (![m0, r0, 0] : Fin 3 → ℕ) a + S1x128x1.size a ≤ S2x512x1.size a}
    {h₂ : ∀ a, (![m0, r0, 0] : Fin 3 → ℕ) a + S1x128x256.size a ≤ S2x512x256.size a}
    (hR : r0 + 128 ≤ 512) (hd : d = m0 * 512 + r0) (d' : ℕ) (hd' : d' = d + 128)
    {q : FVec Ideal S1x128x128 .bf16} {k : FVec Ideal S1024x128 .bf16} {c : EReal} {m : FVec Ideal S1x128x1 .f32}
    {a : FVec Ideal S1x128x256 .f32} {v : FVec Ideal S1024x256 .bf16}
    (hold : ∀ r : Fin 128, RowInv (D.qb + (r0 + r.val)) (D.s m0 (r0 + r.val)) D.w n (m (ix3 0 r 0)) (fun l => a (ix3 0 r l)))
    (hq : ∀ (r : Fin 128) l, q (ix3 0 r l) = ((D.q m0 (r0 + r.val) l : ℝ) : EReal))
    (hk : ∀ (j : Fin 1024) l, k (ix2 j l) = ((D.k (n + j.val) l : ℝ) : EReal))
    (hv : ∀ (j : Fin 1024) l, v (ix2 j l) = ((D.w (n + j.val) l : ℝ) : EReal)) {c' : ℝ} (hc : c = (c' : EReal))
    (hfar : ∀ x, 128 ≤ x → D.b x = c') (hn : n + 1024 + 512 ≤ D.qb) :
    Good D n (n + 1024) d'
      (⟨Rect.unit (s := S2x512x1) ![m0, r0, 0] S1x128x1.size h₁, (shapeCast S1x128x1 (max1024 (score1024 q k) c m) shapeCasts_S128x1_S1x128x1 : FVec Ideal S1x128x1 .f32)⟩ :: L)
      (⟨Rect.unit (s := S2x512x256) ![m0, r0, 0] S1x128x256.size h₂, (shapeCast S1x128x256 (acc1024 (score1024 q k) c m a v) shapeCasts_S128x256_S1x128x256 : FVec Ideal S1x128x256 .f32)⟩ :: A) := by
  refine h.push m0 r0 h₁ h₂ hR hd d' hd' _ _ fun r => ?_
  refine RowInv.block1024 _ c m a v r (hold r) (by omega) c' hc (fun j => ?_) hv
  rw [score1024_at, Finset.sum_congr rfl fun l _ => congrArg₂ (· * ·) (hq r l) (hk j l), dot_real]
  exact far_score hfar (by omega)

/-- The same, the old rows and the query rows read back through loads of the writes so far. -/
theorem Good.far1024C {D : Rows} {n d : ℕ} {L A} (h : Good D n (n + 1024) d L A) (m0 r0 : ℕ) {sig : RefSig} {κ : Kind} {sp : Space}
    {V : View sig κ sp S2x512x1 .f32} {W : View sig κ sp S2x512x256 .f32} {U : View sig κ sp S2x512x128 .bf16}
    {Q : List (View.Piece (Elt Ideal) S2x512x128 .bf16)}
    {h₁ : ∀ a, (![m0, r0, 0] : Fin 3 → ℕ) a + S1x128x1.size a ≤ S2x512x1.size a}
    {h₂ : ∀ a, (![m0, r0, 0] : Fin 3 → ℕ) a + S1x128x256.size a ≤ S2x512x256.size a}
    {h₃ : ∀ a, (![m0, r0, 0] : Fin 3 → ℕ) a + S1x128x128.size a ≤ S2x512x128.size a}
    (hm : m0 < 2) (hR : r0 + 128 ≤ 512) (hd : d = m0 * 512 + r0) (d' : ℕ) (hd' : d' = d + 128)
    {k : FVec Ideal S1024x128 .bf16} {c : EReal} {v : FVec Ideal S1024x256 .bf16}
    (hQ : ∀ (m : Fin 2) (r : Fin 512) l, View.canon Q (ix3 m r l) = ((D.q m.val r.val l : ℝ) : EReal))
    (hk : ∀ (j : Fin 1024) l, k (ix2 j l) = ((D.k (n + j.val) l : ℝ) : EReal))
    (hv : ∀ (j : Fin 1024) l, v (ix2 j l) = ((D.w (n + j.val) l : ℝ) : EReal)) {c' : ℝ} (hc : c = (c' : EReal))
    (hfar : ∀ x, 128 ≤ x → D.b x = c') (hn : n + 1024 + 512 ≤ D.qb) :
    Good D n (n + 1024) d'
      (⟨Rect.unit (s := S2x512x1) ![m0, r0, 0] S1x128x1.size h₁, (shapeCast S1x128x1 (max1024 (score1024 (U.readCov Q (Rect.unit (s := S2x512x128) ![m0, r0, 0] S1x128x128.size h₃).toLoadRect) k) c
          (V.readCov L (Rect.unit (s := S2x512x1) ![m0, r0, 0] S1x128x1.size h₁).toLoadRect)) shapeCasts_S128x1_S1x128x1 : FVec Ideal S1x128x1 .f32)⟩ :: L)
      (⟨Rect.unit (s := S2x512x256) ![m0, r0, 0] S1x128x256.size h₂, (shapeCast S1x128x256 (acc1024 (score1024 (U.readCov Q (Rect.unit (s := S2x512x128) ![m0, r0, 0] S1x128x128.size h₃).toLoadRect) k) c
          (V.readCov L (Rect.unit (s := S2x512x1) ![m0, r0, 0] S1x128x1.size h₁).toLoadRect)
          (W.readCov A (Rect.unit (s := S2x512x256) ![m0, r0, 0] S1x128x256.size h₂).toLoadRect) v) shapeCasts_S128x256_S1x128x256 : FVec Ideal S1x128x256 .f32)⟩ :: A) :=
  h.far1024 m0 r0 hR hd d' hd' (h.old V W m0 r0 h₁ h₂ hm hR (by omega))
    (fun r l => (read3 U Q m0 r0 h₃ hm r (by omega) l l.isLt).trans (hQ _ _ _)) hk hv hc hfar hn

/-- A near tile of 1024 keys, for the block of 128 rows at `(m0, r0)`. -/
theorem Good.near1024 {D : Rows} {n d : ℕ} {L A} (h : Good D n (n + 1024) d L A) (m0 r0 : ℕ)
    {h₁ : ∀ a, (![m0, r0, 0] : Fin 3 → ℕ) a + S1x128x1.size a ≤ S2x512x1.size a}
    {h₂ : ∀ a, (![m0, r0, 0] : Fin 3 → ℕ) a + S1x128x256.size a ≤ S2x512x256.size a}
    (hR : r0 + 128 ≤ 512) (hd : d = m0 * 512 + r0) (d' : ℕ) (hd' : d' = d + 128)
    {q : FVec Ideal S1x128x128 .bf16} {k : FVec Ideal S1024x128 .bf16} {c : EReal} {m : FVec Ideal S1x128x1 .f32}
    {a : FVec Ideal S1x128x256 .f32} {v : FVec Ideal S1024x256 .bf16} {b : FVec Ideal S128x1024 .f32}
    (hold : ∀ r : Fin 128, RowInv (D.qb + (r0 + r.val)) (D.s m0 (r0 + r.val)) D.w n (m (ix3 0 r 0)) (fun l => a (ix3 0 r l)))
    (hq : ∀ (r : Fin 128) l, q (ix3 0 r l) = ((D.q m0 (r0 + r.val) l : ℝ) : EReal))
    (hk : ∀ (j : Fin 1024) l, k (ix2 j l) = ((D.k (n + j.val) l : ℝ) : EReal))
    (hv : ∀ (j : Fin 1024) l, v (ix2 j l) = ((D.w (n + j.val) l : ℝ) : EReal)) (hc : c = ((0 : ℝ) : EReal))
    (hb : ∀ (r : Fin 128) (j : Fin 1024), b (ix2 r j)
      = if n + j.val ≤ D.qb + (r0 + r.val) then ((D.b (D.qb + (r0 + r.val) - (n + j.val)) : ℝ) : EReal) else ⊥) (hn : n ≤ D.qb) :
    Good D n (n + 1024) d'
      (⟨Rect.unit (s := S2x512x1) ![m0, r0, 0] S1x128x1.size h₁, (shapeCast S1x128x1 (max1024 (addf (score1024 q k) b) c m) shapeCasts_S128x1_S1x128x1 : FVec Ideal S1x128x1 .f32)⟩ :: L)
      (⟨Rect.unit (s := S2x512x256) ![m0, r0, 0] S1x128x256.size h₂, (shapeCast S1x128x256 (acc1024 (addf (score1024 q k) b) c m a v) shapeCasts_S128x256_S1x128x256 : FVec Ideal S1x128x256 .f32)⟩ :: A) := by
  refine h.push m0 r0 h₁ h₂ hR hd d' hd' _ _ fun r => ?_
  refine RowInv.block1024 _ c m a v r (hold r) (by omega) 0 hc (fun j => ?_) hv
  show score1024 q k (ix2 r j) + b (ix2 r j) = _
  rw [score1024_at, Finset.sum_congr rfl fun l _ => congrArg₂ (· * ·) (hq r l) (hk j l), dot_real]
  exact near_score (hb r j)

/-- The same, the old rows and the query rows read back through loads of the writes so far. -/
theorem Good.near1024C {D : Rows} {n d : ℕ} {L A} (h : Good D n (n + 1024) d L A) (m0 r0 : ℕ) {sig : RefSig} {κ : Kind} {sp : Space}
    {V : View sig κ sp S2x512x1 .f32} {W : View sig κ sp S2x512x256 .f32} {U : View sig κ sp S2x512x128 .bf16}
    {Q : List (View.Piece (Elt Ideal) S2x512x128 .bf16)}
    {h₁ : ∀ a, (![m0, r0, 0] : Fin 3 → ℕ) a + S1x128x1.size a ≤ S2x512x1.size a}
    {h₂ : ∀ a, (![m0, r0, 0] : Fin 3 → ℕ) a + S1x128x256.size a ≤ S2x512x256.size a}
    {h₃ : ∀ a, (![m0, r0, 0] : Fin 3 → ℕ) a + S1x128x128.size a ≤ S2x512x128.size a}
    (hm : m0 < 2) (hR : r0 + 128 ≤ 512) (hd : d = m0 * 512 + r0) (d' : ℕ) (hd' : d' = d + 128)
    {k : FVec Ideal S1024x128 .bf16} {c : EReal} {v : FVec Ideal S1024x256 .bf16} {b : FVec Ideal S128x1024 .f32}
    (hQ : ∀ (m : Fin 2) (r : Fin 512) l, View.canon Q (ix3 m r l) = ((D.q m.val r.val l : ℝ) : EReal))
    (hk : ∀ (j : Fin 1024) l, k (ix2 j l) = ((D.k (n + j.val) l : ℝ) : EReal))
    (hv : ∀ (j : Fin 1024) l, v (ix2 j l) = ((D.w (n + j.val) l : ℝ) : EReal)) (hc : c = ((0 : ℝ) : EReal))
    (hb : ∀ (r : Fin 128) (j : Fin 1024), b (ix2 r j)
      = if n + j.val ≤ D.qb + (r0 + r.val) then ((D.b (D.qb + (r0 + r.val) - (n + j.val)) : ℝ) : EReal) else ⊥) (hn : n ≤ D.qb) :
    Good D n (n + 1024) d'
      (⟨Rect.unit (s := S2x512x1) ![m0, r0, 0] S1x128x1.size h₁, (shapeCast S1x128x1 (max1024 (addf (score1024 (U.readCov Q (Rect.unit (s := S2x512x128) ![m0, r0, 0] S1x128x128.size h₃).toLoadRect) k) b) c
          (V.readCov L (Rect.unit (s := S2x512x1) ![m0, r0, 0] S1x128x1.size h₁).toLoadRect)) shapeCasts_S128x1_S1x128x1 : FVec Ideal S1x128x1 .f32)⟩ :: L)
      (⟨Rect.unit (s := S2x512x256) ![m0, r0, 0] S1x128x256.size h₂, (shapeCast S1x128x256 (acc1024 (addf (score1024 (U.readCov Q (Rect.unit (s := S2x512x128) ![m0, r0, 0] S1x128x128.size h₃).toLoadRect) k) b) c
          (V.readCov L (Rect.unit (s := S2x512x1) ![m0, r0, 0] S1x128x1.size h₁).toLoadRect)
          (W.readCov A (Rect.unit (s := S2x512x256) ![m0, r0, 0] S1x128x256.size h₂).toLoadRect) v) shapeCasts_S128x256_S1x128x256 : FVec Ideal S1x128x256 .f32)⟩ :: A) :=
  h.near1024 m0 r0 hR hd d' hd' (h.old V W m0 r0 h₁ h₂ hm hR (by omega))
    (fun r l => (read3 U Q m0 r0 h₃ hm r (by omega) l l.isLt).trans (hQ _ _ _)) hk hv hc hb hn

/-- A far tile of 2048 keys, for the block of 128 rows at `(m0, r0)`. -/
theorem Good.far2048 {D : Rows} {n d : ℕ} {L A} (h : Good D n (n + 2048) d L A) (m0 r0 : ℕ)
    {h₁ : ∀ a, (![m0, r0, 0] : Fin 3 → ℕ) a + S1x128x1.size a ≤ S2x512x1.size a}
    {h₂ : ∀ a, (![m0, r0, 0] : Fin 3 → ℕ) a + S1x128x256.size a ≤ S2x512x256.size a}
    (hR : r0 + 128 ≤ 512) (hd : d = m0 * 512 + r0) (d' : ℕ) (hd' : d' = d + 128)
    {q : FVec Ideal S1x128x128 .bf16} {k : FVec Ideal S2048x128 .bf16} {c : EReal} {m : FVec Ideal S1x128x1 .f32}
    {a : FVec Ideal S1x128x256 .f32} {v : FVec Ideal S2048x256 .bf16}
    (hold : ∀ r : Fin 128, RowInv (D.qb + (r0 + r.val)) (D.s m0 (r0 + r.val)) D.w n (m (ix3 0 r 0)) (fun l => a (ix3 0 r l)))
    (hq : ∀ (r : Fin 128) l, q (ix3 0 r l) = ((D.q m0 (r0 + r.val) l : ℝ) : EReal))
    (hk : ∀ (j : Fin 2048) l, k (ix2 j l) = ((D.k (n + j.val) l : ℝ) : EReal))
    (hv : ∀ (j : Fin 2048) l, v (ix2 j l) = ((D.w (n + j.val) l : ℝ) : EReal)) {c' : ℝ} (hc : c = (c' : EReal))
    (hfar : ∀ x, 128 ≤ x → D.b x = c') (hn : n + 2048 + 512 ≤ D.qb) :
    Good D n (n + 2048) d'
      (⟨Rect.unit (s := S2x512x1) ![m0, r0, 0] S1x128x1.size h₁, (shapeCast S1x128x1 (max2048 (score2048 q k) c m) shapeCasts_S128x1_S1x128x1 : FVec Ideal S1x128x1 .f32)⟩ :: L)
      (⟨Rect.unit (s := S2x512x256) ![m0, r0, 0] S1x128x256.size h₂, (shapeCast S1x128x256 (acc2048 (score2048 q k) c m a v) shapeCasts_S128x256_S1x128x256 : FVec Ideal S1x128x256 .f32)⟩ :: A) := by
  refine h.push m0 r0 h₁ h₂ hR hd d' hd' _ _ fun r => ?_
  refine RowInv.block2048 _ c m a v r (hold r) (by omega) c' hc (fun j => ?_) hv
  rw [score2048_at, Finset.sum_congr rfl fun l _ => congrArg₂ (· * ·) (hq r l) (hk j l), dot_real]
  exact far_score hfar (by omega)

end Cert.Attn

end
-- ==== Proof.Final.lean ====
module

public import proofs.«01_k».proof.Proof.Tile

@[expose] public section

set_option maxRecDepth 16384

noncomputable section

/-! ## The last step of a query tile

Dividing the accumulators by their lane of ones gives each map's attention; the difference of the two maps is then
normalised. -/

namespace Cert.Attn

open Idealize.ShloMosaic Idealize.SL.Sem Cert.KernelIdeal Cert.KernelIdeal.Gen

/-- Softmax attention of a row at position `i` with scores `s`, over the keys `j ≤ i`, of the values `v`. -/
def att (i : ℕ) (s v : ℕ → ℝ) : ℝ :=
  (∑ j ∈ Finset.range (i + 1), Real.exp (s j) * v j) / ∑ j ∈ Finset.range (i + 1), Real.exp (s j)

/-- The weighted sum over more keys than the row sees is, up to its reference point, that over the keys it sees. -/
theorem wsum_all (i : ℕ) (s : ℕ → ℝ) (μ : ℝ) (w : ℕ → ℝ) {n : ℕ} (hn : i < n) :
    wsum i s μ w n = Real.exp (-μ) * ∑ j ∈ Finset.range (i + 1), Real.exp (s j) * w j := by
  unfold wsum
  rw [Finset.mul_sum, ← Finset.sum_filter]
  refine Finset.sum_congr ?_ fun j _ => ?_
  · ext j; simp; omega
  · rw [sub_eq_add_neg, Real.exp_add]; ring

/-- The sum of a row's exponentials is positive. -/
theorem expsum_pos (i : ℕ) (s : ℕ → ℝ) : 0 < ∑ j ∈ Finset.range (i + 1), Real.exp (s j) :=
  Finset.sum_pos (fun _ _ => Real.exp_pos _) ⟨0, by simp⟩

/-- Division of reals, the divisor not zero. -/
theorem div_real (a b : ℝ) (hb : b ≠ 0) : Ideal.div (a : EReal) (b : EReal) = ((a / b : ℝ) : EReal) := by
  rw [Ideal.div_coe hb, ← EReal.coe_mul, mul_one_div]

/-- A row that has seen all its keys: an accumulator lane over the lane of ones is the attention. -/
theorem RowInv.att {i : ℕ} {s : ℕ → ℝ} {w : ℕ → Fin 256 → ℝ} {n : ℕ} {M : EReal} {A : Fin 256 → EReal} (h : RowInv i s w n M A)
    (hn : i < n) (hw : ∀ j, w j 128 = 1) (l : Fin 256) : Ideal.div (A l) (A 128) = ((att i s fun j => w j l : ℝ) : EReal) := by
  obtain ⟨h0, -⟩ | ⟨-, μ, -, hA⟩ := h
  · omega
  · have h1 := wsum_all i s μ (fun j => w j 128) hn
    simp only [hw, mul_one] at h1
    have hpos := mul_pos (Real.exp_pos (-μ)) (expsum_pos i s)
    rw [hA, hA, div_real _ _ (by simp only [hw]; rw [h1]; exact hpos.ne')]
    simp only [hw]
    rw [h1, wsum_all i s μ _ hn, mul_div_mul_left _ _ (Real.exp_pos _).ne', Attn.att]

/-- The normalised, weighted and scaled output row made of the difference row `y`. -/
def outRow (y g : Fin 128 → EReal) (l : Fin 128) : EReal :=
  y l * Ideal.rsqrt (Ideal.div (∑ x, y x * y x) (Ideal.ofBits FTy.f32 1124073472#32) + Ideal.ofBits FTy.f32 897988541#32) * g l
    * Ideal.ofBits FTy.f32 1061997773#32

/-- The weight of the second map: the difference of the two exponentials of the lambda vectors' products, and a constant. -/
def lamOf (x : Fin 4 → Fin 64 → EReal) : EReal :=
  Ideal.exp (∑ l, x 0 l * x 1 l) - Ideal.exp (∑ l, x 2 l * x 3 l) + Ideal.ofBits FTy.f32 1045220557#32

/-- What the kernel computes of the lambda vectors. -/
theorem pay244_at (x : FVec Ideal S4x64 .f32) : (k0_pay244 x : FVec Ideal S1x1 .f32) (ix2 0 0) = lamOf fun a l => x (ix2 a l) := by
  unfold k0_pay244 lamOf; pointwise

/-- What the kernel's last step stores at a row and lane. -/
theorem pay1_at (lam : FVec Ideal S1x1 .f32) (a0 a1 : FVec Ideal S1x512x256 .f32) (g : FVec Ideal S1x128 .f32) (r : Fin 512) (l : Fin 128) :
    (k0_pay1 lam a0 a1 g : FVec Ideal S512x128 .bf16) (ix2 r l)
      = outRow (fun x => Ideal.div (a0 (ix3 0 r ⟨x.val, by omega⟩)) (a0 (ix3 0 r 128))
          - lam (ix2 0 0) * Ideal.div (a1 (ix3 0 r ⟨x.val, by omega⟩)) (a1 (ix3 0 r 128))) (fun x => g (ix2 0 x)) l := by
  unfold k0_pay1 outRow; pointwise

/-- The last step over a walk that has seen all the keys: the difference of the two maps' attention, normalised. -/
theorem pay1_of_good {D : Rows} {n n' : ℕ} {A : List (View.Piece (Elt Ideal) S2x512x256 .f32)} (hg : ∃ L, Good D n n' 1024 L A)
    (hn : D.qb + 512 ≤ n') (hw : ∀ j, D.w j 128 = 1) {sig : RefSig} {κ : Kind} {sp : Space} (V : View sig κ sp S2x512x256 .f32)
    (lam : FVec Ideal S1x1 .f32) (g : FVec Ideal S1x128 .f32) (r : Fin 512) (l : Fin 128) :
    (k0_pay1 lam (V.readCov A (Rect.unit (s := S2x512x256) ![0, 0, 0] S1x512x256.size inb_S2x512x256_S1x512x256_0_0_0).toLoadRect)
      (V.readCov A (Rect.unit (s := S2x512x256) ![1, 0, 0] S1x512x256.size inb_S2x512x256_S1x512x256_1_0_0).toLoadRect) g
        : FVec Ideal S512x128 .bf16) (ix2 r l)
      = outRow (fun x => ((att (D.qb + r.val) (D.s 0 r.val) (fun j => D.w j ⟨x.val, by omega⟩) : ℝ) : EReal)
          - lam (ix2 0 0) * ((att (D.qb + r.val) (D.s 1 r.val) (fun j => D.w j ⟨x.val, by omega⟩) : ℝ) : EReal)) (fun x => g (ix2 0 x)) l := by
  obtain ⟨L, hg⟩ := hg
  have key : ∀ (m0 : ℕ) (hm : m0 < 2) (h : ∀ a, (![m0, 0, 0] : Fin 3 → ℕ) a + (![1, 512, 256] : Fin 3 → ℕ) a ≤ S2x512x256.size a) (x : Fin 256),
      Ideal.div (V.readCov A (Rect.unit (s := S2x512x256) ![m0, 0, 0] ![1, 512, 256] h).toLoadRect (ix3 0 r x))
        (V.readCov A (Rect.unit (s := S2x512x256) ![m0, 0, 0] ![1, 512, 256] h).toLoadRect (ix3 0 r 128))
        = ((att (D.qb + r.val) (D.s m0 r.val) (fun j => D.w j x) : ℝ) : EReal) := fun m0 hm h x => by
    have e : ∀ y : Fin 256, V.readCov A (Rect.unit (s := S2x512x256) ![m0, 0, 0] ![1, 512, 256] h).toLoadRect (ix3 0 r y)
        = View.canon A (ix3 (⟨m0, hm⟩ : Fin 2) r y) := fun y =>
      (read3 V A m0 0 h hm r (by omega) y y.isLt).trans (congrArg (View.canon A) (congrArg₂ (fun a b => ix3 _ a b) (Fin.ext (by simp)) rfl))
    rw [e, e]
    exact (hg.done ⟨m0, hm⟩ r).att (by omega) hw x
  rw [pay1_at]
  congr 1
  funext x
  exact congrArg₂ (fun a b => a - lam (ix2 0 0) * b) (key 0 (by omega) _ _) (key 1 (by omega) _ _)

end Cert.Attn

end
-- ==== Proof.Point.lean ====
module

public import proofs.«01_k».proof.Proof.Final

@[expose] public section

set_option maxRecDepth 16384

noncomputable section

/-! ## The data of one query tile, and the kernel's readers of it -/

namespace Cert.Attn

open Idealize.ShloMosaic Idealize.SL.Sem Cert.KernelIdeal Cert.KernelIdeal.Gen

/-- The real data of one query tile of one head of one batch entry. -/
structure Pt where
  /-- The first query row's position. -/
  qb : ℕ
  /-- Query rows, both maps' lanes side by side. -/
  q : ℕ → Fin 128 → ℝ
  /-- Key rows, by position, both maps' lanes side by side. -/
  k : ℕ → Fin 128 → ℝ
  /-- The bias at a distance. -/
  b : ℕ → ℝ
  /-- Value rows, by position. -/
  v : ℕ → Fin 128 → ℝ

/-- The kernel's rows of the data: the query lanes scaled by an eighth, the lanes of the other map cleared, and the
    values followed by ones. -/
def Pt.rows (D : Pt) : Rows where
  qb := D.qb
  q m r l := if (m = 0 ↔ l.val < 64) then D.q r l * (1 / 8) else 0
  k := D.k
  b := D.b
  w j l := if h : l.val < 128 then D.v j ⟨l.val, h⟩ else 1

/-- The bf16 word of an eighth. -/
theorem eighth : Ideal.ofBits FTy.bf16 15872#16 = (((1 / 8 : ℝ)) : EReal) := by
  simp only [Ideal.ofBits, Ideal.ieee]; simp; rw [← EReal.coe_mul]; norm_num

/-- Zero offsets. -/
theorem z3 : (![0, 0, 0] : Fin 3 → ℕ) = fun _ => 0 := by funext a; fin_cases a <;> rfl

/-- Zero offsets. -/
theorem z2 : (![0, 0] : Fin 2 → ℕ) = fun _ => 0 := by funext a; fin_cases a <;> rfl

/-- A store of the whole output block leaves its payload. -/
theorem canon_whole (p : FVec Ideal S512x128 .bf16) (h : ∀ a, (![0, 0] : Fin 2 → ℕ) a + S512x128.size a ≤ S512x128.size a) (j : S512x128.Idx) :
    View.canon (Val := Elt Ideal) (e := .bf16) [⟨Rect.unit (s := S512x128) ![0, 0] S512x128.size h, p⟩] j = p j := by
  have := View.canon_unit_zero (Val := Elt Ideal) (S := S512x128) (e := .bf16) (off := ![0, 0]) z2 h p
  rw [this]

/-- After the initial fills no row has seen a key. -/
theorem Good.start (D : Rows) (n' : ℕ) {h₁ h₂} : Good D 0 n' 0
    [⟨Rect.unit (s := S2x512x1) ![0, 0, 0] S2x512x1.size h₁, (k0_pay211 : FVec Ideal S2x512x1 .f32)⟩]
    [⟨Rect.unit (s := S2x512x256) ![0, 0, 0] S2x512x256.size h₂, (k0_pay212 : FVec Ideal S2x512x256 .f32)⟩] := fun m r => by
  rw [if_neg (by omega)]
  refine Or.inl ⟨rfl, ?_, fun l => ?_⟩
  · have := View.canon_unit_zero (Val := Elt Ideal) (S := S2x512x1) (e := .f32) (off := ![0, 0, 0]) z3 h₁ (k0_pay211 : FVec Ideal S2x512x1 .f32)
    rw [this]
    unfold k0_pay211; pointwise
    exact IdealRules.named_const.ideal_named_scalar _ _ _ _ rfl
  · have := View.canon_unit_zero (Val := Elt Ideal) (S := S2x512x256) (e := .f32) (off := ![0, 0, 0]) z3 h₂ (k0_pay212 : FVec Ideal S2x512x256 .f32)
    beta_reduce
    rw [this]
    unfold k0_pay212; pointwise

/-- Loops that make no trips write nothing. -/
theorem Good.loops {D : Rows} {n n' : ℕ} {L A} (h : Good D n n' 0 L A)
    {X Y : List (View.Piece (Elt Ideal) S2x512x1 .f32) × List (View.Piece (Elt Ideal) S2x512x256 .f32)} (hX : X = ([], [])) (hY : Y = ([], [])) :
    Good D n n' 0 (Y.1 ++ (X.1 ++ L)) (Y.2 ++ (X.2 ++ A)) := by
  subst hX hY; exact h

/-- A first loop's writes, followed by a loop that makes no trips. -/
theorem Good.loop {D : Rows} {n n' : ℕ} {L A}
    {X Y : List (View.Piece (Elt Ideal) S2x512x1 .f32) × List (View.Piece (Elt Ideal) S2x512x256 .f32)} (hX : Good D n n' 0 (X.1 ++ L) (X.2 ++ A)) (hY : Y = ([], [])) :
    Good D n n' 0 (Y.1 ++ (X.1 ++ L)) (Y.2 ++ (X.2 ++ A)) := by
  subst hY; exact hX

/-- A block of a two-dimensional array, read by a load at an offset. -/
theorem rows_read {sig : RefSig} {κ : Kind} {sp : Space} {e : EltTy} {a c R C : ℕ} {M : Memref sig κ sp (⟨2, ![a, c]⟩ : Shape) e} (hM : M.IsWhole)
    (x : Vec Ideal (⟨2, ![a, c]⟩ : Shape) e) (off : Fin 2 → ℕ) (h : ∀ d, off d + (![R, C] : Fin 2 → ℕ) d ≤ (⟨2, ![a, c]⟩ : Shape).size d)
    {n t : ℕ} (ho : off = ![n, t]) (j : Fin R) (l : Fin C) (hj : n + j.val < a) (hl : t + l.val < c) :
    M.view.readAt (Elt Ideal) (Rect.unit (s := ⟨2, ![a, c]⟩) off ![R, C] h).toLoadRect (hM.unread x) (ix2 j l) = x (ix2 ⟨n + j.val, hj⟩ ⟨t + l.val, hl⟩) := by
  subst ho
  rw [View.readAt_apply, hM.read_unread]
  refine congrArg x ?_
  funext d; refine Fin.ext ?_
  fin_cases d <;> simp [LoadRect.idx, Rect.toLoadRect, Rect.emb, Rect.unit, ix2]

/-- The same through a load of the writes made so far. -/
theorem rows_cov {sig : RefSig} {κ : Kind} {sp : Space} {e : EltTy} {a c R C : ℕ} (V : View sig κ sp (⟨2, ![a, c]⟩ : Shape) e)
    (L : List (View.Piece (Elt Ideal) (⟨2, ![a, c]⟩ : Shape) e)) (off : Fin 2 → ℕ) (h : ∀ d, off d + (![R, C] : Fin 2 → ℕ) d ≤ (⟨2, ![a, c]⟩ : Shape).size d)
    {n t : ℕ} (ho : off = ![n, t]) (j : Fin R) (l : Fin C) (hj : n + j.val < a) (hl : t + l.val < c) :
    V.readCov L (Rect.unit (s := ⟨2, ![a, c]⟩) off ![R, C] h).toLoadRect (ix2 j l) = View.canon L (ix2 ⟨n + j.val, hj⟩ ⟨t + l.val, hl⟩) := by
  subst ho
  rw [View.readCov_eq_canon']
  refine congrArg (View.canon L) ?_
  funext d; refine Fin.ext ?_
  fin_cases d <;> simp [Rect.emb, Rect.unit, ix2]

/-- A load of a whole array. -/
theorem full_read {sig : RefSig} {κ : Kind} {sp : Space} {s : Shape} {e : EltTy} {M : Memref sig κ sp s e} (hM : M.IsWhole) (x : Vec Ideal s e)
    {off : Fin s.rank → ℕ} (ho : off = fun _ => 0) (h : ∀ d, off d + s.size d ≤ s.size d) :
    M.view.readAt (Elt Ideal) (Rect.unit off s.size h).toLoadRect (hM.unread x) = x := by
  subst ho
  funext y
  rw [View.readAt_apply, hM.read_unread]
  exact congrArg x (funext fun a => Fin.ext (by simp [LoadRect.idx, Rect.toLoadRect, Rect.emb, Rect.unit]))

/-- The lane mask of the first map. -/
theorem mask_lt : ∀ l : Fin 128, IntOp.cmpi CmpIPredicate.slt (BitVec.ofNat 32 l.val) 64#32 = if l.val < 64 then 1#1 else 0#1 := by decide +kernel

/-- The lane mask of the second map. -/
theorem mask_ge : ∀ l : Fin 128, IntOp.cmpi CmpIPredicate.sge (BitVec.ofNat 32 l.val) 64#32 = if l.val < 64 then 0#1 else 1#1 := by decide +kernel

/-- The two maps' masked query rows, as stored. -/
theorem Pt.hQ (D : Pt) {sig : RefSig} {κ : Kind} {sp : Space} {M : Memref sig κ sp S512x128 .bf16} (hM : M.IsWhole) (x : Vec Ideal S512x128 .bf16)
    (hx : ∀ (r : Fin 512) l, x (ix2 r l) = ((D.q r.val l : ℝ) : EReal)) {h₀ h₁ h h'} (m : Fin 2) (r : Fin 512) (l : Fin 128) :
    View.canon (Val := Elt Ideal) (e := .bf16) [⟨Rect.unit (s := S2x512x128) ![1, 0, 0] S1x512x128.size h₁,
        (k0_pay216 (k0_pay213 (M.view.readAt (Elt Ideal) (Rect.unit (s := S512x128) ![0, 0] S512x128.size h).toLoadRect (hM.unread x))) k0_pay215
          (FloatOps.ofBits FTy.bf16 0#16) : FVec Ideal S1x512x128 .bf16)⟩,
      ⟨Rect.unit (s := S2x512x128) ![0, 0, 0] S1x512x128.size h₀,
        (k0_pay214 (M.view.readAt (Elt Ideal) (Rect.unit (s := S512x128) ![0, 0] S512x128.size h').toLoadRect (hM.unread x)) : FVec Ideal S1x512x128 .bf16)⟩]
      (ix3 m r l) = ((D.rows.q m.val r.val l : ℝ) : EReal) := by
  have hf := full_read hM x (off := ![0, 0]) z2 h
  rw [hf]
  have e : ∀ (m0 : ℕ) (hm : m0 < 2) (hh : ∀ a, (![m0, 0, 0] : Fin 3 → ℕ) a + (![1, 512, 128] : Fin 3 → ℕ) a ≤ S2x512x128.size a),
      (Rect.unit (s := S2x512x128) ![m0, 0, 0] ![1, 512, 128] hh).emb (ix3 0 r l) = ix3 (⟨m0, hm⟩ : Fin 2) r l := fun m0 hm hh =>
    (idx3 m0 0 0 hh hm r (by omega) l (by omega)).trans (congrArg₂ (fun a b => ix3 _ a b) (Fin.ext (by simp)) (Fin.ext (by simp)))
  fin_cases m
  · refine (View.canon_cons_of_not_mem _ _ fun hmem => ?_).trans ?_
    · rw [Rect.mem_set_unit] at hmem
      have h0 : 1 ≤ 0 ∧ _ := hmem 0
      exact absurd h0.1 (by omega)
    · refine (congrArg (View.canon _) (e 0 (by omega) h₀).symm).trans ((View.canon_cons_emb (Rect.unit (s := S2x512x128) ![0, 0, 0] S1x512x128.size h₀) _ _ _).trans ?_)
      have : (k0_pay214 x : FVec Ideal S1x512x128 .bf16) (ix3 0 r l)
          = Scalar.select (IntOp.cmpi CmpIPredicate.slt (BitVec.ofNat 32 ↑l) 64#32) (x (ix2 r l) * Ideal.ofBits FTy.bf16 15872#16) 0 := by
        unfold k0_pay214 k0_pay213; pointwise
      refine this.trans ?_
      rw [hx, eighth, ← EReal.coe_mul, mask_lt l]
      simp only [Pt.rows]
      by_cases hl : l.val < 64 <;> simp [hl, Scalar.select]
  · refine (congrArg (View.canon _) (e 1 (by omega) h₁).symm).trans ((View.canon_cons_emb (Rect.unit (s := S2x512x128) ![1, 0, 0] S1x512x128.size h₁) _ _ _).trans ?_)
    have : (k0_pay216 (k0_pay213 x) k0_pay215 (FloatOps.ofBits FTy.bf16 0#16) : FVec Ideal S1x512x128 .bf16) (ix3 0 r l)
        = Scalar.select (IntOp.cmpi CmpIPredicate.sge (BitVec.ofNat 32 ↑l) 64#32) (x (ix2 r l) * Ideal.ofBits FTy.bf16 15872#16) 0 := by
      unfold k0_pay216 k0_pay213 k0_pay215; pointwise
    refine this.trans ?_
    rw [hx, eighth, ← EReal.coe_mul, mask_ge l]
    simp only [Pt.rows]
    by_cases hl : l.val < 64 <;> simp [hl, Scalar.select]

/-- The values with the ones beside them, as stored. -/
theorem Pt.hV (D : Pt) {sig : RefSig} {κ : Kind} {sp : Space} {M : Memref sig κ sp S4096x128 .bf16} (hM : M.IsWhole) (x : Vec Ideal S4096x128 .bf16)
    (hx : ∀ (j : Fin 4096) l, x (ix2 j l) = ((D.v j.val l : ℝ) : EReal)) {h₀ h₁ h} (j : Fin 4096) (l : Fin 256) :
    View.canon (Val := Elt Ideal) (e := .bf16) [⟨Rect.unit (s := S4096x256) ![0, 128] S4096x128.size h₁, (k0_pay210 : FVec Ideal S4096x128 .bf16)⟩,
      ⟨Rect.unit (s := S4096x256) ![0, 0] S4096x128.size h₀,
        (k0_pay209 (M.view.readAt (Elt Ideal) (Rect.unit (s := S4096x128) ![0, 0] S4096x128.size h).toLoadRect (hM.unread x)) : FVec Ideal S4096x128 .bf16)⟩]
      (ix2 j l) = ((D.rows.w j.val l : ℝ) : EReal) := by
  have hf := full_read hM x (off := ![0, 0]) z2 h
  rw [hf]
  have e : ∀ (t : ℕ) (hh : ∀ a, (![0, t] : Fin 2 → ℕ) a + (![4096, 128] : Fin 2 → ℕ) a ≤ S4096x256.size a) (l' : Fin 128) (_ : t + l'.val = l.val),
      (Rect.unit (s := S4096x256) ![0, t] ![4096, 128] hh).emb (ix2 j l') = ix2 j l := fun t hh l' hl => by
    funext d; refine Fin.ext ?_
    fin_cases d <;> simp [Rect.emb, Rect.unit, ix2, hl]
  by_cases hl : l.val < 128
  · refine (View.canon_cons_of_not_mem _ _ fun hmem => ?_).trans ?_
    · rw [Rect.mem_set_unit] at hmem
      have h0 : 128 ≤ l.val ∧ _ := hmem 1
      exact absurd h0.1 (by omega)
    · refine (congrArg (View.canon _) (e 0 h₀ ⟨l.val, hl⟩ (by simp)).symm).trans ((View.canon_cons_emb (Rect.unit (s := S4096x256) ![0, 0] S4096x128.size h₀) _ _ _).trans ?_)
      have : (k0_pay209 x : FVec Ideal S4096x128 .bf16) (ix2 j ⟨l.val, hl⟩) = x (ix2 j ⟨l.val, hl⟩) := by unfold k0_pay209; pointwise
      refine this.trans ?_
      rw [hx]; simp only [Pt.rows, dif_pos hl]
  · refine (congrArg (View.canon _) (e 128 h₁ ⟨l.val - 128, by omega⟩ (by show 128 + (l.val - 128) = l.val; omega)).symm).trans ((View.canon_cons_emb (Rect.unit (s := S4096x256) ![0, 128] S4096x128.size h₁) _ _ _).trans ?_)
    have : (k0_pay210 : FVec Ideal S4096x128 .bf16) (ix2 j ⟨l.val - 128, by omega⟩) = 1 := by unfold k0_pay210; pointwise
    refine this.trans ?_
    simp only [Pt.rows, dif_neg hl]; simp

end Cert.Attn

end
-- ==== Proof.Reads.lean ====
module

public import proofs.«01_k».proof.Proof.Point

@[expose] public section

set_option maxRecDepth 16384

noncomputable section

/-! ## What the kernel's loads of one query tile's data give -/

namespace Cert.Attn

open Idealize.ShloMosaic Idealize.SL.Sem Cert.KernelIdeal Cert.KernelIdeal.Gen

/-- The zero word. -/
theorem zero_word : (FloatOps.ofBits FTy.f32 0#32 : Ideal .f32) = ((0 : ℝ) : EReal) := by
  show Ideal.ofBits FTy.f32 0#32 = _
  simp [Ideal.ofBits, Ideal.ieee]

/-- A load of key rows. -/
theorem Pt.hk (D : Pt) {sig : RefSig} {κ : Kind} {sp : Space} {M : Memref sig κ sp S4096x128 .bf16} (hM : M.IsWhole) {x : Vec Ideal S4096x128 .bf16}
    (hx : ∀ (j : Fin 4096) l, x (ix2 j l) = ((D.k j.val l : ℝ) : EReal)) {K n : ℕ} {off : Fin 2 → ℕ} (ho : off = ![n, 0]) (hK : n + K ≤ 4096)
    {h : ∀ d, off d + (![K, 128] : Fin 2 → ℕ) d ≤ S4096x128.size d} (j : Fin K) (l : Fin 128) :
    M.view.readAt (Elt Ideal) (Rect.unit (s := S4096x128) off ![K, 128] h).toLoadRect (hM.unread x) (ix2 j l) = ((D.rows.k (n + j.val) l : ℝ) : EReal) := by
  refine (rows_read hM x off h ho j l (by omega) (by omega)).trans ?_
  have : (⟨0 + l.val, by omega⟩ : Fin 128) = l := Fin.ext (by simp)
  rw [this]; exact hx _ _

/-- A load of the values with their ones, of contents that hold them. -/
theorem Pt.hv (D : Pt) {sig : RefSig} {κ : Kind} {sp : Space} {M : Memref sig κ sp S4096x256 .bf16} (hM : M.IsWhole) {x : Vec Ideal S4096x256 .bf16}
    (hx : ∀ (j : Fin 4096) l, x (ix2 j l) = ((D.rows.w j.val l : ℝ) : EReal)) {K n : ℕ} {off : Fin 2 → ℕ} (ho : off = ![n, 0]) (hK : n + K ≤ 4096)
    {h : ∀ d, off d + (![K, 256] : Fin 2 → ℕ) d ≤ S4096x256.size d} (j : Fin K) (l : Fin 256) :
    M.view.readAt (Elt Ideal) (Rect.unit (s := S4096x256) off ![K, 256] h).toLoadRect (hM.unread x) (ix2 j l) = ((D.rows.w (n + j.val) l : ℝ) : EReal) := by
  refine (rows_read hM x off h ho j l (by omega) (by omega)).trans ?_
  have : (⟨0 + l.val, by omega⟩ : Fin 256) = l := Fin.ext (by simp)
  rw [this]; exact hx _ _

/-- The same through the writes made so far. -/
theorem Pt.hvC (D : Pt) {sig : RefSig} {κ : Kind} {sp : Space} {V : View sig κ sp S4096x256 .bf16} {L : List (View.Piece (Elt Ideal) S4096x256 .bf16)}
    (hx : ∀ (j : Fin 4096) l, View.canon L (ix2 j l) = ((D.rows.w j.val l : ℝ) : EReal)) {K n : ℕ} {off : Fin 2 → ℕ} (ho : off = ![n, 0]) (hK : n + K ≤ 4096)
    {h : ∀ d, off d + (![K, 256] : Fin 2 → ℕ) d ≤ S4096x256.size d} (j : Fin K) (l : Fin 256) :
    V.readCov L (Rect.unit (s := S4096x256) off ![K, 256] h).toLoadRect (ix2 j l) = ((D.rows.w (n + j.val) l : ℝ) : EReal) := by
  refine (rows_cov V L off h ho j l (by omega) (by omega)).trans ?_
  have : (⟨0 + l.val, by omega⟩ : Fin 256) = l := Fin.ext (by simp)
  rw [this]; exact hx _ _

/-- An entry of the bias table of a query tile: column `col` is at distance `512 + r - col`, the columns past it masked. -/
def Pt.bias (D : Pt) (r col : ℕ) : EReal := if col ≤ 512 + r then ((D.b (512 + r - col) : ℝ) : EReal) else ⊥

/-- A load of the bias table, of contents that hold it. -/
theorem Pt.hb (D : Pt) {sig : RefSig} {κ : Kind} {sp : Space} {M : Memref sig κ sp S512x1024 .f32} (hM : M.IsWhole) {x : Vec Ideal S512x1024 .f32}
    (hx : ∀ (r : Fin 512) (col : Fin 1024), x (ix2 r col) = D.bias r.val col.val) {R K n r0 t : ℕ} {off : Fin 2 → ℕ} (ho : off = ![r0, t]) (hn : n + 512 = D.qb + t)
    (hR : r0 + R ≤ 512) (hK : t + K ≤ 1024) {h : ∀ d, off d + (![R, K] : Fin 2 → ℕ) d ≤ S512x1024.size d} (r : Fin R) (j : Fin K) :
    M.view.readAt (Elt Ideal) (Rect.unit (s := S512x1024) off ![R, K] h).toLoadRect (hM.unread x) (ix2 r j)
      = if n + j.val ≤ D.rows.qb + (r0 + r.val) then ((D.rows.b (D.rows.qb + (r0 + r.val) - (n + j.val)) : ℝ) : EReal) else ⊥ := by
  refine (rows_read hM x off h ho r j (by omega) (by omega)).trans ?_
  rw [hx]
  show (if t + j.val ≤ 512 + (r0 + r.val) then ((D.b (512 + (r0 + r.val) - (t + j.val)) : ℝ) : EReal) else ⊥)
    = if n + j.val ≤ D.qb + (r0 + r.val) then ((D.b (D.qb + (r0 + r.val) - (n + j.val)) : ℝ) : EReal) else ⊥
  by_cases hc : t + j.val ≤ 512 + (r0 + r.val)
  · rw [if_pos hc, if_pos (by omega)]; exact congrArg (fun x => ((D.b x : ℝ) : EReal)) (by omega)
  · rw [if_neg hc, if_neg (by omega)]

/-- The same through the writes made so far. -/
theorem Pt.hbC (D : Pt) {sig : RefSig} {κ : Kind} {sp : Space} {V : View sig κ sp S512x1024 .f32} {L : List (View.Piece (Elt Ideal) S512x1024 .f32)}
    (hx : ∀ (r : Fin 512) (col : Fin 1024), View.canon L (ix2 r col) = D.bias r.val col.val) {R K n r0 t : ℕ} {off : Fin 2 → ℕ} (ho : off = ![r0, t]) (hn : n + 512 = D.qb + t)
    (hR : r0 + R ≤ 512) (hK : t + K ≤ 1024) {h : ∀ d, off d + (![R, K] : Fin 2 → ℕ) d ≤ S512x1024.size d} (r : Fin R) (j : Fin K) :
    V.readCov L (Rect.unit (s := S512x1024) off ![R, K] h).toLoadRect (ix2 r j)
      = if n + j.val ≤ D.rows.qb + (r0 + r.val) then ((D.rows.b (D.rows.qb + (r0 + r.val) - (n + j.val)) : ℝ) : EReal) else ⊥ := by
  refine (rows_cov V L off h ho r j (by omega) (by omega)).trans ?_
  rw [hx]
  show (if t + j.val ≤ 512 + (r0 + r.val) then ((D.b (512 + (r0 + r.val) - (t + j.val)) : ℝ) : EReal) else ⊥)
    = if n + j.val ≤ D.qb + (r0 + r.val) then ((D.b (D.qb + (r0 + r.val) - (n + j.val)) : ℝ) : EReal) else ⊥
  by_cases hc : t + j.val ≤ 512 + (r0 + r.val)
  · rw [if_pos hc, if_pos (by omega)]; exact congrArg (fun x => ((D.b x : ℝ) : EReal)) (by omega)
  · rw [if_neg hc, if_neg (by omega)]

/-- What a query tile's row `r` and lane `l` come to: the difference of the two maps' attention, normalised. -/
def Pt.value (D : Pt) (lam : Fin 4 → Fin 64 → EReal) (g : Fin 128 → EReal) (r : ℕ) (l : Fin 128) : EReal :=
  outRow (fun x => ((att (D.qb + r) (D.rows.s 0 r) (fun j => D.v j x) : ℝ) : EReal)
    - lamOf lam * ((att (D.qb + r) (D.rows.s 1 r) (fun j => D.v j x) : ℝ) : EReal)) g l

/-- The last step over a walk that has seen all the keys gives the tile's value. -/
theorem Pt.out (D : Pt) {n n' : ℕ} {A : List (View.Piece (Elt Ideal) S2x512x256 .f32)} (hg : ∃ L, Good D.rows n n' 1024 L A)
    (hn : D.qb + 512 ≤ n') {sig : RefSig} {κ : Kind} {sp sp₁ sp₂ : Space} (V : View sig κ sp S2x512x256 .f32)
    {M : Memref sig κ sp₁ S4x64 .f32} (hM : M.IsWhole) (x4 : Vec Ideal S4x64 .f32) {N : Memref sig κ sp₂ S1x128 .f32} (hN : N.IsWhole) (x5 : Vec Ideal S1x128 .f32)
    (r : Fin 512) (l : Fin 128) :
    (k0_pay1 (k0_pay244 (M.view.readAt (Elt Ideal) (Rect.unit (s := S4x64) ![0, 0] S4x64.size inb_S4x64_S4x64_0_0).toLoadRect (hM.unread x4)))
      (V.readCov A (Rect.unit (s := S2x512x256) ![0, 0, 0] S1x512x256.size inb_S2x512x256_S1x512x256_0_0_0).toLoadRect)
      (V.readCov A (Rect.unit (s := S2x512x256) ![1, 0, 0] S1x512x256.size inb_S2x512x256_S1x512x256_1_0_0).toLoadRect)
      (N.view.readAt (Elt Ideal) (Rect.unit (s := S1x128) ![0, 0] S1x128.size inb_S1x128_S1x128_0_0).toLoadRect (hN.unread x5))
        : FVec Ideal S512x128 .bf16) (ix2 r l)
      = D.value (fun a l => x4 (ix2 a l)) (fun l => x5 (ix2 0 l)) r.val l := by
  have h4 := full_read hM x4 (off := ![0, 0]) z2 inb_S4x64_S4x64_0_0
  have h5 := full_read hN x5 (off := ![0, 0]) z2 inb_S1x128_S1x128_0_0
  rw [h4, h5]
  refine (pay1_of_good hg hn (fun j => by simp [Pt.rows]) V _ _ r l).trans ?_
  rw [pay244_at]
  have hw : ∀ x : Fin 128, (fun j => D.rows.w j ⟨x.val, by omega⟩) = fun j => D.v j x := fun x => by
    funext j; simp [Pt.rows]
  simp only [hw]
  rfl

end Cert.Attn

end
-- ==== Proof.Loop.lean ====
module

public import proofs.«01_k».proof.Proof.Reads

@[expose] public section

set_option maxRecDepth 16384
set_option maxHeartbeats 4000000

noncomputable section

/-! ## The loop over four far tiles at a time -/

namespace Cert.Attn

open Idealize.ShloMosaic Idealize.SL.Sem Cert.KernelIdeal Cert.KernelIdeal.Gen

/-- A scalar read of the bias table. -/
theorem one_read {sig : RefSig} {κ : Kind} {sp : Space} {M : Memref sig κ sp S256 .f32} (hM : M.IsWhole) (x : Vec Ideal S256 .f32)
    {off : Fin 1 → ℕ} {h : ∀ d, off d + S1.size d ≤ S256.size d} {n : ℕ} (ho : off = ![n]) (hn : n < 256) {h1} :
    M.view.readAt (Elt Ideal) (Rect.unit (s := S256) off S1.size h).toLoadRect (hM.unread x) (Shape.Idx.first h1) = x (ix1 (⟨n, hn⟩ : Fin 256)) := by
  subst ho
  rw [View.readAt_apply, hM.read_unread]
  refine congrArg x ?_
  funext d; refine Fin.ext ?_
  fin_cases d; simp [LoadRect.idx, Rect.toLoadRect, Rect.emb, Rect.unit, ix1, Shape.Idx.first]

/-- ONE TRIP: every row moves by 2048 far keys. -/
theorem trip_good (c : Dev nD) (i : grid0.Coords)
    (arg3 : Memref sig .tc .smem S256 .f32) (harg3 : arg3.IsWhole) (arg4 : Memref sig .tc .vmem S512x128 .bf16) (harg4 : arg4.IsWhole)
    (arg5 : Memref sig .tc .vmem S4096x128 .bf16) (harg5 : arg5.IsWhole) (arg6 : Memref sig .tc .vmem S4096x128 .bf16) (harg6 : arg6.IsWhole)
    (arg7 : Memref sig .tc .vmem S4x64 .f32) (harg7 : arg7.IsWhole) (arg8 : Memref sig .tc .vmem S1x128 .f32) (harg8 : arg8.IsWhole)
    (arg9 : Memref sig .tc .vmem S512x128 .bf16) (harg9 : arg9.IsWhole) (arg10 : Memref sig .tc .vmem S2x512x1 .f32) (harg10 : arg10.IsWhole)
    (arg11 : Memref sig .tc .vmem S2x512x256 .f32) (harg11 : arg11.IsWhole) (arg12 : Memref sig .tc .vmem S512x1024 .f32) (harg12 : arg12.IsWhole)
    (arg13 : Memref sig .tc .vmem S2x512x128 .bf16) (harg13 : arg13.IsWhole) (arg14 : Memref sig .tc .vmem S4096x256 .bf16) (harg14 : arg14.IsWhole)
    (arg0 arg2 : BitVec 32) (v18 : FVec Ideal S512x128 .bf16) (v28 : Vec Ideal S512x128 .i1) (cst : Ideal .bf16) {v36 : EReal}
    (x2 : Vec Ideal S4096x128 .bf16) (xs4 : Vec Ideal S4096x256 .bf16)
    {Q : List (View.Piece (Elt Ideal) S2x512x128 .bf16)} {L : List (View.Piece (Elt Ideal) S2x512x1 .f32)} {A : List (View.Piece (Elt Ideal) S2x512x256 .f32)}
    (D : Pt) {c' : ℝ} (hc : v36 = (c' : EReal)) (hfar : ∀ x, 128 ≤ x → D.b x = c')
    (hQ : ∀ (m : Fin 2) (r : Fin 512) l, View.canon Q (ix3 m r l) = ((D.rows.q m.val r.val l : ℝ) : EReal))
    (hx2 : ∀ (j : Fin 4096) l, x2 (ix2 j l) = ((D.k j.val l : ℝ) : EReal))
    (hx4 : ∀ (j : Fin 4096) l, xs4 (ix2 j l) = ((D.rows.w j.val l : ℝ) : EReal))
    {n : ℕ} (hn : n + 2048 + 512 ≤ D.qb) (hK : D.qb ≤ 4096) (k : Fin (Scf.trips (k0_t1_loop i).lb (k0_t1_loop i).ub (k0_t1_loop i).st)) (ho4 : k0_off4 i k = ![n, 0]) (ho5 : k0_off5 i k = ![n, 0])
    (hL : Good D.rows n (n + 2048) 0 L A) :
    Good D.rows n (n + 2048) 1024
      ((tripL_k0_t1 (F := Ideal) Variants.none c none i arg3 harg3 arg4 harg4 arg5 harg5 arg6 harg6 arg7 harg7 arg8 harg8 arg9 harg9 arg10 harg10 arg11 harg11 arg12 harg12 arg13 harg13 arg14 harg14 arg0 arg2 v18 v28 cst v36
        (harg5.unread x2) (arg13.view.writes (Elt Ideal) arg13.view.junk Q) (harg14.unread xs4) k (arg10.view.writes (Elt Ideal) arg10.view.junk L) (arg11.view.writes (Elt Ideal) arg11.view.junk A)).1 ++ L)
      ((tripL_k0_t1 (F := Ideal) Variants.none c none i arg3 harg3 arg4 harg4 arg5 harg5 arg6 harg6 arg7 harg7 arg8 harg8 arg9 harg9 arg10 harg10 arg11 harg11 arg12 harg12 arg13 harg13 arg14 harg14 arg0 arg2 v18 v28 cst v36
        (harg5.unread x2) (arg13.view.writes (Elt Ideal) arg13.view.junk Q) (harg14.unread xs4) k (arg10.view.writes (Elt Ideal) arg10.view.junk L) (arg11.view.writes (Elt Ideal) arg11.view.junk A)).2 ++ A) := by
  unfold tripL_k0_t1 trip_k0_t1
  dsimp only
  have hk := D.hk (K := 2048) harg5 hx2 ho4 (by omega) (h := k0_off4_inb i k)
  have hv := D.hv (K := 2048) harg14 hx4 ho5 (by omega) (h := k0_off5_inb i k)
  exact Good.far2048 (n := n) (d := 896) (Good.far2048 (n := n) (d := 768) (Good.far2048 (n := n) (d := 640) (Good.far2048 (n := n) (d := 512) (Good.far2048 (n := n) (d := 384) (Good.far2048 (n := n) (d := 256) (Good.far2048 (n := n) (d := 128) (Good.far2048 (n := n) (d := 0) hL
    0 0 (by decide) (by decide) _ rfl (hL.oldAt _ _ 0 0 _ _ (by decide) (by decide) (Nat.zero_le _))
    (fun r l => (readAt3 _ Q 0 0 _ (by decide) r (by omega) l l.isLt).trans (hQ _ _ _)) hk hv hc hfar hn)
    0 128 (by decide) (by decide) _ rfl (hL.oldAt _ _ 0 128 _ _ (by decide) (by decide) (Nat.zero_le _))
    (fun r l => (readAt3 _ Q 0 128 _ (by decide) r (by omega) l l.isLt).trans (hQ _ _ _)) hk hv hc hfar hn)
    0 256 (by decide) (by decide) _ rfl (hL.oldAt _ _ 0 256 _ _ (by decide) (by decide) (Nat.zero_le _))
    (fun r l => (readAt3 _ Q 0 256 _ (by decide) r (by omega) l l.isLt).trans (hQ _ _ _)) hk hv hc hfar hn)
    0 384 (by decide) (by decide) _ rfl (hL.oldAt _ _ 0 384 _ _ (by decide) (by decide) (Nat.zero_le _))
    (fun r l => (readAt3 _ Q 0 384 _ (by decide) r (by omega) l l.isLt).trans (hQ _ _ _)) hk hv hc hfar hn)
    1 0 (by decide) (by decide) _ rfl (hL.oldAt _ _ 1 0 _ _ (by decide) (by decide) (Nat.zero_le _))
    (fun r l => (readAt3 _ Q 1 0 _ (by decide) r (by omega) l l.isLt).trans (hQ _ _ _)) hk hv hc hfar hn)
    1 128 (by decide) (by decide) _ rfl (hL.oldAt _ _ 1 128 _ _ (by decide) (by decide) (Nat.zero_le _))
    (fun r l => (readAt3 _ Q 1 128 _ (by decide) r (by omega) l l.isLt).trans (hQ _ _ _)) hk hv hc hfar hn)
    1 256 (by decide) (by decide) _ rfl (hL.oldAt _ _ 1 256 _ _ (by decide) (by decide) (Nat.zero_le _))
    (fun r l => (readAt3 _ Q 1 256 _ (by decide) r (by omega) l l.isLt).trans (hQ _ _ _)) hk hv hc hfar hn)
    1 384 (by decide) (by decide) _ rfl (hL.oldAt _ _ 1 384 _ _ (by decide) (by decide) (Nat.zero_le _))
    (fun r l => (readAt3 _ Q 1 384 _ (by decide) r (by omega) l l.isLt).trans (hQ _ _ _)) hk hv hc hfar hn

/-- The loop, of no trip or one. -/
theorem loop_good (c : Dev nD) (i : grid0.Coords)
    (arg3 : Memref sig .tc .smem S256 .f32) (harg3 : arg3.IsWhole) (arg4 : Memref sig .tc .vmem S512x128 .bf16) (harg4 : arg4.IsWhole)
    (arg5 : Memref sig .tc .vmem S4096x128 .bf16) (harg5 : arg5.IsWhole) (arg6 : Memref sig .tc .vmem S4096x128 .bf16) (harg6 : arg6.IsWhole)
    (arg7 : Memref sig .tc .vmem S4x64 .f32) (harg7 : arg7.IsWhole) (arg8 : Memref sig .tc .vmem S1x128 .f32) (harg8 : arg8.IsWhole)
    (arg9 : Memref sig .tc .vmem S512x128 .bf16) (harg9 : arg9.IsWhole) (arg10 : Memref sig .tc .vmem S2x512x1 .f32) (harg10 : arg10.IsWhole)
    (arg11 : Memref sig .tc .vmem S2x512x256 .f32) (harg11 : arg11.IsWhole) (arg12 : Memref sig .tc .vmem S512x1024 .f32) (harg12 : arg12.IsWhole)
    (arg13 : Memref sig .tc .vmem S2x512x128 .bf16) (harg13 : arg13.IsWhole) (arg14 : Memref sig .tc .vmem S4096x256 .bf16) (harg14 : arg14.IsWhole)
    (arg0 arg2 : BitVec 32) (v18 : FVec Ideal S512x128 .bf16) (v28 : Vec Ideal S512x128 .i1) (cst : Ideal .bf16) {v36 : EReal}
    (x2 : Vec Ideal S4096x128 .bf16) (xs4 : Vec Ideal S4096x256 .bf16)
    {Q : List (View.Piece (Elt Ideal) S2x512x128 .bf16)} {L : List (View.Piece (Elt Ideal) S2x512x1 .f32)} {A : List (View.Piece (Elt Ideal) S2x512x256 .f32)}
    (D : Pt) {c' : ℝ} (hc : v36 = (c' : EReal)) (hfar : ∀ x, 128 ≤ x → D.b x = c')
    (hQ : ∀ (m : Fin 2) (r : Fin 512) l, View.canon Q (ix3 m r l) = ((D.rows.q m.val r.val l : ℝ) : EReal))
    (hx2 : ∀ (j : Fin 4096) l, x2 (ix2 j l) = ((D.k j.val l : ℝ) : EReal))
    (hx4 : ∀ (j : Fin 4096) l, xs4 (ix2 j l) = ((D.rows.w j.val l : ℝ) : EReal))
    {n : ℕ} (n' : ℕ) (hK : D.qb ≤ 4096)
    (htr : Scf.trips (k0_t1_loop i).lb (k0_t1_loop i).ub (k0_t1_loop i).st = 0 ∧ n = 0 ∨ Scf.trips (k0_t1_loop i).lb (k0_t1_loop i).ub (k0_t1_loop i).st = 1 ∧ n = 2048 ∧ 2560 ≤ D.qb)
    (ho4 : ∀ k : Fin (Scf.trips (k0_t1_loop i).lb (k0_t1_loop i).ub (k0_t1_loop i).st), k0_off4 i k = ![0, 0]) (ho5 : ∀ k : Fin (Scf.trips (k0_t1_loop i).lb (k0_t1_loop i).ub (k0_t1_loop i).st), k0_off5 i k = ![0, 0])
    (hL : ∀ n', Good D.rows 0 n' 0 L A) :
    Good D.rows n n' 0
      ((pb_k0_t1 (F := Ideal) Variants.none c none i arg3 harg3 arg4 harg4 arg5 harg5 arg6 harg6 arg7 harg7 arg8 harg8 arg9 harg9 arg10 harg10 arg11 harg11 arg12 harg12 arg13 harg13 arg14 harg14 arg0 arg2 v18 v28 cst v36
        (harg5.unread x2) (arg13.view.writes (Elt Ideal) arg13.view.junk Q) (harg14.unread xs4) (arg10.view.writes (Elt Ideal) arg10.view.junk L) (arg11.view.writes (Elt Ideal) arg11.view.junk A) (Scf.trips (k0_t1_loop i).lb (k0_t1_loop i).ub (k0_t1_loop i).st)).1 ++ L)
      ((pb_k0_t1 (F := Ideal) Variants.none c none i arg3 harg3 arg4 harg4 arg5 harg5 arg6 harg6 arg7 harg7 arg8 harg8 arg9 harg9 arg10 harg10 arg11 harg11 arg12 harg12 arg13 harg13 arg14 harg14 arg0 arg2 v18 v28 cst v36
        (harg5.unread x2) (arg13.view.writes (Elt Ideal) arg13.view.junk Q) (harg14.unread xs4) (arg10.view.writes (Elt Ideal) arg10.view.junk L) (arg11.view.writes (Elt Ideal) arg11.view.junk A) (Scf.trips (k0_t1_loop i).lb (k0_t1_loop i).ub (k0_t1_loop i).st)).2 ++ A) := by
  obtain ⟨h0, rfl⟩ | ⟨h1, rfl, hq⟩ := htr
  · rw [h0]; exact hL n'
  · have hk : 0 < Scf.trips (k0_t1_loop i).lb (k0_t1_loop i).ub (k0_t1_loop i).st := by omega
    have hs := pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg0 arg2 v18 v28 cst v36
        (harg5.unread x2) (arg13.view.writes (Elt Ideal) arg13.view.junk Q) (harg14.unread xs4) (arg10.view.writes (Elt Ideal) arg10.view.junk L) (arg11.view.writes (Elt Ideal) arg11.view.junk A) ⟨0, hk⟩
    have h01 : (0 : ℕ) + 1 = Scf.trips (k0_t1_loop i).lb (k0_t1_loop i).ub (k0_t1_loop i).st := h1.symm
    rw [← h01]
    erw [hs]
    have ht := trip_good c i arg3 harg3 arg4 harg4 arg5 harg5 arg6 harg6 arg7 harg7 arg8 harg8 arg9 harg9 arg10 harg10 arg11 harg11 arg12 harg12 arg13 harg13 arg14 harg14 arg0 arg2 v18 v28 cst x2 xs4 D hc hfar hQ hx2 hx4 (n := 0) (by omega) hK ⟨0, hk⟩ (ho4 _) (ho5 _) (hL _)
    have hl : ∀ {α : Type} (l m : List α), (l ++ []) ++ m = l ++ m := fun l m => by rw [List.append_nil]
    refine Eq.mp ?_ (ht.next n')
    congr 1
    · exact (hl _ _).symm
    · exact (hl _ _).symm

end Cert.Attn

end
-- ==== Proof.Bias.lean ====
module

public import proofs.«01_k».proof.Proof.Loop

@[expose] public section

set_option maxRecDepth 16384

noncomputable section

/-! ## The kernel's bias table

The kernel finds the bucket of a distance by comparing it with the buckets' first distances, one after the other. -/

namespace Cert.Attn

open Idealize.ShloMosaic Idealize.SL.Sem Cert.KernelIdeal Cert.KernelIdeal.Gen

/-- The first distance of bucket `k + 1`. -/
def thr (k : ℕ) : ℕ :=
  [1, 2, 3, 4, 5, 6, 7, 8, 9, 10, 11, 12, 13, 14, 15, 16, 19, 21, 24, 27, 31, 35, 40, 46, 52, 59, 67, 77, 87, 99, 113].getD k 0

/-- The chain of comparisons: the entry of the last bucket, up to the `n`th, whose first distance is reached. -/
def look (f : ℕ → EReal) (rel : BitVec 32) : ℕ → EReal
  | 0 => f 0
  | k + 1 => Scalar.select (IntOp.cmpi CmpIPredicate.sge rel (BitVec.ofNat 32 (thr k))) (f (k + 1)) (look f rel k)

/-- The bucket of a distance. -/
def bk (d : ℕ) : ℕ → ℕ
  | 0 => 0
  | k + 1 => if thr k ≤ d then k + 1 else bk d k

/-- A bucket is at most the last one looked at. -/
theorem bk_le (d : ℕ) : ∀ n, bk d n ≤ n
  | 0 => le_refl 0
  | n + 1 => by
    have := bk_le d n
    unfold bk; split <;> omega

/-- A signed comparison of small words. -/
theorem sge_small (d T : ℕ) (hd : d < 2 ^ 31) (hT : T < 2 ^ 31) :
    IntOp.cmpi CmpIPredicate.sge (BitVec.ofNat 32 d) (BitVec.ofNat 32 T) = if T ≤ d then 1#1 else 0#1 := by
  have e : ∀ x : ℕ, x < 2 ^ 31 → (BitVec.ofNat 32 x).toInt = (x : ℤ) := fun x hx => by
    rw [BitVec.toInt_eq_toNat_of_lt] <;> simp [BitVec.toNat_ofNat] <;> omega
  simp only [IntOp.cmpi, BitVec.sle, e d hd, e T hT]
  by_cases h : T ≤ d <;> simp [h]

theorem thr_lt (k : ℕ) : thr k < 2 ^ 31 := by
  unfold thr
  by_cases h : k < 31
  · interval_cases k <;> simp
  · rw [List.getD_eq_getElem?_getD, List.getElem?_eq_none (by simpa using h)]; simp

/-- The comparisons find the entry of the distance's bucket. -/
theorem look_bk (f : ℕ → EReal) (d : ℕ) (hd : d < 2 ^ 31) (n : ℕ) : look f (BitVec.ofNat 32 d) n = f (bk d n) := by
  induction n with
  | zero => rfl
  | succ k ih =>
    simp only [look, bk, sge_small d _ hd (thr_lt k), ih]
    by_cases h : thr k ≤ d <;> simp [h, Scalar.select]

/-- Equal selections. -/
theorem sel_congr {a b : BitVec 1} {x x' y y' : EReal} (h : a = b) (hx : x = x') (hy : y = y') : Scalar.select a x y = Scalar.select b x' y' := by
  rw [h, hx, hy]

/-- A head's entries of the flattened table, by bucket. -/
def tbl (x0 : Vec Ideal S256 .f32) (h k : ℕ) : EReal := if hk : 8 * k + h < 256 then x0 (ix1 ⟨8 * k + h, hk⟩) else 0

/-- The word the kernel forms for a bucket's entry. -/
theorem off1_eq (i : grid0.Coords) : k0_off1 i = ![(i 0).val] := by
  unfold k0_off1
  generalize i 0 = a
  revert a; decide

theorem off2_eq (i : grid0.Coords) (k : Fin 32) : k0_off2 i (BitVec.ofNat 32 (8 * k.val)) = ![8 * k.val + (i 0).val] := by
  unfold k0_off2
  generalize i 0 = a
  revert a k; decide +kernel

/-- One comparison more. -/
theorem look_step {f : ℕ → EReal} {rel T : BitVec 32} {k : ℕ} {x y : EReal} (hT : BitVec.ofNat 32 (thr k) = T) (hx : x = f (k + 1)) (hy : y = look f rel k) :
    Scalar.select (IntOp.cmpi CmpIPredicate.sge rel T) x y = look f rel (k + 1) := by
  subst hT hx hy; rfl

/-- The kernel's reads of the table are the head's entries. -/
theorem read_0 (c : Dev nD) (i : grid0.Coords) (arg3 : Memref sig .tc .smem S256 .f32) (harg3 : arg3.IsWhole) (hc1 : cond0_1 i) (x0 : Vec Ideal S256 .f32) : kernelRun0_A.sl.r c i arg3 harg3 hc1 x0 = tbl x0 (i 0).val 0 := by
  have h : (i 0).val < 8 := (i 0).isLt
  refine (one_read harg3 x0 (off1_eq i) (by omega)).trans ?_
  rw [tbl, dif_pos (by omega : 8 * 0 + (i 0).val < 256)]
  exact congrArg (fun n => x0 (ix1 n)) (Fin.ext (by simp))

theorem read_at {sig : RefSig} (i : grid0.Coords) {arg3 : Memref sig .tc .smem S256 .f32} (harg3 : arg3.IsWhole) (x0 : Vec Ideal S256 .f32) (k : Fin 32)
    {h : ∀ d, k0_off2 i (BitVec.ofNat 32 (8 * k.val)) d + S1.size d ≤ S256.size d} {h1} :
    arg3.view.readAt (Elt Ideal) (Rect.unit (s := S256) (k0_off2 i (BitVec.ofNat 32 (8 * k.val))) S1.size h).toLoadRect (harg3.unread x0) (Shape.Idx.first h1) = tbl x0 (i 0).val k.val := by
  have hi : (i 0).val < 8 := (i 0).isLt
  have hk := k.isLt
  refine (one_read harg3 x0 (off2_eq i k) (by omega)).trans ?_
  rw [tbl, dif_pos (by omega : 8 * k.val + (i 0).val < 256)]

theorem read_1 (c : Dev nD) (i : grid0.Coords) (arg3 : Memref sig .tc .smem S256 .f32) (harg3 : arg3.IsWhole) (hc1 : cond0_1 i) (x0 : Vec Ideal S256 .f32) : kernelRun0_A.sl.r_1 c i arg3 harg3 hc1 x0 = tbl x0 (i 0).val 1 := read_at i harg3 x0 1

theorem read_2 (c : Dev nD) (i : grid0.Coords) (arg3 : Memref sig .tc .smem S256 .f32) (harg3 : arg3.IsWhole) (hc1 : cond0_1 i) (x0 : Vec Ideal S256 .f32) : kernelRun0_A.sl.r_2 c i arg3 harg3 hc1 x0 = tbl x0 (i 0).val 2 := read_at i harg3 x0 2

theorem read_3 (c : Dev nD) (i : grid0.Coords) (arg3 : Memref sig .tc .smem S256 .f32) (harg3 : arg3.IsWhole) (hc1 : cond0_1 i) (x0 : Vec Ideal S256 .f32) : kernelRun0_A.sl.r_3 c i arg3 harg3 hc1 x0 = tbl x0 (i 0).val 3 := read_at i harg3 x0 3

theorem read_4 (c : Dev nD) (i : grid0.Coords) (arg3 : Memref sig .tc .smem S256 .f32) (harg3 : arg3.IsWhole) (hc1 : cond0_1 i) (x0 : Vec Ideal S256 .f32) : kernelRun0_A.sl.r_4 c i arg3 harg3 hc1 x0 = tbl x0 (i 0).val 4 := read_at i harg3 x0 4

theorem read_5 (c : Dev nD) (i : grid0.Coords) (arg3 : Memref sig .tc .smem S256 .f32) (harg3 : arg3.IsWhole) (hc1 : cond0_1 i) (x0 : Vec Ideal S256 .f32) : kernelRun0_A.sl.r_5 c i arg3 harg3 hc1 x0 = tbl x0 (i 0).val 5 := read_at i harg3 x0 5

theorem read_6 (c : Dev nD) (i : grid0.Coords) (arg3 : Memref sig .tc .smem S256 .f32) (harg3 : arg3.IsWhole) (hc1 : cond0_1 i) (x0 : Vec Ideal S256 .f32) : kernelRun0_A.sl.r_6 c i arg3 harg3 hc1 x0 = tbl x0 (i 0).val 6 := read_at i harg3 x0 6

theorem read_7 (c : Dev nD) (i : grid0.Coords) (arg3 : Memref sig .tc .smem S256 .f32) (harg3 : arg3.IsWhole) (hc1 : cond0_1 i) (x0 : Vec Ideal S256 .f32) : kernelRun0_A.sl.r_7 c i arg3 harg3 hc1 x0 = tbl x0 (i 0).val 7 := read_at i harg3 x0 7

theorem read_8 (c : Dev nD) (i : grid0.Coords) (arg3 : Memref sig .tc .smem S256 .f32) (harg3 : arg3.IsWhole) (hc1 : cond0_1 i) (x0 : Vec Ideal S256 .f32) : kernelRun0_A.sl.r_8 c i arg3 harg3 hc1 x0 = tbl x0 (i 0).val 8 := read_at i harg3 x0 8

theorem read_9 (c : Dev nD) (i : grid0.Coords) (arg3 : Memref sig .tc .smem S256 .f32) (harg3 : arg3.IsWhole) (hc1 : cond0_1 i) (x0 : Vec Ideal S256 .f32) : kernelRun0_A.sl.r_9 c i arg3 harg3 hc1 x0 = tbl x0 (i 0).val 9 := read_at i harg3 x0 9

theorem read_10 (c : Dev nD) (i : grid0.Coords) (arg3 : Memref sig .tc .smem S256 .f32) (harg3 : arg3.IsWhole) (hc1 : cond0_1 i) (x0 : Vec Ideal S256 .f32) : kernelRun0_A.sl.r_10 c i arg3 harg3 hc1 x0 = tbl x0 (i 0).val 10 := read_at i harg3 x0 10

theorem read_11 (c : Dev nD) (i : grid0.Coords) (arg3 : Memref sig .tc .smem S256 .f32) (harg3 : arg3.IsWhole) (hc1 : cond0_1 i) (x0 : Vec Ideal S256 .f32) : kernelRun0_A.sl.r_11 c i arg3 harg3 hc1 x0 = tbl x0 (i 0).val 11 := read_at i harg3 x0 11

theorem read_12 (c : Dev nD) (i : grid0.Coords) (arg3 : Memref sig .tc .smem S256 .f32) (harg3 : arg3.IsWhole) (hc1 : cond0_1 i) (x0 : Vec Ideal S256 .f32) : kernelRun0_A.sl.r_12 c i arg3 harg3 hc1 x0 = tbl x0 (i 0).val 12 := read_at i harg3 x0 12

theorem read_13 (c : Dev nD) (i : grid0.Coords) (arg3 : Memref sig .tc .smem S256 .f32) (harg3 : arg3.IsWhole) (hc1 : cond0_1 i) (x0 : Vec Ideal S256 .f32) : kernelRun0_A.sl.r_13 c i arg3 harg3 hc1 x0 = tbl x0 (i 0).val 13 := read_at i harg3 x0 13

theorem read_14 (c : Dev nD) (i : grid0.Coords) (arg3 : Memref sig .tc .smem S256 .f32) (harg3 : arg3.IsWhole) (hc1 : cond0_1 i) (x0 : Vec Ideal S256 .f32) : kernelRun0_A.sl.r_14 c i arg3 harg3 hc1 x0 = tbl x0 (i 0).val 14 := read_at i harg3 x0 14

theorem read_15 (c : Dev nD) (i : grid0.Coords) (arg3 : Memref sig .tc .smem S256 .f32) (harg3 : arg3.IsWhole) (hc1 : cond0_1 i) (x0 : Vec Ideal S256 .f32) : kernelRun0_A.sl.r_15 c i arg3 harg3 hc1 x0 = tbl x0 (i 0).val 15 := read_at i harg3 x0 15

theorem read_16 (c : Dev nD) (i : grid0.Coords) (arg3 : Memref sig .tc .smem S256 .f32) (harg3 : arg3.IsWhole) (hc1 : cond0_1 i) (x0 : Vec Ideal S256 .f32) : kernelRun0_A.sl.r_16 c i arg3 harg3 hc1 x0 = tbl x0 (i 0).val 16 := read_at i harg3 x0 16

theorem read_17 (c : Dev nD) (i : grid0.Coords) (arg3 : Memref sig .tc .smem S256 .f32) (harg3 : arg3.IsWhole) (hc1 : cond0_1 i) (x0 : Vec Ideal S256 .f32) : kernelRun0_A.sl.r_17 c i arg3 harg3 hc1 x0 = tbl x0 (i 0).val 17 := read_at i harg3 x0 17

theorem read_18 (c : Dev nD) (i : grid0.Coords) (arg3 : Memref sig .tc .smem S256 .f32) (harg3 : arg3.IsWhole) (hc1 : cond0_1 i) (x0 : Vec Ideal S256 .f32) : kernelRun0_A.sl.r_18 c i arg3 harg3 hc1 x0 = tbl x0 (i 0).val 18 := read_at i harg3 x0 18

theorem read_19 (c : Dev nD) (i : grid0.Coords) (arg3 : Memref sig .tc .smem S256 .f32) (harg3 : arg3.IsWhole) (hc1 : cond0_1 i) (x0 : Vec Ideal S256 .f32) : kernelRun0_A.sl.r_19 c i arg3 harg3 hc1 x0 = tbl x0 (i 0).val 19 := read_at i harg3 x0 19

theorem read_20 (c : Dev nD) (i : grid0.Coords) (arg3 : Memref sig .tc .smem S256 .f32) (harg3 : arg3.IsWhole) (hc1 : cond0_1 i) (x0 : Vec Ideal S256 .f32) : kernelRun0_A.sl.r_20 c i arg3 harg3 hc1 x0 = tbl x0 (i 0).val 20 := read_at i harg3 x0 20

theorem read_21 (c : Dev nD) (i : grid0.Coords) (arg3 : Memref sig .tc .smem S256 .f32) (harg3 : arg3.IsWhole) (hc1 : cond0_1 i) (x0 : Vec Ideal S256 .f32) : kernelRun0_A.sl.r_21 c i arg3 harg3 hc1 x0 = tbl x0 (i 0).val 21 := read_at i harg3 x0 21

theorem read_22 (c : Dev nD) (i : grid0.Coords) (arg3 : Memref sig .tc .smem S256 .f32) (harg3 : arg3.IsWhole) (hc1 : cond0_1 i) (x0 : Vec Ideal S256 .f32) : kernelRun0_A.sl.r_22 c i arg3 harg3 hc1 x0 = tbl x0 (i 0).val 22 := read_at i harg3 x0 22

theorem read_23 (c : Dev nD) (i : grid0.Coords) (arg3 : Memref sig .tc .smem S256 .f32) (harg3 : arg3.IsWhole) (hc1 : cond0_1 i) (x0 : Vec Ideal S256 .f32) : kernelRun0_A.sl.r_23 c i arg3 harg3 hc1 x0 = tbl x0 (i 0).val 23 := read_at i harg3 x0 23

theorem read_24 (c : Dev nD) (i : grid0.Coords) (arg3 : Memref sig .tc .smem S256 .f32) (harg3 : arg3.IsWhole) (hc1 : cond0_1 i) (x0 : Vec Ideal S256 .f32) : kernelRun0_A.sl.r_24 c i arg3 harg3 hc1 x0 = tbl x0 (i 0).val 24 := read_at i harg3 x0 24

theorem read_25 (c : Dev nD) (i : grid0.Coords) (arg3 : Memref sig .tc .smem S256 .f32) (harg3 : arg3.IsWhole) (hc1 : cond0_1 i) (x0 : Vec Ideal S256 .f32) : kernelRun0_A.sl.r_25 c i arg3 harg3 hc1 x0 = tbl x0 (i 0).val 25 := read_at i harg3 x0 25

theorem read_26 (c : Dev nD) (i : grid0.Coords) (arg3 : Memref sig .tc .smem S256 .f32) (harg3 : arg3.IsWhole) (hc1 : cond0_1 i) (x0 : Vec Ideal S256 .f32) : kernelRun0_A.sl.r_26 c i arg3 harg3 hc1 x0 = tbl x0 (i 0).val 26 := read_at i harg3 x0 26

theorem read_27 (c : Dev nD) (i : grid0.Coords) (arg3 : Memref sig .tc .smem S256 .f32) (harg3 : arg3.IsWhole) (hc1 : cond0_1 i) (x0 : Vec Ideal S256 .f32) : kernelRun0_A.sl.r_27 c i arg3 harg3 hc1 x0 = tbl x0 (i 0).val 27 := read_at i harg3 x0 27

theorem read_28 (c : Dev nD) (i : grid0.Coords) (arg3 : Memref sig .tc .smem S256 .f32) (harg3 : arg3.IsWhole) (hc1 : cond0_1 i) (x0 : Vec Ideal S256 .f32) : kernelRun0_A.sl.r_28 c i arg3 harg3 hc1 x0 = tbl x0 (i 0).val 28 := read_at i harg3 x0 28

theorem read_29 (c : Dev nD) (i : grid0.Coords) (arg3 : Memref sig .tc .smem S256 .f32) (harg3 : arg3.IsWhole) (hc1 : cond0_1 i) (x0 : Vec Ideal S256 .f32) : kernelRun0_A.sl.r_29 c i arg3 harg3 hc1 x0 = tbl x0 (i 0).val 29 := read_at i harg3 x0 29

theorem read_30 (c : Dev nD) (i : grid0.Coords) (arg3 : Memref sig .tc .smem S256 .f32) (harg3 : arg3.IsWhole) (hc1 : cond0_1 i) (x0 : Vec Ideal S256 .f32) : kernelRun0_A.sl.r_30 c i arg3 harg3 hc1 x0 = tbl x0 (i 0).val 30 := read_at i harg3 x0 30

theorem read_31 (c : Dev nD) (i : grid0.Coords) (arg3 : Memref sig .tc .smem S256 .f32) (harg3 : arg3.IsWhole) (hc1 : cond0_1 i) (x0 : Vec Ideal S256 .f32) : kernelRun0_A.sl.r_31 c i arg3 harg3 hc1 x0 = tbl x0 (i 0).val 31 := read_at i harg3 x0 31

theorem read_32 (c : Dev nD) (i : grid0.Coords) (arg3 : Memref sig .tc .smem S256 .f32) (harg3 : arg3.IsWhole) (hc1 : cond0_1 i) (x0 : Vec Ideal S256 .f32) : kernelRun0_A.sl.r_32 c i arg3 harg3 hc1 x0 = tbl x0 (i 0).val 26 := read_at i harg3 x0 26

/-- The first comparisons of the half of the table before the diagonal tile. -/
theorem left_25 (c : Dev nD) (i : grid0.Coords) (arg3 : Memref sig .tc .smem S256 .f32) (harg3 : arg3.IsWhole) (hc1 : cond0_1 i) (x0 : Vec Ideal S256 .f32) (p : S512x512.Idx) :
    (kernelRun0_A.sl.v546 c i arg3 harg3 hc1 x0 : S512x512.Idx → EReal) p = look (tbl x0 (i 0).val) (kernelRun0_A.sl.v368 p) 25 := by
  have e0 : (kernelRun0_A.sl.v141 c i arg3 harg3 hc1 x0 : S512x512.Idx → EReal) p = look (tbl x0 (i 0).val) (kernelRun0_A.sl.v368 p) 0 := read_0 c i arg3 harg3 hc1 x0
  have e1 : (kernelRun0_A.sl.v378 c i arg3 harg3 hc1 x0 : S512x512.Idx → EReal) p = look (tbl x0 (i 0).val) (kernelRun0_A.sl.v368 p) 1 :=
    (show (kernelRun0_A.sl.v378 c i arg3 harg3 hc1 x0 : S512x512.Idx → EReal) p = Scalar.select (IntOp.cmpi CmpIPredicate.sge (kernelRun0_A.sl.v368 p) 1#32) (kernelRun0_A.sl.r_1 c i arg3 harg3 hc1 x0) ((kernelRun0_A.sl.v141 c i arg3 harg3 hc1 x0 : S512x512.Idx → EReal) p) from by with_unfolding_all rfl).trans (look_step (k := 0) rfl (read_1 c i arg3 harg3 hc1 x0) e0)
  have e2 : (kernelRun0_A.sl.v385 c i arg3 harg3 hc1 x0 : S512x512.Idx → EReal) p = look (tbl x0 (i 0).val) (kernelRun0_A.sl.v368 p) 2 :=
    (show (kernelRun0_A.sl.v385 c i arg3 harg3 hc1 x0 : S512x512.Idx → EReal) p = Scalar.select (IntOp.cmpi CmpIPredicate.sge (kernelRun0_A.sl.v368 p) 2#32) (kernelRun0_A.sl.r_2 c i arg3 harg3 hc1 x0) ((kernelRun0_A.sl.v378 c i arg3 harg3 hc1 x0 : S512x512.Idx → EReal) p) from by with_unfolding_all rfl).trans (look_step (k := 1) rfl (read_2 c i arg3 harg3 hc1 x0) e1)
  have e3 : (kernelRun0_A.sl.v392 c i arg3 harg3 hc1 x0 : S512x512.Idx → EReal) p = look (tbl x0 (i 0).val) (kernelRun0_A.sl.v368 p) 3 :=
    (show (kernelRun0_A.sl.v392 c i arg3 harg3 hc1 x0 : S512x512.Idx → EReal) p = Scalar.select (IntOp.cmpi CmpIPredicate.sge (kernelRun0_A.sl.v368 p) 3#32) (kernelRun0_A.sl.r_3 c i arg3 harg3 hc1 x0) ((kernelRun0_A.sl.v385 c i arg3 harg3 hc1 x0 : S512x512.Idx → EReal) p) from by with_unfolding_all rfl).trans (look_step (k := 2) rfl (read_3 c i arg3 harg3 hc1 x0) e2)
  have e4 : (kernelRun0_A.sl.v399 c i arg3 harg3 hc1 x0 : S512x512.Idx → EReal) p = look (tbl x0 (i 0).val) (kernelRun0_A.sl.v368 p) 4 :=
    (show (kernelRun0_A.sl.v399 c i arg3 harg3 hc1 x0 : S512x512.Idx → EReal) p = Scalar.select (IntOp.cmpi CmpIPredicate.sge (kernelRun0_A.sl.v368 p) 4#32) (kernelRun0_A.sl.r_4 c i arg3 harg3 hc1 x0) ((kernelRun0_A.sl.v392 c i arg3 harg3 hc1 x0 : S512x512.Idx → EReal) p) from by with_unfolding_all rfl).trans (look_step (k := 3) rfl (read_4 c i arg3 harg3 hc1 x0) e3)
  have e5 : (kernelRun0_A.sl.v406 c i arg3 harg3 hc1 x0 : S512x512.Idx → EReal) p = look (tbl x0 (i 0).val) (kernelRun0_A.sl.v368 p) 5 :=
    (show (kernelRun0_A.sl.v406 c i arg3 harg3 hc1 x0 : S512x512.Idx → EReal) p = Scalar.select (IntOp.cmpi CmpIPredicate.sge (kernelRun0_A.sl.v368 p) 5#32) (kernelRun0_A.sl.r_5 c i arg3 harg3 hc1 x0) ((kernelRun0_A.sl.v399 c i arg3 harg3 hc1 x0 : S512x512.Idx → EReal) p) from by with_unfolding_all rfl).trans (look_step (k := 4) rfl (read_5 c i arg3 harg3 hc1 x0) e4)
  have e6 : (kernelRun0_A.sl.v413 c i arg3 harg3 hc1 x0 : S512x512.Idx → EReal) p = look (tbl x0 (i 0).val) (kernelRun0_A.sl.v368 p) 6 :=
    (show (kernelRun0_A.sl.v413 c i arg3 harg3 hc1 x0 : S512x512.Idx → EReal) p = Scalar.select (IntOp.cmpi CmpIPredicate.sge (kernelRun0_A.sl.v368 p) 6#32) (kernelRun0_A.sl.r_6 c i arg3 harg3 hc1 x0) ((kernelRun0_A.sl.v406 c i arg3 harg3 hc1 x0 : S512x512.Idx → EReal) p) from by with_unfolding_all rfl).trans (look_step (k := 5) rfl (read_6 c i arg3 harg3 hc1 x0) e5)
  have e7 : (kernelRun0_A.sl.v420 c i arg3 harg3 hc1 x0 : S512x512.Idx → EReal) p = look (tbl x0 (i 0).val) (kernelRun0_A.sl.v368 p) 7 :=
    (show (kernelRun0_A.sl.v420 c i arg3 harg3 hc1 x0 : S512x512.Idx → EReal) p = Scalar.select (IntOp.cmpi CmpIPredicate.sge (kernelRun0_A.sl.v368 p) 7#32) (kernelRun0_A.sl.r_7 c i arg3 harg3 hc1 x0) ((kernelRun0_A.sl.v413 c i arg3 harg3 hc1 x0 : S512x512.Idx → EReal) p) from by with_unfolding_all rfl).trans (look_step (k := 6) rfl (read_7 c i arg3 harg3 hc1 x0) e6)
  have e8 : (kernelRun0_A.sl.v427 c i arg3 harg3 hc1 x0 : S512x512.Idx → EReal) p = look (tbl x0 (i 0).val) (kernelRun0_A.sl.v368 p) 8 :=
    (show (kernelRun0_A.sl.v427 c i arg3 harg3 hc1 x0 : S512x512.Idx → EReal) p = Scalar.select (IntOp.cmpi CmpIPredicate.sge (kernelRun0_A.sl.v368 p) 8#32) (kernelRun0_A.sl.r_8 c i arg3 harg3 hc1 x0) ((kernelRun0_A.sl.v420 c i arg3 harg3 hc1 x0 : S512x512.Idx → EReal) p) from by with_unfolding_all rfl).trans (look_step (k := 7) rfl (read_8 c i arg3 harg3 hc1 x0) e7)
  have e9 : (kernelRun0_A.sl.v434 c i arg3 harg3 hc1 x0 : S512x512.Idx → EReal) p = look (tbl x0 (i 0).val) (kernelRun0_A.sl.v368 p) 9 :=
    (show (kernelRun0_A.sl.v434 c i arg3 harg3 hc1 x0 : S512x512.Idx → EReal) p = Scalar.select (IntOp.cmpi CmpIPredicate.sge (kernelRun0_A.sl.v368 p) 9#32) (kernelRun0_A.sl.r_9 c i arg3 harg3 hc1 x0) ((kernelRun0_A.sl.v427 c i arg3 harg3 hc1 x0 : S512x512.Idx → EReal) p) from by with_unfolding_all rfl).trans (look_step (k := 8) rfl (read_9 c i arg3 harg3 hc1 x0) e8)
  have e10 : (kernelRun0_A.sl.v441 c i arg3 harg3 hc1 x0 : S512x512.Idx → EReal) p = look (tbl x0 (i 0).val) (kernelRun0_A.sl.v368 p) 10 :=
    (show (kernelRun0_A.sl.v441 c i arg3 harg3 hc1 x0 : S512x512.Idx → EReal) p = Scalar.select (IntOp.cmpi CmpIPredicate.sge (kernelRun0_A.sl.v368 p) 10#32) (kernelRun0_A.sl.r_10 c i arg3 harg3 hc1 x0) ((kernelRun0_A.sl.v434 c i arg3 harg3 hc1 x0 : S512x512.Idx → EReal) p) from by with_unfolding_all rfl).trans (look_step (k := 9) rfl (read_10 c i arg3 harg3 hc1 x0) e9)
  have e11 : (kernelRun0_A.sl.v448 c i arg3 harg3 hc1 x0 : S512x512.Idx → EReal) p = look (tbl x0 (i 0).val) (kernelRun0_A.sl.v368 p) 11 :=
    (show (kernelRun0_A.sl.v448 c i arg3 harg3 hc1 x0 : S512x512.Idx → EReal) p = Scalar.select (IntOp.cmpi CmpIPredicate.sge (kernelRun0_A.sl.v368 p) 11#32) (kernelRun0_A.sl.r_11 c i arg3 harg3 hc1 x0) ((kernelRun0_A.sl.v441 c i arg3 harg3 hc1 x0 : S512x512.Idx → EReal) p) from by with_unfolding_all rfl).trans (look_step (k := 10) rfl (read_11 c i arg3 harg3 hc1 x0) e10)
  have e12 : (kernelRun0_A.sl.v455 c i arg3 harg3 hc1 x0 : S512x512.Idx → EReal) p = look (tbl x0 (i 0).val) (kernelRun0_A.sl.v368 p) 12 :=
    (show (kernelRun0_A.sl.v455 c i arg3 harg3 hc1 x0 : S512x512.Idx → EReal) p = Scalar.select (IntOp.cmpi CmpIPredicate.sge (kernelRun0_A.sl.v368 p) 12#32) (kernelRun0_A.sl.r_12 c i arg3 harg3 hc1 x0) ((kernelRun0_A.sl.v448 c i arg3 harg3 hc1 x0 : S512x512.Idx → EReal) p) from by with_unfolding_all rfl).trans (look_step (k := 11) rfl (read_12 c i arg3 harg3 hc1 x0) e11)
  have e13 : (kernelRun0_A.sl.v462 c i arg3 harg3 hc1 x0 : S512x512.Idx → EReal) p = look (tbl x0 (i 0).val) (kernelRun0_A.sl.v368 p) 13 :=
    (show (kernelRun0_A.sl.v462 c i arg3 harg3 hc1 x0 : S512x512.Idx → EReal) p = Scalar.select (IntOp.cmpi CmpIPredicate.sge (kernelRun0_A.sl.v368 p) 13#32) (kernelRun0_A.sl.r_13 c i arg3 harg3 hc1 x0) ((kernelRun0_A.sl.v455 c i arg3 harg3 hc1 x0 : S512x512.Idx → EReal) p) from by with_unfolding_all rfl).trans (look_step (k := 12) rfl (read_13 c i arg3 harg3 hc1 x0) e12)
  have e14 : (kernelRun0_A.sl.v469 c i arg3 harg3 hc1 x0 : S512x512.Idx → EReal) p = look (tbl x0 (i 0).val) (kernelRun0_A.sl.v368 p) 14 :=
    (show (kernelRun0_A.sl.v469 c i arg3 harg3 hc1 x0 : S512x512.Idx → EReal) p = Scalar.select (IntOp.cmpi CmpIPredicate.sge (kernelRun0_A.sl.v368 p) 14#32) (kernelRun0_A.sl.r_14 c i arg3 harg3 hc1 x0) ((kernelRun0_A.sl.v462 c i arg3 harg3 hc1 x0 : S512x512.Idx → EReal) p) from by with_unfolding_all rfl).trans (look_step (k := 13) rfl (read_14 c i arg3 harg3 hc1 x0) e13)
  have e15 : (kernelRun0_A.sl.v476 c i arg3 harg3 hc1 x0 : S512x512.Idx → EReal) p = look (tbl x0 (i 0).val) (kernelRun0_A.sl.v368 p) 15 :=
    (show (kernelRun0_A.sl.v476 c i arg3 harg3 hc1 x0 : S512x512.Idx → EReal) p = Scalar.select (IntOp.cmpi CmpIPredicate.sge (kernelRun0_A.sl.v368 p) 15#32) (kernelRun0_A.sl.r_15 c i arg3 harg3 hc1 x0) ((kernelRun0_A.sl.v469 c i arg3 harg3 hc1 x0 : S512x512.Idx → EReal) p) from by with_unfolding_all rfl).trans (look_step (k := 14) rfl (read_15 c i arg3 harg3 hc1 x0) e14)
  have e16 : (kernelRun0_A.sl.v483 c i arg3 harg3 hc1 x0 : S512x512.Idx → EReal) p = look (tbl x0 (i 0).val) (kernelRun0_A.sl.v368 p) 16 :=
    (show (kernelRun0_A.sl.v483 c i arg3 harg3 hc1 x0 : S512x512.Idx → EReal) p = Scalar.select (IntOp.cmpi CmpIPredicate.sge (kernelRun0_A.sl.v368 p) 16#32) (kernelRun0_A.sl.r_16 c i arg3 harg3 hc1 x0) ((kernelRun0_A.sl.v476 c i arg3 harg3 hc1 x0 : S512x512.Idx → EReal) p) from by with_unfolding_all rfl).trans (look_step (k := 15) rfl (read_16 c i arg3 harg3 hc1 x0) e15)
  have e17 : (kernelRun0_A.sl.v490 c i arg3 harg3 hc1 x0 : S512x512.Idx → EReal) p = look (tbl x0 (i 0).val) (kernelRun0_A.sl.v368 p) 17 :=
    (show (kernelRun0_A.sl.v490 c i arg3 harg3 hc1 x0 : S512x512.Idx → EReal) p = Scalar.select (IntOp.cmpi CmpIPredicate.sge (kernelRun0_A.sl.v368 p) 19#32) (kernelRun0_A.sl.r_17 c i arg3 harg3 hc1 x0) ((kernelRun0_A.sl.v483 c i arg3 harg3 hc1 x0 : S512x512.Idx → EReal) p) from by with_unfolding_all rfl).trans (look_step (k := 16) rfl (read_17 c i arg3 harg3 hc1 x0) e16)
  have e18 : (kernelRun0_A.sl.v497 c i arg3 harg3 hc1 x0 : S512x512.Idx → EReal) p = look (tbl x0 (i 0).val) (kernelRun0_A.sl.v368 p) 18 :=
    (show (kernelRun0_A.sl.v497 c i arg3 harg3 hc1 x0 : S512x512.Idx → EReal) p = Scalar.select (IntOp.cmpi CmpIPredicate.sge (kernelRun0_A.sl.v368 p) 21#32) (kernelRun0_A.sl.r_18 c i arg3 harg3 hc1 x0) ((kernelRun0_A.sl.v490 c i arg3 harg3 hc1 x0 : S512x512.Idx → EReal) p) from by with_unfolding_all rfl).trans (look_step (k := 17) rfl (read_18 c i arg3 harg3 hc1 x0) e17)
  have e19 : (kernelRun0_A.sl.v504 c i arg3 harg3 hc1 x0 : S512x512.Idx → EReal) p = look (tbl x0 (i 0).val) (kernelRun0_A.sl.v368 p) 19 :=
    (show (kernelRun0_A.sl.v504 c i arg3 harg3 hc1 x0 : S512x512.Idx → EReal) p = Scalar.select (IntOp.cmpi CmpIPredicate.sge (kernelRun0_A.sl.v368 p) 24#32) (kernelRun0_A.sl.r_19 c i arg3 harg3 hc1 x0) ((kernelRun0_A.sl.v497 c i arg3 harg3 hc1 x0 : S512x512.Idx → EReal) p) from by with_unfolding_all rfl).trans (look_step (k := 18) rfl (read_19 c i arg3 harg3 hc1 x0) e18)
  have e20 : (kernelRun0_A.sl.v511 c i arg3 harg3 hc1 x0 : S512x512.Idx → EReal) p = look (tbl x0 (i 0).val) (kernelRun0_A.sl.v368 p) 20 :=
    (show (kernelRun0_A.sl.v511 c i arg3 harg3 hc1 x0 : S512x512.Idx → EReal) p = Scalar.select (IntOp.cmpi CmpIPredicate.sge (kernelRun0_A.sl.v368 p) 27#32) (kernelRun0_A.sl.r_20 c i arg3 harg3 hc1 x0) ((kernelRun0_A.sl.v504 c i arg3 harg3 hc1 x0 : S512x512.Idx → EReal) p) from by with_unfolding_all rfl).trans (look_step (k := 19) rfl (read_20 c i arg3 harg3 hc1 x0) e19)
  have e21 : (kernelRun0_A.sl.v518 c i arg3 harg3 hc1 x0 : S512x512.Idx → EReal) p = look (tbl x0 (i 0).val) (kernelRun0_A.sl.v368 p) 21 :=
    (show (kernelRun0_A.sl.v518 c i arg3 harg3 hc1 x0 : S512x512.Idx → EReal) p = Scalar.select (IntOp.cmpi CmpIPredicate.sge (kernelRun0_A.sl.v368 p) 31#32) (kernelRun0_A.sl.r_21 c i arg3 harg3 hc1 x0) ((kernelRun0_A.sl.v511 c i arg3 harg3 hc1 x0 : S512x512.Idx → EReal) p) from by with_unfolding_all rfl).trans (look_step (k := 20) rfl (read_21 c i arg3 harg3 hc1 x0) e20)
  have e22 : (kernelRun0_A.sl.v525 c i arg3 harg3 hc1 x0 : S512x512.Idx → EReal) p = look (tbl x0 (i 0).val) (kernelRun0_A.sl.v368 p) 22 :=
    (show (kernelRun0_A.sl.v525 c i arg3 harg3 hc1 x0 : S512x512.Idx → EReal) p = Scalar.select (IntOp.cmpi CmpIPredicate.sge (kernelRun0_A.sl.v368 p) 35#32) (kernelRun0_A.sl.r_22 c i arg3 harg3 hc1 x0) ((kernelRun0_A.sl.v518 c i arg3 harg3 hc1 x0 : S512x512.Idx → EReal) p) from by with_unfolding_all rfl).trans (look_step (k := 21) rfl (read_22 c i arg3 harg3 hc1 x0) e21)
  have e23 : (kernelRun0_A.sl.v532 c i arg3 harg3 hc1 x0 : S512x512.Idx → EReal) p = look (tbl x0 (i 0).val) (kernelRun0_A.sl.v368 p) 23 :=
    (show (kernelRun0_A.sl.v532 c i arg3 harg3 hc1 x0 : S512x512.Idx → EReal) p = Scalar.select (IntOp.cmpi CmpIPredicate.sge (kernelRun0_A.sl.v368 p) 40#32) (kernelRun0_A.sl.r_23 c i arg3 harg3 hc1 x0) ((kernelRun0_A.sl.v525 c i arg3 harg3 hc1 x0 : S512x512.Idx → EReal) p) from by with_unfolding_all rfl).trans (look_step (k := 22) rfl (read_23 c i arg3 harg3 hc1 x0) e22)
  have e24 : (kernelRun0_A.sl.v539 c i arg3 harg3 hc1 x0 : S512x512.Idx → EReal) p = look (tbl x0 (i 0).val) (kernelRun0_A.sl.v368 p) 24 :=
    (show (kernelRun0_A.sl.v539 c i arg3 harg3 hc1 x0 : S512x512.Idx → EReal) p = Scalar.select (IntOp.cmpi CmpIPredicate.sge (kernelRun0_A.sl.v368 p) 46#32) (kernelRun0_A.sl.r_24 c i arg3 harg3 hc1 x0) ((kernelRun0_A.sl.v532 c i arg3 harg3 hc1 x0 : S512x512.Idx → EReal) p) from by with_unfolding_all rfl).trans (look_step (k := 23) rfl (read_24 c i arg3 harg3 hc1 x0) e23)
  have e25 : (kernelRun0_A.sl.v546 c i arg3 harg3 hc1 x0 : S512x512.Idx → EReal) p = look (tbl x0 (i 0).val) (kernelRun0_A.sl.v368 p) 25 :=
    (show (kernelRun0_A.sl.v546 c i arg3 harg3 hc1 x0 : S512x512.Idx → EReal) p = Scalar.select (IntOp.cmpi CmpIPredicate.sge (kernelRun0_A.sl.v368 p) 52#32) (kernelRun0_A.sl.r_25 c i arg3 harg3 hc1 x0) ((kernelRun0_A.sl.v539 c i arg3 harg3 hc1 x0 : S512x512.Idx → EReal) p) from by with_unfolding_all rfl).trans (look_step (k := 24) rfl (read_25 c i arg3 harg3 hc1 x0) e24)
  exact e25

/-- The first comparisons of the diagonal half. -/
theorem right_25 (c : Dev nD) (i : grid0.Coords) (arg3 : Memref sig .tc .smem S256 .f32) (harg3 : arg3.IsWhole) (hc1 : cond0_1 i) (x0 : Vec Ideal S256 .f32) (p : S512x512.Idx) :
    (kernelRun0_A.sl.v316 c i arg3 harg3 hc1 x0 : S512x512.Idx → EReal) p = look (tbl x0 (i 0).val) (kernelRun0_A.sl.v138 p) 25 := by
  have e0 : (kernelRun0_A.sl.v141 c i arg3 harg3 hc1 x0 : S512x512.Idx → EReal) p = look (tbl x0 (i 0).val) (kernelRun0_A.sl.v138 p) 0 := read_0 c i arg3 harg3 hc1 x0
  have e1 : (kernelRun0_A.sl.v148 c i arg3 harg3 hc1 x0 : S512x512.Idx → EReal) p = look (tbl x0 (i 0).val) (kernelRun0_A.sl.v138 p) 1 :=
    (show (kernelRun0_A.sl.v148 c i arg3 harg3 hc1 x0 : S512x512.Idx → EReal) p = Scalar.select (IntOp.cmpi CmpIPredicate.sge (kernelRun0_A.sl.v138 p) 1#32) (kernelRun0_A.sl.r_1 c i arg3 harg3 hc1 x0) ((kernelRun0_A.sl.v141 c i arg3 harg3 hc1 x0 : S512x512.Idx → EReal) p) from by with_unfolding_all rfl).trans (look_step (k := 0) rfl (read_1 c i arg3 harg3 hc1 x0) e0)
  have e2 : (kernelRun0_A.sl.v155 c i arg3 harg3 hc1 x0 : S512x512.Idx → EReal) p = look (tbl x0 (i 0).val) (kernelRun0_A.sl.v138 p) 2 :=
    (show (kernelRun0_A.sl.v155 c i arg3 harg3 hc1 x0 : S512x512.Idx → EReal) p = Scalar.select (IntOp.cmpi CmpIPredicate.sge (kernelRun0_A.sl.v138 p) 2#32) (kernelRun0_A.sl.r_2 c i arg3 harg3 hc1 x0) ((kernelRun0_A.sl.v148 c i arg3 harg3 hc1 x0 : S512x512.Idx → EReal) p) from by with_unfolding_all rfl).trans (look_step (k := 1) rfl (read_2 c i arg3 harg3 hc1 x0) e1)
  have e3 : (kernelRun0_A.sl.v162 c i arg3 harg3 hc1 x0 : S512x512.Idx → EReal) p = look (tbl x0 (i 0).val) (kernelRun0_A.sl.v138 p) 3 :=
    (show (kernelRun0_A.sl.v162 c i arg3 harg3 hc1 x0 : S512x512.Idx → EReal) p = Scalar.select (IntOp.cmpi CmpIPredicate.sge (kernelRun0_A.sl.v138 p) 3#32) (kernelRun0_A.sl.r_3 c i arg3 harg3 hc1 x0) ((kernelRun0_A.sl.v155 c i arg3 harg3 hc1 x0 : S512x512.Idx → EReal) p) from by with_unfolding_all rfl).trans (look_step (k := 2) rfl (read_3 c i arg3 harg3 hc1 x0) e2)
  have e4 : (kernelRun0_A.sl.v169 c i arg3 harg3 hc1 x0 : S512x512.Idx → EReal) p = look (tbl x0 (i 0).val) (kernelRun0_A.sl.v138 p) 4 :=
    (show (kernelRun0_A.sl.v169 c i arg3 harg3 hc1 x0 : S512x512.Idx → EReal) p = Scalar.select (IntOp.cmpi CmpIPredicate.sge (kernelRun0_A.sl.v138 p) 4#32) (kernelRun0_A.sl.r_4 c i arg3 harg3 hc1 x0) ((kernelRun0_A.sl.v162 c i arg3 harg3 hc1 x0 : S512x512.Idx → EReal) p) from by with_unfolding_all rfl).trans (look_step (k := 3) rfl (read_4 c i arg3 harg3 hc1 x0) e3)
  have e5 : (kernelRun0_A.sl.v176 c i arg3 harg3 hc1 x0 : S512x512.Idx → EReal) p = look (tbl x0 (i 0).val) (kernelRun0_A.sl.v138 p) 5 :=
    (show (kernelRun0_A.sl.v176 c i arg3 harg3 hc1 x0 : S512x512.Idx → EReal) p = Scalar.select (IntOp.cmpi CmpIPredicate.sge (kernelRun0_A.sl.v138 p) 5#32) (kernelRun0_A.sl.r_5 c i arg3 harg3 hc1 x0) ((kernelRun0_A.sl.v169 c i arg3 harg3 hc1 x0 : S512x512.Idx → EReal) p) from by with_unfolding_all rfl).trans (look_step (k := 4) rfl (read_5 c i arg3 harg3 hc1 x0) e4)
  have e6 : (kernelRun0_A.sl.v183 c i arg3 harg3 hc1 x0 : S512x512.Idx → EReal) p = look (tbl x0 (i 0).val) (kernelRun0_A.sl.v138 p) 6 :=
    (show (kernelRun0_A.sl.v183 c i arg3 harg3 hc1 x0 : S512x512.Idx → EReal) p = Scalar.select (IntOp.cmpi CmpIPredicate.sge (kernelRun0_A.sl.v138 p) 6#32) (kernelRun0_A.sl.r_6 c i arg3 harg3 hc1 x0) ((kernelRun0_A.sl.v176 c i arg3 harg3 hc1 x0 : S512x512.Idx → EReal) p) from by with_unfolding_all rfl).trans (look_step (k := 5) rfl (read_6 c i arg3 harg3 hc1 x0) e5)
  have e7 : (kernelRun0_A.sl.v190 c i arg3 harg3 hc1 x0 : S512x512.Idx → EReal) p = look (tbl x0 (i 0).val) (kernelRun0_A.sl.v138 p) 7 :=
    (show (kernelRun0_A.sl.v190 c i arg3 harg3 hc1 x0 : S512x512.Idx → EReal) p = Scalar.select (IntOp.cmpi CmpIPredicate.sge (kernelRun0_A.sl.v138 p) 7#32) (kernelRun0_A.sl.r_7 c i arg3 harg3 hc1 x0) ((kernelRun0_A.sl.v183 c i arg3 harg3 hc1 x0 : S512x512.Idx → EReal) p) from by with_unfolding_all rfl).trans (look_step (k := 6) rfl (read_7 c i arg3 harg3 hc1 x0) e6)
  have e8 : (kernelRun0_A.sl.v197 c i arg3 harg3 hc1 x0 : S512x512.Idx → EReal) p = look (tbl x0 (i 0).val) (kernelRun0_A.sl.v138 p) 8 :=
    (show (kernelRun0_A.sl.v197 c i arg3 harg3 hc1 x0 : S512x512.Idx → EReal) p = Scalar.select (IntOp.cmpi CmpIPredicate.sge (kernelRun0_A.sl.v138 p) 8#32) (kernelRun0_A.sl.r_8 c i arg3 harg3 hc1 x0) ((kernelRun0_A.sl.v190 c i arg3 harg3 hc1 x0 : S512x512.Idx → EReal) p) from by with_unfolding_all rfl).trans (look_step (k := 7) rfl (read_8 c i arg3 harg3 hc1 x0) e7)
  have e9 : (kernelRun0_A.sl.v204 c i arg3 harg3 hc1 x0 : S512x512.Idx → EReal) p = look (tbl x0 (i 0).val) (kernelRun0_A.sl.v138 p) 9 :=
    (show (kernelRun0_A.sl.v204 c i arg3 harg3 hc1 x0 : S512x512.Idx → EReal) p = Scalar.select (IntOp.cmpi CmpIPredicate.sge (kernelRun0_A.sl.v138 p) 9#32) (kernelRun0_A.sl.r_9 c i arg3 harg3 hc1 x0) ((kernelRun0_A.sl.v197 c i arg3 harg3 hc1 x0 : S512x512.Idx → EReal) p) from by with_unfolding_all rfl).trans (look_step (k := 8) rfl (read_9 c i arg3 harg3 hc1 x0) e8)
  have e10 : (kernelRun0_A.sl.v211 c i arg3 harg3 hc1 x0 : S512x512.Idx → EReal) p = look (tbl x0 (i 0).val) (kernelRun0_A.sl.v138 p) 10 :=
    (show (kernelRun0_A.sl.v211 c i arg3 harg3 hc1 x0 : S512x512.Idx → EReal) p = Scalar.select (IntOp.cmpi CmpIPredicate.sge (kernelRun0_A.sl.v138 p) 10#32) (kernelRun0_A.sl.r_10 c i arg3 harg3 hc1 x0) ((kernelRun0_A.sl.v204 c i arg3 harg3 hc1 x0 : S512x512.Idx → EReal) p) from by with_unfolding_all rfl).trans (look_step (k := 9) rfl (read_10 c i arg3 harg3 hc1 x0) e9)
  have e11 : (kernelRun0_A.sl.v218 c i arg3 harg3 hc1 x0 : S512x512.Idx → EReal) p = look (tbl x0 (i 0).val) (kernelRun0_A.sl.v138 p) 11 :=
    (show (kernelRun0_A.sl.v218 c i arg3 harg3 hc1 x0 : S512x512.Idx → EReal) p = Scalar.select (IntOp.cmpi CmpIPredicate.sge (kernelRun0_A.sl.v138 p) 11#32) (kernelRun0_A.sl.r_11 c i arg3 harg3 hc1 x0) ((kernelRun0_A.sl.v211 c i arg3 harg3 hc1 x0 : S512x512.Idx → EReal) p) from by with_unfolding_all rfl).trans (look_step (k := 10) rfl (read_11 c i arg3 harg3 hc1 x0) e10)
  have e12 : (kernelRun0_A.sl.v225 c i arg3 harg3 hc1 x0 : S512x512.Idx → EReal) p = look (tbl x0 (i 0).val) (kernelRun0_A.sl.v138 p) 12 :=
    (show (kernelRun0_A.sl.v225 c i arg3 harg3 hc1 x0 : S512x512.Idx → EReal) p = Scalar.select (IntOp.cmpi CmpIPredicate.sge (kernelRun0_A.sl.v138 p) 12#32) (kernelRun0_A.sl.r_12 c i arg3 harg3 hc1 x0) ((kernelRun0_A.sl.v218 c i arg3 harg3 hc1 x0 : S512x512.Idx → EReal) p) from by with_unfolding_all rfl).trans (look_step (k := 11) rfl (read_12 c i arg3 harg3 hc1 x0) e11)
  have e13 : (kernelRun0_A.sl.v232 c i arg3 harg3 hc1 x0 : S512x512.Idx → EReal) p = look (tbl x0 (i 0).val) (kernelRun0_A.sl.v138 p) 13 :=
    (show (kernelRun0_A.sl.v232 c i arg3 harg3 hc1 x0 : S512x512.Idx → EReal) p = Scalar.select (IntOp.cmpi CmpIPredicate.sge (kernelRun0_A.sl.v138 p) 13#32) (kernelRun0_A.sl.r_13 c i arg3 harg3 hc1 x0) ((kernelRun0_A.sl.v225 c i arg3 harg3 hc1 x0 : S512x512.Idx → EReal) p) from by with_unfolding_all rfl).trans (look_step (k := 12) rfl (read_13 c i arg3 harg3 hc1 x0) e12)
  have e14 : (kernelRun0_A.sl.v239 c i arg3 harg3 hc1 x0 : S512x512.Idx → EReal) p = look (tbl x0 (i 0).val) (kernelRun0_A.sl.v138 p) 14 :=
    (show (kernelRun0_A.sl.v239 c i arg3 harg3 hc1 x0 : S512x512.Idx → EReal) p = Scalar.select (IntOp.cmpi CmpIPredicate.sge (kernelRun0_A.sl.v138 p) 14#32) (kernelRun0_A.sl.r_14 c i arg3 harg3 hc1 x0) ((kernelRun0_A.sl.v232 c i arg3 harg3 hc1 x0 : S512x512.Idx → EReal) p) from by with_unfolding_all rfl).trans (look_step (k := 13) rfl (read_14 c i arg3 harg3 hc1 x0) e13)
  have e15 : (kernelRun0_A.sl.v246 c i arg3 harg3 hc1 x0 : S512x512.Idx → EReal) p = look (tbl x0 (i 0).val) (kernelRun0_A.sl.v138 p) 15 :=
    (show (kernelRun0_A.sl.v246 c i arg3 harg3 hc1 x0 : S512x512.Idx → EReal) p = Scalar.select (IntOp.cmpi CmpIPredicate.sge (kernelRun0_A.sl.v138 p) 15#32) (kernelRun0_A.sl.r_15 c i arg3 harg3 hc1 x0) ((kernelRun0_A.sl.v239 c i arg3 harg3 hc1 x0 : S512x512.Idx → EReal) p) from by with_unfolding_all rfl).trans (look_step (k := 14) rfl (read_15 c i arg3 harg3 hc1 x0) e14)
  have e16 : (kernelRun0_A.sl.v253 c i arg3 harg3 hc1 x0 : S512x512.Idx → EReal) p = look (tbl x0 (i 0).val) (kernelRun0_A.sl.v138 p) 16 :=
    (show (kernelRun0_A.sl.v253 c i arg3 harg3 hc1 x0 : S512x512.Idx → EReal) p = Scalar.select (IntOp.cmpi CmpIPredicate.sge (kernelRun0_A.sl.v138 p) 16#32) (kernelRun0_A.sl.r_16 c i arg3 harg3 hc1 x0) ((kernelRun0_A.sl.v246 c i arg3 harg3 hc1 x0 : S512x512.Idx → EReal) p) from by with_unfolding_all rfl).trans (look_step (k := 15) rfl (read_16 c i arg3 harg3 hc1 x0) e15)
  have e17 : (kernelRun0_A.sl.v260 c i arg3 harg3 hc1 x0 : S512x512.Idx → EReal) p = look (tbl x0 (i 0).val) (kernelRun0_A.sl.v138 p) 17 :=
    (show (kernelRun0_A.sl.v260 c i arg3 harg3 hc1 x0 : S512x512.Idx → EReal) p = Scalar.select (IntOp.cmpi CmpIPredicate.sge (kernelRun0_A.sl.v138 p) 19#32) (kernelRun0_A.sl.r_17 c i arg3 harg3 hc1 x0) ((kernelRun0_A.sl.v253 c i arg3 harg3 hc1 x0 : S512x512.Idx → EReal) p) from by with_unfolding_all rfl).trans (look_step (k := 16) rfl (read_17 c i arg3 harg3 hc1 x0) e16)
  have e18 : (kernelRun0_A.sl.v267 c i arg3 harg3 hc1 x0 : S512x512.Idx → EReal) p = look (tbl x0 (i 0).val) (kernelRun0_A.sl.v138 p) 18 :=
    (show (kernelRun0_A.sl.v267 c i arg3 harg3 hc1 x0 : S512x512.Idx → EReal) p = Scalar.select (IntOp.cmpi CmpIPredicate.sge (kernelRun0_A.sl.v138 p) 21#32) (kernelRun0_A.sl.r_18 c i arg3 harg3 hc1 x0) ((kernelRun0_A.sl.v260 c i arg3 harg3 hc1 x0 : S512x512.Idx → EReal) p) from by with_unfolding_all rfl).trans (look_step (k := 17) rfl (read_18 c i arg3 harg3 hc1 x0) e17)
  have e19 : (kernelRun0_A.sl.v274 c i arg3 harg3 hc1 x0 : S512x512.Idx → EReal) p = look (tbl x0 (i 0).val) (kernelRun0_A.sl.v138 p) 19 :=
    (show (kernelRun0_A.sl.v274 c i arg3 harg3 hc1 x0 : S512x512.Idx → EReal) p = Scalar.select (IntOp.cmpi CmpIPredicate.sge (kernelRun0_A.sl.v138 p) 24#32) (kernelRun0_A.sl.r_19 c i arg3 harg3 hc1 x0) ((kernelRun0_A.sl.v267 c i arg3 harg3 hc1 x0 : S512x512.Idx → EReal) p) from by with_unfolding_all rfl).trans (look_step (k := 18) rfl (read_19 c i arg3 harg3 hc1 x0) e18)
  have e20 : (kernelRun0_A.sl.v281 c i arg3 harg3 hc1 x0 : S512x512.Idx → EReal) p = look (tbl x0 (i 0).val) (kernelRun0_A.sl.v138 p) 20 :=
    (show (kernelRun0_A.sl.v281 c i arg3 harg3 hc1 x0 : S512x512.Idx → EReal) p = Scalar.select (IntOp.cmpi CmpIPredicate.sge (kernelRun0_A.sl.v138 p) 27#32) (kernelRun0_A.sl.r_20 c i arg3 harg3 hc1 x0) ((kernelRun0_A.sl.v274 c i arg3 harg3 hc1 x0 : S512x512.Idx → EReal) p) from by with_unfolding_all rfl).trans (look_step (k := 19) rfl (read_20 c i arg3 harg3 hc1 x0) e19)
  have e21 : (kernelRun0_A.sl.v288 c i arg3 harg3 hc1 x0 : S512x512.Idx → EReal) p = look (tbl x0 (i 0).val) (kernelRun0_A.sl.v138 p) 21 :=
    (show (kernelRun0_A.sl.v288 c i arg3 harg3 hc1 x0 : S512x512.Idx → EReal) p = Scalar.select (IntOp.cmpi CmpIPredicate.sge (kernelRun0_A.sl.v138 p) 31#32) (kernelRun0_A.sl.r_21 c i arg3 harg3 hc1 x0) ((kernelRun0_A.sl.v281 c i arg3 harg3 hc1 x0 : S512x512.Idx → EReal) p) from by with_unfolding_all rfl).trans (look_step (k := 20) rfl (read_21 c i arg3 harg3 hc1 x0) e20)
  have e22 : (kernelRun0_A.sl.v295 c i arg3 harg3 hc1 x0 : S512x512.Idx → EReal) p = look (tbl x0 (i 0).val) (kernelRun0_A.sl.v138 p) 22 :=
    (show (kernelRun0_A.sl.v295 c i arg3 harg3 hc1 x0 : S512x512.Idx → EReal) p = Scalar.select (IntOp.cmpi CmpIPredicate.sge (kernelRun0_A.sl.v138 p) 35#32) (kernelRun0_A.sl.r_22 c i arg3 harg3 hc1 x0) ((kernelRun0_A.sl.v288 c i arg3 harg3 hc1 x0 : S512x512.Idx → EReal) p) from by with_unfolding_all rfl).trans (look_step (k := 21) rfl (read_22 c i arg3 harg3 hc1 x0) e21)
  have e23 : (kernelRun0_A.sl.v302 c i arg3 harg3 hc1 x0 : S512x512.Idx → EReal) p = look (tbl x0 (i 0).val) (kernelRun0_A.sl.v138 p) 23 :=
    (show (kernelRun0_A.sl.v302 c i arg3 harg3 hc1 x0 : S512x512.Idx → EReal) p = Scalar.select (IntOp.cmpi CmpIPredicate.sge (kernelRun0_A.sl.v138 p) 40#32) (kernelRun0_A.sl.r_23 c i arg3 harg3 hc1 x0) ((kernelRun0_A.sl.v295 c i arg3 harg3 hc1 x0 : S512x512.Idx → EReal) p) from by with_unfolding_all rfl).trans (look_step (k := 22) rfl (read_23 c i arg3 harg3 hc1 x0) e22)
  have e24 : (kernelRun0_A.sl.v309 c i arg3 harg3 hc1 x0 : S512x512.Idx → EReal) p = look (tbl x0 (i 0).val) (kernelRun0_A.sl.v138 p) 24 :=
    (show (kernelRun0_A.sl.v309 c i arg3 harg3 hc1 x0 : S512x512.Idx → EReal) p = Scalar.select (IntOp.cmpi CmpIPredicate.sge (kernelRun0_A.sl.v138 p) 46#32) (kernelRun0_A.sl.r_24 c i arg3 harg3 hc1 x0) ((kernelRun0_A.sl.v302 c i arg3 harg3 hc1 x0 : S512x512.Idx → EReal) p) from by with_unfolding_all rfl).trans (look_step (k := 23) rfl (read_24 c i arg3 harg3 hc1 x0) e23)
  have e25 : (kernelRun0_A.sl.v316 c i arg3 harg3 hc1 x0 : S512x512.Idx → EReal) p = look (tbl x0 (i 0).val) (kernelRun0_A.sl.v138 p) 25 :=
    (show (kernelRun0_A.sl.v316 c i arg3 harg3 hc1 x0 : S512x512.Idx → EReal) p = Scalar.select (IntOp.cmpi CmpIPredicate.sge (kernelRun0_A.sl.v138 p) 52#32) (kernelRun0_A.sl.r_25 c i arg3 harg3 hc1 x0) ((kernelRun0_A.sl.v309 c i arg3 harg3 hc1 x0 : S512x512.Idx → EReal) p) from by with_unfolding_all rfl).trans (look_step (k := 24) rfl (read_25 c i arg3 harg3 hc1 x0) e24)
  exact e25

/-- An entry of the half of the table before the diagonal tile. -/
theorem left_half (c : Dev nD) (i : grid0.Coords) (arg3 : Memref sig .tc .smem S256 .f32) (harg3 : arg3.IsWhole) (hc1 : cond0_1 i) (x0 : Vec Ideal S256 .f32) (p : S512x512.Idx) :
    (kernelRun0_A.sl.r_33 c i arg3 harg3 hc1 x0 : S512x512.Idx → EReal) p = look (tbl x0 (i 0).val) (kernelRun0_A.sl.v368 p) 31 := by
  unfold kernelRun0_A.sl.r_33 k0_pay22
  pointwise
  refine look_step (k := 30) rfl (read_31 c i arg3 harg3 hc1 x0) ?_
  refine look_step (k := 29) rfl (read_30 c i arg3 harg3 hc1 x0) ?_
  refine look_step (k := 28) rfl (read_29 c i arg3 harg3 hc1 x0) ?_
  refine look_step (k := 27) rfl (read_28 c i arg3 harg3 hc1 x0) ?_
  refine look_step (k := 26) rfl (read_27 c i arg3 harg3 hc1 x0) ?_
  exact look_step (k := 25) rfl (read_32 c i arg3 harg3 hc1 x0) (left_25 c i arg3 harg3 hc1 x0 p)

/-- An entry of the diagonal half: keys after the query carry the mask. -/
theorem right_half (c : Dev nD) (i : grid0.Coords) (arg3 : Memref sig .tc .smem S256 .f32) (harg3 : arg3.IsWhole) (hc1 : cond0_1 i) (x0 : Vec Ideal S256 .f32) (p : S512x512.Idx) :
    (k0_pay10 kernelRun0_A.sl.v138 (kernelRun0_A.sl.v316 c i arg3 harg3 hc1 x0) (cmpi CmpIPredicate.sge kernelRun0_A.sl.v138 kernelRun0_A.sl.v317) (kernelRun0_A.sl.r_26 c i arg3 harg3 hc1 x0) (kernelRun0_A.sl.r_27 c i arg3 harg3 hc1 x0) (kernelRun0_A.sl.r_28 c i arg3 harg3 hc1 x0) (kernelRun0_A.sl.r_29 c i arg3 harg3 hc1 x0) (kernelRun0_A.sl.r_30 c i arg3 harg3 hc1 x0) (kernelRun0_A.sl.r_31 c i arg3 harg3 hc1 x0) : S512x512.Idx → EReal) p
      = Scalar.select (IntOp.cmpi CmpIPredicate.sge (kernelRun0_A.sl.v138 p) 0#32) (look (tbl x0 (i 0).val) (kernelRun0_A.sl.v138 p) 31) ⊥ := by
  unfold k0_pay10
  pointwise
  refine sel_congr rfl ?_ (IdealRules.named_const.ideal_named_scalar _ _ _ _ rfl)
  refine look_step (k := 30) rfl (read_31 c i arg3 harg3 hc1 x0) ?_
  refine look_step (k := 29) rfl (read_30 c i arg3 harg3 hc1 x0) ?_
  refine look_step (k := 28) rfl (read_29 c i arg3 harg3 hc1 x0) ?_
  refine look_step (k := 27) rfl (read_28 c i arg3 harg3 hc1 x0) ?_
  refine look_step (k := 26) rfl (read_27 c i arg3 harg3 hc1 x0) ?_
  exact look_step (k := 25) rfl (read_26 c i arg3 harg3 hc1 x0) (right_25 c i arg3 harg3 hc1 x0 p)

/-- The distances the two halves look up. -/
theorem rel_left (r col : Fin 512) : kernelRun0_A.sl.v368 (ix2 r col) = BitVec.ofNat 32 (512 + r.val - col.val) := by
  unfold kernelRun0_A.sl.v368 kernelRun0_A.sl.v367 kernelRun0_A.sl.v134 kernelRun0_A.sl.v135
  pointwise
  have := r.isLt; have := col.isLt
  simp only [IntOp.addi, IntOp.subi]
  apply BitVec.eq_of_toNat_eq
  simp only [BitVec.toNat_add, BitVec.toNat_sub, BitVec.toNat_ofNat]
  omega

theorem rel_right (r col : Fin 512) (h : col.val ≤ r.val) : kernelRun0_A.sl.v138 (ix2 r col) = BitVec.ofNat 32 (r.val - col.val) := by
  unfold kernelRun0_A.sl.v138 kernelRun0_A.sl.v137 kernelRun0_A.sl.v134 kernelRun0_A.sl.v135
  pointwise
  have := r.isLt; have := col.isLt
  simp only [IntOp.addi, IntOp.subi]
  apply BitVec.eq_of_toNat_eq
  simp only [BitVec.toNat_add, BitVec.toNat_sub, BitVec.toNat_ofNat]
  omega

theorem rel_neg (r col : Fin 512) : IntOp.cmpi CmpIPredicate.sge (kernelRun0_A.sl.v138 (ix2 r col)) 0#32 = if col.val ≤ r.val then 1#1 else 0#1 := by
  have h1 := r.isLt; have h2 := col.isLt
  by_cases h : col.val ≤ r.val
  · rw [rel_right r col h, if_pos h]
    exact (sge_small (r.val - col.val) 0 (by omega) (by omega)).trans (if_pos (Nat.zero_le _))
  · rw [if_neg h]
    have e : kernelRun0_A.sl.v138 (ix2 r col) = BitVec.ofNat 32 (2 ^ 32 + r.val - col.val) := by
      unfold kernelRun0_A.sl.v138 kernelRun0_A.sl.v137 kernelRun0_A.sl.v134 kernelRun0_A.sl.v135
      pointwise
      simp only [IntOp.addi, IntOp.subi]
      apply BitVec.eq_of_toNat_eq
      simp only [BitVec.toNat_add, BitVec.toNat_sub, BitVec.toNat_ofNat]
      omega
    have e2 : (BitVec.ofNat 32 (2 ^ 32 + r.val - col.val)).toInt < 0 := by
      rw [BitVec.toInt_neg_iff]; simp only [BitVec.toNat_ofNat]; omega
    rw [e]
    simp only [IntOp.cmpi, BitVec.sle]
    have e3 : ¬ ((0#32).toInt ≤ (BitVec.ofNat 32 (2 ^ 32 + r.val - col.val)).toInt) := by simp only [BitVec.toInt_zero]; omega
    rw [decide_eq_false e3]; rfl

/-- THE BIAS TABLE: every entry at or before the diagonal holds the head's entry of the distance's bucket, the others the mask. -/
theorem bias_A (c : Dev nD) (i : grid0.Coords) (arg3 : Memref sig .tc .smem S256 .f32) (harg3 : arg3.IsWhole) (hc1 : cond0_1 i) (x0 : Vec Ideal S256 .f32) (D : Pt)
    (hb : ∀ d, ((D.b d : ℝ) : EReal) = tbl x0 (i 0).val (bk d 31)) (r : Fin 512) (col : Fin 1024) :
    View.canon (kernelRun0_A.sl.HS2_2 c i arg3 harg3 hc1 x0) (ix2 r col) = D.bias r.val col.val := by
  unfold kernelRun0_A.sl.HS2_2
  have h1 := r.isLt; have h2 := col.isLt
  have e : ∀ (t : ℕ) (hh : ∀ a, (![0, t] : Fin 2 → ℕ) a + (![512, 512] : Fin 2 → ℕ) a ≤ S512x1024.size a) (l' : Fin 512) (_ : t + l'.val = col.val),
      (Rect.unit (s := S512x1024) ![0, t] ![512, 512] hh).emb (ix2 r l') = ix2 r col := fun t hh l' hl => by
    funext d; refine Fin.ext ?_
    fin_cases d <;> simp [Rect.emb, Rect.unit, ix2, hl]
  by_cases hc : col.val < 512
  · refine (congrArg (View.canon _) (e 0 inb_S512x1024_S512x512_0_0 ⟨col.val, hc⟩ (by simp)).symm).trans ((View.canon_cons_emb (Rect.unit (s := S512x1024) ![0, 0] S512x512.size inb_S512x1024_S512x512_0_0) _ _ _).trans ?_)
    rw [left_half, rel_left, look_bk _ _ (by omega), ← hb, Pt.bias, if_pos (by omega)]
  · refine (View.canon_cons_of_not_mem _ _ fun hmem => ?_).trans ?_
    · rw [Rect.mem_set_unit] at hmem
      have h0 : 0 ≤ col.val ∧ col.val < 0 + 512 := hmem 1
      omega
    refine (congrArg (View.canon _) (e 512 inb_S512x1024_S512x512_0_512 ⟨col.val - 512, by omega⟩ (by show 512 + (col.val - 512) = col.val; omega)).symm).trans ((View.canon_cons_emb (Rect.unit (s := S512x1024) ![0, 512] S512x512.size inb_S512x1024_S512x512_0_512) _ _ _).trans ?_)
    rw [right_half, rel_neg]
    by_cases hr : col.val - 512 ≤ r.val
    · rw [rel_right _ _ hr, look_bk _ _ (by show r.val - (col.val - 512) < _; omega), ← hb, Pt.bias, if_pos hr, if_pos (show col.val ≤ 512 + r.val by omega)]
      show ((D.b (r.val - (col.val - 512)) : ℝ) : EReal) = _
      exact congrArg (fun x => ((D.b x : ℝ) : EReal)) (by omega)
    · rw [Pt.bias, if_neg hr, if_neg (show ¬ col.val ≤ 512 + r.val by omega)]; rfl

end Cert.Attn

end
-- ==== Proof.Bucket.lean ====
module

public import proofs.«01_k».proof.Proof.Bias
public import proofs.«01_k».proof.Proof.Final

@[expose] public section

noncomputable section

/-! ## The bucket of a distance, as the reference computes it -/

namespace Cert.Attn

open Idealize.ShloMosaic

/-- The number the reference divides by for `log 8`: its closest `f32`. -/
def L8 : ℝ := 4360905 / 2097152

theorem ofBits_L8 : Ideal.ofBits FTy.f32 1074075026#32 = (L8 : EReal) := by
  simp [Ideal.ofBits, Ideal.ieee, L8, -EReal.coe_mul]; norm_num [Nat.shiftRight_eq_div_pow]

theorem ofBits_16 : Ideal.ofBits FTy.f32 1098907648#32 = ((16 : ℝ) : EReal) := by
  simp [Ideal.ofBits, Ideal.ieee, -EReal.coe_mul]; norm_num [Nat.shiftRight_eq_div_pow]

theorem log8 : Real.log 8 = 3 * Real.log 2 := by
  rw [show (8 : ℝ) = 2 ^ (3 : ℕ) by norm_num, Real.log_pow]; norm_num

/-- Two is `exp (L8 / 3)`, within one part in ten thousand. -/
theorem exp_L8 : 2 ≤ Real.exp (L8 / 3) * (10001 / 10000) ∧ Real.exp (L8 / 3) ≤ 2 * (10001 / 10000) := by
  have h0 : (0 : ℝ) ≤ L8 / 3 := by unfold L8; norm_num
  have h1 : L8 / 3 ≤ 1 := by unfold L8; norm_num
  have lo := Real.sum_le_exp_of_nonneg h0 8
  have hi := Real.exp_bound' h0 h1 (n := 8) (by norm_num)
  have e : L8 / 3 = 1453635 / 2097152 := by unfold L8; norm_num
  rw [e] at lo hi ⊢
  norm_num [Finset.sum_range_succ, Nat.factorial] at lo hi ⊢
  constructor <;> linarith

/-- The divisor is `log 8`, closely. -/
theorem L8_gt : Real.log 8 < L8 + 4 / 10000 := by
  have h := Real.log_le_log (by norm_num) exp_L8.1
  rw [Real.log_mul (Real.exp_pos _).ne' (by norm_num), Real.log_exp] at h
  have := Real.log_le_sub_one_of_pos (show (0 : ℝ) < 10001 / 10000 by norm_num)
  rw [log8]; linarith

theorem L8_lt : L8 < Real.log 8 + 4 / 10000 := by
  have h := Real.log_le_log (Real.exp_pos _) exp_L8.2
  rw [Real.log_mul (by norm_num) (by norm_num), Real.log_exp] at h
  have := Real.log_le_sub_one_of_pos (show (0 : ℝ) < 10001 / 10000 by norm_num)
  rw [log8]; linarith

theorem L8_pos : 0 < L8 := by unfold L8; norm_num

/-- The reference's logarithmic position of a distance, in sixteenths of `log 8`. -/
def lpos (d : ℕ) : ℝ := Real.log ((d : ℝ) / 16) / L8 * 16

/-- `16 · log (d / 16)` is the logarithm of the sixteenth power. -/
theorem log_pow16 (d : ℝ) : 16 * Real.log (d / 16) = Real.log ((d / 16) ^ 16) := by
  rw [Real.log_pow]; norm_num

/-- A distance whose sixteenth power is a little over that of step `k` is past the step. -/
theorem step_le {d T k : ℕ} (hk : k ≤ 15) (hT : T ≤ d) (h : (16 : ℝ) ^ 16 * 8 ^ k * (103 / 100) ≤ (T : ℝ) ^ 16) : (k : ℝ) ≤ lpos d := by
  have hd : (T : ℝ) ≤ d := by exact_mod_cast hT
  have h1 : (8 : ℝ) ^ k * (103 / 100) ≤ ((d : ℝ) / 16) ^ 16 := by
    rw [div_pow, le_div_iff₀ (by positivity)]
    calc (8 : ℝ) ^ k * (103 / 100) * 16 ^ 16 = 16 ^ 16 * 8 ^ k * (103 / 100) := by ring
      _ ≤ (T : ℝ) ^ 16 := h
      _ ≤ (d : ℝ) ^ 16 := by gcongr
  have h2 := Real.log_le_log (by positivity) h1
  rw [Real.log_mul (by positivity) (by norm_num), Real.log_pow, ← log_pow16] at h2
  have h3 : 1 / 50 ≤ Real.log (103 / 100) := by
    have := Real.one_sub_inv_le_log_of_pos (show (0 : ℝ) < 103 / 100 by norm_num)
    norm_num at this ⊢; linarith
  have hk' : (k : ℝ) ≤ 15 := by exact_mod_cast hk
  have h0 : (0 : ℝ) ≤ k := by positivity
  have h4 : (k : ℝ) * L8 ≤ 16 * Real.log ((d : ℝ) / 16) := by
    have := L8_lt
    nlinarith
  unfold lpos
  rw [div_mul_eq_mul_div, le_div_iff₀ L8_pos]
  linarith

/-- A distance whose sixteenth power is a little under that of step `k` is before the step. -/
theorem step_lt {d T k : ℕ} (h0 : 0 < d) (hk : k ≤ 45) (hT : d ≤ T) (h : (T : ℝ) ^ 16 * (102 / 100) ≤ (16 : ℝ) ^ 16 * 8 ^ k) : lpos d < k := by
  have hd : (d : ℝ) ≤ T := by exact_mod_cast hT
  have hp : (0 : ℝ) < d := by exact_mod_cast h0
  have h1 : ((d : ℝ) / 16) ^ 16 * (102 / 100) ≤ (8 : ℝ) ^ k := by
    rw [div_pow, div_mul_eq_mul_div, div_le_iff₀ (by positivity)]
    calc (d : ℝ) ^ 16 * (102 / 100) ≤ (T : ℝ) ^ 16 * (102 / 100) := by gcongr
      _ ≤ _ := h
      _ = _ := by ring
  have h2 := Real.log_le_log (by positivity) h1
  rw [Real.log_mul (by positivity) (by norm_num), Real.log_pow 8, ← log_pow16] at h2
  have h3 : 1 / 52 ≤ Real.log (102 / 100) := by
    have := Real.one_sub_inv_le_log_of_pos (show (0 : ℝ) < 102 / 100 by norm_num)
    norm_num at this ⊢; linarith
  have hk' : (k : ℝ) ≤ 45 := by exact_mod_cast hk
  have hk0 : (0 : ℝ) ≤ k := by positivity
  have h4 : 16 * Real.log ((d : ℝ) / 16) < (k : ℝ) * L8 := by
    have := L8_gt
    nlinarith
  unfold lpos
  rw [div_mul_eq_mul_div, div_lt_iff₀ L8_pos]
  linarith

/-- The step of bucket `16 + k` begins at its threshold. -/
theorem reach (d k : ℕ) (hd : 0 < d) (hk : 0 < k) (hk' : k ≤ 15) : thr (15 + k) ≤ d ↔ (k : ℝ) ≤ lpos d := by
  constructor
  · intro h
    refine step_le hk' h ?_
    interval_cases k <;> norm_num [thr]
  · intro h
    by_contra hn
    refine absurd h (not_le.mpr (step_lt (T := thr (15 + k) - 1) hd (by omega) (by omega) ?_))
    interval_cases k <;> norm_num [thr]

/-- From sixteen on, the bucket is sixteen more than the whole steps passed, at most 31. -/
theorem bk_log (d : ℕ) (hd : 16 ≤ d) : ∀ k ≤ 15, bk d (16 + k) = 16 + min ⌊lpos d⌋₊ k
  | 0, _ => by
    show (if thr 15 ≤ d then 16 else _) = _
    rw [if_pos (show thr 15 ≤ d from hd)]; simp
  | k + 1, hk => by
    have ih := bk_log d hd k (by omega)
    have e : thr (16 + k) ≤ d ↔ k + 1 ≤ ⌊lpos d⌋₊ := by
      rw [Nat.le_floor_iff' (by omega), ← reach d (k + 1) (by omega) (by omega) hk, show 15 + (k + 1) = 16 + k by omega]
    show (if thr (16 + k) ≤ d then 16 + k + 1 else bk d (16 + k)) = _
    rw [ih]
    split
    · rename_i h; have := e.mp h; omega
    · rename_i h; have := mt e.mpr h; omega

theorem bk_small : ∀ d < 16, bk d 31 = d := by decide

/-- The largest position of a distance below 4096. -/
theorem lpos_range (d : ℕ) (h : 16 ≤ d) (h' : d < 4096) : 0 ≤ lpos d ∧ lpos d < 45 := by
  refine ⟨?_, step_lt (T := 4096) (k := 45) (by omega) (by omega) (by omega) (by norm_num)⟩
  unfold lpos
  have : 0 ≤ Real.log ((d : ℝ) / 16) := Real.log_nonneg (by rw [le_div_iff₀ (by norm_num)]; norm_num; exact_mod_cast h)
  have := L8_pos
  positivity

/-- THE REFERENCE'S BUCKET: of a distance below 4096, as a word. -/
theorem bucket_word (d : ℕ) (hd : d < 4096) (h16 : 16 ≤ d) :
    Ideal.fptosi 32 (Ideal.div (Ideal.log (Ideal.div (((d : ℝ)) : EReal) (Ideal.ofBits FTy.f32 1098907648#32))) (Ideal.ofBits FTy.f32 1074075026#32)
      * Ideal.ofBits FTy.f32 1098907648#32) = BitVec.ofNat 32 ⌊lpos d⌋₊ ∧ ⌊lpos d⌋₊ < 45 := by
  obtain ⟨h0, h1⟩ := lpos_range d h16 hd
  have hp : (0 : ℝ) < d := by exact_mod_cast (show 0 < d by omega)
  have hf : ⌊lpos d⌋₊ < 45 := (Nat.floor_lt h0).mpr (by exact_mod_cast h1)
  refine ⟨?_, hf⟩
  rw [ofBits_16, ofBits_L8, div_real _ _ (by norm_num), Ideal.log_coe, if_neg (by rw [not_le]; positivity), div_real _ _ L8_pos.ne', ← EReal.coe_mul]
  show BitVec.ofInt 32 (Ideal.toIntClamped _ _ ((lpos d : ℝ) : EReal)) = _
  rw [Ideal.toIntClamped_coe, if_pos h0, ← Int.natCast_floor_eq_floor h0]
  have : max (-(2 ^ (32 - 1) : ℕ) : ℤ) (min ((2 ^ (32 - 1) : ℕ) - 1) ((⌊lpos d⌋₊ : ℕ) : ℤ)) = ((⌊lpos d⌋₊ : ℕ) : ℤ) := by
    norm_num; omega
  rw [this]
  rfl

end Cert.Attn

end
-- ==== Proof.Scores.lean ====
module

public import proofs.«01_k».proof.Proof.Bucket
public import proofs.«01_k».proof.Proof.Gen.ReferenceIdeal.Run
public import Idealize.ShloMosaic.Lib.Pointwise

@[expose] public section

set_option maxRecDepth 16384

noncomputable section

/-! ## The reference's masked scores

The scores of the reference at one batch, head, map, query and key: the scaled product of the two projected rows plus
the bias of the distance's bucket where the key is not after the query, and `-∞` where it is. -/

namespace Cert.Attn

open Idealize.ShloMosaic Idealize.SL.Sem Cert.ReferenceIdeal Cert.ReferenceIdeal.Gen Cert.ReferenceIdeal.Value

variable (V0 : Valuation τ sig (Elt Ideal))

/-- A small natural number's word, read signed. -/
theorem toInt_small (x : ℕ) (hx : x < 2 ^ 31) : (BitVec.ofNat 32 x).toInt = (x : ℤ) := by
  rw [BitVec.toInt_eq_toNat_of_lt] <;> simp [BitVec.toNat_ofNat] <;> omega

/-- Query position less key position. -/
theorem ref33 (i j : Fin 4096) : (res_main_v33 V0 : IVec S4096x4096 32) (ix2 i j) = BitVec.ofNat 32 i.val - BitVec.ofNat 32 j.val := by
  unfold res_main_v33 res_main_v28; pointwise; rfl

/-- The difference of two positions, read signed. -/
theorem sub_toInt (i j : Fin 4096) : (BitVec.ofNat 32 i.val - BitVec.ofNat 32 j.val).toInt = (i.val : ℤ) - j.val := by
  have hi := i.isLt
  have hj := j.isLt
  rw [BitVec.toInt_sub, toInt_small _ (by omega), toInt_small _ (by omega), Int.bmod_def]
  omega

/-- The larger of two words, read signed. -/
theorem maxsi_toInt (a b : BitVec 32) : (IntOp.maxsi a b).toInt = max a.toInt b.toInt := by
  unfold IntOp.maxsi
  simp only [BitVec.sle, BitVec.slt, decide_eq_true_eq]
  split <;> omega

/-- A small word compared with sixteen. -/
theorem slt16 (d : ℕ) (hd : d < 2 ^ 31) : IntOp.cmpi CmpIPredicate.slt (BitVec.ofNat 32 d) 16#32 = if d < 16 then 1#1 else 0#1 := by
  have e : (16#32).toInt = 16 := rfl
  simp only [IntOp.cmpi, BitVec.slt, toInt_small d hd, e]
  by_cases h : d < 16
  · have : (d : ℤ) < 16 := by omega
    simp [h, this]
  · have : ¬ (d : ℤ) < 16 := by omega
    simp [h, this]

/-- The distance, at least zero. -/
theorem ref35 (i j : Fin 4096) : (res_main_v35 V0 : IVec S4096x4096 32) (ix2 i j) = BitVec.ofNat 32 (i.val - j.val) := by
  have hi := i.isLt
  have hj := j.isLt
  have e : (res_main_v35 V0 : IVec S4096x4096 32) (ix2 i j) = IntOp.maxsi ((res_main_v33 V0 : IVec S4096x4096 32) (ix2 i j)) 0#32 := by
    unfold res_main_v35; pointwise
  rw [e, ref33]
  apply BitVec.eq_of_toInt_eq
  rw [toInt_small _ (by omega), maxsi_toInt, sub_toInt, BitVec.toInt_zero]
  omega

/-- The bucket of the distance, as a word. -/
theorem ref53 (i j : Fin 4096) : (res_main_v53 V0 : IVec S4096x4096 32) (ix2 i j) = BitVec.ofNat 32 (bk (i.val - j.val) 31) := by
  have e : (res_main_v53 V0 : IVec S4096x4096 32) (ix2 i j)
      = Scalar.select (IntOp.cmpi CmpIPredicate.slt ((res_main_v35 V0 : IVec S4096x4096 32) (ix2 i j)) 16#32) ((res_main_v35 V0 : IVec S4096x4096 32) (ix2 i j))
          (IntOp.minsi (IntOp.addi 16#32 (Ideal.fptosi 32
            (Ideal.div (Ideal.log (Ideal.div (((IntOp.maxsi ((res_main_v35 V0 : IVec S4096x4096 32) (ix2 i j)) 1#32).toInt : ℝ) : EReal)
                (Ideal.ofBits FTy.f32 1098907648#32))) (Ideal.ofBits FTy.f32 1074075026#32) * Ideal.ofBits FTy.f32 1098907648#32))) 31#32) := by
    unfold res_main_v53; pointwise; rfl
  have hi := i.isLt
  rw [e, ref35]
  generalize hd : i.val - j.val = d
  have hd' : d < 4096 := by omega
  by_cases h : d < 16
  · rw [bk_small d h]
    rw [slt16 d (by omega), if_pos h]; rfl
  · have h16 : 16 ≤ d := by omega
    rw [slt16 d (by omega), if_neg h]
    have hm : (IntOp.maxsi (BitVec.ofNat 32 d) 1#32).toInt = (d : ℤ) := by
      rw [maxsi_toInt, toInt_small d (by omega), show (1#32).toInt = 1 from rfl]
      omega
    rw [hm]
    obtain ⟨h1, h2⟩ := bucket_word d hd' h16
    rw [show (((d : ℤ) : ℝ) : EReal) = ((d : ℝ) : EReal) by norm_cast, h1, bk_log d h16 15 (by omega)]
    show IntOp.minsi (IntOp.addi 16#32 (BitVec.ofNat 32 ⌊lpos d⌋₊)) 31#32 = _
    generalize ⌊lpos d⌋₊ = n at h2
    clear h1 hm
    revert n; decide

/-- The gather's row: the table's row of the bucket, the word being in range. -/
theorem gather_row (T : S32x8.Idx → EReal) (ix : IVec S4096x4096x1 32) (i j : Fin 4096) (h : Fin 8) (n : Fin 32)
    (hn : ix (ix3 i j 0) = BitVec.ofNat 32 n.val) :
    Host.gather gather_S32x8_S4096x4096x1_S4096x4096x8_2_0_n_n_0_2_18 T ix (ix3 i j h) = T (ix2 n h) := by
  unfold Host.gather
  congr 1
  have hsi : gather_S32x8_S4096x4096x1_S4096x4096x8_2_0_n_n_0_2_18.siIdx (ix3 i j h) ⟨0, by decide⟩ = (ix3 i j 0 : S4096x4096x1.Idx) := by
    funext b; refine Fin.ext ?_
    match b with
    | ⟨0, _⟩ => rfl
    | ⟨1, _⟩ => rfl
    | ⟨2, _⟩ => rfl
  funext a
  refine Fin.ext ?_
  show gather_S32x8_S4096x4096x1_S4096x4096x8_2_0_n_n_0_2_18.start (ix3 i j h) ix a
    + gather_S32x8_S4096x4096x1_S4096x4096x8_2_0_n_n_0_2_18.batchCoord (ix3 i j h) a
    + gather_S32x8_S4096x4096x1_S4096x4096x8_2_0_n_n_0_2_18.offCoord (ix3 i j h) a = _
  rw [GatherDims.batchCoord_eq_zero _ _ _ List.not_mem_nil]
  obtain rfl | rfl : a = 0 ∨ a = 1 := match a with
    | ⟨0, _⟩ => Or.inl rfl
    | ⟨1, _⟩ => Or.inr rfl
  · rw [GatherDims.offCoord_eq_zero _ _ _ (fun h => ((GatherDims.mem_sKept _ _).mp h).1 (List.mem_singleton.mpr rfl))]
    unfold GatherDims.start
    rw [dif_pos (show (0 : Fin 2) ∈ gather_S32x8_S4096x4096x1_S4096x4096x8_2_0_n_n_0_2_18.startIndexMap from List.mem_singleton.mpr rfl)]
    show min (ix (gather_S32x8_S4096x4096x1_S4096x4096x8_2_0_n_n_0_2_18.siIdx (ix3 i j h) ⟨0, by decide⟩)).toInt.toNat 31 + 0 + 0 = n.val
    rw [hsi, hn, toInt_small _ (by omega)]
    omega
  · unfold GatherDims.start
    rw [dif_neg (show (1 : Fin 2) ∉ gather_S32x8_S4096x4096x1_S4096x4096x8_2_0_n_n_0_2_18.startIndexMap by decide)]
    show 0 + 0 + h.val = h.val
    omega

/-- The real score of head `h`, batch `b`, map `p`, of query `i` against key `j`. -/
def score (x tb : ℕ → ℕ → ℝ) (h b p i j : ℕ) : ℝ :=
  (∑ l : Fin 64, x (b * 4096 + i) (h * 128 + p * 64 + l.val) * (1 / 8) * x (b * 4096 + j) (1024 + (h * 128 + p * 64 + l.val)))
    + tb (bk (i - j) 31) h

/-- The f32 word of an eighth. -/
theorem eighth32 : Ideal.ofBits FTy.f32 1040187392#32 = (((1 / 8 : ℝ)) : EReal) := by
  simp only [Ideal.ofBits, Ideal.ieee]; simp; rw [← EReal.coe_mul]; norm_num

/-- THE REFERENCE'S SCORES: the real score where the key is not after the query, else `-∞`. -/
theorem ref69 (x tb : ℕ → ℕ → ℝ)
    (hX : ∀ (a : Fin 8192) (b : Fin 6144), (V0 (Proc.devRef .tc main_arg0) : S8192x6144.Idx → EReal) (ix2 a b) = ((x a.val b.val : ℝ) : EReal))
    (hT : ∀ (a : Fin 32) (b : Fin 8), (V0 (Proc.devRef .tc main_arg1) : S32x8.Idx → EReal) (ix2 a b) = ((tb a.val b.val : ℝ) : EReal))
    (b : Fin 2) (h : Fin 8) (p : Fin 2) (i j : Fin 4096) :
    (res_main_v69 V0 : FVec Ideal S2x8x2x4096x4096 .f32) (ix5 b h p i j)
      = if j.val ≤ i.val then ((score x tb h.val b.val p.val i.val j.val : ℝ) : EReal) else ⊥ := by
  have h0 : ∀ (a : Fin 8192) (b : Fin 6144), (res_main_v0 V0 : FVec Ideal S8192x6144 .f32) (ix2 a b) = ((x a.val b.val : ℝ) : EReal) :=
    fun a b => hX a b
  unfold res_main_v69
  pointwise
  have hb : bk (i.val - j.val) 31 < 32 := by have := bk_le (i.val - j.val) 31; omega
  rw [gather_row _ _ i j h ⟨bk (i.val - j.val) 31, hb⟩ (by
    pointwise
    rw [ref53]
    generalize bk (i.val - j.val) 31 = n at hb
    revert n; decide)]
  rw [ref33]
  have hc : IntOp.cmpi CmpIPredicate.sge (BitVec.ofNat 32 i.val - BitVec.ofNat 32 j.val) 0#32 = if j.val ≤ i.val then 1#1 else 0#1 := by
    simp only [IntOp.cmpi, BitVec.sle, sub_toInt]
    by_cases hh : j.val ≤ i.val <;> simp [hh]
  rw [hc]
  split
  · show _ + _ = _
    simp only [h0, eighth32]
    rw [show (V0 (Proc.devRef .tc main_arg1)) (ix2 (⟨bk (i.val - j.val) 31, hb⟩ : Fin 32) h) = _ from hT _ h]
    unfold score
    rw [EReal.coe_add, coe_sum]
    rfl
  · show Ideal.ofBits FTy.f32 4286578688#32 = ⊥
    exact neg_inf

end Cert.Attn

end
-- ==== Proof.Soft.lean ====
module

public import proofs.«01_k».proof.Proof.Scores

@[expose] public section

set_option maxRecDepth 16384

noncomputable section

/-! ## The reference's softmax and its difference of the two maps -/

namespace Cert.Attn

open Idealize.ShloMosaic Idealize.SL.Sem Cert.ReferenceIdeal Cert.ReferenceIdeal.Gen Cert.ReferenceIdeal.Value

/-- A sum over all positions of terms that are zero after `i` is the sum over the positions up to `i`. -/
theorem sum_masked (i : Fin 4096) (f : ℕ → ℝ) :
    (∑ j : Fin 4096, if j.val ≤ i.val then f j.val else 0) = ∑ j ∈ Finset.range (i.val + 1), f j := by
  rw [Fin.sum_univ_eq_sum_range (fun j => if j ≤ i.val then f j else 0) 4096, ← Finset.sum_filter]
  refine Finset.sum_congr ?_ fun _ _ => rfl
  ext j
  have := i.isLt
  simp only [Finset.mem_filter, Finset.mem_range]
  omega

variable (V0 : Valuation τ sig (Elt Ideal))

/-- The named arrays of the reference, as families of extended reals: the projection, the scores, the exponentials, the
    softmax and the difference rows. -/
abbrev r0 : S8192x6144.Idx → EReal := res_main_v0 V0
abbrev r69 : S2x8x2x4096x4096.Idx → EReal := res_main_v69 V0
abbrev r76 : S2x8x2x4096x4096.Idx → EReal := res_main_v76 V0
abbrev r80 : S2x8x2x4096x4096.Idx → EReal := res_main_v80 V0
abbrev r89 : S2x4096x8x128.Idx → EReal := res_main_v89 V0
abbrev a2 : S4x64.Idx → EReal := V0 (Proc.devRef .tc main_arg2)

/-- A row's maximum, read at the row. -/
theorem row_max (v : FVec Ideal S2x8x2x4096x4096 .f32) (c : FVec Ideal S_ .f32) (b : Fin 2) (h : Fin 8) (p : Fin 2) (i : Fin 4096) :
    Host.reduce FloatOps.maximumf v c reducesTo_S2x8x2x4096x4096_S2x8x2x4096_d4 h_S_ (ix4 b h p i)
      = Finset.univ.fold max (c (Shape.Idx.first h_S_) : EReal) fun k : Fin 4096 => (v (ix5 b h p i k) : EReal) := by
  have hr : S2x8x2x4096x4096.Reduces [4] S2x8x2x4096 := by decide
  rw [Host.reduce_eq_fold_single FloatOps.maximumf v c reducesTo_S2x8x2x4096x4096_S2x8x2x4096_d4 hr h_S_]
  have : v ∘ hr.lift (ix4 b h p i) = fun k : Fin 4096 => v (ix5 b h p i k) := by
    funext k
    refine congrArg v (funext fun a => Fin.ext ?_)
    fin_cases a <;> rfl
  rw [this]
  rfl

/-- The exponentials: of a score less its row's reference point, which is a real number, where the key is not after the query. -/
theorem ref76 (i : Fin 4096) (s : ℕ → ℝ) (b : Fin 2) (h : Fin 8) (p : Fin 2)
    (hs : ∀ j : Fin 4096, r69 V0 (ix5 b h p i j) = if j.val ≤ i.val then ((s j.val : ℝ) : EReal) else ⊥) :
    ∃ μ : ℝ, ∀ j : Fin 4096, r76 V0 (ix5 b h p i j)
      = ((if j.val ≤ i.val then Real.exp (s j.val - μ) else 0 : ℝ) : EReal) := by
  obtain ⟨μ, hμ⟩ := sup_real (fun j : Fin 4096 => r69 V0 (ix5 b h p i j)) (fun j => s j.val)
    (fun j => j.val ≤ i.val) hs ⟨0, by norm_num⟩ (Nat.zero_le _)
  refine ⟨μ, fun j => ?_⟩
  have e : ∀ R : S2x8x2x4096.Idx → EReal,
      Host.reduce FloatOps.maximumf (res_main_v69 V0 : FVec Ideal S2x8x2x4096x4096 .f32) (constant (F := Ideal) S_ .f32 0xFF800000#32)
        reducesTo_S2x8x2x4096x4096_S2x8x2x4096_d4 h_S_ = R →
      r76 V0 (ix5 b h p i j) = Ideal.exp (r69 V0 (ix5 b h p i j) - max ⊥ (R (ix4 b h p i))) := by
    intro R hR
    unfold r76 res_main_v76
    rw [hR]
    pointwise
    rw [neg_inf]
  rw [e _ rfl, row_max, max_eq_right bot_le]
  rw [show (constant (F := Ideal) S_ .f32 0xFF800000#32 : S_.Idx → EReal) (Shape.Idx.first h_S_) = ⊥ from neg_inf]
  rw [show (Finset.univ.fold max ⊥ fun k : Fin 4096 => r69 V0 (ix5 b h p i k)) = (μ : EReal) from hμ]
  rw [hs]
  split
  · rw [← EReal.coe_sub, Ideal.exp_coe]
  · rw [EReal.bot_sub, Ideal.exp_bot, EReal.coe_zero]

/-- The softmax: the reference point cancels. -/
theorem ref80 (i : Fin 4096) (s : ℕ → ℝ) (b : Fin 2) (h : Fin 8) (p : Fin 2)
    (hs : ∀ j : Fin 4096, r69 V0 (ix5 b h p i j) = if j.val ≤ i.val then ((s j.val : ℝ) : EReal) else ⊥)
    (j : Fin 4096) : r80 V0 (ix5 b h p i j)
      = ((if j.val ≤ i.val then Real.exp (s j.val) / ∑ j ∈ Finset.range (i.val + 1), Real.exp (s j) else 0 : ℝ) : EReal) := by
  obtain ⟨μ, hμ⟩ := ref76 V0 i s b h p hs
  have e : r80 V0 (ix5 b h p i j)
      = Ideal.div (r76 V0 (ix5 b h p i j))
          (∑ x, r76 V0 (ix5 b h p i x)) := by
    unfold r80 res_main_v80; pointwise
  have hsum : (∑ x ∈ Finset.range (i.val + 1), Real.exp (s x - μ)) = Real.exp (-μ) * ∑ x ∈ Finset.range (i.val + 1), Real.exp (s x) := by
    rw [Finset.mul_sum]
    exact Finset.sum_congr rfl fun x _ => by rw [sub_eq_add_neg, Real.exp_add, mul_comm]
  have hp := expsum_pos i.val s
  rw [e]
  simp only [hμ]
  rw [← coe_sum, sum_masked i (fun x => Real.exp (s x - μ)), hsum, div_real _ _ (mul_pos (Real.exp_pos _) hp).ne']
  congr 1
  split
  · rw [sub_eq_add_neg, Real.exp_add, mul_comm, mul_div_mul_left _ _ (Real.exp_pos _).ne']
  · exact zero_div _

/-- The first map's half of an array over both maps. -/
theorem half0 (P : FVec Ideal S2x8x2x4096x4096 .f32) (b : Fin 2) (h : Fin 8) (i j : Fin 4096) :
    (shapeCast S2x8x4096x4096 (extractStridedSlice S2x8x1x4096x4096 ![0, 0, 0, 0, 0] P slices_S2x8x2x4096x4096_S2x8x1x4096x4096_0_0_0_0_0) shapeCasts_S2x8x1x4096x4096_S2x8x4096x4096) (ix4 b h i j)
      = P (ix5 b h 0 i j) := by pointwise

/-- The second map's half. -/
theorem half1 (P : FVec Ideal S2x8x2x4096x4096 .f32) (b : Fin 2) (h : Fin 8) (i j : Fin 4096) :
    (shapeCast S2x8x4096x4096 (extractStridedSlice S2x8x1x4096x4096 ![0, 0, 1, 0, 0] P slices_S2x8x2x4096x4096_S2x8x1x4096x4096_0_0_1_0_0) shapeCasts_S2x8x1x4096x4096_S2x8x4096x4096) (ix4 b h i j)
      = P (ix5 b h 1 i j) := by pointwise

/-- The value rows. -/
theorem vals (P : FVec Ideal S8192x6144 .f32) (b : Fin 2) (h : Fin 8) (j : Fin 4096) (l : Fin 128) :
   (transpose S2x8x4096x128 [0, 2, 1, 3] (shapeCast S2x4096x8x128 (extractStridedSlice S8192x1024 ![0, 2048] P slices_S8192x6144_S8192x1024_0_2048) shapeCasts_S8192x1024_S2x4096x8x128) transposes_S2x4096x8x128_S2x8x4096x128_0_2_1_3) (ix4 b h j l)
    = P (ix2 ⟨b.val * 4096 + j.val, by omega⟩ ⟨2048 + (h.val * 128 + l.val), by omega⟩) := by pointwise

/-- The weighted sum over the keys of one array less a multiple of another. -/
theorem mixed (A B : FVec Ideal S2x8x4096x4096 .f32) (L : FVec Ideal S_ .f32) (V : FVec Ideal S2x8x4096x128 .f32)
    (b : Fin 2) (h : Fin 8) (i : Fin 4096) (l : Fin 128) :
   (transpose S2x4096x8x128 [0, 2, 1, 3] (Host.dotGeneral dot_S2x8x4096x4096_S2x8x4096x128_S2x8x4096x128_3_2_2_3_01_01 none (subf A (mulf (broadcastInDim S2x8x4096x4096 ![] bcast_S_S2x8x4096x4096 L) B)) V) transposes_S2x8x4096x128_S2x4096x8x128_0_2_1_3 : FVec Ideal S2x4096x8x128 .f32) (ix4 b i h l)
    = (∑ j : Fin 4096, (A (ix4 b h i j) - L ix0 * B (ix4 b h i j)) * V (ix4 b h j l) : EReal) := by pointwise

/-- The weight of the second map. -/
theorem ref_lam (x : FVec Ideal S4x64 .f32) :
    (addf (subf (Host.exp (Host.reduceAdd (mulf (shapeCast _ (extractStridedSlice S1x64 ![0, 0] x slices_S4x64_S1x64_0_0) shapeCasts_S1x64_S64)
        (shapeCast _ (extractStridedSlice S1x64 ![1, 0] x slices_S4x64_S1x64_1_0) shapeCasts_S1x64_S64)) (constant S_ .f32 0x00000000#32) reducesTo_S64_S_d0 h_S_))
      (Host.exp (Host.reduceAdd (mulf (shapeCast _ (extractStridedSlice S1x64 ![2, 0] x slices_S4x64_S1x64_2_0) shapeCasts_S1x64_S64)
        (shapeCast _ (extractStridedSlice S1x64 ![3, 0] x slices_S4x64_S1x64_3_0) shapeCasts_S1x64_S64)) (constant S_ .f32 0x00000000#32) reducesTo_S64_S_d0 h_S_)))
      (constant S_ .f32 0x3E4CCCCD#32) : FVec Ideal S_ .f32) ix0 = lamOf fun a l => x (ix2 a l) := by
  unfold lamOf; pointwise

/-- The difference rows, read at an index. -/
theorem ref89_read (b : Fin 2) (i : Fin 4096) (h : Fin 8) (l : Fin 128) : r89 V0 (ix4 b i h l)
    = ∑ j : Fin 4096, (r80 V0 (ix5 b h 0 i j) - lamOf (fun a l => a2 V0 (ix2 a l)) * r80 V0 (ix5 b h 1 i j))
        * r0 V0 (ix2 ⟨b.val * 4096 + j.val, by omega⟩ ⟨2048 + (h.val * 128 + l.val), by omega⟩) := by
  unfold r89 res_main_v89
  refine (mixed _ _ _ _ b h i l).trans (Finset.sum_congr rfl fun j _ => ?_)
  rw [half0, half1, vals, ref_lam]

/-- THE REFERENCE'S DIFFERENCE ROW: the attention of the first map less `lam` times that of the second. -/
theorem ref89 (x tb : ℕ → ℕ → ℝ) (lam : ℝ)
    (hX : ∀ (a : Fin 8192) (b : Fin 6144), (V0 (Proc.devRef .tc main_arg0) : S8192x6144.Idx → EReal) (ix2 a b) = ((x a.val b.val : ℝ) : EReal))
    (hT : ∀ (a : Fin 32) (b : Fin 8), (V0 (Proc.devRef .tc main_arg1) : S32x8.Idx → EReal) (ix2 a b) = ((tb a.val b.val : ℝ) : EReal))
    (hL : lamOf (fun a l => a2 V0 (ix2 a l)) = (lam : EReal))
    (b : Fin 2) (i : Fin 4096) (h : Fin 8) (l : Fin 128) :
    r89 V0 (ix4 b i h l)
      = ((att i.val (score x tb h.val b.val 0 i.val) (fun j => x (b.val * 4096 + j) (2048 + (h.val * 128 + l.val)))
          - lam * att i.val (score x tb h.val b.val 1 i.val) (fun j => x (b.val * 4096 + j) (2048 + (h.val * 128 + l.val))) : ℝ) : EReal) := by
  have h0 : ∀ (a : Fin 8192) (b : Fin 6144), r0 V0 (ix2 a b) = ((x a.val b.val : ℝ) : EReal) :=
    fun a b => hX a b
  rw [ref89_read, hL]
  have p0 := ref80 V0 i (score x tb h.val b.val 0 i.val) b h 0 (ref69 V0 x tb hX hT b h 0 i)
  have p1 := ref80 V0 i (score x tb h.val b.val 1 i.val) b h 1 (ref69 V0 x tb hX hT b h 1 i)
  simp only [h0, p0, p1]
  simp only [← EReal.coe_mul, ← EReal.coe_sub]
  rw [← coe_sum]
  congr 1
  unfold att
  rw [Finset.sum_div, Finset.sum_div, Finset.mul_sum, ← Finset.sum_sub_distrib]
  refine Eq.trans ?_ (sum_masked i _)
  refine Finset.sum_congr rfl fun j _ => ?_
  split
  · ring
  · ring

end Cert.Attn

end
-- ==== Proof.Result.lean ====
module

public import proofs.«01_k».proof.Proof.Soft

@[expose] public section

set_option maxRecDepth 16384

noncomputable section

/-! ## The array the reference leaves -/

namespace Cert.Attn

open Idealize.ShloMosaic Idealize.SL.Sem Cert.ReferenceIdeal Cert.ReferenceIdeal.Gen Cert.ReferenceIdeal.Value

/-- The reference's normalisation, output scale and final reshape, over any difference rows and gains, read at a row and a column. -/
theorem norm_at (Y : FVec Ideal S2x4096x8x128 .f32) (g : FVec Ideal S128 .f32) (row : Fin 8192) (col : Fin 1024) :
    (truncf .bf16 (shapeCast S8192x1024 (mulf (mulf (mulf Y (broadcastInDim S2x4096x8x128 ![0, 1, 2, 3] bcast_S2x4096x8x1_S2x4096x8x128_0_1_2_3 (Host.rsqrt (addf (Host.divf (broadcastInDim S2x4096x8x1 ![0, 1, 2] bcast_S2x4096x8_S2x4096x8x1_0_1_2 (Host.reduceAdd (mulf Y Y) (constant S_ .f32 0x00000000#32) reducesTo_S2x4096x8x128_S2x4096x8_d3 h_S_)) (broadcastInDim S2x4096x8x1 ![] bcast_S_S2x4096x8x1 (constant S_ .f32 0x43000000#32))) (broadcastInDim S2x4096x8x1 ![] bcast_S_S2x4096x8x1 (constant S_ .f32 0x358637BD#32)))))) (broadcastInDim S2x4096x8x128 ![0, 1, 2, 3] bcast_S1x1x1x128_S2x4096x8x128_0_1_2_3 (broadcastInDim S1x1x1x128 ![3] bcast_S128_S1x1x1x128_3 g))) (broadcastInDim S2x4096x8x128 ![] bcast_S_S2x4096x8x128 (constant S_ .f32 0x3F4CCCCD#32))) shapeCasts_S2x4096x8x128_S8192x1024) bitsLt_bf16_f32
      : FVec Ideal S8192x1024 .bf16) (ix2 row col)
      = outRow (fun l => Y (ix4 ⟨row.val / 4096, by omega⟩ ⟨row.val % 4096, by omega⟩ ⟨col.val / 128, by omega⟩ l)) (fun l => g (ix1 l)) ⟨col.val % 128, by omega⟩ := by
  unfold outRow; pointwise

end Cert.Attn

end
-- ==== Proof.Blocks.lean ====
module

public import proofs.«01_k».proof.Proof.Bias
public import Idealize.ShloMosaic.Lib.Pipeline.ValueKit

@[expose] public section

set_option maxRecDepth 16384

noncomputable section

/-! ## What a point reads, and where

Point `t` of the grid is head `t / 16`, batch `t / 8 % 2`, query tile `t % 8`. -/

namespace Cert.Attn

open Idealize.ShloMosaic Idealize.ShloMosaic.TcCoe Idealize.SL.Sem Cert.KernelIdeal Cert.KernelIdeal.Gen

variable (m : (ℓ : Loc nD τ sig) → Buf (Elt Ideal) ℓ)

/-- The blocks' places in their arrays. -/
theorem places : ∀ t : Fin cfg0.N,
    win0_0.index t (0 : Fin 1) = 0
    ∧ win0_1.index t (0 : Fin 2) = 8 * (t.val / 8 % 2) + t.val % 8 ∧ win0_1.index t (1 : Fin 2) = t.val / 16
    ∧ win0_2.index t (0 : Fin 2) = t.val / 8 % 2 ∧ win0_2.index t (1 : Fin 2) = 8 + t.val / 16
    ∧ win0_3.index t (0 : Fin 2) = t.val / 8 % 2 ∧ win0_3.index t (1 : Fin 2) = 16 + t.val / 16
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The point's coordinates. -/
theorem coords_at : ∀ t : Fin cfg0.N, (grid0.coords t 0).val = t.val / 16 ∧ (grid0.coords t 1).val = t.val / 8 % 2 ∧ (grid0.coords t 2).val = t.val % 8 :=
  (by decide +kernel : ∀ t : Fin grid0.N, _)

theorem t_lt (t : Fin cfg0.N) : t.val < 128 := lt_of_lt_of_eq t.isLt (show cfg0.N = 128 from N_0)

/-- The table's block: the bias table, flattened. -/
theorem blk0 (c : Dev nD) (t : Fin cfg0.N) (n : Fin 256) :
    iblk m c 0 t (ix1 n) = m ((c : Thread nD τ).loc main_arg1) (ix2 (⟨n.val / 8, by omega⟩ : Fin 32) (⟨n.val % 8, by omega⟩ : Fin 8)) := by
  obtain ⟨h0, -⟩ := places t
  blk_ext! [iblk, V, h0]

/-- The query block. -/
theorem blk1 (c : Dev nD) (t : Fin cfg0.N) (r : Fin 512) (l : Fin 128) :
    iblk m c 1 t (ix2 r l) = m ((c : Thread nD τ).loc main_arg0) (ix2 (⟨4096 * (t.val / 8 % 2) + 512 * (t.val % 8) + r.val, by omega⟩ : Fin 8192) (⟨128 * (t.val / 16) + l.val, by have := t_lt t; omega⟩ : Fin 6144)) := by
  obtain ⟨-, h1, h2, -⟩ := places t
  blk_ext! [iblk, V, h1, h2]

/-- The key block. -/
theorem blk2 (c : Dev nD) (t : Fin cfg0.N) (r : Fin 4096) (l : Fin 128) :
    iblk m c 2 t (ix2 r l) = m ((c : Thread nD τ).loc main_arg0) (ix2 (⟨4096 * (t.val / 8 % 2) + r.val, by omega⟩ : Fin 8192) (⟨1024 + 128 * (t.val / 16) + l.val, by have := t_lt t; omega⟩ : Fin 6144)) := by
  obtain ⟨-, -, -, h1, h2, -⟩ := places t
  blk_ext! [iblk, V, h1, h2]

/-- The value block. -/
theorem blk3 (c : Dev nD) (t : Fin cfg0.N) (r : Fin 4096) (l : Fin 128) :
    iblk m c 3 t (ix2 r l) = m ((c : Thread nD τ).loc main_arg0) (ix2 (⟨4096 * (t.val / 8 % 2) + r.val, by omega⟩ : Fin 8192) (⟨2048 + 128 * (t.val / 16) + l.val, by have := t_lt t; omega⟩ : Fin 6144)) := by
  obtain ⟨-, -, -, -, -, h1, h2, -⟩ := places t
  blk_ext! [iblk, V, h1, h2]

/-- The lambda vectors. -/
theorem blk4 (c : Dev nD) (t : Fin cfg0.N) (a : Fin 4) (l : Fin 64) :
    iblk m c 4 t (ix2 a l) = m ((c : Thread nD τ).loc main_arg2) (ix2 a l) := by
  obtain ⟨-, -, -, -, -, -, -, h1, h2, -⟩ := places t
  blk_ext! [iblk, V, h1, h2]

/-- The weights of the last normalization. -/
theorem blk5 (c : Dev nD) (t : Fin cfg0.N) (l : Fin 128) :
    iblk m c 5 t (ix2 (0 : Fin 1) l) = m ((c : Thread nD τ).loc main_arg3) (ix1 l) := by
  obtain ⟨-, -, -, -, -, -, -, -, -, h1, h2⟩ := places t
  blk_ext! [iblk, V, h1, h2]

/-- The loop takes one trip from query tile 5 on, none before. -/
theorem trips1 : ∀ t : Fin cfg0.N, Scf.trips (k0_t1_loop (grid0.coords t)).lb (k0_t1_loop (grid0.coords t)).ub (k0_t1_loop (grid0.coords t)).st = if 5 ≤ t.val % 8 then 1 else 0 :=
  (by decide +kernel : ∀ t : Fin grid0.N, _)

/-- The loop's remainder is empty. -/
theorem trips2 : ∀ t : Fin cfg0.N, Scf.trips (k0_t2_loop (grid0.coords t)).lb (k0_t2_loop (grid0.coords t)).ub (k0_t2_loop (grid0.coords t)).st = 0 :=
  (by decide +kernel : ∀ t : Fin grid0.N, _)

/-- Where the last bucket's entry of the head lies. -/
theorem off3_at : ∀ t : Fin cfg0.N, k0_off3 (grid0.coords t) = ![248 + t.val / 16] :=
  (by decide +kernel : ∀ t : Fin grid0.N, _)

/-- Where the loop and the tiles after it read their keys. -/
theorem off4_at : ∀ t : Fin cfg0.N, ∀ k : Fin (Scf.trips (k0_t1_loop (grid0.coords t)).lb (k0_t1_loop (grid0.coords t)).ub (k0_t1_loop (grid0.coords t)).st),
    k0_off4 (grid0.coords t) k = ![0, 0] ∧ k0_off5 (grid0.coords t) k = ![0, 0] :=
  (by decide +kernel : ∀ t : Fin grid0.N, _)

theorem off8_at : ∀ t : Fin cfg0.N, (t.val % 8 = 3 ∨ t.val % 8 = 4 ∨ t.val % 8 = 7) →
    k0_off8 (grid0.coords t) = ![if 5 ≤ t.val % 8 then 2048 else 0, 0] ∧ k0_off9 (grid0.coords t) = ![if 5 ≤ t.val % 8 then 2048 else 0, 0] :=
  (by decide +kernel : ∀ t : Fin grid0.N, _)

theorem off10_at : ∀ t : Fin cfg0.N, (t.val % 8 = 2 ∨ t.val % 8 = 4 ∨ t.val % 8 = 6) →
    k0_off10 (grid0.coords t) = ![512 * (t.val % 8) - 1024, 0] ∧ k0_off11 (grid0.coords t) = ![512 * (t.val % 8) - 1024, 0] :=
  (by decide +kernel : ∀ t : Fin grid0.N, _)

theorem off12_at : ∀ t : Fin cfg0.N, 1 ≤ t.val % 8 →
    k0_off12 (grid0.coords t) = ![512 * (t.val % 8) - 512, 0] ∧ k0_off13 (grid0.coords t) = ![512 * (t.val % 8) - 512, 0] :=
  (by decide +kernel : ∀ t : Fin grid0.N, _)

end Cert.Attn

end
-- ==== Proof.CaseA.lean ====
module

public import proofs.«01_k».proof.Proof.Loop

@[expose] public section

set_option maxRecDepth 16384
set_option maxHeartbeats 4000000

noncomputable section

/-! ## A first query tile, which also builds the bias table -/

namespace Cert.Attn

open Idealize.ShloMosaic Idealize.SL.Sem Cert.KernelIdeal Cert.KernelIdeal.Gen

/-- What the tile's output block holds. -/
theorem out_A (c : Dev nD) (i : grid0.Coords)
    (arg3 : Memref sig .tc .smem S256 .f32) (harg3 : arg3.IsWhole) (arg4 : Memref sig .tc .vmem S512x128 .bf16) (harg4 : arg4.IsWhole)
    (arg5 : Memref sig .tc .vmem S4096x128 .bf16) (harg5 : arg5.IsWhole) (arg6 : Memref sig .tc .vmem S4096x128 .bf16) (harg6 : arg6.IsWhole)
    (arg7 : Memref sig .tc .vmem S4x64 .f32) (harg7 : arg7.IsWhole) (arg8 : Memref sig .tc .vmem S1x128 .f32) (harg8 : arg8.IsWhole)
    (arg9 : Memref sig .tc .vmem S512x128 .bf16) (harg9 : arg9.IsWhole) (arg10 : Memref sig .tc .vmem S2x512x1 .f32) (harg10 : arg10.IsWhole)
    (arg11 : Memref sig .tc .vmem S2x512x256 .f32) (harg11 : arg11.IsWhole) (arg12 : Memref sig .tc .vmem S512x1024 .f32) (harg12 : arg12.IsWhole)
    (arg13 : Memref sig .tc .vmem S2x512x128 .bf16) (harg13 : arg13.IsWhole) (arg14 : Memref sig .tc .vmem S4096x256 .bf16) (harg14 : arg14.IsWhole)
    (hc0 : cond0_0 i) (hc1 : cond0_1 i) (hc2 : ¬cond0_2 i) (hc3 : ¬cond0_3 i) (hc4 : ¬cond0_4 i) (hc5 : cond0_5 i)
    (x0 : Vec Ideal S256 .f32) (x1 : Vec Ideal S512x128 .bf16) (x2 : Vec Ideal S4096x128 .bf16) (x3 : Vec Ideal S4096x128 .bf16)
    (x4 : Vec Ideal S4x64 .f32) (x5 : Vec Ideal S1x128 .f32)
    (D : Pt) (hq0 : D.qb = 0)
    (hx1 : ∀ (r : Fin 512) l, x1 (ix2 r l) = ((D.q r.val l : ℝ) : EReal))
    (hx2 : ∀ (j : Fin 4096) l, x2 (ix2 j l) = ((D.k j.val l : ℝ) : EReal))
    (hx3 : ∀ (j : Fin 4096) l, x3 (ix2 j l) = ((D.v j.val l : ℝ) : EReal))
    (hB : ∀ (r : Fin 512) (col : Fin 1024), View.canon (kernelRun0_A.sl.HS2_2 c i arg3 harg3 hc1 x0) (ix2 r col) = D.bias r.val col.val)
    (ht1 : Scf.trips (k0_t1_loop i).lb (k0_t1_loop i).ub (k0_t1_loop i).st = 0) (ht2 : Scf.trips (k0_t2_loop i).lb (k0_t2_loop i).ub (k0_t2_loop i).st = 0)
    (r : Fin 512) (l : Fin 128) :
    out0_A_6 c i arg3 harg3 arg4 harg4 arg5 harg5 arg6 harg6 arg7 harg7 arg8 harg8 arg9 harg9 arg10 harg10 arg11 harg11 arg12 harg12 arg13 harg13 arg14 harg14
      hc0 hc1 hc2 hc3 hc4 hc5 x0 x1 x2 x3 x4 x5 (ix2 r l)
      = D.value (fun a l => x4 (ix2 a l)) (fun l => x5 (ix2 0 l)) r.val l := by
  unfold out0_A_6 kernelRun0_A
  dsimp only
  rw [View.read_writes_junk_eq_canon, canon_whole]
  refine D.out (n := 0) (n' := 512) ?hg (by omega) _ _ _ _ _ r l
  have hn0 : 0 + 512 = D.qb + 512 := by omega
  have hV := D.hV harg6 x3 hx3 (h₀ := inb_S4096x256_S4096x128_0_0) (h₁ := inb_S4096x256_S4096x128_0_128) (h := inb_S4096x128_S4096x128_0_0)
  apply Exists.intro
  refine Good.near512C (n := 0) (d := 768) (Good.near512C (n := 0) (d := 512) (Good.near512C (n := 0) (d := 256) (Good.near512C (n := 0) (d := 0) (Good.loops (Good.start D.rows 512) ?x ?y)
    0 0 (by decide) (by decide) (by decide) _ rfl (D.hQ _ _ hx1) (D.hk _ hx2 rfl (by decide)) (D.hvC hV rfl (by decide)) zero_word (D.hbC hB rfl hn0 (by decide) (by decide)) (Nat.zero_le _))
    0 256 (by decide) (by decide) (by decide) _ rfl (D.hQ _ _ hx1) (D.hk _ hx2 rfl (by decide)) (D.hvC hV rfl (by decide)) zero_word (D.hbC hB rfl hn0 (by decide) (by decide)) (Nat.zero_le _))
    1 0 (by decide) (by decide) (by decide) _ rfl (D.hQ _ _ hx1) (D.hk _ hx2 rfl (by decide)) (D.hvC hV rfl (by decide)) zero_word (D.hbC hB rfl hn0 (by decide) (by decide)) (Nat.zero_le _))
    1 256 (by decide) (by decide) (by decide) _ rfl (D.hQ _ _ hx1) (D.hk _ hx2 rfl (by decide)) (D.hvC hV rfl (by decide)) zero_word (D.hbC hB rfl hn0 (by decide) (by decide)) (Nat.zero_le _)
  · rw [ht1]; rfl
  · rw [ht2]; rfl

end Cert.Attn

end
-- ==== Proof.CaseB.lean ====
module

public import proofs.«01_k».proof.Proof.Loop

@[expose] public section

set_option maxRecDepth 16384
set_option maxHeartbeats 4000000

noncomputable section

/-! ## A query tile with the near keys only, after the loop -/

namespace Cert.Attn

open Idealize.ShloMosaic Idealize.SL.Sem Cert.KernelIdeal Cert.KernelIdeal.Gen

/-- What the tile's output block holds. -/
theorem out_B (c : Dev nD) (i : grid0.Coords)
    (arg3 : Memref sig .tc .smem S256 .f32) (harg3 : arg3.IsWhole) (arg4 : Memref sig .tc .vmem S512x128 .bf16) (harg4 : arg4.IsWhole)
    (arg5 : Memref sig .tc .vmem S4096x128 .bf16) (harg5 : arg5.IsWhole) (arg6 : Memref sig .tc .vmem S4096x128 .bf16) (harg6 : arg6.IsWhole)
    (arg7 : Memref sig .tc .vmem S4x64 .f32) (harg7 : arg7.IsWhole) (arg8 : Memref sig .tc .vmem S1x128 .f32) (harg8 : arg8.IsWhole)
    (arg9 : Memref sig .tc .vmem S512x128 .bf16) (harg9 : arg9.IsWhole) (arg10 : Memref sig .tc .vmem S2x512x1 .f32) (harg10 : arg10.IsWhole)
    (arg11 : Memref sig .tc .vmem S2x512x256 .f32) (harg11 : arg11.IsWhole) (arg12 : Memref sig .tc .vmem S512x1024 .f32) (harg12 : arg12.IsWhole)
    (arg13 : Memref sig .tc .vmem S2x512x128 .bf16) (harg13 : arg13.IsWhole) (arg14 : Memref sig .tc .vmem S4096x256 .bf16) (harg14 : arg14.IsWhole)
    (hc0 : ¬cond0_0 i) (hc1 : ¬cond0_1 i) (hc2 : ¬cond0_2 i) (hc3 : ¬cond0_3 i) (hc4 : cond0_4 i) (hc5 : ¬cond0_5 i)
    (x0 : Vec Ideal S256 .f32) (x1 : Vec Ideal S512x128 .bf16) (x2 : Vec Ideal S4096x128 .bf16) (x3 : Vec Ideal S4096x128 .bf16)
    (x4 : Vec Ideal S4x64 .f32) (x5 : Vec Ideal S1x128 .f32) (xs2 : Vec Ideal S512x1024 .f32) (xs4 : Vec Ideal S4096x256 .bf16)
    (D : Pt) {c' : ℝ}
    (hx1 : ∀ (r : Fin 512) l, x1 (ix2 r l) = ((D.q r.val l : ℝ) : EReal))
    (hx2 : ∀ (j : Fin 4096) l, x2 (ix2 j l) = ((D.k j.val l : ℝ) : EReal))
    (hx4 : ∀ (j : Fin 4096) l, xs4 (ix2 j l) = ((D.rows.w j.val l : ℝ) : EReal))
    (hB : ∀ (r : Fin 512) (col : Fin 1024), xs2 (ix2 r col) = D.bias r.val col.val)
    (hfar : ∀ x, 128 ≤ x → D.b x = c') {nf : ℕ} (ho3 : k0_off3 i = ![nf]) (hnf : nf < 256) (hx0 : x0 (ix1 (⟨nf, hnf⟩ : Fin 256)) = (c' : EReal))
    {n : ℕ} (hqb : D.qb = n + 512) (hK : D.qb + 512 ≤ 4096)
    (htr : Scf.trips (k0_t1_loop i).lb (k0_t1_loop i).ub (k0_t1_loop i).st = 0 ∧ n = 0 ∨ Scf.trips (k0_t1_loop i).lb (k0_t1_loop i).ub (k0_t1_loop i).st = 1 ∧ n = 2048) (ht2 : Scf.trips (k0_t2_loop i).lb (k0_t2_loop i).ub (k0_t2_loop i).st = 0)
    (ho4 : ∀ k : Fin (Scf.trips (k0_t1_loop i).lb (k0_t1_loop i).ub (k0_t1_loop i).st), k0_off4 i k = ![0, 0]) (ho5 : ∀ k : Fin (Scf.trips (k0_t1_loop i).lb (k0_t1_loop i).ub (k0_t1_loop i).st), k0_off5 i k = ![0, 0])
    (ho12 : k0_off12 i = ![n, 0]) (ho13 : k0_off13 i = ![n, 0])
    (r : Fin 512) (l : Fin 128) :
    out0_B_6 c i arg3 harg3 arg4 harg4 arg5 harg5 arg6 harg6 arg7 harg7 arg8 harg8 arg9 harg9 arg10 harg10 arg11 harg11 arg12 harg12 arg13 harg13 arg14 harg14
      hc0 hc1 hc2 hc3 hc4 hc5 x0 x1 x2 x3 x4 x5 xs2 xs4 (ix2 r l)
      = D.value (fun a l => x4 (ix2 a l)) (fun l => x5 (ix2 0 l)) r.val l := by
  unfold out0_B_6 kernelRun0_B
  dsimp only
  rw [View.read_writes_junk_eq_canon, canon_whole]
  refine D.out (n := n) (n' := n + 1024) ?hg (by omega) _ _ _ _ _ r l
  have hcf : ∀ {h h1}, arg3.view.readAt (Elt Ideal) (Rect.unit (s := S256) (k0_off3 i) S1.size h).toLoadRect (harg3.unread x0) (Shape.Idx.first h1) = (c' : EReal) :=
    fun {h h1} => (one_read harg3 x0 ho3 hnf).trans hx0
  have htr' : Scf.trips (k0_t1_loop i).lb (k0_t1_loop i).ub (k0_t1_loop i).st = 0 ∧ n = 0 ∨ Scf.trips (k0_t1_loop i).lb (k0_t1_loop i).ub (k0_t1_loop i).st = 1 ∧ n = 2048 ∧ 2560 ≤ D.qb := by omega
  apply Exists.intro
  exact Good.near1024C (n := n) (d := 896) (Good.near1024C (n := n) (d := 768) (Good.near1024C (n := n) (d := 640) (Good.near1024C (n := n) (d := 512) (Good.near1024C (n := n) (d := 384) (Good.near1024C (n := n) (d := 256) (Good.near1024C (n := n) (d := 128) (Good.near1024C (n := n) (d := 0) (Good.loop (loop_good c i arg3 harg3 arg4 harg4 arg5 harg5 arg6 harg6 arg7 harg7 arg8 harg8 arg9 harg9 arg10 harg10 arg11 harg11 arg12 harg12 arg13 harg13 arg14 harg14 _ _ _ _ _ x2 xs4 D hcf hfar (D.hQ _ _ hx1) hx2 hx4 _ (by omega) htr' ho4 ho5 (fun _ => Good.start D.rows _)) (by rw [ht2]; rfl))
    0 0 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    0 128 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    0 256 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    0 384 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    1 0 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    1 128 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    1 256 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    1 384 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega)

end Cert.Attn

end
-- ==== Proof.CaseC.lean ====
module

public import proofs.«01_k».proof.Proof.Loop

@[expose] public section

set_option maxRecDepth 16384
set_option maxHeartbeats 4000000

noncomputable section

/-! ## A query tile with one far tile after the loop -/

namespace Cert.Attn

open Idealize.ShloMosaic Idealize.SL.Sem Cert.KernelIdeal Cert.KernelIdeal.Gen

/-- What the tile's output block holds. -/
theorem out_C (c : Dev nD) (i : grid0.Coords)
    (arg3 : Memref sig .tc .smem S256 .f32) (harg3 : arg3.IsWhole) (arg4 : Memref sig .tc .vmem S512x128 .bf16) (harg4 : arg4.IsWhole)
    (arg5 : Memref sig .tc .vmem S4096x128 .bf16) (harg5 : arg5.IsWhole) (arg6 : Memref sig .tc .vmem S4096x128 .bf16) (harg6 : arg6.IsWhole)
    (arg7 : Memref sig .tc .vmem S4x64 .f32) (harg7 : arg7.IsWhole) (arg8 : Memref sig .tc .vmem S1x128 .f32) (harg8 : arg8.IsWhole)
    (arg9 : Memref sig .tc .vmem S512x128 .bf16) (harg9 : arg9.IsWhole) (arg10 : Memref sig .tc .vmem S2x512x1 .f32) (harg10 : arg10.IsWhole)
    (arg11 : Memref sig .tc .vmem S2x512x256 .f32) (harg11 : arg11.IsWhole) (arg12 : Memref sig .tc .vmem S512x1024 .f32) (harg12 : arg12.IsWhole)
    (arg13 : Memref sig .tc .vmem S2x512x128 .bf16) (harg13 : arg13.IsWhole) (arg14 : Memref sig .tc .vmem S4096x256 .bf16) (harg14 : arg14.IsWhole)
    (hc0 : ¬cond0_0 i) (hc1 : ¬cond0_1 i) (hc2 : ¬cond0_2 i) (hc3 : cond0_3 i) (hc4 : cond0_4 i) (hc5 : ¬cond0_5 i)
    (x0 : Vec Ideal S256 .f32) (x1 : Vec Ideal S512x128 .bf16) (x2 : Vec Ideal S4096x128 .bf16) (x3 : Vec Ideal S4096x128 .bf16)
    (x4 : Vec Ideal S4x64 .f32) (x5 : Vec Ideal S1x128 .f32) (xs2 : Vec Ideal S512x1024 .f32) (xs4 : Vec Ideal S4096x256 .bf16)
    (D : Pt) {c' : ℝ}
    (hx1 : ∀ (r : Fin 512) l, x1 (ix2 r l) = ((D.q r.val l : ℝ) : EReal))
    (hx2 : ∀ (j : Fin 4096) l, x2 (ix2 j l) = ((D.k j.val l : ℝ) : EReal))
    (hx4 : ∀ (j : Fin 4096) l, xs4 (ix2 j l) = ((D.rows.w j.val l : ℝ) : EReal))
    (hB : ∀ (r : Fin 512) (col : Fin 1024), xs2 (ix2 r col) = D.bias r.val col.val)
    (hfar : ∀ x, 128 ≤ x → D.b x = c') {nf : ℕ} (ho3 : k0_off3 i = ![nf]) (hnf : nf < 256) (hx0 : x0 (ix1 (⟨nf, hnf⟩ : Fin 256)) = (c' : EReal))
    {n : ℕ} (hqb : D.qb = n + 1024) (hK : D.qb + 512 ≤ 4096)
    (htr : Scf.trips (k0_t1_loop i).lb (k0_t1_loop i).ub (k0_t1_loop i).st = 0 ∧ n = 0 ∨ Scf.trips (k0_t1_loop i).lb (k0_t1_loop i).ub (k0_t1_loop i).st = 1 ∧ n = 2048) (ht2 : Scf.trips (k0_t2_loop i).lb (k0_t2_loop i).ub (k0_t2_loop i).st = 0)
    (ho4 : ∀ k : Fin (Scf.trips (k0_t1_loop i).lb (k0_t1_loop i).ub (k0_t1_loop i).st), k0_off4 i k = ![0, 0]) (ho5 : ∀ k : Fin (Scf.trips (k0_t1_loop i).lb (k0_t1_loop i).ub (k0_t1_loop i).st), k0_off5 i k = ![0, 0])
    (ho10 : k0_off10 i = ![n, 0]) (ho11 : k0_off11 i = ![n, 0]) (ho12 : k0_off12 i = ![n + 512, 0]) (ho13 : k0_off13 i = ![n + 512, 0])
    (r : Fin 512) (l : Fin 128) :
    out0_C_6 c i arg3 harg3 arg4 harg4 arg5 harg5 arg6 harg6 arg7 harg7 arg8 harg8 arg9 harg9 arg10 harg10 arg11 harg11 arg12 harg12 arg13 harg13 arg14 harg14
      hc0 hc1 hc2 hc3 hc4 hc5 x0 x1 x2 x3 x4 x5 xs2 xs4 (ix2 r l)
      = D.value (fun a l => x4 (ix2 a l)) (fun l => x5 (ix2 0 l)) r.val l := by
  unfold out0_C_6 kernelRun0_C
  dsimp only
  rw [View.read_writes_junk_eq_canon, canon_whole]
  refine D.out (n := n + 512) (n' := n + 512 + 1024) ?hg (by omega) _ _ _ _ _ r l
  have hcf : ∀ {h h1}, arg3.view.readAt (Elt Ideal) (Rect.unit (s := S256) (k0_off3 i) S1.size h).toLoadRect (harg3.unread x0) (Shape.Idx.first h1) = (c' : EReal) :=
    fun {h h1} => (one_read harg3 x0 ho3 hnf).trans hx0
  have htr' : Scf.trips (k0_t1_loop i).lb (k0_t1_loop i).ub (k0_t1_loop i).st = 0 ∧ n = 0 ∨ Scf.trips (k0_t1_loop i).lb (k0_t1_loop i).ub (k0_t1_loop i).st = 1 ∧ n = 2048 ∧ 2560 ≤ D.qb := by omega
  have g1 : Good D.rows (n) (n + 512) 1024 (kernelRun0_C.sl.HS0_4 c i arg3 harg3 arg4 harg4 arg5 harg5 arg6 harg6 arg7 harg7 arg8 harg8 arg9 harg9 arg10 harg10 arg11 harg11 arg12 harg12 arg13 harg13 arg14 harg14 hc3 x0 x1 x2 xs4)
      (kernelRun0_C.sl.HS1_4 c i arg3 harg3 arg4 harg4 arg5 harg5 arg6 harg6 arg7 harg7 arg8 harg8 arg9 harg9 arg10 harg10 arg11 harg11 arg12 harg12 arg13 harg13 arg14 harg14 hc3 x0 x1 x2 xs4) :=
    Good.far512C (n := n) (d := 768) (Good.far512C (n := n) (d := 512) (Good.far512C (n := n) (d := 256) (Good.far512C (n := n) (d := 0) (Good.loop (loop_good c i arg3 harg3 arg4 harg4 arg5 harg5 arg6 harg6 arg7 harg7 arg8 harg8 arg9 harg9 arg10 harg10 arg11 harg11 arg12 harg12 arg13 harg13 arg14 harg14 _ _ _ _ _ x2 xs4 D hcf hfar (D.hQ _ _ hx1) hx2 hx4 _ (by omega) htr' ho4 ho5 (fun _ => Good.start D.rows _)) (by rw [ht2]; rfl))
      0 0 (by decide) (by decide) (by decide) _ rfl (D.hQ _ _ hx1) (D.hk _ hx2 ho10 (by omega)) (D.hv _ hx4 ho11 (by omega)) hcf hfar (by show _ ≤ D.qb; omega))
      0 256 (by decide) (by decide) (by decide) _ rfl (D.hQ _ _ hx1) (D.hk _ hx2 ho10 (by omega)) (D.hv _ hx4 ho11 (by omega)) hcf hfar (by show _ ≤ D.qb; omega))
      1 0 (by decide) (by decide) (by decide) _ rfl (D.hQ _ _ hx1) (D.hk _ hx2 ho10 (by omega)) (D.hv _ hx4 ho11 (by omega)) hcf hfar (by show _ ≤ D.qb; omega))
      1 256 (by decide) (by decide) (by decide) _ rfl (D.hQ _ _ hx1) (D.hk _ hx2 ho10 (by omega)) (D.hv _ hx4 ho11 (by omega)) hcf hfar (by show _ ≤ D.qb; omega)
  apply Exists.intro
  exact Good.near1024C (n := n + 512) (d := 896) (Good.near1024C (n := n + 512) (d := 768) (Good.near1024C (n := n + 512) (d := 640) (Good.near1024C (n := n + 512) (d := 512) (Good.near1024C (n := n + 512) (d := 384) (Good.near1024C (n := n + 512) (d := 256) (Good.near1024C (n := n + 512) (d := 128) (Good.near1024C (n := n + 512) (d := 0) (Good.next g1 _)
    0 0 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    0 128 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    0 256 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    0 384 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    1 0 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    1 128 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    1 256 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    1 384 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega)

end Cert.Attn

end
-- ==== Proof.CaseD.lean ====
module

public import proofs.«01_k».proof.Proof.Loop

@[expose] public section

set_option maxRecDepth 16384
set_option maxHeartbeats 4000000

noncomputable section

/-! ## A query tile with two far tiles after the loop -/

namespace Cert.Attn

open Idealize.ShloMosaic Idealize.SL.Sem Cert.KernelIdeal Cert.KernelIdeal.Gen

/-- What the tile's output block holds. -/
theorem out_D (c : Dev nD) (i : grid0.Coords)
    (arg3 : Memref sig .tc .smem S256 .f32) (harg3 : arg3.IsWhole) (arg4 : Memref sig .tc .vmem S512x128 .bf16) (harg4 : arg4.IsWhole)
    (arg5 : Memref sig .tc .vmem S4096x128 .bf16) (harg5 : arg5.IsWhole) (arg6 : Memref sig .tc .vmem S4096x128 .bf16) (harg6 : arg6.IsWhole)
    (arg7 : Memref sig .tc .vmem S4x64 .f32) (harg7 : arg7.IsWhole) (arg8 : Memref sig .tc .vmem S1x128 .f32) (harg8 : arg8.IsWhole)
    (arg9 : Memref sig .tc .vmem S512x128 .bf16) (harg9 : arg9.IsWhole) (arg10 : Memref sig .tc .vmem S2x512x1 .f32) (harg10 : arg10.IsWhole)
    (arg11 : Memref sig .tc .vmem S2x512x256 .f32) (harg11 : arg11.IsWhole) (arg12 : Memref sig .tc .vmem S512x1024 .f32) (harg12 : arg12.IsWhole)
    (arg13 : Memref sig .tc .vmem S2x512x128 .bf16) (harg13 : arg13.IsWhole) (arg14 : Memref sig .tc .vmem S4096x256 .bf16) (harg14 : arg14.IsWhole)
    (hc0 : ¬cond0_0 i) (hc1 : ¬cond0_1 i) (hc2 : cond0_2 i) (hc3 : ¬cond0_3 i) (hc4 : cond0_4 i) (hc5 : ¬cond0_5 i)
    (x0 : Vec Ideal S256 .f32) (x1 : Vec Ideal S512x128 .bf16) (x2 : Vec Ideal S4096x128 .bf16) (x3 : Vec Ideal S4096x128 .bf16)
    (x4 : Vec Ideal S4x64 .f32) (x5 : Vec Ideal S1x128 .f32) (xs2 : Vec Ideal S512x1024 .f32) (xs4 : Vec Ideal S4096x256 .bf16)
    (D : Pt) {c' : ℝ}
    (hx1 : ∀ (r : Fin 512) l, x1 (ix2 r l) = ((D.q r.val l : ℝ) : EReal))
    (hx2 : ∀ (j : Fin 4096) l, x2 (ix2 j l) = ((D.k j.val l : ℝ) : EReal))
    (hx4 : ∀ (j : Fin 4096) l, xs4 (ix2 j l) = ((D.rows.w j.val l : ℝ) : EReal))
    (hB : ∀ (r : Fin 512) (col : Fin 1024), xs2 (ix2 r col) = D.bias r.val col.val)
    (hfar : ∀ x, 128 ≤ x → D.b x = c') {nf : ℕ} (ho3 : k0_off3 i = ![nf]) (hnf : nf < 256) (hx0 : x0 (ix1 (⟨nf, hnf⟩ : Fin 256)) = (c' : EReal))
    {n : ℕ} (hqb : D.qb = n + 1536) (hK : D.qb + 512 ≤ 4096)
    (htr : Scf.trips (k0_t1_loop i).lb (k0_t1_loop i).ub (k0_t1_loop i).st = 0 ∧ n = 0 ∨ Scf.trips (k0_t1_loop i).lb (k0_t1_loop i).ub (k0_t1_loop i).st = 1 ∧ n = 2048) (ht2 : Scf.trips (k0_t2_loop i).lb (k0_t2_loop i).ub (k0_t2_loop i).st = 0)
    (ho4 : ∀ k : Fin (Scf.trips (k0_t1_loop i).lb (k0_t1_loop i).ub (k0_t1_loop i).st), k0_off4 i k = ![0, 0]) (ho5 : ∀ k : Fin (Scf.trips (k0_t1_loop i).lb (k0_t1_loop i).ub (k0_t1_loop i).st), k0_off5 i k = ![0, 0])
    (ho8 : k0_off8 i = ![n, 0]) (ho9 : k0_off9 i = ![n, 0]) (ho12 : k0_off12 i = ![n + 1024, 0]) (ho13 : k0_off13 i = ![n + 1024, 0])
    (r : Fin 512) (l : Fin 128) :
    out0_D_6 c i arg3 harg3 arg4 harg4 arg5 harg5 arg6 harg6 arg7 harg7 arg8 harg8 arg9 harg9 arg10 harg10 arg11 harg11 arg12 harg12 arg13 harg13 arg14 harg14
      hc0 hc1 hc2 hc3 hc4 hc5 x0 x1 x2 x3 x4 x5 xs2 xs4 (ix2 r l)
      = D.value (fun a l => x4 (ix2 a l)) (fun l => x5 (ix2 0 l)) r.val l := by
  unfold out0_D_6 kernelRun0_D
  dsimp only
  rw [View.read_writes_junk_eq_canon, canon_whole]
  refine D.out (n := n + 1024) (n' := n + 1024 + 1024) ?hg (by omega) _ _ _ _ _ r l
  have hcf : ∀ {h h1}, arg3.view.readAt (Elt Ideal) (Rect.unit (s := S256) (k0_off3 i) S1.size h).toLoadRect (harg3.unread x0) (Shape.Idx.first h1) = (c' : EReal) :=
    fun {h h1} => (one_read harg3 x0 ho3 hnf).trans hx0
  have htr' : Scf.trips (k0_t1_loop i).lb (k0_t1_loop i).ub (k0_t1_loop i).st = 0 ∧ n = 0 ∨ Scf.trips (k0_t1_loop i).lb (k0_t1_loop i).ub (k0_t1_loop i).st = 1 ∧ n = 2048 ∧ 2560 ≤ D.qb := by omega
  have g1 : Good D.rows (n) (n + 1024) 1024 (kernelRun0_D.sl.HS0_8 c i arg3 harg3 arg4 harg4 arg5 harg5 arg6 harg6 arg7 harg7 arg8 harg8 arg9 harg9 arg10 harg10 arg11 harg11 arg12 harg12 arg13 harg13 arg14 harg14 hc2 x0 x1 x2 xs4)
      (kernelRun0_D.sl.HS1_8 c i arg3 harg3 arg4 harg4 arg5 harg5 arg6 harg6 arg7 harg7 arg8 harg8 arg9 harg9 arg10 harg10 arg11 harg11 arg12 harg12 arg13 harg13 arg14 harg14 hc2 x0 x1 x2 xs4) :=
    Good.far1024C (n := n) (d := 896) (Good.far1024C (n := n) (d := 768) (Good.far1024C (n := n) (d := 640) (Good.far1024C (n := n) (d := 512) (Good.far1024C (n := n) (d := 384) (Good.far1024C (n := n) (d := 256) (Good.far1024C (n := n) (d := 128) (Good.far1024C (n := n) (d := 0) (Good.loop (loop_good c i arg3 harg3 arg4 harg4 arg5 harg5 arg6 harg6 arg7 harg7 arg8 harg8 arg9 harg9 arg10 harg10 arg11 harg11 arg12 harg12 arg13 harg13 arg14 harg14 _ _ _ _ _ x2 xs4 D hcf hfar (D.hQ _ _ hx1) hx2 hx4 _ (by omega) htr' ho4 ho5 (fun _ => Good.start D.rows _)) (by rw [ht2]; rfl))
      0 0 (by decide) (by decide) (by decide) _ rfl (D.hQ _ _ hx1) (D.hk _ hx2 ho8 (by omega)) (D.hv _ hx4 ho9 (by omega)) hcf hfar (by show _ ≤ D.qb; omega))
      0 128 (by decide) (by decide) (by decide) _ rfl (D.hQ _ _ hx1) (D.hk _ hx2 ho8 (by omega)) (D.hv _ hx4 ho9 (by omega)) hcf hfar (by show _ ≤ D.qb; omega))
      0 256 (by decide) (by decide) (by decide) _ rfl (D.hQ _ _ hx1) (D.hk _ hx2 ho8 (by omega)) (D.hv _ hx4 ho9 (by omega)) hcf hfar (by show _ ≤ D.qb; omega))
      0 384 (by decide) (by decide) (by decide) _ rfl (D.hQ _ _ hx1) (D.hk _ hx2 ho8 (by omega)) (D.hv _ hx4 ho9 (by omega)) hcf hfar (by show _ ≤ D.qb; omega))
      1 0 (by decide) (by decide) (by decide) _ rfl (D.hQ _ _ hx1) (D.hk _ hx2 ho8 (by omega)) (D.hv _ hx4 ho9 (by omega)) hcf hfar (by show _ ≤ D.qb; omega))
      1 128 (by decide) (by decide) (by decide) _ rfl (D.hQ _ _ hx1) (D.hk _ hx2 ho8 (by omega)) (D.hv _ hx4 ho9 (by omega)) hcf hfar (by show _ ≤ D.qb; omega))
      1 256 (by decide) (by decide) (by decide) _ rfl (D.hQ _ _ hx1) (D.hk _ hx2 ho8 (by omega)) (D.hv _ hx4 ho9 (by omega)) hcf hfar (by show _ ≤ D.qb; omega))
      1 384 (by decide) (by decide) (by decide) _ rfl (D.hQ _ _ hx1) (D.hk _ hx2 ho8 (by omega)) (D.hv _ hx4 ho9 (by omega)) hcf hfar (by show _ ≤ D.qb; omega)
  apply Exists.intro
  exact Good.near1024C (n := n + 1024) (d := 896) (Good.near1024C (n := n + 1024) (d := 768) (Good.near1024C (n := n + 1024) (d := 640) (Good.near1024C (n := n + 1024) (d := 512) (Good.near1024C (n := n + 1024) (d := 384) (Good.near1024C (n := n + 1024) (d := 256) (Good.near1024C (n := n + 1024) (d := 128) (Good.near1024C (n := n + 1024) (d := 0) (Good.next g1 _)
    0 0 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    0 128 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    0 256 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    0 384 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    1 0 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    1 128 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    1 256 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    1 384 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega)

end Cert.Attn

end
-- ==== Proof.CaseE.lean ====
module

public import proofs.«01_k».proof.Proof.Loop

@[expose] public section

set_option maxRecDepth 16384
set_option maxHeartbeats 4000000

noncomputable section

/-! ## A query tile with three far tiles -/

namespace Cert.Attn

open Idealize.ShloMosaic Idealize.SL.Sem Cert.KernelIdeal Cert.KernelIdeal.Gen

/-- What the tile's output block holds. -/
theorem out_E (c : Dev nD) (i : grid0.Coords)
    (arg3 : Memref sig .tc .smem S256 .f32) (harg3 : arg3.IsWhole) (arg4 : Memref sig .tc .vmem S512x128 .bf16) (harg4 : arg4.IsWhole)
    (arg5 : Memref sig .tc .vmem S4096x128 .bf16) (harg5 : arg5.IsWhole) (arg6 : Memref sig .tc .vmem S4096x128 .bf16) (harg6 : arg6.IsWhole)
    (arg7 : Memref sig .tc .vmem S4x64 .f32) (harg7 : arg7.IsWhole) (arg8 : Memref sig .tc .vmem S1x128 .f32) (harg8 : arg8.IsWhole)
    (arg9 : Memref sig .tc .vmem S512x128 .bf16) (harg9 : arg9.IsWhole) (arg10 : Memref sig .tc .vmem S2x512x1 .f32) (harg10 : arg10.IsWhole)
    (arg11 : Memref sig .tc .vmem S2x512x256 .f32) (harg11 : arg11.IsWhole) (arg12 : Memref sig .tc .vmem S512x1024 .f32) (harg12 : arg12.IsWhole)
    (arg13 : Memref sig .tc .vmem S2x512x128 .bf16) (harg13 : arg13.IsWhole) (arg14 : Memref sig .tc .vmem S4096x256 .bf16) (harg14 : arg14.IsWhole)
    (hc0 : ¬cond0_0 i) (hc1 : ¬cond0_1 i) (hc2 : cond0_2 i) (hc3 : cond0_3 i) (hc4 : cond0_4 i) (hc5 : ¬cond0_5 i)
    (x0 : Vec Ideal S256 .f32) (x1 : Vec Ideal S512x128 .bf16) (x2 : Vec Ideal S4096x128 .bf16) (x3 : Vec Ideal S4096x128 .bf16)
    (x4 : Vec Ideal S4x64 .f32) (x5 : Vec Ideal S1x128 .f32) (xs2 : Vec Ideal S512x1024 .f32) (xs4 : Vec Ideal S4096x256 .bf16)
    (D : Pt) {c' : ℝ}
    (hx1 : ∀ (r : Fin 512) l, x1 (ix2 r l) = ((D.q r.val l : ℝ) : EReal))
    (hx2 : ∀ (j : Fin 4096) l, x2 (ix2 j l) = ((D.k j.val l : ℝ) : EReal))
    (hx4 : ∀ (j : Fin 4096) l, xs4 (ix2 j l) = ((D.rows.w j.val l : ℝ) : EReal))
    (hB : ∀ (r : Fin 512) (col : Fin 1024), xs2 (ix2 r col) = D.bias r.val col.val)
    (hfar : ∀ x, 128 ≤ x → D.b x = c') {nf : ℕ} (ho3 : k0_off3 i = ![nf]) (hnf : nf < 256) (hx0 : x0 (ix1 (⟨nf, hnf⟩ : Fin 256)) = (c' : EReal))
    {n : ℕ} (hqb : D.qb = n + 2048) (hK : D.qb + 512 ≤ 4096)
    (htr : Scf.trips (k0_t1_loop i).lb (k0_t1_loop i).ub (k0_t1_loop i).st = 0 ∧ n = 0 ∨ Scf.trips (k0_t1_loop i).lb (k0_t1_loop i).ub (k0_t1_loop i).st = 1 ∧ n = 2048) (ht2 : Scf.trips (k0_t2_loop i).lb (k0_t2_loop i).ub (k0_t2_loop i).st = 0)
    (ho4 : ∀ k : Fin (Scf.trips (k0_t1_loop i).lb (k0_t1_loop i).ub (k0_t1_loop i).st), k0_off4 i k = ![0, 0]) (ho5 : ∀ k : Fin (Scf.trips (k0_t1_loop i).lb (k0_t1_loop i).ub (k0_t1_loop i).st), k0_off5 i k = ![0, 0])
    (ho8 : k0_off8 i = ![n, 0]) (ho9 : k0_off9 i = ![n, 0]) (ho10 : k0_off10 i = ![n + 1024, 0]) (ho11 : k0_off11 i = ![n + 1024, 0]) (ho12 : k0_off12 i = ![n + 1536, 0]) (ho13 : k0_off13 i = ![n + 1536, 0])
    (r : Fin 512) (l : Fin 128) :
    out0_E_6 c i arg3 harg3 arg4 harg4 arg5 harg5 arg6 harg6 arg7 harg7 arg8 harg8 arg9 harg9 arg10 harg10 arg11 harg11 arg12 harg12 arg13 harg13 arg14 harg14
      hc0 hc1 hc2 hc3 hc4 hc5 x0 x1 x2 x3 x4 x5 xs2 xs4 (ix2 r l)
      = D.value (fun a l => x4 (ix2 a l)) (fun l => x5 (ix2 0 l)) r.val l := by
  unfold out0_E_6 kernelRun0_E
  dsimp only
  rw [View.read_writes_junk_eq_canon, canon_whole]
  refine D.out (n := n + 1536) (n' := n + 1536 + 1024) ?hg (by omega) _ _ _ _ _ r l
  have hcf : ∀ {h h1}, arg3.view.readAt (Elt Ideal) (Rect.unit (s := S256) (k0_off3 i) S1.size h).toLoadRect (harg3.unread x0) (Shape.Idx.first h1) = (c' : EReal) :=
    fun {h h1} => (one_read harg3 x0 ho3 hnf).trans hx0
  have htr' : Scf.trips (k0_t1_loop i).lb (k0_t1_loop i).ub (k0_t1_loop i).st = 0 ∧ n = 0 ∨ Scf.trips (k0_t1_loop i).lb (k0_t1_loop i).ub (k0_t1_loop i).st = 1 ∧ n = 2048 ∧ 2560 ≤ D.qb := by omega
  have g1 : Good D.rows (n) (n + 1024) 1024 (kernelRun0_E.sl.HS0_8 c i arg3 harg3 arg4 harg4 arg5 harg5 arg6 harg6 arg7 harg7 arg8 harg8 arg9 harg9 arg10 harg10 arg11 harg11 arg12 harg12 arg13 harg13 arg14 harg14 hc2 x0 x1 x2 xs4)
      (kernelRun0_E.sl.HS1_8 c i arg3 harg3 arg4 harg4 arg5 harg5 arg6 harg6 arg7 harg7 arg8 harg8 arg9 harg9 arg10 harg10 arg11 harg11 arg12 harg12 arg13 harg13 arg14 harg14 hc2 x0 x1 x2 xs4) :=
    Good.far1024C (n := n) (d := 896) (Good.far1024C (n := n) (d := 768) (Good.far1024C (n := n) (d := 640) (Good.far1024C (n := n) (d := 512) (Good.far1024C (n := n) (d := 384) (Good.far1024C (n := n) (d := 256) (Good.far1024C (n := n) (d := 128) (Good.far1024C (n := n) (d := 0) (Good.loop (loop_good c i arg3 harg3 arg4 harg4 arg5 harg5 arg6 harg6 arg7 harg7 arg8 harg8 arg9 harg9 arg10 harg10 arg11 harg11 arg12 harg12 arg13 harg13 arg14 harg14 _ _ _ _ _ x2 xs4 D hcf hfar (D.hQ _ _ hx1) hx2 hx4 _ (by omega) htr' ho4 ho5 (fun _ => Good.start D.rows _)) (by rw [ht2]; rfl))
      0 0 (by decide) (by decide) (by decide) _ rfl (D.hQ _ _ hx1) (D.hk _ hx2 ho8 (by omega)) (D.hv _ hx4 ho9 (by omega)) hcf hfar (by show _ ≤ D.qb; omega))
      0 128 (by decide) (by decide) (by decide) _ rfl (D.hQ _ _ hx1) (D.hk _ hx2 ho8 (by omega)) (D.hv _ hx4 ho9 (by omega)) hcf hfar (by show _ ≤ D.qb; omega))
      0 256 (by decide) (by decide) (by decide) _ rfl (D.hQ _ _ hx1) (D.hk _ hx2 ho8 (by omega)) (D.hv _ hx4 ho9 (by omega)) hcf hfar (by show _ ≤ D.qb; omega))
      0 384 (by decide) (by decide) (by decide) _ rfl (D.hQ _ _ hx1) (D.hk _ hx2 ho8 (by omega)) (D.hv _ hx4 ho9 (by omega)) hcf hfar (by show _ ≤ D.qb; omega))
      1 0 (by decide) (by decide) (by decide) _ rfl (D.hQ _ _ hx1) (D.hk _ hx2 ho8 (by omega)) (D.hv _ hx4 ho9 (by omega)) hcf hfar (by show _ ≤ D.qb; omega))
      1 128 (by decide) (by decide) (by decide) _ rfl (D.hQ _ _ hx1) (D.hk _ hx2 ho8 (by omega)) (D.hv _ hx4 ho9 (by omega)) hcf hfar (by show _ ≤ D.qb; omega))
      1 256 (by decide) (by decide) (by decide) _ rfl (D.hQ _ _ hx1) (D.hk _ hx2 ho8 (by omega)) (D.hv _ hx4 ho9 (by omega)) hcf hfar (by show _ ≤ D.qb; omega))
      1 384 (by decide) (by decide) (by decide) _ rfl (D.hQ _ _ hx1) (D.hk _ hx2 ho8 (by omega)) (D.hv _ hx4 ho9 (by omega)) hcf hfar (by show _ ≤ D.qb; omega)
  have g2 : Good D.rows (n + 1024) (n + 1024 + 512) 1024 (kernelRun0_E.sl.HS0_12 c i arg3 harg3 arg4 harg4 arg5 harg5 arg6 harg6 arg7 harg7 arg8 harg8 arg9 harg9 arg10 harg10 arg11 harg11 arg12 harg12 arg13 harg13 arg14 harg14 hc2 hc3 x0 x1 x2 xs4)
      (kernelRun0_E.sl.HS1_12 c i arg3 harg3 arg4 harg4 arg5 harg5 arg6 harg6 arg7 harg7 arg8 harg8 arg9 harg9 arg10 harg10 arg11 harg11 arg12 harg12 arg13 harg13 arg14 harg14 hc2 hc3 x0 x1 x2 xs4) :=
    Good.far512C (n := n + 1024) (d := 768) (Good.far512C (n := n + 1024) (d := 512) (Good.far512C (n := n + 1024) (d := 256) (Good.far512C (n := n + 1024) (d := 0) (Good.next g1 _)
      0 0 (by decide) (by decide) (by decide) _ rfl (D.hQ _ _ hx1) (D.hk _ hx2 ho10 (by omega)) (D.hv _ hx4 ho11 (by omega)) hcf hfar (by show _ ≤ D.qb; omega))
      0 256 (by decide) (by decide) (by decide) _ rfl (D.hQ _ _ hx1) (D.hk _ hx2 ho10 (by omega)) (D.hv _ hx4 ho11 (by omega)) hcf hfar (by show _ ≤ D.qb; omega))
      1 0 (by decide) (by decide) (by decide) _ rfl (D.hQ _ _ hx1) (D.hk _ hx2 ho10 (by omega)) (D.hv _ hx4 ho11 (by omega)) hcf hfar (by show _ ≤ D.qb; omega))
      1 256 (by decide) (by decide) (by decide) _ rfl (D.hQ _ _ hx1) (D.hk _ hx2 ho10 (by omega)) (D.hv _ hx4 ho11 (by omega)) hcf hfar (by show _ ≤ D.qb; omega)
  apply Exists.intro
  exact Good.near1024C (n := n + 1536) (d := 896) (Good.near1024C (n := n + 1536) (d := 768) (Good.near1024C (n := n + 1536) (d := 640) (Good.near1024C (n := n + 1536) (d := 512) (Good.near1024C (n := n + 1536) (d := 384) (Good.near1024C (n := n + 1536) (d := 256) (Good.near1024C (n := n + 1536) (d := 128) (Good.near1024C (n := n + 1536) (d := 0) (Good.next g2 _)
    0 0 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    0 128 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    0 256 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    0 384 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    1 0 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    1 128 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    1 256 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega))
    1 384 (by decide) (by decide) (by decide) _ rfl (D.hQ _ _ hx1) (D.hk _ hx2 ho12 (by omega)) (D.hv _ hx4 ho13 (by omega)) zero_word (D.hb harg12 hB rfl (by omega) (by decide) (by decide)) (by show _ ≤ D.qb; omega)

end Cert.Attn

end
-- ==== Proof.CaseF.lean ====
module

public import proofs.«01_k».proof.Proof.Loop

@[expose] public section

set_option maxRecDepth 16384
set_option maxHeartbeats 4000000

noncomputable section

/-! ## A first query tile, the bias table at hand -/

namespace Cert.Attn

open Idealize.ShloMosaic Idealize.SL.Sem Cert.KernelIdeal Cert.KernelIdeal.Gen

/-- What the tile's output block holds. -/
theorem out_F (c : Dev nD) (i : grid0.Coords)
    (arg3 : Memref sig .tc .smem S256 .f32) (harg3 : arg3.IsWhole) (arg4 : Memref sig .tc .vmem S512x128 .bf16) (harg4 : arg4.IsWhole)
    (arg5 : Memref sig .tc .vmem S4096x128 .bf16) (harg5 : arg5.IsWhole) (arg6 : Memref sig .tc .vmem S4096x128 .bf16) (harg6 : arg6.IsWhole)
    (arg7 : Memref sig .tc .vmem S4x64 .f32) (harg7 : arg7.IsWhole) (arg8 : Memref sig .tc .vmem S1x128 .f32) (harg8 : arg8.IsWhole)
    (arg9 : Memref sig .tc .vmem S512x128 .bf16) (harg9 : arg9.IsWhole) (arg10 : Memref sig .tc .vmem S2x512x1 .f32) (harg10 : arg10.IsWhole)
    (arg11 : Memref sig .tc .vmem S2x512x256 .f32) (harg11 : arg11.IsWhole) (arg12 : Memref sig .tc .vmem S512x1024 .f32) (harg12 : arg12.IsWhole)
    (arg13 : Memref sig .tc .vmem S2x512x128 .bf16) (harg13 : arg13.IsWhole) (arg14 : Memref sig .tc .vmem S4096x256 .bf16) (harg14 : arg14.IsWhole)
    (hc0 : cond0_0 i) (hc1 : ¬cond0_1 i) (hc2 : ¬cond0_2 i) (hc3 : ¬cond0_3 i) (hc4 : ¬cond0_4 i) (hc5 : cond0_5 i)
    (x0 : Vec Ideal S256 .f32) (x1 : Vec Ideal S512x128 .bf16) (x2 : Vec Ideal S4096x128 .bf16) (x3 : Vec Ideal S4096x128 .bf16)
    (x4 : Vec Ideal S4x64 .f32) (x5 : Vec Ideal S1x128 .f32) (xs2 : Vec Ideal S512x1024 .f32)
    (D : Pt) (hq0 : D.qb = 0)
    (hx1 : ∀ (r : Fin 512) l, x1 (ix2 r l) = ((D.q r.val l : ℝ) : EReal))
    (hx2 : ∀ (j : Fin 4096) l, x2 (ix2 j l) = ((D.k j.val l : ℝ) : EReal))
    (hx3 : ∀ (j : Fin 4096) l, x3 (ix2 j l) = ((D.v j.val l : ℝ) : EReal))
    (hB : ∀ (r : Fin 512) (col : Fin 1024), xs2 (ix2 r col) = D.bias r.val col.val)
    (ht1 : Scf.trips (k0_t1_loop i).lb (k0_t1_loop i).ub (k0_t1_loop i).st = 0) (ht2 : Scf.trips (k0_t2_loop i).lb (k0_t2_loop i).ub (k0_t2_loop i).st = 0)
    (r : Fin 512) (l : Fin 128) :
    out0_F_6 c i arg3 harg3 arg4 harg4 arg5 harg5 arg6 harg6 arg7 harg7 arg8 harg8 arg9 harg9 arg10 harg10 arg11 harg11 arg12 harg12 arg13 harg13 arg14 harg14
      hc0 hc1 hc2 hc3 hc4 hc5 x0 x1 x2 x3 x4 x5 xs2 (ix2 r l)
      = D.value (fun a l => x4 (ix2 a l)) (fun l => x5 (ix2 0 l)) r.val l := by
  unfold out0_F_6 kernelRun0_F
  dsimp only
  rw [View.read_writes_junk_eq_canon, canon_whole]
  refine D.out (n := 0) (n' := 512) ?hg (by omega) _ _ _ _ _ r l
  have hn0 : 0 + 512 = D.qb + 512 := by omega
  have hV := D.hV harg6 x3 hx3 (h₀ := inb_S4096x256_S4096x128_0_0) (h₁ := inb_S4096x256_S4096x128_0_128) (h := inb_S4096x128_S4096x128_0_0)
  apply Exists.intro
  refine Good.near512C (n := 0) (d := 768) (Good.near512C (n := 0) (d := 512) (Good.near512C (n := 0) (d := 256) (Good.near512C (n := 0) (d := 0) (Good.loops (Good.start D.rows 512) ?x ?y)
    0 0 (by decide) (by decide) (by decide) _ rfl (D.hQ _ _ hx1) (D.hk _ hx2 rfl (by decide)) (D.hvC hV rfl (by decide)) zero_word (D.hb harg12 hB rfl hn0 (by decide) (by decide)) (Nat.zero_le _))
    0 256 (by decide) (by decide) (by decide) _ rfl (D.hQ _ _ hx1) (D.hk _ hx2 rfl (by decide)) (D.hvC hV rfl (by decide)) zero_word (D.hb harg12 hB rfl hn0 (by decide) (by decide)) (Nat.zero_le _))
    1 0 (by decide) (by decide) (by decide) _ rfl (D.hQ _ _ hx1) (D.hk _ hx2 rfl (by decide)) (D.hvC hV rfl (by decide)) zero_word (D.hb harg12 hB rfl hn0 (by decide) (by decide)) (Nat.zero_le _))
    1 256 (by decide) (by decide) (by decide) _ rfl (D.hQ _ _ hx1) (D.hk _ hx2 rfl (by decide)) (D.hvC hV rfl (by decide)) zero_word (D.hb harg12 hB rfl hn0 (by decide) (by decide)) (Nat.zero_le _)
  · rw [ht1]; rfl
  · rw [ht2]; rfl

end Cert.Attn

end
-- ==== Proof.State.lean ====
module

public import proofs.«01_k».proof.Proof.Blocks
public import proofs.«01_k».proof.Proof.CaseA
public import proofs.«01_k».proof.Proof.CaseB
public import proofs.«01_k».proof.Proof.CaseC
public import proofs.«01_k».proof.Proof.CaseD
public import proofs.«01_k».proof.Proof.CaseE
public import proofs.«01_k».proof.Proof.CaseF

@[expose] public section

set_option maxRecDepth 16384
set_option maxHeartbeats 4000000

noncomputable section

/-! ## What the grid leaves behind, point by point -/

namespace Cert.Attn

open Idealize.ShloMosaic Idealize.ShloMosaic.TcCoe Idealize.SL.Sem Cert.KernelIdeal Cert.KernelIdeal.Gen

variable (m : (ℓ : Loc nD τ sig) → Buf (Elt Ideal) ℓ)

/-- The attention of one query tile: head `h`, batch `b`, the tile that starts at query `qb`, of the projections `x` and the bias table `tb`. -/
def tile (x tb : ℕ → ℕ → ℝ) (h b qb : ℕ) : Pt where
  qb := qb
  q r l := x (4096 * b + qb + r) (128 * h + l.val)
  k j l := x (4096 * b + j) (1024 + 128 * h + l.val)
  b d := tb (bk d 31) h
  v j l := x (4096 * b + j) (2048 + 128 * h + l.val)

/-- Point `t`'s tile. -/
abbrev pt (x tb : ℕ → ℕ → ℝ) (t : ℕ) : Pt := tile x tb (t / 16) (t / 8 % 2) (512 * (t % 8))

/-- The last bucket holds every distance from 113 on. -/
theorem bk_far (d : ℕ) (h : 128 ≤ d) : bk d 31 = 31 := by
  have : thr 30 ≤ d := by show 113 ≤ d; omega
  show (if thr 30 ≤ d then 31 else _) = 31
  rw [if_pos this]

/-- THE STATE AFTER A POINT: its output block holds its tile's attention, the two scratches its head's bias table and its batch's values. -/
def Left (x tb : ℕ → ℕ → ℝ) (c : Dev nD) (t : ℕ) (o : Vec Ideal S512x128 .bf16 × Vec Ideal S512x1024 .f32 × Vec Ideal S4096x256 .bf16) : Prop :=
  (∀ (r : Fin 512) (l : Fin 128), o.1 (ix2 r l) = (pt x tb t).value (fun a l => m ((c : Thread nD τ).loc main_arg2) (ix2 a l)) (fun l => m ((c : Thread nD τ).loc main_arg3) (ix1 l)) r.val l)
  ∧ (∀ (r : Fin 512) (col : Fin 1024), o.2.1 (ix2 r col) = (pt x tb t).bias r.val col.val)
  ∧ (∀ (j : Fin 4096) (l : Fin 256), o.2.2 (ix2 j l) = (((pt x tb t).rows.w j.val l : ℝ) : EReal))

/-- A point of the first tile of a head. -/
theorem left_A (x tb : ℕ → ℕ → ℝ) (c : Dev nD)
    (hX : ∀ (a : Fin 8192) (b : Fin 6144), m ((c : Thread nD τ).loc main_arg0) (ix2 a b) = ((x a.val b.val : ℝ) : EReal))
    (hT : ∀ (a : Fin 32) (b : Fin 8), m ((c : Thread nD τ).loc main_arg1) (ix2 a b) = ((tb a.val b.val : ℝ) : EReal))
    (t : Fin cfg0.N) (h0 : t.val % 8 = 0) (h1 : t.val % 16 = 0) (h2 : ¬(t.val % 8 = 3 ∨ t.val % 8 = 4 ∨ t.val % 8 = 7)) (h3 : ¬(t.val % 8 = 2 ∨ t.val % 8 = 4 ∨ t.val % 8 = 6)) (h4 : ¬1 ≤ t.val % 8) (h5 : t.val % 8 = 0) :
    Left m x tb c t.val (outsAt0 m c t.val t.isLt) := by
  have ht := t_lt t
  obtain ⟨ci, -, -⟩ := coords_at t
  have hx1 : ∀ (r : Fin 512) (l : Fin 128), iblk m c 1 t (ix2 r l) = (((pt x tb t.val).q r.val l : ℝ) : EReal) := fun r l => (blk1 m c t r l).trans (hX _ _)
  have hx2 : ∀ (j : Fin 4096) (l : Fin 128), iblk m c 2 t (ix2 j l) = (((pt x tb t.val).k j.val l : ℝ) : EReal) := fun r l => (blk2 m c t r l).trans (hX _ _)
  have hx3 : ∀ (j : Fin 4096) (l : Fin 128), iblk m c 3 t (ix2 j l) = (((pt x tb t.val).v j.val l : ℝ) : EReal) := fun r l => (blk3 m c t r l).trans (hX _ _)
  have ev : ∀ r l, (pt x tb t.val).value (fun a l => iblk m c 4 t (ix2 a l)) (fun l => iblk m c 5 t (ix2 0 l)) r l
      = (pt x tb t.val).value (fun a l => m ((c : Thread nD τ).loc main_arg2) (ix2 a l)) (fun l => m ((c : Thread nD τ).loc main_arg3) (ix1 l)) r l := fun r l => by
    have e4 : (fun (a : Fin 4) (l : Fin 64) => iblk m c 4 t (ix2 a l)) = fun a l => m ((c : Thread nD τ).loc main_arg2) (ix2 a l) := funext fun a => funext fun l => blk4 m c t a l
    have e5 : (fun (l : Fin 128) => iblk m c 5 t (ix2 (0 : Fin 1) l)) = fun l => m ((c : Thread nD τ).loc main_arg3) (ix1 l) := funext fun l => blk5 m c t l
    rw [e4, e5]
  have htr := trips1 t
  rw [if_neg (by omega)] at htr
  have hb : ∀ d, (((pt x tb t.val).b d : ℝ) : EReal) = tbl (iblk m c 0 t) (grid0.coords t 0).val (bk d 31) := fun d => by
    have hk := bk_le d 31
    rw [tbl, dif_pos (by omega)]
    refine Eq.symm ((blk0 m c t _).trans ((hT _ _).trans ?_))
    have a1 : (8 * bk d 31 + (grid0.coords t 0).val) / 8 = bk d 31 := by omega
    have a2 : (8 * bk d 31 + (grid0.coords t 0).val) % 8 = t.val / 16 := by omega
    show ((tb ((8 * bk d 31 + (grid0.coords t 0).val) / 8) ((8 * bk d 31 + (grid0.coords t 0).val) % 8) : ℝ) : EReal) = _
    rw [a1, a2]; rfl
  rw [outsAt0_A m c t h0 h1 h2 h3 h4 h5]
  refine ⟨fun r l => ?_, fun r col => ?_, fun j l => ?_⟩
  · refine (out_A c (grid0.coords t) _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) ((hcond0_5 t).mpr h5) _ _ _ _ _ _ (pt x tb t.val) (by show 512 * (t.val % 8) = 0; omega) hx1 hx2 hx3 (fun r col => bias_A c (grid0.coords t) _ _ _ _ (pt x tb t.val) hb r col) htr (trips2 t) r l).trans (ev _ _)
  · dsimp only
    unfold sout0_A_2 kernelRun0_A
    dsimp only
    rw [View.read_writes_junk_eq_canon]
    exact bias_A c (grid0.coords t) _ _ _ _ (pt x tb t.val) hb r col
  · dsimp only
    unfold sout0_A_4 kernelRun0_A
    dsimp only
    rw [View.read_writes_junk_eq_canon]
    exact (pt x tb t.val).hV _ _ hx3 j l

/-- A point of the tiles 1 and 5. -/
theorem left_B (x tb : ℕ → ℕ → ℝ) (c : Dev nD)
    (hX : ∀ (a : Fin 8192) (b : Fin 6144), m ((c : Thread nD τ).loc main_arg0) (ix2 a b) = ((x a.val b.val : ℝ) : EReal))
    (hT : ∀ (a : Fin 32) (b : Fin 8), m ((c : Thread nD τ).loc main_arg1) (ix2 a b) = ((tb a.val b.val : ℝ) : EReal))
    (t : Fin cfg0.N) (h0 : ¬t.val % 8 = 0) (h1 : ¬t.val % 16 = 0) (h2 : ¬(t.val % 8 = 3 ∨ t.val % 8 = 4 ∨ t.val % 8 = 7)) (h3 : ¬(t.val % 8 = 2 ∨ t.val % 8 = 4 ∨ t.val % 8 = 6)) (h4 : 1 ≤ t.val % 8) (h5 : ¬t.val % 8 = 0)
    (hp : Left m x tb c (t.val - 1) (outsAt0 m c (t.val - 1) (Nat.lt_of_le_of_lt (Nat.sub_le _ _) t.isLt))) :
    Left m x tb c t.val (outsAt0 m c t.val t.isLt) := by
  have ht := t_lt t
  obtain ⟨ci, -, -⟩ := coords_at t
  have hx1 : ∀ (r : Fin 512) (l : Fin 128), iblk m c 1 t (ix2 r l) = (((pt x tb t.val).q r.val l : ℝ) : EReal) := fun r l => (blk1 m c t r l).trans (hX _ _)
  have hx2 : ∀ (j : Fin 4096) (l : Fin 128), iblk m c 2 t (ix2 j l) = (((pt x tb t.val).k j.val l : ℝ) : EReal) := fun r l => (blk2 m c t r l).trans (hX _ _)
  have hx3 : ∀ (j : Fin 4096) (l : Fin 128), iblk m c 3 t (ix2 j l) = (((pt x tb t.val).v j.val l : ℝ) : EReal) := fun r l => (blk3 m c t r l).trans (hX _ _)
  have ev : ∀ r l, (pt x tb t.val).value (fun a l => iblk m c 4 t (ix2 a l)) (fun l => iblk m c 5 t (ix2 0 l)) r l
      = (pt x tb t.val).value (fun a l => m ((c : Thread nD τ).loc main_arg2) (ix2 a l)) (fun l => m ((c : Thread nD τ).loc main_arg3) (ix1 l)) r l := fun r l => by
    have e4 : (fun (a : Fin 4) (l : Fin 64) => iblk m c 4 t (ix2 a l)) = fun a l => m ((c : Thread nD τ).loc main_arg2) (ix2 a l) := funext fun a => funext fun l => blk4 m c t a l
    have e5 : (fun (l : Fin 128) => iblk m c 5 t (ix2 (0 : Fin 1) l)) = fun l => m ((c : Thread nD τ).loc main_arg3) (ix1 l) := funext fun l => blk5 m c t l
    rw [e4, e5]
  have e16 : (t.val - 1) / 16 = t.val / 16 := by omega
  have hB : ∀ (r : Fin 512) (col : Fin 1024), (outsAt0 m c (t.val - 1) (Nat.lt_of_le_of_lt (Nat.sub_le _ _) t.isLt)).2.1 (ix2 r col) = (pt x tb t.val).bias r.val col.val := fun r col => by
    rw [hp.2.1 r col]; unfold Pt.bias; dsimp only [pt, tile]; rw [e16]
  have hfar : ∀ d, 128 ≤ d → (pt x tb t.val).b d = tb 31 (t.val / 16) := fun d hd => by show tb (bk d 31) _ = _; rw [bk_far d hd]
  have hx0 : iblk m c 0 t (ix1 (⟨248 + t.val / 16, by omega⟩ : Fin 256)) = ((tb 31 (t.val / 16) : ℝ) : EReal) := by
    refine (blk0 m c t _).trans ((hT _ _).trans ?_)
    have a1 : (248 + t.val / 16) / 8 = 31 := by omega
    have a2 : (248 + t.val / 16) % 8 = t.val / 16 := by omega
    show ((tb ((248 + t.val / 16) / 8) ((248 + t.val / 16) % 8) : ℝ) : EReal) = _
    rw [a1, a2]
  have e8 : (t.val - 1) / 8 % 2 = t.val / 8 % 2 := by omega
  have hx4 : ∀ (j : Fin 4096) (l : Fin 256), (outsAt0 m c (t.val - 1) (Nat.lt_of_le_of_lt (Nat.sub_le _ _) t.isLt)).2.2 (ix2 j l) = (((pt x tb t.val).rows.w j.val l : ℝ) : EReal) := fun j l => by
    rw [hp.2.2 j l]; dsimp only [Pt.rows, pt, tile]; rw [e16, e8]
  have htr := trips1 t
  obtain ⟨o12, o13⟩ := off12_at t h4
  have hq : (pt x tb t.val).qb = 512 * (t.val % 8) := rfl
  rw [outsAt0_B m c t h0 h1 h2 h3 h4 h5]
  refine ⟨fun r l => ?_, hB, hx4⟩
  refine (out_B c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) _ _ (pt x tb t.val) hx1 hx2 hx4 hB hfar (off3_at t) (by omega) hx0 (n := (512 * (t.val % 8) - 512)) (by rw [hq]; omega) (by rw [hq]; omega)
    (by rw [htr]; split <;> omega) (trips2 t) (fun k => (off4_at t k).1) (fun k => (off4_at t k).2) (o12.trans (congrArg (fun a => (![a, 0] : Fin 2 → ℕ)) (by omega))) (o13.trans (congrArg (fun a => (![a, 0] : Fin 2 → ℕ)) (by omega))) r l).trans (ev _ _)

/-- A point of the tiles 2 and 6. -/
theorem left_C (x tb : ℕ → ℕ → ℝ) (c : Dev nD)
    (hX : ∀ (a : Fin 8192) (b : Fin 6144), m ((c : Thread nD τ).loc main_arg0) (ix2 a b) = ((x a.val b.val : ℝ) : EReal))
    (hT : ∀ (a : Fin 32) (b : Fin 8), m ((c : Thread nD τ).loc main_arg1) (ix2 a b) = ((tb a.val b.val : ℝ) : EReal))
    (t : Fin cfg0.N) (h0 : ¬t.val % 8 = 0) (h1 : ¬t.val % 16 = 0) (h2 : ¬(t.val % 8 = 3 ∨ t.val % 8 = 4 ∨ t.val % 8 = 7)) (h3 : (t.val % 8 = 2 ∨ t.val % 8 = 4 ∨ t.val % 8 = 6)) (h4 : 1 ≤ t.val % 8) (h5 : ¬t.val % 8 = 0)
    (hp : Left m x tb c (t.val - 1) (outsAt0 m c (t.val - 1) (Nat.lt_of_le_of_lt (Nat.sub_le _ _) t.isLt))) :
    Left m x tb c t.val (outsAt0 m c t.val t.isLt) := by
  have ht := t_lt t
  obtain ⟨ci, -, -⟩ := coords_at t
  have hx1 : ∀ (r : Fin 512) (l : Fin 128), iblk m c 1 t (ix2 r l) = (((pt x tb t.val).q r.val l : ℝ) : EReal) := fun r l => (blk1 m c t r l).trans (hX _ _)
  have hx2 : ∀ (j : Fin 4096) (l : Fin 128), iblk m c 2 t (ix2 j l) = (((pt x tb t.val).k j.val l : ℝ) : EReal) := fun r l => (blk2 m c t r l).trans (hX _ _)
  have hx3 : ∀ (j : Fin 4096) (l : Fin 128), iblk m c 3 t (ix2 j l) = (((pt x tb t.val).v j.val l : ℝ) : EReal) := fun r l => (blk3 m c t r l).trans (hX _ _)
  have ev : ∀ r l, (pt x tb t.val).value (fun a l => iblk m c 4 t (ix2 a l)) (fun l => iblk m c 5 t (ix2 0 l)) r l
      = (pt x tb t.val).value (fun a l => m ((c : Thread nD τ).loc main_arg2) (ix2 a l)) (fun l => m ((c : Thread nD τ).loc main_arg3) (ix1 l)) r l := fun r l => by
    have e4 : (fun (a : Fin 4) (l : Fin 64) => iblk m c 4 t (ix2 a l)) = fun a l => m ((c : Thread nD τ).loc main_arg2) (ix2 a l) := funext fun a => funext fun l => blk4 m c t a l
    have e5 : (fun (l : Fin 128) => iblk m c 5 t (ix2 (0 : Fin 1) l)) = fun l => m ((c : Thread nD τ).loc main_arg3) (ix1 l) := funext fun l => blk5 m c t l
    rw [e4, e5]
  have e16 : (t.val - 1) / 16 = t.val / 16 := by omega
  have hB : ∀ (r : Fin 512) (col : Fin 1024), (outsAt0 m c (t.val - 1) (Nat.lt_of_le_of_lt (Nat.sub_le _ _) t.isLt)).2.1 (ix2 r col) = (pt x tb t.val).bias r.val col.val := fun r col => by
    rw [hp.2.1 r col]; unfold Pt.bias; dsimp only [pt, tile]; rw [e16]
  have hfar : ∀ d, 128 ≤ d → (pt x tb t.val).b d = tb 31 (t.val / 16) := fun d hd => by show tb (bk d 31) _ = _; rw [bk_far d hd]
  have hx0 : iblk m c 0 t (ix1 (⟨248 + t.val / 16, by omega⟩ : Fin 256)) = ((tb 31 (t.val / 16) : ℝ) : EReal) := by
    refine (blk0 m c t _).trans ((hT _ _).trans ?_)
    have a1 : (248 + t.val / 16) / 8 = 31 := by omega
    have a2 : (248 + t.val / 16) % 8 = t.val / 16 := by omega
    show ((tb ((248 + t.val / 16) / 8) ((248 + t.val / 16) % 8) : ℝ) : EReal) = _
    rw [a1, a2]
  have e8 : (t.val - 1) / 8 % 2 = t.val / 8 % 2 := by omega
  have hx4 : ∀ (j : Fin 4096) (l : Fin 256), (outsAt0 m c (t.val - 1) (Nat.lt_of_le_of_lt (Nat.sub_le _ _) t.isLt)).2.2 (ix2 j l) = (((pt x tb t.val).rows.w j.val l : ℝ) : EReal) := fun j l => by
    rw [hp.2.2 j l]; dsimp only [Pt.rows, pt, tile]; rw [e16, e8]
  have htr := trips1 t
  obtain ⟨o10, o11⟩ := off10_at t h3
  obtain ⟨o12, o13⟩ := off12_at t h4
  have hq : (pt x tb t.val).qb = 512 * (t.val % 8) := rfl
  rw [outsAt0_C m c t h0 h1 h2 h3 h4 h5]
  refine ⟨fun r l => ?_, hB, hx4⟩
  refine (out_C c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) ((hcond0_4 t).mpr h4) (fun h => h5 ((hcond0_5 t).mp h)) (iblk m c 0 t) (iblk m c 1 t) (iblk m c 2 t) (iblk m c 3 t) (iblk m c 4 t) (iblk m c 5 t) _ _ (pt x tb t.val) hx1 hx2 hx4 hB hfar (off3_at t) (by omega) hx0 (n := (512 * (t.val % 8) - 1024)) (by rw [hq]; omega) (by rw [hq]; omega)
    (by rw [htr]; split <;> omega) (trips2 t) (fun k => (off4_at t k).1) (fun k => (off4_at t k).2) (o10.trans (congrArg (fun a => (![a, 0] : Fin 2 → ℕ)) (by omega))) (o11.trans (congrArg (fun a => (![a, 0] : Fin 2 → ℕ)) (by omega))) (o12.trans (congrArg (fun a => (![a, 0] : Fin 2 → ℕ)) (by omega))) (o13.trans (congrArg (fun a => (![a, 0] : Fin 2 → ℕ)) (by omega))) r l).trans (ev _ _)

/-- A point of the tiles 3 and 7. -/
theorem left_D (x tb : ℕ → ℕ → ℝ) (c : Dev nD)
    (hX : ∀ (a : Fin 8192) (b : Fin 6144), m ((c : Thread nD τ).loc main_arg0) (ix2 a b) = ((x a.val b.val : ℝ) : EReal))
    (hT : ∀ (a : Fin 32) (b : Fin 8), m ((c : Thread nD τ).loc main_arg1) (ix2 a b) = ((tb a.val b.val : ℝ) : EReal))
    (t : Fin cfg0.N) (h0 : ¬t.val % 8 = 0) (h1 : ¬t.val % 16 = 0) (h2 : (t.val % 8 = 3 ∨ t.val % 8 = 4 ∨ t.val % 8 = 7)) (h3 : ¬(t.val % 8 = 2 ∨ t.val % 8 = 4 ∨ t.val % 8 = 6)) (h4 : 1 ≤ t.val % 8) (h5 : ¬t.val % 8 = 0)
    (hp : Left m x tb c (t.val - 1) (outsAt0 m c (t.val - 1) (Nat.lt_of_le_of_lt (Nat.sub_le _ _) t.isLt))) :
    Left m x tb c t.val (outsAt0 m c t.val t.isLt) := by
  have ht := t_lt t
  obtain ⟨ci, -, -⟩ := coords_at t
  have hx1 : ∀ (r : Fin 512) (l : Fin 128), iblk m c 1 t (ix2 r l) = (((pt x tb t.val).q r.val l : ℝ) : EReal) := fun r l => (blk1 m c t r l).trans (hX _ _)
  have hx2 : ∀ (j : Fin 4096) (l : Fin 128), iblk m c 2 t (ix2 j l) = (((pt x tb t.val).k j.val l : ℝ) : EReal) := fun r l => (blk2 m c t r l).trans (hX _ _)
  have hx3 : ∀ (j : Fin 4096) (l : Fin 128), iblk m c 3 t (ix2 j l) = (((pt x tb t.val).v j.val l : ℝ) : EReal) := fun r l => (blk3 m c t r l).trans (hX _ _)
  have ev : ∀ r l, (pt x tb t.val).value (fun a l => iblk m c 4 t (ix2 a l)) (fun l => iblk m c 5 t (ix2 0 l)) r l
      = (pt x tb t.val).value (fun a l => m ((c : Thread nD τ).loc main_arg2) (ix2 a l)) (fun l => m ((c : Thread nD τ).loc main_arg3) (ix1 l)) r l := fun r l => by
    have e4 : (fun (a : Fin 4) (l : Fin 64) => iblk m c 4 t (ix2 a l)) = fun a l => m ((c : Thread nD τ).loc main_arg2) (ix2 a l) := funext fun a => funext fun l => blk4 m c t a l
    have e5 : (fun (l : Fin 128) => iblk m c 5 t (ix2 (0 : Fin 1) l)) = fun l => m ((c : Thread nD τ).loc main_arg3) (ix1 l) := funext fun l => blk5 m c t l
    rw [e4, e5]
  have e16 : (t.val - 1) / 16 = t.val / 16 := by omega
  have hB : ∀ (r : Fin 512) (col : Fin 1024), (outsAt0 m c (t.val - 1) (Nat.lt_of_le_of_lt (Nat.sub_le _ _) t.isLt)).2.1 (ix2 r col) = (pt x tb t.val).bias r.val col.val := fun r col => by
    rw [hp.2.1 r col]; unfold Pt.bias; dsimp only [pt, tile]; rw [e16]
  have hfar : ∀ d, 128 ≤ d → (pt x tb t.val).b d = tb 31 (t.val / 16) := fun d hd => by show tb (bk d 31) _ = _; rw [bk_far d hd]
  have hx0 : iblk m c 0 t (ix1 (⟨248 + t.val / 16, by omega⟩ : Fin 256)) = ((tb 31 (t.val / 16) : ℝ) : EReal) := by
    refine (blk0 m c t _).trans ((hT _ _).trans ?_)
    have a1 : (248 + t.val / 16) / 8 = 31 := by omega
    have a2 : (248 + t.val / 16) % 8 = t.val / 16 := by omega
    show ((tb ((248 + t.val / 16) / 8) ((248 + t.val / 16) % 8) : ℝ) : EReal) = _
    rw [a1, a2]
  have e8 : (t.val - 1) / 8 % 2 = t.val / 8 % 2 := by omega
  have hx4 : ∀ (j : Fin 4096) (l : Fin 256), (outsAt0 m c (t.val - 1) (Nat.lt_of_le_of_lt (Nat.sub_le _ _) t.isLt)).2.2 (ix2 j l) = (((pt x tb t.val).rows.w j.val l : ℝ) : EReal) := fun j l => by
    rw [hp.2.2 j l]; dsimp only [Pt.rows, pt, tile]; rw [e16, e8]
  have htr := trips1 t
  obtain ⟨o8, o9⟩ := off8_at t h2
  obtain ⟨o12, o13⟩ := off12_at t h4
  have hq : (pt x tb t.val).qb = 512 * (t.val % 8) := rfl
  rw [outsAt0_D m c t h0 h1 h2 h3 h4 h5]
  refine ⟨fun r l => ?_, hB, hx4⟩
  refine (out_D c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) (iblk m c 0 t) (iblk m c 1 t) (iblk m c 2 t) (iblk m c 3 t) (iblk m c 4 t) (iblk m c 5 t) _ _ (pt x tb t.val) hx1 hx2 hx4 hB hfar (off3_at t) (by omega) hx0 (n := (512 * (t.val % 8) - 1536)) (by rw [hq]; omega) (by rw [hq]; omega)
    (by rw [htr]; split <;> omega) (trips2 t) (fun k => (off4_at t k).1) (fun k => (off4_at t k).2) (o8.trans (congrArg (fun a => (![a, 0] : Fin 2 → ℕ)) (by split <;> omega))) (o9.trans (congrArg (fun a => (![a, 0] : Fin 2 → ℕ)) (by split <;> omega))) (o12.trans (congrArg (fun a => (![a, 0] : Fin 2 → ℕ)) (by omega))) (o13.trans (congrArg (fun a => (![a, 0] : Fin 2 → ℕ)) (by omega))) r l).trans (ev _ _)

/-- A point of the tile 4. -/
theorem left_E (x tb : ℕ → ℕ → ℝ) (c : Dev nD)
    (hX : ∀ (a : Fin 8192) (b : Fin 6144), m ((c : Thread nD τ).loc main_arg0) (ix2 a b) = ((x a.val b.val : ℝ) : EReal))
    (hT : ∀ (a : Fin 32) (b : Fin 8), m ((c : Thread nD τ).loc main_arg1) (ix2 a b) = ((tb a.val b.val : ℝ) : EReal))
    (t : Fin cfg0.N) (h0 : ¬t.val % 8 = 0) (h1 : ¬t.val % 16 = 0) (h2 : (t.val % 8 = 3 ∨ t.val % 8 = 4 ∨ t.val % 8 = 7)) (h3 : (t.val % 8 = 2 ∨ t.val % 8 = 4 ∨ t.val % 8 = 6)) (h4 : 1 ≤ t.val % 8) (h5 : ¬t.val % 8 = 0)
    (hp : Left m x tb c (t.val - 1) (outsAt0 m c (t.val - 1) (Nat.lt_of_le_of_lt (Nat.sub_le _ _) t.isLt))) :
    Left m x tb c t.val (outsAt0 m c t.val t.isLt) := by
  have ht := t_lt t
  obtain ⟨ci, -, -⟩ := coords_at t
  have hx1 : ∀ (r : Fin 512) (l : Fin 128), iblk m c 1 t (ix2 r l) = (((pt x tb t.val).q r.val l : ℝ) : EReal) := fun r l => (blk1 m c t r l).trans (hX _ _)
  have hx2 : ∀ (j : Fin 4096) (l : Fin 128), iblk m c 2 t (ix2 j l) = (((pt x tb t.val).k j.val l : ℝ) : EReal) := fun r l => (blk2 m c t r l).trans (hX _ _)
  have hx3 : ∀ (j : Fin 4096) (l : Fin 128), iblk m c 3 t (ix2 j l) = (((pt x tb t.val).v j.val l : ℝ) : EReal) := fun r l => (blk3 m c t r l).trans (hX _ _)
  have ev : ∀ r l, (pt x tb t.val).value (fun a l => iblk m c 4 t (ix2 a l)) (fun l => iblk m c 5 t (ix2 0 l)) r l
      = (pt x tb t.val).value (fun a l => m ((c : Thread nD τ).loc main_arg2) (ix2 a l)) (fun l => m ((c : Thread nD τ).loc main_arg3) (ix1 l)) r l := fun r l => by
    have e4 : (fun (a : Fin 4) (l : Fin 64) => iblk m c 4 t (ix2 a l)) = fun a l => m ((c : Thread nD τ).loc main_arg2) (ix2 a l) := funext fun a => funext fun l => blk4 m c t a l
    have e5 : (fun (l : Fin 128) => iblk m c 5 t (ix2 (0 : Fin 1) l)) = fun l => m ((c : Thread nD τ).loc main_arg3) (ix1 l) := funext fun l => blk5 m c t l
    rw [e4, e5]
  have e16 : (t.val - 1) / 16 = t.val / 16 := by omega
  have hB : ∀ (r : Fin 512) (col : Fin 1024), (outsAt0 m c (t.val - 1) (Nat.lt_of_le_of_lt (Nat.sub_le _ _) t.isLt)).2.1 (ix2 r col) = (pt x tb t.val).bias r.val col.val := fun r col => by
    rw [hp.2.1 r col]; unfold Pt.bias; dsimp only [pt, tile]; rw [e16]
  have hfar : ∀ d, 128 ≤ d → (pt x tb t.val).b d = tb 31 (t.val / 16) := fun d hd => by show tb (bk d 31) _ = _; rw [bk_far d hd]
  have hx0 : iblk m c 0 t (ix1 (⟨248 + t.val / 16, by omega⟩ : Fin 256)) = ((tb 31 (t.val / 16) : ℝ) : EReal) := by
    refine (blk0 m c t _).trans ((hT _ _).trans ?_)
    have a1 : (248 + t.val / 16) / 8 = 31 := by omega
    have a2 : (248 + t.val / 16) % 8 = t.val / 16 := by omega
    show ((tb ((248 + t.val / 16) / 8) ((248 + t.val / 16) % 8) : ℝ) : EReal) = _
    rw [a1, a2]
  have e8 : (t.val - 1) / 8 % 2 = t.val / 8 % 2 := by omega
  have hx4 : ∀ (j : Fin 4096) (l : Fin 256), (outsAt0 m c (t.val - 1) (Nat.lt_of_le_of_lt (Nat.sub_le _ _) t.isLt)).2.2 (ix2 j l) = (((pt x tb t.val).rows.w j.val l : ℝ) : EReal) := fun j l => by
    rw [hp.2.2 j l]; dsimp only [Pt.rows, pt, tile]; rw [e16, e8]
  have htr := trips1 t
  obtain ⟨o8, o9⟩ := off8_at t h2
  obtain ⟨o10, o11⟩ := off10_at t h3
  obtain ⟨o12, o13⟩ := off12_at t h4
  have hq : (pt x tb t.val).qb = 512 * (t.val % 8) := rfl
  rw [outsAt0_E m c t h0 h1 h2 h3 h4 h5]
  refine ⟨fun r l => ?_, hB, hx4⟩
  refine (out_E c (grid0.coords t) _ _ _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) ((hcond0_4 t).mpr h4) (fun h => h5 ((hcond0_5 t).mp h)) (iblk m c 0 t) (iblk m c 1 t) (iblk m c 2 t) (iblk m c 3 t) (iblk m c 4 t) (iblk m c 5 t) _ _ (pt x tb t.val) hx1 hx2 hx4 hB hfar (off3_at t) (by omega) hx0 (n := (512 * (t.val % 8) - 2048)) (by rw [hq]; omega) (by rw [hq]; omega)
    (by rw [htr]; split <;> omega) (trips2 t) (fun k => (off4_at t k).1) (fun k => (off4_at t k).2) (o8.trans (congrArg (fun a => (![a, 0] : Fin 2 → ℕ)) (by split <;> omega))) (o9.trans (congrArg (fun a => (![a, 0] : Fin 2 → ℕ)) (by split <;> omega))) (o10.trans (congrArg (fun a => (![a, 0] : Fin 2 → ℕ)) (by omega))) (o11.trans (congrArg (fun a => (![a, 0] : Fin 2 → ℕ)) (by omega))) (o12.trans (congrArg (fun a => (![a, 0] : Fin 2 → ℕ)) (by omega))) (o13.trans (congrArg (fun a => (![a, 0] : Fin 2 → ℕ)) (by omega))) r l).trans (ev _ _)

/-- A point of the first tile of a head's second batch. -/
theorem left_F (x tb : ℕ → ℕ → ℝ) (c : Dev nD)
    (hX : ∀ (a : Fin 8192) (b : Fin 6144), m ((c : Thread nD τ).loc main_arg0) (ix2 a b) = ((x a.val b.val : ℝ) : EReal))
    (hT : ∀ (a : Fin 32) (b : Fin 8), m ((c : Thread nD τ).loc main_arg1) (ix2 a b) = ((tb a.val b.val : ℝ) : EReal))
    (t : Fin cfg0.N) (h0 : t.val % 8 = 0) (h1 : ¬t.val % 16 = 0) (h2 : ¬(t.val % 8 = 3 ∨ t.val % 8 = 4 ∨ t.val % 8 = 7)) (h3 : ¬(t.val % 8 = 2 ∨ t.val % 8 = 4 ∨ t.val % 8 = 6)) (h4 : ¬1 ≤ t.val % 8) (h5 : t.val % 8 = 0)
    (hp : Left m x tb c (t.val - 1) (outsAt0 m c (t.val - 1) (Nat.lt_of_le_of_lt (Nat.sub_le _ _) t.isLt))) :
    Left m x tb c t.val (outsAt0 m c t.val t.isLt) := by
  have ht := t_lt t
  obtain ⟨ci, -, -⟩ := coords_at t
  have hx1 : ∀ (r : Fin 512) (l : Fin 128), iblk m c 1 t (ix2 r l) = (((pt x tb t.val).q r.val l : ℝ) : EReal) := fun r l => (blk1 m c t r l).trans (hX _ _)
  have hx2 : ∀ (j : Fin 4096) (l : Fin 128), iblk m c 2 t (ix2 j l) = (((pt x tb t.val).k j.val l : ℝ) : EReal) := fun r l => (blk2 m c t r l).trans (hX _ _)
  have hx3 : ∀ (j : Fin 4096) (l : Fin 128), iblk m c 3 t (ix2 j l) = (((pt x tb t.val).v j.val l : ℝ) : EReal) := fun r l => (blk3 m c t r l).trans (hX _ _)
  have ev : ∀ r l, (pt x tb t.val).value (fun a l => iblk m c 4 t (ix2 a l)) (fun l => iblk m c 5 t (ix2 0 l)) r l
      = (pt x tb t.val).value (fun a l => m ((c : Thread nD τ).loc main_arg2) (ix2 a l)) (fun l => m ((c : Thread nD τ).loc main_arg3) (ix1 l)) r l := fun r l => by
    have e4 : (fun (a : Fin 4) (l : Fin 64) => iblk m c 4 t (ix2 a l)) = fun a l => m ((c : Thread nD τ).loc main_arg2) (ix2 a l) := funext fun a => funext fun l => blk4 m c t a l
    have e5 : (fun (l : Fin 128) => iblk m c 5 t (ix2 (0 : Fin 1) l)) = fun l => m ((c : Thread nD τ).loc main_arg3) (ix1 l) := funext fun l => blk5 m c t l
    rw [e4, e5]
  have e16 : (t.val - 1) / 16 = t.val / 16 := by omega
  have hB : ∀ (r : Fin 512) (col : Fin 1024), (outsAt0 m c (t.val - 1) (Nat.lt_of_le_of_lt (Nat.sub_le _ _) t.isLt)).2.1 (ix2 r col) = (pt x tb t.val).bias r.val col.val := fun r col => by
    rw [hp.2.1 r col]; unfold Pt.bias; dsimp only [pt, tile]; rw [e16]
  have htr := trips1 t
  rw [if_neg (by omega)] at htr
  rw [outsAt0_F m c t h0 h1 h2 h3 h4 h5]
  refine ⟨fun r l => ?_, fun r col => ?_, fun j l => ?_⟩
  · refine (out_F c (grid0.coords t) _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) ((hcond0_5 t).mpr h5) _ _ _ _ _ _ _ (pt x tb t.val) (by show 512 * (t.val % 8) = 0; omega) hx1 hx2 hx3 hB htr (trips2 t) r l).trans (ev _ _)
  · exact hB r col
  · dsimp only
    unfold sout0_F_4 kernelRun0_F
    dsimp only
    rw [View.read_writes_junk_eq_canon]
    exact (pt x tb t.val).hV _ _ hx3 j l

/-- Every point leaves its tile's attention. -/
theorem left_at (x tb : ℕ → ℕ → ℝ) (c : Dev nD)
    (hX : ∀ (a : Fin 8192) (b : Fin 6144), m ((c : Thread nD τ).loc main_arg0) (ix2 a b) = ((x a.val b.val : ℝ) : EReal))
    (hT : ∀ (a : Fin 32) (b : Fin 8), m ((c : Thread nD τ).loc main_arg1) (ix2 a b) = ((tb a.val b.val : ℝ) : EReal)) :
    ∀ (n : ℕ) (hn : n < cfg0.N), Left m x tb c n (outsAt0 m c n hn) := by
  intro n
  induction n with
  | zero => exact fun hn => left_A m x tb c hX hT ⟨0, hn⟩ rfl rfl (by simp) (by simp) (by simp) rfl
  | succ n ih =>
    intro hn
    have hp := ih (Nat.lt_of_succ_lt hn)
    by_cases a : (n + 1) % 16 = 0
    · exact left_A m x tb c hX hT ⟨n + 1, hn⟩ (by show (n + 1) % 8 = 0; omega) a (by show ¬((n + 1) % 8 = 3 ∨ (n + 1) % 8 = 4 ∨ (n + 1) % 8 = 7); omega) (by show ¬((n + 1) % 8 = 2 ∨ (n + 1) % 8 = 4 ∨ (n + 1) % 8 = 6); omega) (by show ¬ 1 ≤ (n + 1) % 8; omega) (by show (n + 1) % 8 = 0; omega)
    by_cases b : (n + 1) % 8 = 0
    · exact left_F m x tb c hX hT ⟨n + 1, hn⟩ b a (by show ¬((n + 1) % 8 = 3 ∨ (n + 1) % 8 = 4 ∨ (n + 1) % 8 = 7); omega) (by show ¬((n + 1) % 8 = 2 ∨ (n + 1) % 8 = 4 ∨ (n + 1) % 8 = 6); omega) (by show ¬ 1 ≤ (n + 1) % 8; omega) b hp
    have a4 : 1 ≤ (n + 1) % 8 := by omega
    by_cases h2 : (n + 1) % 8 = 3 ∨ (n + 1) % 8 = 4 ∨ (n + 1) % 8 = 7
    · by_cases h3 : (n + 1) % 8 = 2 ∨ (n + 1) % 8 = 4 ∨ (n + 1) % 8 = 6
      · exact left_E m x tb c hX hT ⟨n + 1, hn⟩ b a h2 h3 a4 b hp
      · exact left_D m x tb c hX hT ⟨n + 1, hn⟩ b a h2 h3 a4 b hp
    · by_cases h3 : (n + 1) % 8 = 2 ∨ (n + 1) % 8 = 4 ∨ (n + 1) % 8 = 6
      · exact left_C m x tb c hX hT ⟨n + 1, hn⟩ b a h2 h3 a4 b hp
      · exact left_B m x tb c hX hT ⟨n + 1, hn⟩ b a h2 h3 a4 b hp

end Cert.Attn

end
-- ==== Proof.Array.lean ====
module

public import proofs.«01_k».proof.Proof.State
public import proofs.«01_k».proof.Proof.Gen.KernelIdeal.Value

@[expose] public section

set_option maxRecDepth 16384

noncomputable section

/-! ## The array the kernel leaves -/

namespace Cert.Attn

open Idealize.ShloMosaic Idealize.ShloMosaic.TcCoe Idealize.SL.Sem Cert.KernelIdeal Cert.KernelIdeal.Gen Cert.KernelIdeal.Value

variable (m : (ℓ : Loc nD τ sig) → Buf (Elt Ideal) ℓ)

/-- THE KERNEL'S RESULT at a row and a column: its tile's attention. -/
theorem kernel_at (x tb : ℕ → ℕ → ℝ) (c : Dev nD)
    (hX : ∀ (a : Fin 8192) (b : Fin 6144), m ((c : Thread nD τ).loc main_arg0) (ix2 a b) = ((x a.val b.val : ℝ) : EReal))
    (hT : ∀ (a : Fin 32) (b : Fin 8), m ((c : Thread nD τ).loc main_arg1) (ix2 a b) = ((tb a.val b.val : ℝ) : EReal))
    (row : Fin 8192) (col : Fin 1024) :
    (G6 m c : FVec Ideal S8192x1024 .bf16) (ix2 row col)
      = (pt x tb (row.val / 512 + 16 * (col.val / 128))).value (fun a l => m ((c : Thread nD τ).loc main_arg2) (ix2 a l))
          (fun l => m ((c : Thread nD τ).loc main_arg3) (ix1 l)) (row.val % 512) ⟨col.val % 128, by omega⟩ := by
  have hr := row.isLt
  have hc := col.isLt
  have hp : pt6Of (ix2 row col) = row.val / 512 + 16 * (col.val / 128) := by
    show 1 * (row.val / 512 - 0) + 16 * (col.val / 128 - 0) = _
    omega
  have hlt : pt6Of (ix2 row col) < cfg0.N := by rw [hp]; show _ < 128; omega
  unfold G6
  rw [dif_pos hlt]
  rw [← outsAt0_sweep m c (pt6Of (ix2 row col)) hlt]
  have hl := (left_at m x tb c hX hT (pt6Of (ix2 row col)) hlt).1 ⟨row.val % 512, by omega⟩ ⟨col.val % 128, by omega⟩
  have he : loc6Of (ix2 row col) = ix2 (⟨row.val % 512, by omega⟩ : Fin 512) (⟨col.val % 128, by omega⟩ : Fin 128) := by
    funext a; fin_cases a <;> rfl
  rw [he]
  refine hl.trans ?_
  rw [hp]

end Cert.Attn

end
-- ==== Proof.Equation.lean ====
module

public import proofs.«01_k».proof.Proof.Array
public import proofs.«01_k».proof.Proof.Soft

@[expose] public section

noncomputable section

/-! ## The kernel's tiles and the reference's rows have the same scores, values and results -/

namespace Cert.Attn

open Idealize.ShloMosaic

/-- The kernel's score, over both maps' lanes with the other map's cleared, is the reference's over one map's lanes. -/
theorem score_eq (x tb : ℕ → ℕ → ℝ) (h b qb r p : ℕ) (hp : p < 2) (j : ℕ) :
    (tile x tb h b qb).rows.s p r j = score x tb h b p (qb + r) j := by
  unfold Rows.s score
  show (∑ l : Fin 128, (if (p = 0 ↔ l.val < 64) then x (4096 * b + qb + r) (128 * h + l.val) * (1 / 8) else 0)
      * x (4096 * b + j) (1024 + 128 * h + l.val)) + tb (bk (qb + r - j) 31) h = _
  congr 1
  rw [Fin.sum_univ_add (a := 64) (b := 64)]
  obtain rfl | rfl : p = 0 ∨ p = 1 := by omega
  · rw [add_eq_left.mpr (Finset.sum_eq_zero fun l _ => by simp [Fin.val_natAdd])]
    refine Finset.sum_congr rfl fun l _ => ?_
    have := l.isLt
    simp only [Fin.val_castAdd, this, iff_true, if_true]
    exact congrArg₂ (· * ·) (congrArg (· * (1 / 8 : ℝ)) (congrArg₂ x (by omega) (by omega))) (congrArg₂ x (by omega) (by omega))
  · rw [add_eq_right.mpr (Finset.sum_eq_zero fun l _ => by have := l.isLt; simp [Fin.val_castAdd])]
    refine Finset.sum_congr rfl fun l _ => ?_
    have : ¬ (64 + l.val < 64) := by omega
    simp only [Fin.val_natAdd, this, one_ne_zero, iff_false, not_false_eq_true, if_true]
    exact congrArg₂ (· * ·) (congrArg (· * (1 / 8 : ℝ)) (congrArg₂ x (by omega) (by omega))) (congrArg₂ x (by omega) (by omega))

/-- THE EQUATION OF THE ROWS: the kernel's tile at a row and lane is the normalised row of the difference of the reference's two maps. -/
theorem value_eq (x tb : ℕ → ℕ → ℝ) (lv : Fin 4 → Fin 64 → EReal) (g : Fin 128 → EReal) (lam : ℝ) (hL : lamOf lv = (lam : EReal))
    (row : Fin 8192) (col : Fin 1024) (l : Fin 128) :
    (pt x tb (row.val / 512 + 16 * (col.val / 128))).value lv g (row.val % 512) l
      = outRow (fun l => ((att (row.val % 4096) (score x tb (col.val / 128) (row.val / 4096) 0 (row.val % 4096)) (fun j => x (row.val / 4096 * 4096 + j) (2048 + (col.val / 128 * 128 + l.val)))
          - lam * att (row.val % 4096) (score x tb (col.val / 128) (row.val / 4096) 1 (row.val % 4096)) (fun j => x (row.val / 4096 * 4096 + j) (2048 + (col.val / 128 * 128 + l.val))) : ℝ) : EReal)) g l := by
  have hr := row.isLt
  have hc := col.isLt
  have e1 : (row.val / 512 + 16 * (col.val / 128)) / 16 = col.val / 128 := by omega
  have e2 : (row.val / 512 + 16 * (col.val / 128)) / 8 % 2 = row.val / 4096 := by omega
  have e3 : 512 * ((row.val / 512 + 16 * (col.val / 128)) % 8) + row.val % 512 = row.val % 4096 := by omega
  unfold Pt.value pt
  rw [e1, e2, hL]
  refine congrArg (fun y => outRow y g l) (funext fun z => ?_)
  have s0 : (tile x tb (col.val / 128) (row.val / 4096) (512 * ((row.val / 512 + 16 * (col.val / 128)) % 8))).rows.s 0 (row.val % 512)
      = score x tb (col.val / 128) (row.val / 4096) 0 (row.val % 4096) := funext fun j => by rw [score_eq _ _ _ _ _ _ _ (by omega), e3]
  have s1 : (tile x tb (col.val / 128) (row.val / 4096) (512 * ((row.val / 512 + 16 * (col.val / 128)) % 8))).rows.s 1 (row.val % 512)
      = score x tb (col.val / 128) (row.val / 4096) 1 (row.val % 4096) := funext fun j => by rw [score_eq _ _ _ _ _ _ _ (by omega), e3]
  rw [s0, s1]
  have ev : (fun j => (tile x tb (col.val / 128) (row.val / 4096) (512 * ((row.val / 512 + 16 * (col.val / 128)) % 8))).v j z)
      = fun j => x (row.val / 4096 * 4096 + j) (2048 + (col.val / 128 * 128 + z.val)) := funext fun j => by
    show x (4096 * (row.val / 4096) + j) (2048 + 128 * (col.val / 128) + z.val) = _
    congr 1 <;> omega
  rw [ev, EReal.coe_sub, EReal.coe_mul]
  show ((att (512 * ((row.val / 512 + 16 * (col.val / 128)) % 8) + row.val % 512) _ _ : ℝ) : EReal) - _ * ((att (512 * ((row.val / 512 + 16 * (col.val / 128)) % 8) + row.val % 512) _ _ : ℝ) : EReal) = _
  rw [e3]

end Cert.Attn

end
-- ==== Proof.Finite.lean ====
module

public import proofs.«01_k».proof.Proof.Final
public import proofs.«01_k».proof.Proof.Gen.Pre_finite
public import Idealize.ShloMosaic.Lib.ReduceAll
public import Idealize.ShloMosaic.Lib.Pointwise

@[expose] public section

set_option maxRecDepth 16384

noncomputable section

/-! ## What the precondition gives: real entries, and a real weight of the second map -/

namespace Cert.Attn

open Idealize.ShloMosaic Idealize.SL.Sem Cert.Pre_finite Cert.Pre_finite.Facts

/-- A number whose absolute value is below `+∞` is real. -/
theorem real_of_abs (x : EReal) (h : Ideal.cmp CmpFPredicate.olt (max x (-x)) (Ideal.ofBits FTy.f32 2139095040#32) = 1#1) :
    ∃ y : ℝ, x = (y : EReal) := by
  have hi : Ideal.ofBits FTy.f32 2139095040#32 = ⊤ := by simp [Ideal.ofBits, Ideal.ieee]
  rw [hi] at h
  induction x with
  | bot => simp [Ideal.cmp] at h
  | top => simp [Ideal.cmp] at h
  | coe y => exact ⟨y, rfl⟩

/-- Under the precondition the projection, the table and the lambda vectors are real. -/
theorem real_of_finite [Cert.Pre_finite.Facts] (x0 : FVec Ideal S8192x6144 .bf16) (x1 : FVec Ideal S32x8 .f32) (x2 : FVec Ideal S4x64 .f32) (x3 : FVec Ideal S128 .f32)
    (h : Cert.Pre_finite.fn (F := Ideal) x0 x1 x2 x3 = fun _ => 1#1) :
    (∀ i, ∃ y : ℝ, (x0 i : EReal) = y) ∧ (∀ i, ∃ y : ℝ, (x1 i : EReal) = y) ∧ (∀ i, ∃ y : ℝ, (x2 i : EReal) = y) := by
  have h' := congrFun h ix0
  have key : IntOp.andi (IntOp.andi
      (Host.reduce IntOp.andi (cmpf .olt (Host.absf (extf .f32 x0 bitsLt_bf16_f32)) (broadcastInDim S8192x6144 ![] bcast_S_S8192x6144 (constant S_ .f32 0x7F800000#32))) (constantI S_ 1 1#1) reducesTo_S8192x6144_S_d0_1 h_S_ ix0)
      (Host.reduce IntOp.andi (cmpf .olt (Host.absf x1) (broadcastInDim S32x8 ![] bcast_S_S32x8 (constant S_ .f32 0x7F800000#32))) (constantI S_ 1 1#1) reducesTo_S32x8_S_d0_1 h_S_ ix0))
      (Host.reduce IntOp.andi (cmpf .olt (Host.absf x2) (broadcastInDim S4x64 ![] bcast_S_S4x64 (constant S_ .f32 0x7F800000#32))) (constantI S_ 1 1#1) reducesTo_S4x64_S_d0_1 h_S_ ix0) = 1#1 := h'
  obtain ⟨h01, h2⟩ := IntOp.andi_eq_one.1 key
  obtain ⟨h0, h1⟩ := IntOp.andi_eq_one.1 h01
  refine ⟨fun i => ?_, fun i => ?_, fun i => ?_⟩
  · have := Host.reduce_andi_all _ _ _ _ _ h0 i
    exact real_of_abs _ this
  · have := Host.reduce_andi_all _ _ _ _ _ h1 i
    exact real_of_abs _ this
  · have := Host.reduce_andi_all _ _ _ _ _ h2 i
    exact real_of_abs _ this

/-- Over real lambda vectors the weight of the second map is real. -/
theorem lamOf_real (x : Fin 4 → Fin 64 → EReal) (h : ∀ a l, ∃ y : ℝ, x a l = (y : EReal)) : ∃ y : ℝ, lamOf x = (y : EReal) := by
  choose f hf using h
  have e : ∃ c : ℝ, Ideal.ofBits FTy.f32 1045220557#32 = (c : EReal) := by
    simp only [Ideal.ofBits, Ideal.ieee]; simp
    rw [← EReal.coe_mul]
    exact ⟨_, rfl⟩
  obtain ⟨c, hc⟩ := e
  unfold lamOf
  simp only [hf, hc, ← EReal.coe_mul, ← coe_sum, Ideal.exp_coe, ← EReal.coe_sub, ← EReal.coe_add]
  exact ⟨_, rfl⟩

end Cert.Attn

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.KernelInC
public import proofs.«01_k».proof.Proof.Gen.KernelOut
public import proofs.«01_k».proof.Proof.Gen.KernelOutC
public import proofs.«01_k».proof.Proof.Gen.KernelIn
public import proofs.«01_k».proof.Proof.Gen.KernelGate
public import proofs.«01_k».proof.Proof.Gen.KernelGateIdeal.Value
public import proofs.«01_k».proof.Proof.Gen.ReferenceGateIdeal.Run
public import proofs.«01_k».proof.Proof.Gen.KernelInIdeal.Frame
public import proofs.«01_k».proof.Proof.InProj
public import proofs.«01_k».proof.Proof.InRef
public import proofs.«01_k».proof.Proof.Gen.ReferenceInIdeal.Run
public import proofs.«01_k».proof.Proof.InProjC
public import proofs.«01_k».proof.Proof.OutProj
public import proofs.«01_k».proof.Proof.OutProjC
public import proofs.«01_k».proof.Proof.GateProj
public import proofs.«01_k».proof.Proof.Gen.Pre_finite
public import proofs.«01_k».proof.Proof.Result
public import proofs.«01_k».proof.Proof.Equation
public import proofs.«01_k».proof.Proof.Finite
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem Cert.Kernel

/-- The named mask: the kernel's literal stands for minus infinity. -/
theorem preserves_Kernel_KernelIdeal : Cert.preserves_Kernel_KernelIdeal :=
  IdealRules.named_const.statement Cert.KernelIdeal.κ "mask" .f32 0xF149F2CA#32 ⊥ rfl

/-- The reference runs, leaves its arguments alone and ends with every semaphore at zero. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's array and the reference's array are equal, index by index. -/
theorem arrays_eq (m : (ℓ : Loc Cert.KernelIdeal.nD Cert.KernelIdeal.τ Cert.KernelIdeal.sig) → Buf (Elt Ideal) ℓ)
    (hpre : Cert.Pre_KernelIdeal_finite m) (c : Dev Cert.KernelIdeal.nD)
    (V0 : Valuation Cert.ReferenceIdeal.τ Cert.ReferenceIdeal.sig (Elt Ideal))
    (h0 : V0 (Proc.devRef .tc Cert.ReferenceIdeal.main_arg0) = m ((c.tc : Thread _ _).loc Cert.KernelIdeal.main_arg0))
    (h1 : V0 (Proc.devRef .tc Cert.ReferenceIdeal.main_arg1) = m ((c.tc : Thread _ _).loc Cert.KernelIdeal.main_arg1))
    (h2 : V0 (Proc.devRef .tc Cert.ReferenceIdeal.main_arg2) = m ((c.tc : Thread _ _).loc Cert.KernelIdeal.main_arg2))
    (g : FVec Ideal Cert.ReferenceIdeal.S128 .f32)
    (h3 : g = m ((c.tc : Thread _ _).loc Cert.KernelIdeal.main_arg3)) (row : Fin 8192) (col : Fin 1024) :
    (Cert.KernelIdeal.Value.G6 m c : FVec Ideal Cert.KernelIdeal.S8192x1024 .bf16) (ix2 row col)
      = Cert.Attn.outRow (fun l => Cert.Attn.r89 V0 (ix4 ⟨row.val / 4096, by omega⟩ ⟨row.val % 4096, by omega⟩ ⟨col.val / 128, by omega⟩ l))
          (fun l => g (ix1 l)) ⟨col.val % 128, by omega⟩ := by
  obtain ⟨r0, r1, r2⟩ := Cert.Attn.real_of_finite _ _ _ _ (hpre c)
  choose f0 hf0 using r0
  choose f1 hf1 using r1
  have hX : ∀ (a : Fin 8192) (b : Fin 6144), m ((c.tc : Thread _ _).loc Cert.KernelIdeal.main_arg0) (ix2 a b)
      = (((fun a b : ℕ => if h : a < 8192 ∧ b < 6144 then f0 (ix2 ⟨a, h.1⟩ ⟨b, h.2⟩) else 0) a.val b.val : ℝ) : EReal) := fun a b => by
    have h : a.val < 8192 ∧ b.val < 6144 := ⟨a.isLt, b.isLt⟩
    simp only [dif_pos h]
    exact hf0 (ix2 a b)
  have hT : ∀ (a : Fin 32) (b : Fin 8), m ((c.tc : Thread _ _).loc Cert.KernelIdeal.main_arg1) (ix2 a b)
      = (((fun a b : ℕ => if h : a < 32 ∧ b < 8 then f1 (ix2 ⟨a, h.1⟩ ⟨b, h.2⟩) else 0) a.val b.val : ℝ) : EReal) := fun a b => by
    have h : a.val < 32 ∧ b.val < 8 := ⟨a.isLt, b.isLt⟩
    simp only [dif_pos h]
    exact hf1 (ix2 a b)
  generalize (fun a b : ℕ => if h : a < 8192 ∧ b < 6144 then f0 (ix2 ⟨a, h.1⟩ ⟨b, h.2⟩) else 0) = x at hX
  generalize (fun a b : ℕ => if h : a < 32 ∧ b < 8 then f1 (ix2 ⟨a, h.1⟩ ⟨b, h.2⟩) else 0) = tb at hT
  obtain ⟨lam, hL⟩ := Cert.Attn.lamOf_real (fun a l => m ((c.tc : Thread _ _).loc Cert.KernelIdeal.main_arg2) (ix2 a l)) fun a l => r2 (ix2 a l)
  refine (Cert.Attn.kernel_at m x tb c hX hT row col).trans ?_
  rw [Cert.Attn.value_eq x tb _ _ lam hL, h3]
  refine congrArg (fun y => Cert.Attn.outRow y _ _) (funext fun l => ?_)
  have hl := Cert.Attn.ref89 V0 x tb lam (fun a b => (congrFun h0 (ix2 a b)).trans (hX a b)) (fun a b => (congrFun h1 (ix2 a b)).trans (hT a b))
    (by rw [← hL]; exact congrArg Cert.Attn.lamOf (funext fun a => funext fun l => congrFun h2 (ix2 a l)))
    ⟨row.val / 4096, by omega⟩ ⟨row.val % 4096, by omega⟩ ⟨col.val / 128, by omega⟩ l
  exact hl.symm

/-- The two programs leave equal arrays. -/
theorem algebraic_KernelIdeal_ReferenceIdeal_pre_finite : Cert.algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3⟩ := hagree c
  funext i
  obtain ⟨row, col, rfl⟩ : ∃ (row : Fin 8192) (col : Fin 1024), i = ix2 row col := ⟨i 0, i 1, by funext a; fin_cases a <;> rfl⟩
  refine (Cert.Attn.norm_at _ _ row col).trans ?_
  exact (arrays_eq m hpre c (StableHlo.launchContents m' c) h0 h1 h2 _ h3 row col).symm

/-- The gelu projection is one program at both readings of its floats. -/
theorem defs_KernelInC : Cert.KernelInC.defs (F := Bits) = Cert.KernelInCIdeal.defs (F := Bits) :=
  congrArg (Pipeline.defs Cert.KernelInCIdeal.pcfgs) (by
    unfold Cert.KernelInC.defs₀ Cert.KernelInCIdeal.defs₀
    refine congrArg Defs.onTc (funext fun l => funext fun x => ?_)
    match l, x with
    | 0, (t, s) => rfl : Cert.KernelInC.defs₀ (F := Bits) = Cert.KernelInCIdeal.defs₀ (F := Bits))

/-- It runs and leaves its arguments alone: the run over any floats, at the machine's. -/
theorem quiescent_KernelInC : Cert.quiescent_KernelInC := fun m ρ _ => by
  rw [defs_KernelInC]
  exact Cert.KernelInCIdeal.Gen.frame (F := Bits) m ρ

/-- The reference of the gelu projection runs, leaves its arguments alone and ends with every semaphore at zero. -/
theorem quiescent_ReferenceInCIdeal : Cert.quiescent_ReferenceInCIdeal := fun m ρ _ =>
  (θ_run Cert.ReferenceInCIdeal.defs _ _).mono (fun r h => ⟨fun c => (h c).2, sem_eq_zero_of_no_sems (by decide) r.2⟩)
    (Cert.ReferenceInCIdeal.Value.run (F := Ideal) m ρ)

/-- The gelu projection and its reference leave equal arrays. -/
theorem algebraic_KernelInCIdeal_ReferenceInCIdeal : Cert.algebraic_KernelInCIdeal_ReferenceInCIdeal := by
  intro m ρ m' ρ' _ hagree
  refine ⟨_, Cert.KernelInCIdeal.Value.run (F := Ideal) m ρ, ?_⟩
  refine (θ_run Cert.ReferenceInCIdeal.defs _ _).mono (fun _ h c => ⟨?_, (h c).2⟩) (Cert.ReferenceInCIdeal.Value.run (F := Ideal) m' ρ')
  rw [(h c).1]
  obtain ⟨h0, h1, h2⟩ := hagree c
  funext i
  obtain ⟨row, col, rfl⟩ : ∃ (row : Fin 8192) (col : Fin 4096), i = ix2 row col := ⟨i 0, i 1, by funext a; fin_cases a <;> rfl⟩
  refine (Cert.InProjC.ref_at m' c row col).trans ?_
  rw [h0, h1, h2]
  exact (Cert.InProjC.kernel_at m c row col).symm

/-- The output projection after the mixers is one program at both readings of its floats. -/
theorem defs_KernelOut : Cert.KernelOut.defs (F := Bits) = Cert.KernelOutIdeal.defs (F := Bits) :=
  congrArg (Pipeline.defs Cert.KernelOutIdeal.pcfgs) (by
    unfold Cert.KernelOut.defs₀ Cert.KernelOutIdeal.defs₀
    refine congrArg Defs.onTc (funext fun l => funext fun x => ?_)
    match l, x with
    | 0, (t, s) => rfl : Cert.KernelOut.defs₀ (F := Bits) = Cert.KernelOutIdeal.defs₀ (F := Bits))

/-- It runs and leaves its arguments alone: the run over any floats, at the machine's. -/
theorem quiescent_KernelOut : Cert.quiescent_KernelOut := fun m ρ _ => by
  rw [defs_KernelOut]
  exact Cert.KernelOutIdeal.Gen.frame (F := Bits) m ρ

/-- The reference of the output projection after the mixers runs, leaves its arguments alone and ends with every semaphore at zero. -/
theorem quiescent_ReferenceOutIdeal : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

/-- The output projection after the mixers and its reference leave equal arrays. -/
theorem algebraic_KernelOutIdeal_ReferenceOutIdeal : Cert.algebraic_KernelOutIdeal_ReferenceOutIdeal := by
  intro m ρ m' ρ' _ hagree
  refine ⟨_, Cert.KernelOutIdeal.Value.run_blocks (F := Ideal) m ρ, ?_⟩
  refine (θ_run Cert.ReferenceOutIdeal.defs _ _).mono (fun _ h c => ⟨?_, (h c).2⟩) (Cert.ReferenceOutIdeal.Value.run (F := Ideal) m' ρ')
  rw [(h c).1]
  obtain ⟨h0, h1, h2, h3⟩ := hagree c
  funext i
  obtain ⟨row, col, rfl⟩ : ∃ (row : Fin 8192) (col : Fin 2048), i = ix2 row col := ⟨i 0, i 1, by funext a; fin_cases a <;> rfl⟩
  refine (Cert.OutProj.ref_at _ _ _ _ row col).trans ?_
  rw [h0, h1, h2, h3]
  exact (Cert.OutProj.kernel_at m c row col).symm

/-- The output projection after the gating is one program at both readings of its floats. -/
theorem defs_KernelOutC : Cert.KernelOutC.defs (F := Bits) = Cert.KernelOutCIdeal.defs (F := Bits) :=
  congrArg (Pipeline.defs Cert.KernelOutCIdeal.pcfgs) (by
    unfold Cert.KernelOutC.defs₀ Cert.KernelOutCIdeal.defs₀
    refine congrArg Defs.onTc (funext fun l => funext fun x => ?_)
    match l, x with
    | 0, (t, s) => rfl : Cert.KernelOutC.defs₀ (F := Bits) = Cert.KernelOutCIdeal.defs₀ (F := Bits))

/-- It runs and leaves its arguments alone: the run over any floats, at the machine's. -/
theorem quiescent_KernelOutC : Cert.quiescent_KernelOutC := fun m ρ _ => by
  rw [defs_KernelOutC]
  exact Cert.KernelOutCIdeal.Gen.frame (F := Bits) m ρ

/-- The reference of the output projection after the gating runs, leaves its arguments alone and ends with every semaphore at zero. -/
theorem quiescent_ReferenceOutCIdeal : Cert.quiescent_ReferenceOutCIdeal := fun m ρ _ =>
  (θ_run Cert.ReferenceOutCIdeal.defs _ _).mono (fun r h => ⟨fun c => (h c).2, sem_eq_zero_of_no_sems (by decide) r.2⟩)
    (Cert.ReferenceOutCIdeal.Value.run (F := Ideal) m ρ)

/-- The output projection after the gating and its reference leave equal arrays. -/
theorem algebraic_KernelOutCIdeal_ReferenceOutCIdeal : Cert.algebraic_KernelOutCIdeal_ReferenceOutCIdeal := by
  intro m ρ m' ρ' _ hagree
  refine ⟨_, Cert.KernelOutCIdeal.Value.run_blocks (F := Ideal) m ρ, ?_⟩
  refine (θ_run Cert.ReferenceOutCIdeal.defs _ _).mono (fun _ h c => ⟨?_, (h c).2⟩) (Cert.ReferenceOutCIdeal.Value.run (F := Ideal) m' ρ')
  rw [(h c).1]
  obtain ⟨h0, h1, h2⟩ := hagree c
  funext i
  obtain ⟨row, col, rfl⟩ : ∃ (row : Fin 8192) (col : Fin 2048), i = ix2 row col := ⟨i 0, i 1, by funext a; fin_cases a <;> rfl⟩
  refine (Cert.OutProjC.ref_at _ _ _ row col).trans ?_
  rw [h0, h1, h2]
  exact (Cert.OutProjC.kernel_at m c row col).symm

/-- The linear input projection is one program at both readings of its floats. -/
theorem defs_KernelIn : Cert.KernelIn.defs (F := Bits) = Cert.KernelInIdeal.defs (F := Bits) :=
  congrArg (Pipeline.defs Cert.KernelInIdeal.pcfgs) (by
    unfold Cert.KernelIn.defs₀ Cert.KernelInIdeal.defs₀
    refine congrArg Defs.onTc (funext fun l => funext fun x => ?_)
    match l, x with
    | 0, (t, s) => rfl : Cert.KernelIn.defs₀ (F := Bits) = Cert.KernelInIdeal.defs₀ (F := Bits))

/-- It runs and leaves its arguments alone: the run over any floats, at the machine's. -/
theorem quiescent_KernelIn : Cert.quiescent_KernelIn := fun m ρ _ => by
  rw [defs_KernelIn]
  exact Cert.InFrame.frame (F := Bits) m ρ

/-- The reference of the linear input projection runs, leaves its arguments alone and ends with every semaphore at zero. -/
theorem quiescent_ReferenceInIdeal : Cert.quiescent_ReferenceInIdeal := fun m ρ _ =>
  (θ_run Cert.ReferenceInIdeal.defs _ _).mono (fun r h => ⟨fun c => (h c).2.2, sem_eq_zero_of_no_sems (by decide) r.2⟩)
    (Cert.ReferenceInIdeal.Value.run (F := Ideal) m ρ)

/-- The linear input projection and its reference leave equal arrays. -/
theorem algebraic_KernelInIdeal_ReferenceInIdeal : Cert.algebraic_KernelInIdeal_ReferenceInIdeal := by
  intro m ρ m' ρ' _ hagree
  refine ⟨_, _, Cert.InProj.run_values m ρ, ?_⟩
  refine (θ_run Cert.ReferenceInIdeal.defs _ _).mono (fun _ h c => ⟨?_, ?_, (h c).2.2⟩) (Cert.ReferenceInIdeal.Value.run (F := Ideal) m' ρ')
  · rw [(h c).1]
    obtain ⟨h0, h1, h2⟩ := hagree c
    rw [h0, h1, h2]
    funext i
    obtain ⟨row, col, rfl⟩ : ∃ (row : Fin 8192) (col : Fin 6144), i = ix2 row col := ⟨i 0, i 1, by funext a; fin_cases a <;> rfl⟩
    refine (Cert.InRef.ref_cols _ row col).trans ((Cert.InRef.ref_dot _ _ _ _ _).trans (Eq.trans ?_ (Cert.InProj.values_at m c row col).symm))
    refine Finset.sum_congr rfl fun k _ => ?_
    exact congrArg (· * _) (Cert.InRow.ref_rows _ _ _ _ k)
  · rw [(h c).2.1]
    obtain ⟨h0, h1, h2⟩ := hagree c
    rw [h0, h1, h2]
    funext i
    obtain ⟨row, j, rfl⟩ : ∃ (row : Fin 8192) (j : Fin 16), i = ix2 row j := ⟨i 0, i 1, by funext a; fin_cases a <;> rfl⟩
    refine (Cert.InRef.ref_gates _ row j).trans ((Cert.InRef.ref_dot _ _ _ _ _).trans (Eq.trans ?_ (Cert.InProj.gates_at m c row j).symm))
    refine Finset.sum_congr rfl fun k _ => ?_
    exact congrArg (· * _) (Cert.InRow.ref_rows _ _ _ _ k)

/-- The spatial gating is one program at both readings of its floats. -/
theorem defs_KernelGate : Cert.KernelGate.defs (F := Bits) = Cert.KernelGateIdeal.defs (F := Bits) :=
  congrArg (Pipeline.defs Cert.KernelGateIdeal.pcfgs) (by
    unfold Cert.KernelGate.defs₀ Cert.KernelGateIdeal.defs₀
    refine congrArg Defs.onTc (funext fun l => funext fun x => ?_)
    match l, x with
    | 0, (t, s) => rfl : Cert.KernelGate.defs₀ (F := Bits) = Cert.KernelGateIdeal.defs₀ (F := Bits))

/-- It runs and leaves its arguments alone: the run over any floats, at the machine's. -/
theorem quiescent_KernelGate : Cert.quiescent_KernelGate := fun m ρ _ => by
  rw [defs_KernelGate]
  exact Cert.KernelGateIdeal.Gen.frame (F := Bits) m ρ

/-- The reference of the spatial gating runs, leaves its arguments alone and ends with every semaphore at zero. -/
theorem quiescent_ReferenceGateIdeal : Cert.quiescent_ReferenceGateIdeal := fun m ρ _ =>
  (θ_run Cert.ReferenceGateIdeal.defs _ _).mono (fun r h => ⟨fun c => (h c).2, sem_eq_zero_of_no_sems (by decide) r.2⟩)
    (Cert.ReferenceGateIdeal.Value.run (F := Ideal) m ρ)

/-- The spatial gating and its reference leave equal arrays. -/
theorem algebraic_KernelGateIdeal_ReferenceGateIdeal : Cert.algebraic_KernelGateIdeal_ReferenceGateIdeal := by
  intro m ρ m' ρ' _ hagree
  refine ⟨_, Cert.KernelGateIdeal.Value.run_blocks (F := Ideal) m ρ, ?_⟩
  refine (θ_run Cert.ReferenceGateIdeal.defs _ _).mono (fun _ h c => ⟨?_, (h c).2⟩) (Cert.ReferenceGateIdeal.Value.run (F := Ideal) m' ρ')
  rw [(h c).1]
  obtain ⟨h0, h1, h2, h3, h4⟩ := hagree c
  funext i
  obtain ⟨row, col, rfl⟩ : ∃ (row : Fin 8192) (col : Fin 2048), i = ix2 row col := ⟨i 0, i 1, by funext a; fin_cases a <;> rfl⟩
  unfold Cert.ReferenceGateIdeal.Value.res_main_v42
  rw [h0, h1, h2, h3, h4]
  refine (Cert.GateRef.ref_at _ _ _ _ _ row col).trans (Eq.trans ?_ (Cert.Gate.kernel_at m c row col).symm)
  rfl

/-- Every claim of this certificate. -/
theorem claim : Cert.Claim := ⟨Cert.Kernel.Gen.facts, Cert.KernelIdeal.Gen.facts, Cert.ReferenceIdeal.Gen.facts,
  Cert.KernelInC.Gen.facts, Cert.KernelInCIdeal.Gen.facts, Cert.ReferenceInCIdeal.Gen.facts,
  Cert.KernelOut.Gen.facts, Cert.KernelOutIdeal.Gen.facts, Cert.ReferenceOutIdeal.Gen.facts,
  Cert.KernelOutC.Gen.facts, Cert.KernelOutCIdeal.Gen.facts, Cert.ReferenceOutCIdeal.Gen.facts,
  Cert.KernelIn.Gen.facts, Cert.KernelInIdeal.Gen.facts, Cert.ReferenceInIdeal.Gen.facts,
  Cert.KernelGate.Gen.facts, Cert.KernelGateIdeal.Gen.facts, Cert.ReferenceGateIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  quiescent_ReferenceIdeal,
  fun m ρ _ => quiescent_ReferenceIdeal m ρ trivial,
  quiescent_KernelInC,
  fun m ρ _ => Cert.KernelInCIdeal.Gen.frame m ρ,
  quiescent_ReferenceInCIdeal,
  quiescent_KernelOut,
  fun m ρ _ => Cert.KernelOutIdeal.Gen.frame m ρ,
  quiescent_ReferenceOutIdeal,
  quiescent_KernelOutC,
  fun m ρ _ => Cert.KernelOutCIdeal.Gen.frame m ρ,
  quiescent_ReferenceOutCIdeal,
  quiescent_KernelIn,
  fun m ρ _ => Cert.InFrame.frame m ρ,
  quiescent_ReferenceInIdeal,
  quiescent_KernelGate,
  fun m ρ _ => Cert.KernelGateIdeal.Gen.frame m ρ,
  quiescent_ReferenceGateIdeal,
  preserves_Kernel_KernelIdeal,
  algebraic_KernelIdeal_ReferenceIdeal_pre_finite,
  trivial,
  algebraic_KernelInCIdeal_ReferenceInCIdeal,
  trivial,
  algebraic_KernelOutIdeal_ReferenceOutIdeal,
  trivial,
  algebraic_KernelOutCIdeal_ReferenceOutCIdeal,
  trivial,
  algebraic_KernelInIdeal_ReferenceInIdeal,
  trivial,
  algebraic_KernelGateIdeal_ReferenceGateIdeal⟩

end Cert.Proof

end
